-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_in_range [hPre_sorted_in_range : Cert.Pre_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_in_range [hPre_sorted_in_range : Cert.Pre_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_in_range [hKernelIdeal : Cert.KernelIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_in_range [hReferenceIdeal : Cert.ReferenceIdeal.Facts] [hPre_sorted_in_range : Cert.Pre_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_in_range [hKernelIdeal : Cert.KernelIdeal.Facts] [hReferenceIdeal : Cert.ReferenceIdeal.Facts] [hPre_sorted_in_range : Cert.Pre_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_in_range : Cert.Pre_sorted_in_range.Facts),
    quiescent_Kernel (hKernel := hKernel)
    ∧ quiescent_KernelIdeal (hKernelIdeal := hKernelIdeal)
    ∧ quiescent_KernelIdeal_pre_sorted_in_range (hKernelIdeal := hKernelIdeal) (hPre_sorted_in_range := hPre_sorted_in_range)
    ∧ quiescent_ReferenceIdeal (hReferenceIdeal := hReferenceIdeal)
    ∧ quiescent_ReferenceIdeal_pre_sorted_in_range (hReferenceIdeal := hReferenceIdeal) (hPre_sorted_in_range := hPre_sorted_in_range)
    ∧ preserves_Kernel_KernelIdeal
    ∧ algebraic_KernelIdeal_ReferenceIdeal_pre_sorted_in_range (hKernelIdeal := hKernelIdeal) (hReferenceIdeal := hReferenceIdeal) (hPre_sorted_in_range := hPre_sorted_in_range)
-- ==== Pre_sorted_in_range.lean ====
abbrev S320000x128 : Shape := ⟨2, ![320000, 128]⟩
abbrev S320000 : Shape := ⟨1, ![320000]⟩
abbrev S1x1x3 : Shape := ⟨3, ![1, 1, 3]⟩
abbrev S319999 : Shape := ⟨1, ![319999]⟩
abbrev S_ : Shape := ⟨0, ![]⟩

class Facts : Prop where
  slices_S320000_S319999_0 : S320000.Slices ![0] S319999
  slices_S320000_S319999_1 : S320000.Slices ![1] S319999
  reducesTo_S319999_S_d0 : S319999.ReducesTo [0] S_
  h_S_ : 0 < S_.numel
  bcast_S_S320000 : S_.BroadcastsInDim S320000 (![] : Fin 0 → Fin S320000.rank)
  reducesTo_S320000_S_d0 : S320000.ReducesTo [0] S_

variable [Facts]

def fn {F : FTy → Type} [FloatOps F] (main_arg0 : FVec F S320000x128 .f32) (main_arg1 : IVec S320000 32) (main_arg2 : FVec F S1x1x3 .f32) : IVec S_ 1 :=
  let main_v0 : IVec S319999 32 := (extractStridedSlice S319999 ![0] · slices_S320000_S319999_0) main_arg1
  let main_v1 : IVec S319999 32 := (extractStridedSlice S319999 ![1] · slices_S320000_S319999_1) main_arg1
  let main_v2 : IVec S319999 1 := cmpi .sle main_v0 main_v1
  let main_c : IVec S_ 1 := constantI S_ 1 1#1
  let main_v3 : IVec S_ 1 := (fun x v => Host.reduce IntOp.andi x v reducesTo_S319999_S_d0 h_S_) main_v2 main_c
  let main_c_0 : IVec S_ 32 := constantI S_ 32 0#32
  let main_v4 : IVec S320000 32 := broadcastInDim S320000 ![] bcast_S_S320000 main_c_0
  let main_v5 : IVec S320000 1 := cmpi .sge main_arg1 main_v4
  let main_c_1 : IVec S_ 1 := constantI S_ 1 1#1
  let main_v6 : IVec S_ 1 := (fun x v => Host.reduce IntOp.andi x v reducesTo_S320000_S_d0 h_S_) main_v5 main_c_1
  let main_c_2 : IVec S_ 32 := constantI S_ 32 16#32
  let main_v7 : IVec S320000 32 := broadcastInDim S320000 ![] bcast_S_S320000 main_c_2
  let main_v8 : IVec S320000 1 := cmpi .slt main_arg1 main_v7
  let main_c_3 : IVec S_ 1 := constantI S_ 1 1#1
  let main_v9 : IVec S_ 1 := (fun x v => Host.reduce IntOp.andi x v reducesTo_S320000_S_d0 h_S_) main_v8 main_c_3
  let main_v10 : IVec S_ 1 := andi main_v6 main_v9
  let main_v11 : IVec S_ 1 := andi main_v3 main_v10
  main_v11
-- ==== Kernel.lean ====
abbrev S320000x128 : Shape := ⟨2, ![320000, 128]⟩
abbrev S320000 : Shape := ⟨1, ![320000]⟩
abbrev S1x1x3 : Shape := ⟨3, ![1, 1, 3]⟩
abbrev S40960000 : Shape := ⟨1, ![40960000]⟩
abbrev S32x2048 : Shape := ⟨2, ![32, 2048]⟩
abbrev S512 : Shape := ⟨1, ![512]⟩
abbrev S4000 : Shape := ⟨1, ![4000]⟩
abbrev S51200 : Shape := ⟨1, ![51200]⟩
abbrev S2048 : Shape := ⟨1, ![2048]⟩
abbrev S16 : Shape := ⟨1, ![16]⟩
abbrev S_ : Shape := ⟨0, ![]⟩
abbrev S1x2048 : Shape := ⟨2, ![1, 2048]⟩
abbrev S20x1x16000 : Shape := ⟨3, ![20, 1, 16000]⟩
abbrev S16x128 : Shape := ⟨2, ![16, 128]⟩
abbrev S1x1x16000 : Shape := ⟨3, ![1, 1, 16000]⟩
abbrev S16000x128 : Shape := ⟨2, ![16000, 128]⟩
abbrev S16000 : Shape := ⟨1, ![16000]⟩
abbrev S16000x1 : Shape := ⟨2, ![16000, 1]⟩
abbrev S16000x16 : Shape := ⟨2, ![16000, 16]⟩
abbrev S16x1 : Shape := ⟨2, ![16, 1]⟩
abbrev S32x16x128 : Shape := ⟨3, ![32, 16, 128]⟩
abbrev S32x16 : Shape := ⟨2, ![32, 16]⟩
abbrev S1x3 : Shape := ⟨2, ![1, 3]⟩
abbrev S1x1 : Shape := ⟨2, ![1, 1]⟩
abbrev S16x127 : Shape := ⟨2, ![16, 127]⟩

abbrev nBuf : Table → Nat
  | .hbm => 14
  | .local .tc .vmem => 18
  | .local .scVector .vmem => 5
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S1x1x3, .f32⟩
  | .hbm, ⟨3, _⟩ => ⟨S40960000, .f32⟩
  | .hbm, ⟨4, _⟩ => ⟨S32x2048, .f32⟩
  | .hbm, ⟨5, _⟩ => ⟨S512, .f32⟩
  | .hbm, ⟨6, _⟩ => ⟨S20x1x16000, .i32⟩
  | .hbm, ⟨7, _⟩ => ⟨S16x128, .f32⟩
  | .hbm, ⟨8, _⟩ => ⟨S16x128, .f32⟩
  | .hbm, ⟨9, _⟩ => ⟨S20x1x16000, .i32⟩
  | .hbm, ⟨10, _⟩ => ⟨S32x16x128, .f32⟩
  | .hbm, ⟨11, _⟩ => ⟨S32x16, .f32⟩
  | .hbm, ⟨12, _⟩ => ⟨S1x3, .f32⟩
  | .hbm, ⟨13, _⟩ => ⟨S320000x128, .f32⟩
  | .local .tc .vmem, ⟨0, _⟩ => ⟨S1x1x16000, .i32⟩
  | .local .tc .vmem, ⟨1, _⟩ => ⟨S1x1x16000, .i32⟩
  | .local .tc .vmem, ⟨2, _⟩ => ⟨S16000x128, .f32⟩
  | .local .tc .vmem, ⟨3, _⟩ => ⟨S16000x128, .f32⟩
  | .local .tc .vmem, ⟨4, _⟩ => ⟨S16x128, .f32⟩
  | .local .tc .vmem, ⟨5, _⟩ => ⟨S16x128, .f32⟩
  | .local .tc .vmem, ⟨6, _⟩ => ⟨S1x1x16000, .i32⟩
  | .local .tc .vmem, ⟨7, _⟩ => ⟨S1x1x16000, .i32⟩
  | .local .tc .vmem, ⟨8, _⟩ => ⟨S16000x128, .f32⟩
  | .local .tc .vmem, ⟨9, _⟩ => ⟨S16000x128, .f32⟩
  | .local .tc .vmem, ⟨10, _⟩ => ⟨S16x128, .f32⟩
  | .local .tc .vmem, ⟨11, _⟩ => ⟨S16x128, .f32⟩
  | .local .tc .vmem, ⟨12, _⟩ => ⟨S32x16x128, .f32⟩
  | .local .tc .vmem, ⟨13, _⟩ => ⟨S32x16, .f32⟩
  | .local .tc .vmem, ⟨14, _⟩ => ⟨S1x3, .f32⟩
  | .local .tc .vmem, ⟨15, _⟩ => ⟨S16000x128, .f32⟩
  | .local .tc .vmem, ⟨16, _⟩ => ⟨S16000x128, .f32⟩
  | .local .tc .vmem, ⟨17, _⟩ => ⟨S16x128, .f32⟩
  | .local .scVector .vmem, ⟨0, _⟩ => ⟨S4000, .i32⟩
  | .local .scVector .vmem, ⟨1, _⟩ => ⟨S51200, .f32⟩
  | .local .scVector .vmem, ⟨2, _⟩ => ⟨S51200, .f32⟩
  | .local .scVector .vmem, ⟨3, _⟩ => ⟨S2048, .f32⟩
  | .local .scVector .vmem, ⟨4, _⟩ => ⟨S16, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v0_scv : Ref sig .scVector := ⟨.hbm, 3, rfl⟩
abbrev main_arg1_scv : Ref sig .scVector := ⟨.hbm, 1, rfl⟩
abbrev main_v1_0_scv : Ref sig .scVector := ⟨.hbm, 4, rfl⟩
abbrev main_v1_1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg7_1 : Ref sig .tc := ⟨.vmem, 16, rfl⟩
abbrev cc2_scratch0 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4000_i32 : BitVec 32 := 4000#32
  let v2 : BitVec 32 := Scalar.muli v1 c4000_i32
  ![v2.toNat]
def k0_off2 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4000_i32 : BitVec 32 := 4000#32
  let v2 : BitVec 32 := Scalar.muli v1 c4000_i32
  let v7 : BitVec 32 := Scalar.addi v2 c0_i32
  let c128_i32 : BitVec 32 := 128#32
  let v8 : BitVec 32 := Scalar.muli v7 c128_i32
  ![v8.toNat]
@[reducible] def k0_t1_loop : Scf.Loop 32 :=
  let c0_i32_3 : BitVec 32 := 0#32
  let c12_i32 : BitVec 32 := 12#32
  let v147 : BitVec 32 := Scalar.addi c0_i32_3 c12_i32
  let c1_i32 : BitVec 32 := 1#32
  ⟨c0_i32_3, v147, c1_i32⟩

def k0_chk1 (v365 : IVec S16 32) : Prop :=
  (∀ a x, ((![v365] : Fin 1 → IVec S16 32) a x).toNat < S4000.size a)
theorem k0_idx1_inb : ∀ (v365 : IVec S16 32) (k0_hw1 : k0_chk1 v365), ∀ a x, ((![v365] : Fin 1 → IVec S16 32) a x).toNat < S4000.size a := fun v365 k0_hw1 => k0_hw1
@[reducible] def k0_t2_loop : Scf.Loop 32 :=
  let c0_i32_59 : BitVec 32 := 0#32
  let c5_i32_60 : BitVec 32 := 5#32
  let v358 : BitVec 32 := Scalar.addi c0_i32_59 c5_i32_60
  let c1_i32_61 : BitVec 32 := 1#32
  ⟨c0_i32_59, v358, c1_i32_61⟩
def k0_off3 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4000_i32 : BitVec 32 := 4000#32
  let v2 : BitVec 32 := Scalar.muli v1 c4000_i32
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v363 : BitVec 32 := Scalar.addi v2 v362
  let c128_i32_67 : BitVec 32 := 128#32
  let v364 : BitVec 32 := Scalar.muli v363 c128_i32_67
  ![v364.toNat]
@[reducible] def k0_t3_loop (v155 : BitVec 32) (v162 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v367 : BitVec 32 := Scalar.subi v155 v362
  let c0_i32_68 : BitVec 32 := 0#32
  let v368 : BitVec 32 := Scalar.maxsi v367 c0_i32_68
  let v369 : BitVec 32 := Scalar.subi v162 v362
  let c400_i32_69 : BitVec 32 := 400#32
  let v370 : BitVec 32 := Scalar.minsi v369 c400_i32_69
  let v614 : BitVec 32 := Scalar.subi v370 v368
  let c1_i32_182 : BitVec 32 := 1#32
  let v616 : BitVec 32 := Scalar.divsi v614 c1_i32_182
  let v617 : BitVec 32 := Scalar.muli v616 c1_i32_182
  let v618 : BitVec 32 := Scalar.addi v368 v617
  let c1_i32_183 : BitVec 32 := 1#32
  ⟨v368, v618, c1_i32_183⟩
def k0_cond1 (v155 : BitVec 32) (v162 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v369 : BitVec 32 := Scalar.subi v162 v362
  let c400_i32_69 : BitVec 32 := 400#32
  let v370 : BitVec 32 := Scalar.minsi v369 c400_i32_69
  let v367 : BitVec 32 := Scalar.subi v155 v362
  let c0_i32_68 : BitVec 32 := 0#32
  let v368 : BitVec 32 := Scalar.maxsi v367 c0_i32_68
  let v371 : BitVec 1 := Scalar.cmpi .sgt v370 v368
  let v372 : BitVec 32 := Scalar.extui v371
  let c0_i32_70 : BitVec 32 := 0#32
  let v373 : BitVec 1 := Scalar.cmpi .ne v372 c0_i32_70
  v373

def k0_off4 (v155 : BitVec 32) (v162 : BitVec 32) (k0_t2 : Fin k0_t2_loop.trips) (k0_t3 : Fin (k0_t3_loop v155 v162 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v367 : BitVec 32 := Scalar.subi v155 v362
  let c0_i32_68 : BitVec 32 := 0#32
  let v368 : BitVec 32 := Scalar.maxsi v367 c0_i32_68
  let c1_i32_183 : BitVec 32 := 1#32
  let arg15 : BitVec 32 := Scf.iv v368 c1_i32_183 k0_t3
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t4_loop (v155 : BitVec 32) (v162 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v367 : BitVec 32 := Scalar.subi v155 v362
  let c0_i32_68 : BitVec 32 := 0#32
  let v368 : BitVec 32 := Scalar.maxsi v367 c0_i32_68
  let v369 : BitVec 32 := Scalar.subi v162 v362
  let c400_i32_69 : BitVec 32 := 400#32
  let v370 : BitVec 32 := Scalar.minsi v369 c400_i32_69
  let v614 : BitVec 32 := Scalar.subi v370 v368
  let c1_i32_182 : BitVec 32 := 1#32
  let v616 : BitVec 32 := Scalar.divsi v614 c1_i32_182
  let v617 : BitVec 32 := Scalar.muli v616 c1_i32_182
  let v618 : BitVec 32 := Scalar.addi v368 v617
  let v615 : BitVec 32 := Scalar.addi v368 v614
  let c1_i32_184 : BitVec 32 := 1#32
  ⟨v618, v615, c1_i32_184⟩
def k0_off5 (v155 : BitVec 32) (v162 : BitVec 32) (k0_t2 : Fin k0_t2_loop.trips) (k0_t4 : Fin (k0_t4_loop v155 v162 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v367 : BitVec 32 := Scalar.subi v155 v362
  let c0_i32_68 : BitVec 32 := 0#32
  let v368 : BitVec 32 := Scalar.maxsi v367 c0_i32_68
  let v369 : BitVec 32 := Scalar.subi v162 v362
  let c400_i32_69 : BitVec 32 := 400#32
  let v370 : BitVec 32 := Scalar.minsi v369 c400_i32_69
  let v614 : BitVec 32 := Scalar.subi v370 v368
  let c1_i32_182 : BitVec 32 := 1#32
  let v616 : BitVec 32 := Scalar.divsi v614 c1_i32_182
  let v617 : BitVec 32 := Scalar.muli v616 c1_i32_182
  let v618 : BitVec 32 := Scalar.addi v368 v617
  let c1_i32_184 : BitVec 32 := 1#32
  let arg15 : BitVec 32 := Scf.iv v618 c1_i32_184 k0_t4
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t5_loop (v162 : BitVec 32) (v169 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v374 : BitVec 32 := Scalar.subi v162 v362
  let c0_i32_71 : BitVec 32 := 0#32
  let v375 : BitVec 32 := Scalar.maxsi v374 c0_i32_71
  let v376 : BitVec 32 := Scalar.subi v169 v362
  let c400_i32_72 : BitVec 32 := 400#32
  let v377 : BitVec 32 := Scalar.minsi v376 c400_i32_72
  let v614 : BitVec 32 := Scalar.subi v377 v375
  let c1_i32_182 : BitVec 32 := 1#32
  let v616 : BitVec 32 := Scalar.divsi v614 c1_i32_182
  let v617 : BitVec 32 := Scalar.muli v616 c1_i32_182
  let v618 : BitVec 32 := Scalar.addi v375 v617
  let c1_i32_183 : BitVec 32 := 1#32
  ⟨v375, v618, c1_i32_183⟩
def k0_cond2 (v162 : BitVec 32) (v169 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v376 : BitVec 32 := Scalar.subi v169 v362
  let c400_i32_72 : BitVec 32 := 400#32
  let v377 : BitVec 32 := Scalar.minsi v376 c400_i32_72
  let v374 : BitVec 32 := Scalar.subi v162 v362
  let c0_i32_71 : BitVec 32 := 0#32
  let v375 : BitVec 32 := Scalar.maxsi v374 c0_i32_71
  let v378 : BitVec 1 := Scalar.cmpi .sgt v377 v375
  let v379 : BitVec 32 := Scalar.extui v378
  let c0_i32_73 : BitVec 32 := 0#32
  let v380 : BitVec 1 := Scalar.cmpi .ne v379 c0_i32_73
  v380

def k0_off6 (v162 : BitVec 32) (v169 : BitVec 32) (k0_t2 : Fin k0_t2_loop.trips) (k0_t5 : Fin (k0_t5_loop v162 v169 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v374 : BitVec 32 := Scalar.subi v162 v362
  let c0_i32_71 : BitVec 32 := 0#32
  let v375 : BitVec 32 := Scalar.maxsi v374 c0_i32_71
  let c1_i32_183 : BitVec 32 := 1#32
  let arg15 : BitVec 32 := Scf.iv v375 c1_i32_183 k0_t5
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t6_loop (v162 : BitVec 32) (v169 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v374 : BitVec 32 := Scalar.subi v162 v362
  let c0_i32_71 : BitVec 32 := 0#32
  let v375 : BitVec 32 := Scalar.maxsi v374 c0_i32_71
  let v376 : BitVec 32 := Scalar.subi v169 v362
  let c400_i32_72 : BitVec 32 := 400#32
  let v377 : BitVec 32 := Scalar.minsi v376 c400_i32_72
  let v614 : BitVec 32 := Scalar.subi v377 v375
  let c1_i32_182 : BitVec 32 := 1#32
  let v616 : BitVec 32 := Scalar.divsi v614 c1_i32_182
  let v617 : BitVec 32 := Scalar.muli v616 c1_i32_182
  let v618 : BitVec 32 := Scalar.addi v375 v617
  let v615 : BitVec 32 := Scalar.addi v375 v614
  let c1_i32_184 : BitVec 32 := 1#32
  ⟨v618, v615, c1_i32_184⟩
def k0_off7 (v162 : BitVec 32) (v169 : BitVec 32) (k0_t2 : Fin k0_t2_loop.trips) (k0_t6 : Fin (k0_t6_loop v162 v169 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v374 : BitVec 32 := Scalar.subi v162 v362
  let c0_i32_71 : BitVec 32 := 0#32
  let v375 : BitVec 32 := Scalar.maxsi v374 c0_i32_71
  let v376 : BitVec 32 := Scalar.subi v169 v362
  let c400_i32_72 : BitVec 32 := 400#32
  let v377 : BitVec 32 := Scalar.minsi v376 c400_i32_72
  let v614 : BitVec 32 := Scalar.subi v377 v375
  let c1_i32_182 : BitVec 32 := 1#32
  let v616 : BitVec 32 := Scalar.divsi v614 c1_i32_182
  let v617 : BitVec 32 := Scalar.muli v616 c1_i32_182
  let v618 : BitVec 32 := Scalar.addi v375 v617
  let c1_i32_184 : BitVec 32 := 1#32
  let arg15 : BitVec 32 := Scf.iv v618 c1_i32_184 k0_t6
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t7_loop (v169 : BitVec 32) (v176 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v381 : BitVec 32 := Scalar.subi v169 v362
  let c0_i32_74 : BitVec 32 := 0#32
  let v382 : BitVec 32 := Scalar.maxsi v381 c0_i32_74
  let v383 : BitVec 32 := Scalar.subi v176 v362
  let c400_i32_75 : BitVec 32 := 400#32
  let v384 : BitVec 32 := Scalar.minsi v383 c400_i32_75
  let v614 : BitVec 32 := Scalar.subi v384 v382
  let c1_i32_182 : BitVec 32 := 1#32
  let v616 : BitVec 32 := Scalar.divsi v614 c1_i32_182
  let v617 : BitVec 32 := Scalar.muli v616 c1_i32_182
  let v618 : BitVec 32 := Scalar.addi v382 v617
  let c1_i32_183 : BitVec 32 := 1#32
  ⟨v382, v618, c1_i32_183⟩
def k0_cond3 (v169 : BitVec 32) (v176 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v383 : BitVec 32 := Scalar.subi v176 v362
  let c400_i32_75 : BitVec 32 := 400#32
  let v384 : BitVec 32 := Scalar.minsi v383 c400_i32_75
  let v381 : BitVec 32 := Scalar.subi v169 v362
  let c0_i32_74 : BitVec 32 := 0#32
  let v382 : BitVec 32 := Scalar.maxsi v381 c0_i32_74
  let v385 : BitVec 1 := Scalar.cmpi .sgt v384 v382
  let v386 : BitVec 32 := Scalar.extui v385
  let c0_i32_76 : BitVec 32 := 0#32
  let v387 : BitVec 1 := Scalar.cmpi .ne v386 c0_i32_76
  v387

def k0_off8 (v169 : BitVec 32) (v176 : BitVec 32) (k0_t2 : Fin k0_t2_loop.trips) (k0_t7 : Fin (k0_t7_loop v169 v176 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v381 : BitVec 32 := Scalar.subi v169 v362
  let c0_i32_74 : BitVec 32 := 0#32
  let v382 : BitVec 32 := Scalar.maxsi v381 c0_i32_74
  let c1_i32_183 : BitVec 32 := 1#32
  let arg15 : BitVec 32 := Scf.iv v382 c1_i32_183 k0_t7
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t8_loop (v169 : BitVec 32) (v176 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v381 : BitVec 32 := Scalar.subi v169 v362
  let c0_i32_74 : BitVec 32 := 0#32
  let v382 : BitVec 32 := Scalar.maxsi v381 c0_i32_74
  let v383 : BitVec 32 := Scalar.subi v176 v362
  let c400_i32_75 : BitVec 32 := 400#32
  let v384 : BitVec 32 := Scalar.minsi v383 c400_i32_75
  let v614 : BitVec 32 := Scalar.subi v384 v382
  let c1_i32_182 : BitVec 32 := 1#32
  let v616 : BitVec 32 := Scalar.divsi v614 c1_i32_182
  let v617 : BitVec 32 := Scalar.muli v616 c1_i32_182
  let v618 : BitVec 32 := Scalar.addi v382 v617
  let v615 : BitVec 32 := Scalar.addi v382 v614
  let c1_i32_184 : BitVec 32 := 1#32
  ⟨v618, v615, c1_i32_184⟩
def k0_off9 (v169 : BitVec 32) (v176 : BitVec 32) (k0_t2 : Fin k0_t2_loop.trips) (k0_t8 : Fin (k0_t8_loop v169 v176 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v381 : BitVec 32 := Scalar.subi v169 v362
  let c0_i32_74 : BitVec 32 := 0#32
  let v382 : BitVec 32 := Scalar.maxsi v381 c0_i32_74
  let v383 : BitVec 32 := Scalar.subi v176 v362
  let c400_i32_75 : BitVec 32 := 400#32
  let v384 : BitVec 32 := Scalar.minsi v383 c400_i32_75
  let v614 : BitVec 32 := Scalar.subi v384 v382
  let c1_i32_182 : BitVec 32 := 1#32
  let v616 : BitVec 32 := Scalar.divsi v614 c1_i32_182
  let v617 : BitVec 32 := Scalar.muli v616 c1_i32_182
  let v618 : BitVec 32 := Scalar.addi v382 v617
  let c1_i32_184 : BitVec 32 := 1#32
  let arg15 : BitVec 32 := Scf.iv v618 c1_i32_184 k0_t8
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t9_loop (v176 : BitVec 32) (v183 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v388 : BitVec 32 := Scalar.subi v176 v362
  let c0_i32_77 : BitVec 32 := 0#32
  let v389 : BitVec 32 := Scalar.maxsi v388 c0_i32_77
  let v390 : BitVec 32 := Scalar.subi v183 v362
  let c400_i32_78 : BitVec 32 := 400#32
  let v391 : BitVec 32 := Scalar.minsi v390 c400_i32_78
  let v614 : BitVec 32 := Scalar.subi v391 v389
  let c1_i32_182 : BitVec 32 := 1#32
  let v616 : BitVec 32 := Scalar.divsi v614 c1_i32_182
  let v617 : BitVec 32 := Scalar.muli v616 c1_i32_182
  let v618 : BitVec 32 := Scalar.addi v389 v617
  let c1_i32_183 : BitVec 32 := 1#32
  ⟨v389, v618, c1_i32_183⟩
def k0_cond4 (v176 : BitVec 32) (v183 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v390 : BitVec 32 := Scalar.subi v183 v362
  let c400_i32_78 : BitVec 32 := 400#32
  let v391 : BitVec 32 := Scalar.minsi v390 c400_i32_78
  let v388 : BitVec 32 := Scalar.subi v176 v362
  let c0_i32_77 : BitVec 32 := 0#32
  let v389 : BitVec 32 := Scalar.maxsi v388 c0_i32_77
  let v392 : BitVec 1 := Scalar.cmpi .sgt v391 v389
  let v393 : BitVec 32 := Scalar.extui v392
  let c0_i32_79 : BitVec 32 := 0#32
  let v394 : BitVec 1 := Scalar.cmpi .ne v393 c0_i32_79
  v394

def k0_off10 (v176 : BitVec 32) (v183 : BitVec 32) (k0_t2 : Fin k0_t2_loop.trips) (k0_t9 : Fin (k0_t9_loop v176 v183 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v388 : BitVec 32 := Scalar.subi v176 v362
  let c0_i32_77 : BitVec 32 := 0#32
  let v389 : BitVec 32 := Scalar.maxsi v388 c0_i32_77
  let c1_i32_183 : BitVec 32 := 1#32
  let arg15 : BitVec 32 := Scf.iv v389 c1_i32_183 k0_t9
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t10_loop (v176 : BitVec 32) (v183 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v388 : BitVec 32 := Scalar.subi v176 v362
  let c0_i32_77 : BitVec 32 := 0#32
  let v389 : BitVec 32 := Scalar.maxsi v388 c0_i32_77
  let v390 : BitVec 32 := Scalar.subi v183 v362
  let c400_i32_78 : BitVec 32 := 400#32
  let v391 : BitVec 32 := Scalar.minsi v390 c400_i32_78
  let v614 : BitVec 32 := Scalar.subi v391 v389
  let c1_i32_182 : BitVec 32 := 1#32
  let v616 : BitVec 32 := Scalar.divsi v614 c1_i32_182
  let v617 : BitVec 32 := Scalar.muli v616 c1_i32_182
  let v618 : BitVec 32 := Scalar.addi v389 v617
  let v615 : BitVec 32 := Scalar.addi v389 v614
  let c1_i32_184 : BitVec 32 := 1#32
  ⟨v618, v615, c1_i32_184⟩
def k0_off11 (v176 : BitVec 32) (v183 : BitVec 32) (k0_t2 : Fin k0_t2_loop.trips) (k0_t10 : Fin (k0_t10_loop v176 v183 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v388 : BitVec 32 := Scalar.subi v176 v362
  let c0_i32_77 : BitVec 32 := 0#32
  let v389 : BitVec 32 := Scalar.maxsi v388 c0_i32_77
  let v390 : BitVec 32 := Scalar.subi v183 v362
  let c400_i32_78 : BitVec 32 := 400#32
  let v391 : BitVec 32 := Scalar.minsi v390 c400_i32_78
  let v614 : BitVec 32 := Scalar.subi v391 v389
  let c1_i32_182 : BitVec 32 := 1#32
  let v616 : BitVec 32 := Scalar.divsi v614 c1_i32_182
  let v617 : BitVec 32 := Scalar.muli v616 c1_i32_182
  let v618 : BitVec 32 := Scalar.addi v389 v617
  let c1_i32_184 : BitVec 32 := 1#32
  let arg15 : BitVec 32 := Scf.iv v618 c1_i32_184 k0_t10
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t11_loop (v183 : BitVec 32) (v190 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v395 : BitVec 32 := Scalar.subi v183 v362
  let c0_i32_80 : BitVec 32 := 0#32
  let v396 : BitVec 32 := Scalar.maxsi v395 c0_i32_80
  let v397 : BitVec 32 := Scalar.subi v190 v362
  let c400_i32_81 : BitVec 32 := 400#32
  let v398 : BitVec 32 := Scalar.minsi v397 c400_i32_81
  let v614 : BitVec 32 := Scalar.subi v398 v396
  let c1_i32_182 : BitVec 32 := 1#32
  let v616 : BitVec 32 := Scalar.divsi v614 c1_i32_182
  let v617 : BitVec 32 := Scalar.muli v616 c1_i32_182
  let v618 : BitVec 32 := Scalar.addi v396 v617
  let c1_i32_183 : BitVec 32 := 1#32
  ⟨v396, v618, c1_i32_183⟩
def k0_cond5 (v183 : BitVec 32) (v190 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v397 : BitVec 32 := Scalar.subi v190 v362
  let c400_i32_81 : BitVec 32 := 400#32
  let v398 : BitVec 32 := Scalar.minsi v397 c400_i32_81
  let v395 : BitVec 32 := Scalar.subi v183 v362
  let c0_i32_80 : BitVec 32 := 0#32
  let v396 : BitVec 32 := Scalar.maxsi v395 c0_i32_80
  let v399 : BitVec 1 := Scalar.cmpi .sgt v398 v396
  let v400 : BitVec 32 := Scalar.extui v399
  let c0_i32_82 : BitVec 32 := 0#32
  let v401 : BitVec 1 := Scalar.cmpi .ne v400 c0_i32_82
  v401

def k0_off12 (v183 : BitVec 32) (v190 : BitVec 32) (k0_t2 : Fin k0_t2_loop.trips) (k0_t11 : Fin (k0_t11_loop v183 v190 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v395 : BitVec 32 := Scalar.subi v183 v362
  let c0_i32_80 : BitVec 32 := 0#32
  let v396 : BitVec 32 := Scalar.maxsi v395 c0_i32_80
  let c1_i32_183 : BitVec 32 := 1#32
  let arg15 : BitVec 32 := Scf.iv v396 c1_i32_183 k0_t11
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t12_loop (v183 : BitVec 32) (v190 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v395 : BitVec 32 := Scalar.subi v183 v362
  let c0_i32_80 : BitVec 32 := 0#32
  let v396 : BitVec 32 := Scalar.maxsi v395 c0_i32_80
  let v397 : BitVec 32 := Scalar.subi v190 v362
  let c400_i32_81 : BitVec 32 := 400#32
  let v398 : BitVec 32 := Scalar.minsi v397 c400_i32_81
  let v614 : BitVec 32 := Scalar.subi v398 v396
  let c1_i32_182 : BitVec 32 := 1#32
  let v616 : BitVec 32 := Scalar.divsi v614 c1_i32_182
  let v617 : BitVec 32 := Scalar.muli v616 c1_i32_182
  let v618 : BitVec 32 := Scalar.addi v396 v617
  let v615 : BitVec 32 := Scalar.addi v396 v614
  let c1_i32_184 : BitVec 32 := 1#32
  ⟨v618, v615, c1_i32_184⟩
def k0_off13 (v183 : BitVec 32) (v190 : BitVec 32) (k0_t2 : Fin k0_t2_loop.trips) (k0_t12 : Fin (k0_t12_loop v183 v190 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v395 : BitVec 32 := Scalar.subi v183 v362
  let c0_i32_80 : BitVec 32 := 0#32
  let v396 : BitVec 32 := Scalar.maxsi v395 c0_i32_80
  let v397 : BitVec 32 := Scalar.subi v190 v362
  let c400_i32_81 : BitVec 32 := 400#32
  let v398 : BitVec 32 := Scalar.minsi v397 c400_i32_81
  let v614 : BitVec 32 := Scalar.subi v398 v396
  let c1_i32_182 : BitVec 32 := 1#32
  let v616 : BitVec 32 := Scalar.divsi v614 c1_i32_182
  let v617 : BitVec 32 := Scalar.muli v616 c1_i32_182
  let v618 : BitVec 32 := Scalar.addi v396 v617
  let c1_i32_184 : BitVec 32 := 1#32
  let arg15 : BitVec 32 := Scf.iv v618 c1_i32_184 k0_t12
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t13_loop (v190 : BitVec 32) (v197 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v402 : BitVec 32 := Scalar.subi v190 v362
  let c0_i32_83 : BitVec 32 := 0#32
  let v403 : BitVec 32 := Scalar.maxsi v402 c0_i32_83
  let v404 : BitVec 32 := Scalar.subi v197 v362
  let c400_i32_84 : BitVec 32 := 400#32
  let v405 : BitVec 32 := Scalar.minsi v404 c400_i32_84
  let v614 : BitVec 32 := Scalar.subi v405 v403
  let c1_i32_182 : BitVec 32 := 1#32
  let v616 : BitVec 32 := Scalar.divsi v614 c1_i32_182
  let v617 : BitVec 32 := Scalar.muli v616 c1_i32_182
  let v618 : BitVec 32 := Scalar.addi v403 v617
  let c1_i32_183 : BitVec 32 := 1#32
  ⟨v403, v618, c1_i32_183⟩
def k0_cond6 (v190 : BitVec 32) (v197 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v404 : BitVec 32 := Scalar.subi v197 v362
  let c400_i32_84 : BitVec 32 := 400#32
  let v405 : BitVec 32 := Scalar.minsi v404 c400_i32_84
  let v402 : BitVec 32 := Scalar.subi v190 v362
  let c0_i32_83 : BitVec 32 := 0#32
  let v403 : BitVec 32 := Scalar.maxsi v402 c0_i32_83
  let v406 : BitVec 1 := Scalar.cmpi .sgt v405 v403
  let v407 : BitVec 32 := Scalar.extui v406
  let c0_i32_85 : BitVec 32 := 0#32
  let v408 : BitVec 1 := Scalar.cmpi .ne v407 c0_i32_85
  v408

def k0_off14 (v190 : BitVec 32) (v197 : BitVec 32) (k0_t2 : Fin k0_t2_loop.trips) (k0_t13 : Fin (k0_t13_loop v190 v197 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v402 : BitVec 32 := Scalar.subi v190 v362
  let c0_i32_83 : BitVec 32 := 0#32
  let v403 : BitVec 32 := Scalar.maxsi v402 c0_i32_83
  let c1_i32_183 : BitVec 32 := 1#32
  let arg15 : BitVec 32 := Scf.iv v403 c1_i32_183 k0_t13
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t14_loop (v190 : BitVec 32) (v197 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v402 : BitVec 32 := Scalar.subi v190 v362
  let c0_i32_83 : BitVec 32 := 0#32
  let v403 : BitVec 32 := Scalar.maxsi v402 c0_i32_83
  let v404 : BitVec 32 := Scalar.subi v197 v362
  let c400_i32_84 : BitVec 32 := 400#32
  let v405 : BitVec 32 := Scalar.minsi v404 c400_i32_84
  let v614 : BitVec 32 := Scalar.subi v405 v403
  let c1_i32_182 : BitVec 32 := 1#32
  let v616 : BitVec 32 := Scalar.divsi v614 c1_i32_182
  let v617 : BitVec 32 := Scalar.muli v616 c1_i32_182
  let v618 : BitVec 32 := Scalar.addi v403 v617
  let v615 : BitVec 32 := Scalar.addi v403 v614
  let c1_i32_184 : BitVec 32 := 1#32
  ⟨v618, v615, c1_i32_184⟩
def k0_off15 (v190 : BitVec 32) (v197 : BitVec 32) (k0_t2 : Fin k0_t2_loop.trips) (k0_t14 : Fin (k0_t14_loop v190 v197 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v402 : BitVec 32 := Scalar.subi v190 v362
  let c0_i32_83 : BitVec 32 := 0#32
  let v403 : BitVec 32 := Scalar.maxsi v402 c0_i32_83
  let v404 : BitVec 32 := Scalar.subi v197 v362
  let c400_i32_84 : BitVec 32 := 400#32
  let v405 : BitVec 32 := Scalar.minsi v404 c400_i32_84
  let v614 : BitVec 32 := Scalar.subi v405 v403
  let c1_i32_182 : BitVec 32 := 1#32
  let v616 : BitVec 32 := Scalar.divsi v614 c1_i32_182
  let v617 : BitVec 32 := Scalar.muli v616 c1_i32_182
  let v618 : BitVec 32 := Scalar.addi v403 v617
  let c1_i32_184 : BitVec 32 := 1#32
  let arg15 : BitVec 32 := Scf.iv v618 c1_i32_184 k0_t14
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t15_loop (v197 : BitVec 32) (v204 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v409 : BitVec 32 := Scalar.subi v197 v362
  let c0_i32_86 : BitVec 32 := 0#32
  let v410 : BitVec 32 := Scalar.maxsi v409 c0_i32_86
  let v411 : BitVec 32 := Scalar.subi v204 v362
  let c400_i32_87 : BitVec 32 := 400#32
  let v412 : BitVec 32 := Scalar.minsi v411 c400_i32_87
  let v614 : BitVec 32 := Scalar.subi v412 v410
  let c1_i32_182 : BitVec 32 := 1#32
  let v616 : BitVec 32 := Scalar.divsi v614 c1_i32_182
  let v617 : BitVec 32 := Scalar.muli v616 c1_i32_182
  let v618 : BitVec 32 := Scalar.addi v410 v617
  let c1_i32_183 : BitVec 32 := 1#32
  ⟨v410, v618, c1_i32_183⟩
def k0_cond7 (v197 : BitVec 32) (v204 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v411 : BitVec 32 := Scalar.subi v204 v362
  let c400_i32_87 : BitVec 32 := 400#32
  let v412 : BitVec 32 := Scalar.minsi v411 c400_i32_87
  let v409 : BitVec 32 := Scalar.subi v197 v362
  let c0_i32_86 : BitVec 32 := 0#32
  let v410 : BitVec 32 := Scalar.maxsi v409 c0_i32_86
  let v413 : BitVec 1 := Scalar.cmpi .sgt v412 v410
  let v414 : BitVec 32 := Scalar.extui v413
  let c0_i32_88 : BitVec 32 := 0#32
  let v415 : BitVec 1 := Scalar.cmpi .ne v414 c0_i32_88
  v415

def k0_off16 (v197 : BitVec 32) (v204 : BitVec 32) (k0_t2 : Fin k0_t2_loop.trips) (k0_t15 : Fin (k0_t15_loop v197 v204 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v409 : BitVec 32 := Scalar.subi v197 v362
  let c0_i32_86 : BitVec 32 := 0#32
  let v410 : BitVec 32 := Scalar.maxsi v409 c0_i32_86
  let c1_i32_183 : BitVec 32 := 1#32
  let arg15 : BitVec 32 := Scf.iv v410 c1_i32_183 k0_t15
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t16_loop (v197 : BitVec 32) (v204 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v409 : BitVec 32 := Scalar.subi v197 v362
  let c0_i32_86 : BitVec 32 := 0#32
  let v410 : BitVec 32 := Scalar.maxsi v409 c0_i32_86
  let v411 : BitVec 32 := Scalar.subi v204 v362
  let c400_i32_87 : BitVec 32 := 400#32
  let v412 : BitVec 32 := Scalar.minsi v411 c400_i32_87
  let v614 : BitVec 32 := Scalar.subi v412 v410
  let c1_i32_182 : BitVec 32 := 1#32
  let v616 : BitVec 32 := Scalar.divsi v614 c1_i32_182
  let v617 : BitVec 32 := Scalar.muli v616 c1_i32_182
  let v618 : BitVec 32 := Scalar.addi v410 v617
  let v615 : BitVec 32 := Scalar.addi v410 v614
  let c1_i32_184 : BitVec 32 := 1#32
  ⟨v618, v615, c1_i32_184⟩
def k0_off17 (v197 : BitVec 32) (v204 : BitVec 32) (k0_t2 : Fin k0_t2_loop.trips) (k0_t16 : Fin (k0_t16_loop v197 v204 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v409 : BitVec 32 := Scalar.subi v197 v362
  let c0_i32_86 : BitVec 32 := 0#32
  let v410 : BitVec 32 := Scalar.maxsi v409 c0_i32_86
  let v411 : BitVec 32 := Scalar.subi v204 v362
  let c400_i32_87 : BitVec 32 := 400#32
  let v412 : BitVec 32 := Scalar.minsi v411 c400_i32_87
  let v614 : BitVec 32 := Scalar.subi v412 v410
  let c1_i32_182 : BitVec 32 := 1#32
  let v616 : BitVec 32 := Scalar.divsi v614 c1_i32_182
  let v617 : BitVec 32 := Scalar.muli v616 c1_i32_182
  let v618 : BitVec 32 := Scalar.addi v410 v617
  let c1_i32_184 : BitVec 32 := 1#32
  let arg15 : BitVec 32 := Scf.iv v618 c1_i32_184 k0_t16
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t17_loop (v204 : BitVec 32) (v211 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v416 : BitVec 32 := Scalar.subi v204 v362
  let c0_i32_89 : BitVec 32 := 0#32
  let v417 : BitVec 32 := Scalar.maxsi v416 c0_i32_89
  let v418 : BitVec 32 := Scalar.subi v211 v362
  let c400_i32_90 : BitVec 32 := 400#32
  let v419 : BitVec 32 := Scalar.minsi v418 c400_i32_90
  let v614 : BitVec 32 := Scalar.subi v419 v417
  let c1_i32_182 : BitVec 32 := 1#32
  let v616 : BitVec 32 := Scalar.divsi v614 c1_i32_182
  let v617 : BitVec 32 := Scalar.muli v616 c1_i32_182
  let v618 : BitVec 32 := Scalar.addi v417 v617
  let c1_i32_183 : BitVec 32 := 1#32
  ⟨v417, v618, c1_i32_183⟩
def k0_cond8 (v204 : BitVec 32) (v211 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v418 : BitVec 32 := Scalar.subi v211 v362
  let c400_i32_90 : BitVec 32 := 400#32
  let v419 : BitVec 32 := Scalar.minsi v418 c400_i32_90
  let v416 : BitVec 32 := Scalar.subi v204 v362
  let c0_i32_89 : BitVec 32 := 0#32
  let v417 : BitVec 32 := Scalar.maxsi v416 c0_i32_89
  let v420 : BitVec 1 := Scalar.cmpi .sgt v419 v417
  let v421 : BitVec 32 := Scalar.extui v420
  let c0_i32_91 : BitVec 32 := 0#32
  let v422 : BitVec 1 := Scalar.cmpi .ne v421 c0_i32_91
  v422

def k0_off18 (v204 : BitVec 32) (v211 : BitVec 32) (k0_t2 : Fin k0_t2_loop.trips) (k0_t17 : Fin (k0_t17_loop v204 v211 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v416 : BitVec 32 := Scalar.subi v204 v362
  let c0_i32_89 : BitVec 32 := 0#32
  let v417 : BitVec 32 := Scalar.maxsi v416 c0_i32_89
  let c1_i32_183 : BitVec 32 := 1#32
  let arg15 : BitVec 32 := Scf.iv v417 c1_i32_183 k0_t17
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t18_loop (v204 : BitVec 32) (v211 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v416 : BitVec 32 := Scalar.subi v204 v362
  let c0_i32_89 : BitVec 32 := 0#32
  let v417 : BitVec 32 := Scalar.maxsi v416 c0_i32_89
  let v418 : BitVec 32 := Scalar.subi v211 v362
  let c400_i32_90 : BitVec 32 := 400#32
  let v419 : BitVec 32 := Scalar.minsi v418 c400_i32_90
  let v614 : BitVec 32 := Scalar.subi v419 v417
  let c1_i32_182 : BitVec 32 := 1#32
  let v616 : BitVec 32 := Scalar.divsi v614 c1_i32_182
  let v617 : BitVec 32 := Scalar.muli v616 c1_i32_182
  let v618 : BitVec 32 := Scalar.addi v417 v617
  let v615 : BitVec 32 := Scalar.addi v417 v614
  let c1_i32_184 : BitVec 32 := 1#32
  ⟨v618, v615, c1_i32_184⟩
def k0_off19 (v204 : BitVec 32) (v211 : BitVec 32) (k0_t2 : Fin k0_t2_loop.trips) (k0_t18 : Fin (k0_t18_loop v204 v211 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v416 : BitVec 32 := Scalar.subi v204 v362
  let c0_i32_89 : BitVec 32 := 0#32
  let v417 : BitVec 32 := Scalar.maxsi v416 c0_i32_89
  let v418 : BitVec 32 := Scalar.subi v211 v362
  let c400_i32_90 : BitVec 32 := 400#32
  let v419 : BitVec 32 := Scalar.minsi v418 c400_i32_90
  let v614 : BitVec 32 := Scalar.subi v419 v417
  let c1_i32_182 : BitVec 32 := 1#32
  let v616 : BitVec 32 := Scalar.divsi v614 c1_i32_182
  let v617 : BitVec 32 := Scalar.muli v616 c1_i32_182
  let v618 : BitVec 32 := Scalar.addi v417 v617
  let c1_i32_184 : BitVec 32 := 1#32
  let arg15 : BitVec 32 := Scf.iv v618 c1_i32_184 k0_t18
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t19_loop (v211 : BitVec 32) (v218 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v423 : BitVec 32 := Scalar.subi v211 v362
  let c0_i32_92 : BitVec 32 := 0#32
  let v424 : BitVec 32 := Scalar.maxsi v423 c0_i32_92
  let v425 : BitVec 32 := Scalar.subi v218 v362
  let c400_i32_93 : BitVec 32 := 400#32
  let v426 : BitVec 32 := Scalar.minsi v425 c400_i32_93
  let v614 : BitVec 32 := Scalar.subi v426 v424
  let c1_i32_182 : BitVec 32 := 1#32
  let v616 : BitVec 32 := Scalar.divsi v614 c1_i32_182
  let v617 : BitVec 32 := Scalar.muli v616 c1_i32_182
  let v618 : BitVec 32 := Scalar.addi v424 v617
  let c1_i32_183 : BitVec 32 := 1#32
  ⟨v424, v618, c1_i32_183⟩
def k0_cond9 (v211 : BitVec 32) (v218 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v425 : BitVec 32 := Scalar.subi v218 v362
  let c400_i32_93 : BitVec 32 := 400#32
  let v426 : BitVec 32 := Scalar.minsi v425 c400_i32_93
  let v423 : BitVec 32 := Scalar.subi v211 v362
  let c0_i32_92 : BitVec 32 := 0#32
  let v424 : BitVec 32 := Scalar.maxsi v423 c0_i32_92
  let v427 : BitVec 1 := Scalar.cmpi .sgt v426 v424
  let v428 : BitVec 32 := Scalar.extui v427
  let c0_i32_94 : BitVec 32 := 0#32
  let v429 : BitVec 1 := Scalar.cmpi .ne v428 c0_i32_94
  v429

def k0_off20 (v211 : BitVec 32) (v218 : BitVec 32) (k0_t2 : Fin k0_t2_loop.trips) (k0_t19 : Fin (k0_t19_loop v211 v218 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v423 : BitVec 32 := Scalar.subi v211 v362
  let c0_i32_92 : BitVec 32 := 0#32
  let v424 : BitVec 32 := Scalar.maxsi v423 c0_i32_92
  let c1_i32_183 : BitVec 32 := 1#32
  let arg15 : BitVec 32 := Scf.iv v424 c1_i32_183 k0_t19
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t20_loop (v211 : BitVec 32) (v218 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v423 : BitVec 32 := Scalar.subi v211 v362
  let c0_i32_92 : BitVec 32 := 0#32
  let v424 : BitVec 32 := Scalar.maxsi v423 c0_i32_92
  let v425 : BitVec 32 := Scalar.subi v218 v362
  let c400_i32_93 : BitVec 32 := 400#32
  let v426 : BitVec 32 := Scalar.minsi v425 c400_i32_93
  let v614 : BitVec 32 := Scalar.subi v426 v424
  let c1_i32_182 : BitVec 32 := 1#32
  let v616 : BitVec 32 := Scalar.divsi v614 c1_i32_182
  let v617 : BitVec 32 := Scalar.muli v616 c1_i32_182
  let v618 : BitVec 32 := Scalar.addi v424 v617
  let v615 : BitVec 32 := Scalar.addi v424 v614
  let c1_i32_184 : BitVec 32 := 1#32
  ⟨v618, v615, c1_i32_184⟩
def k0_off21 (v211 : BitVec 32) (v218 : BitVec 32) (k0_t2 : Fin k0_t2_loop.trips) (k0_t20 : Fin (k0_t20_loop v211 v218 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v423 : BitVec 32 := Scalar.subi v211 v362
  let c0_i32_92 : BitVec 32 := 0#32
  let v424 : BitVec 32 := Scalar.maxsi v423 c0_i32_92
  let v425 : BitVec 32 := Scalar.subi v218 v362
  let c400_i32_93 : BitVec 32 := 400#32
  let v426 : BitVec 32 := Scalar.minsi v425 c400_i32_93
  let v614 : BitVec 32 := Scalar.subi v426 v424
  let c1_i32_182 : BitVec 32 := 1#32
  let v616 : BitVec 32 := Scalar.divsi v614 c1_i32_182
  let v617 : BitVec 32 := Scalar.muli v616 c1_i32_182
  let v618 : BitVec 32 := Scalar.addi v424 v617
  let c1_i32_184 : BitVec 32 := 1#32
  let arg15 : BitVec 32 := Scf.iv v618 c1_i32_184 k0_t20
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t21_loop (v218 : BitVec 32) (v225 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v430 : BitVec 32 := Scalar.subi v218 v362
  let c0_i32_95 : BitVec 32 := 0#32
  let v431 : BitVec 32 := Scalar.maxsi v430 c0_i32_95
  let v432 : BitVec 32 := Scalar.subi v225 v362
  let c400_i32_96 : BitVec 32 := 400#32
  let v433 : BitVec 32 := Scalar.minsi v432 c400_i32_96
  let v614 : BitVec 32 := Scalar.subi v433 v431
  let c1_i32_182 : BitVec 32 := 1#32
  let v616 : BitVec 32 := Scalar.divsi v614 c1_i32_182
  let v617 : BitVec 32 := Scalar.muli v616 c1_i32_182
  let v618 : BitVec 32 := Scalar.addi v431 v617
  let c1_i32_183 : BitVec 32 := 1#32
  ⟨v431, v618, c1_i32_183⟩
def k0_cond10 (v218 : BitVec 32) (v225 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v432 : BitVec 32 := Scalar.subi v225 v362
  let c400_i32_96 : BitVec 32 := 400#32
  let v433 : BitVec 32 := Scalar.minsi v432 c400_i32_96
  let v430 : BitVec 32 := Scalar.subi v218 v362
  let c0_i32_95 : BitVec 32 := 0#32
  let v431 : BitVec 32 := Scalar.maxsi v430 c0_i32_95
  let v434 : BitVec 1 := Scalar.cmpi .sgt v433 v431
  let v435 : BitVec 32 := Scalar.extui v434
  let c0_i32_97 : BitVec 32 := 0#32
  let v436 : BitVec 1 := Scalar.cmpi .ne v435 c0_i32_97
  v436

def k0_off22 (v218 : BitVec 32) (v225 : BitVec 32) (k0_t2 : Fin k0_t2_loop.trips) (k0_t21 : Fin (k0_t21_loop v218 v225 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v430 : BitVec 32 := Scalar.subi v218 v362
  let c0_i32_95 : BitVec 32 := 0#32
  let v431 : BitVec 32 := Scalar.maxsi v430 c0_i32_95
  let c1_i32_183 : BitVec 32 := 1#32
  let arg15 : BitVec 32 := Scf.iv v431 c1_i32_183 k0_t21
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t22_loop (v218 : BitVec 32) (v225 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v430 : BitVec 32 := Scalar.subi v218 v362
  let c0_i32_95 : BitVec 32 := 0#32
  let v431 : BitVec 32 := Scalar.maxsi v430 c0_i32_95
  let v432 : BitVec 32 := Scalar.subi v225 v362
  let c400_i32_96 : BitVec 32 := 400#32
  let v433 : BitVec 32 := Scalar.minsi v432 c400_i32_96
  let v614 : BitVec 32 := Scalar.subi v433 v431
  let c1_i32_182 : BitVec 32 := 1#32
  let v616 : BitVec 32 := Scalar.divsi v614 c1_i32_182
  let v617 : BitVec 32 := Scalar.muli v616 c1_i32_182
  let v618 : BitVec 32 := Scalar.addi v431 v617
  let v615 : BitVec 32 := Scalar.addi v431 v614
  let c1_i32_184 : BitVec 32 := 1#32
  ⟨v618, v615, c1_i32_184⟩
def k0_off23 (v218 : BitVec 32) (v225 : BitVec 32) (k0_t2 : Fin k0_t2_loop.trips) (k0_t22 : Fin (k0_t22_loop v218 v225 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v430 : BitVec 32 := Scalar.subi v218 v362
  let c0_i32_95 : BitVec 32 := 0#32
  let v431 : BitVec 32 := Scalar.maxsi v430 c0_i32_95
  let v432 : BitVec 32 := Scalar.subi v225 v362
  let c400_i32_96 : BitVec 32 := 400#32
  let v433 : BitVec 32 := Scalar.minsi v432 c400_i32_96
  let v614 : BitVec 32 := Scalar.subi v433 v431
  let c1_i32_182 : BitVec 32 := 1#32
  let v616 : BitVec 32 := Scalar.divsi v614 c1_i32_182
  let v617 : BitVec 32 := Scalar.muli v616 c1_i32_182
  let v618 : BitVec 32 := Scalar.addi v431 v617
  let c1_i32_184 : BitVec 32 := 1#32
  let arg15 : BitVec 32 := Scf.iv v618 c1_i32_184 k0_t22
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t23_loop (v225 : BitVec 32) (v232 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v437 : BitVec 32 := Scalar.subi v225 v362
  let c0_i32_98 : BitVec 32 := 0#32
  let v438 : BitVec 32 := Scalar.maxsi v437 c0_i32_98
  let v439 : BitVec 32 := Scalar.subi v232 v362
  let c400_i32_99 : BitVec 32 := 400#32
  let v440 : BitVec 32 := Scalar.minsi v439 c400_i32_99
  let v614 : BitVec 32 := Scalar.subi v440 v438
  let c1_i32_182 : BitVec 32 := 1#32
  let v616 : BitVec 32 := Scalar.divsi v614 c1_i32_182
  let v617 : BitVec 32 := Scalar.muli v616 c1_i32_182
  let v618 : BitVec 32 := Scalar.addi v438 v617
  let c1_i32_183 : BitVec 32 := 1#32
  ⟨v438, v618, c1_i32_183⟩
def k0_cond11 (v225 : BitVec 32) (v232 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v439 : BitVec 32 := Scalar.subi v232 v362
  let c400_i32_99 : BitVec 32 := 400#32
  let v440 : BitVec 32 := Scalar.minsi v439 c400_i32_99
  let v437 : BitVec 32 := Scalar.subi v225 v362
  let c0_i32_98 : BitVec 32 := 0#32
  let v438 : BitVec 32 := Scalar.maxsi v437 c0_i32_98
  let v441 : BitVec 1 := Scalar.cmpi .sgt v440 v438
  let v442 : BitVec 32 := Scalar.extui v441
  let c0_i32_100 : BitVec 32 := 0#32
  let v443 : BitVec 1 := Scalar.cmpi .ne v442 c0_i32_100
  v443

def k0_off24 (v225 : BitVec 32) (v232 : BitVec 32) (k0_t2 : Fin k0_t2_loop.trips) (k0_t23 : Fin (k0_t23_loop v225 v232 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v437 : BitVec 32 := Scalar.subi v225 v362
  let c0_i32_98 : BitVec 32 := 0#32
  let v438 : BitVec 32 := Scalar.maxsi v437 c0_i32_98
  let c1_i32_183 : BitVec 32 := 1#32
  let arg15 : BitVec 32 := Scf.iv v438 c1_i32_183 k0_t23
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t24_loop (v225 : BitVec 32) (v232 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v437 : BitVec 32 := Scalar.subi v225 v362
  let c0_i32_98 : BitVec 32 := 0#32
  let v438 : BitVec 32 := Scalar.maxsi v437 c0_i32_98
  let v439 : BitVec 32 := Scalar.subi v232 v362
  let c400_i32_99 : BitVec 32 := 400#32
  let v440 : BitVec 32 := Scalar.minsi v439 c400_i32_99
  let v614 : BitVec 32 := Scalar.subi v440 v438
  let c1_i32_182 : BitVec 32 := 1#32
  let v616 : BitVec 32 := Scalar.divsi v614 c1_i32_182
  let v617 : BitVec 32 := Scalar.muli v616 c1_i32_182
  let v618 : BitVec 32 := Scalar.addi v438 v617
  let v615 : BitVec 32 := Scalar.addi v438 v614
  let c1_i32_184 : BitVec 32 := 1#32
  ⟨v618, v615, c1_i32_184⟩
def k0_off25 (v225 : BitVec 32) (v232 : BitVec 32) (k0_t2 : Fin k0_t2_loop.trips) (k0_t24 : Fin (k0_t24_loop v225 v232 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v437 : BitVec 32 := Scalar.subi v225 v362
  let c0_i32_98 : BitVec 32 := 0#32
  let v438 : BitVec 32 := Scalar.maxsi v437 c0_i32_98
  let v439 : BitVec 32 := Scalar.subi v232 v362
  let c400_i32_99 : BitVec 32 := 400#32
  let v440 : BitVec 32 := Scalar.minsi v439 c400_i32_99
  let v614 : BitVec 32 := Scalar.subi v440 v438
  let c1_i32_182 : BitVec 32 := 1#32
  let v616 : BitVec 32 := Scalar.divsi v614 c1_i32_182
  let v617 : BitVec 32 := Scalar.muli v616 c1_i32_182
  let v618 : BitVec 32 := Scalar.addi v438 v617
  let c1_i32_184 : BitVec 32 := 1#32
  let arg15 : BitVec 32 := Scf.iv v618 c1_i32_184 k0_t24
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t25_loop (v232 : BitVec 32) (v239 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v444 : BitVec 32 := Scalar.subi v232 v362
  let c0_i32_101 : BitVec 32 := 0#32
  let v445 : BitVec 32 := Scalar.maxsi v444 c0_i32_101
  let v446 : BitVec 32 := Scalar.subi v239 v362
  let c400_i32_102 : BitVec 32 := 400#32
  let v447 : BitVec 32 := Scalar.minsi v446 c400_i32_102
  let v614 : BitVec 32 := Scalar.subi v447 v445
  let c1_i32_182 : BitVec 32 := 1#32
  let v616 : BitVec 32 := Scalar.divsi v614 c1_i32_182
  let v617 : BitVec 32 := Scalar.muli v616 c1_i32_182
  let v618 : BitVec 32 := Scalar.addi v445 v617
  let c1_i32_183 : BitVec 32 := 1#32
  ⟨v445, v618, c1_i32_183⟩
def k0_cond12 (v232 : BitVec 32) (v239 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v446 : BitVec 32 := Scalar.subi v239 v362
  let c400_i32_102 : BitVec 32 := 400#32
  let v447 : BitVec 32 := Scalar.minsi v446 c400_i32_102
  let v444 : BitVec 32 := Scalar.subi v232 v362
  let c0_i32_101 : BitVec 32 := 0#32
  let v445 : BitVec 32 := Scalar.maxsi v444 c0_i32_101
  let v448 : BitVec 1 := Scalar.cmpi .sgt v447 v445
  let v449 : BitVec 32 := Scalar.extui v448
  let c0_i32_103 : BitVec 32 := 0#32
  let v450 : BitVec 1 := Scalar.cmpi .ne v449 c0_i32_103
  v450

def k0_off26 (v232 : BitVec 32) (v239 : BitVec 32) (k0_t2 : Fin k0_t2_loop.trips) (k0_t25 : Fin (k0_t25_loop v232 v239 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v444 : BitVec 32 := Scalar.subi v232 v362
  let c0_i32_101 : BitVec 32 := 0#32
  let v445 : BitVec 32 := Scalar.maxsi v444 c0_i32_101
  let c1_i32_183 : BitVec 32 := 1#32
  let arg15 : BitVec 32 := Scf.iv v445 c1_i32_183 k0_t25
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t26_loop (v232 : BitVec 32) (v239 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v444 : BitVec 32 := Scalar.subi v232 v362
  let c0_i32_101 : BitVec 32 := 0#32
  let v445 : BitVec 32 := Scalar.maxsi v444 c0_i32_101
  let v446 : BitVec 32 := Scalar.subi v239 v362
  let c400_i32_102 : BitVec 32 := 400#32
  let v447 : BitVec 32 := Scalar.minsi v446 c400_i32_102
  let v614 : BitVec 32 := Scalar.subi v447 v445
  let c1_i32_182 : BitVec 32 := 1#32
  let v616 : BitVec 32 := Scalar.divsi v614 c1_i32_182
  let v617 : BitVec 32 := Scalar.muli v616 c1_i32_182
  let v618 : BitVec 32 := Scalar.addi v445 v617
  let v615 : BitVec 32 := Scalar.addi v445 v614
  let c1_i32_184 : BitVec 32 := 1#32
  ⟨v618, v615, c1_i32_184⟩
def k0_off27 (v232 : BitVec 32) (v239 : BitVec 32) (k0_t2 : Fin k0_t2_loop.trips) (k0_t26 : Fin (k0_t26_loop v232 v239 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v444 : BitVec 32 := Scalar.subi v232 v362
  let c0_i32_101 : BitVec 32 := 0#32
  let v445 : BitVec 32 := Scalar.maxsi v444 c0_i32_101
  let v446 : BitVec 32 := Scalar.subi v239 v362
  let c400_i32_102 : BitVec 32 := 400#32
  let v447 : BitVec 32 := Scalar.minsi v446 c400_i32_102
  let v614 : BitVec 32 := Scalar.subi v447 v445
  let c1_i32_182 : BitVec 32 := 1#32
  let v616 : BitVec 32 := Scalar.divsi v614 c1_i32_182
  let v617 : BitVec 32 := Scalar.muli v616 c1_i32_182
  let v618 : BitVec 32 := Scalar.addi v445 v617
  let c1_i32_184 : BitVec 32 := 1#32
  let arg15 : BitVec 32 := Scf.iv v618 c1_i32_184 k0_t26
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t27_loop (v239 : BitVec 32) (v246 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v451 : BitVec 32 := Scalar.subi v239 v362
  let c0_i32_104 : BitVec 32 := 0#32
  let v452 : BitVec 32 := Scalar.maxsi v451 c0_i32_104
  let v453 : BitVec 32 := Scalar.subi v246 v362
  let c400_i32_105 : BitVec 32 := 400#32
  let v454 : BitVec 32 := Scalar.minsi v453 c400_i32_105
  let v614 : BitVec 32 := Scalar.subi v454 v452
  let c1_i32_182 : BitVec 32 := 1#32
  let v616 : BitVec 32 := Scalar.divsi v614 c1_i32_182
  let v617 : BitVec 32 := Scalar.muli v616 c1_i32_182
  let v618 : BitVec 32 := Scalar.addi v452 v617
  let c1_i32_183 : BitVec 32 := 1#32
  ⟨v452, v618, c1_i32_183⟩
def k0_cond13 (v239 : BitVec 32) (v246 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v453 : BitVec 32 := Scalar.subi v246 v362
  let c400_i32_105 : BitVec 32 := 400#32
  let v454 : BitVec 32 := Scalar.minsi v453 c400_i32_105
  let v451 : BitVec 32 := Scalar.subi v239 v362
  let c0_i32_104 : BitVec 32 := 0#32
  let v452 : BitVec 32 := Scalar.maxsi v451 c0_i32_104
  let v455 : BitVec 1 := Scalar.cmpi .sgt v454 v452
  let v456 : BitVec 32 := Scalar.extui v455
  let c0_i32_106 : BitVec 32 := 0#32
  let v457 : BitVec 1 := Scalar.cmpi .ne v456 c0_i32_106
  v457

def k0_off28 (v239 : BitVec 32) (v246 : BitVec 32) (k0_t2 : Fin k0_t2_loop.trips) (k0_t27 : Fin (k0_t27_loop v239 v246 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v451 : BitVec 32 := Scalar.subi v239 v362
  let c0_i32_104 : BitVec 32 := 0#32
  let v452 : BitVec 32 := Scalar.maxsi v451 c0_i32_104
  let c1_i32_183 : BitVec 32 := 1#32
  let arg15 : BitVec 32 := Scf.iv v452 c1_i32_183 k0_t27
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t28_loop (v239 : BitVec 32) (v246 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v451 : BitVec 32 := Scalar.subi v239 v362
  let c0_i32_104 : BitVec 32 := 0#32
  let v452 : BitVec 32 := Scalar.maxsi v451 c0_i32_104
  let v453 : BitVec 32 := Scalar.subi v246 v362
  let c400_i32_105 : BitVec 32 := 400#32
  let v454 : BitVec 32 := Scalar.minsi v453 c400_i32_105
  let v614 : BitVec 32 := Scalar.subi v454 v452
  let c1_i32_182 : BitVec 32 := 1#32
  let v616 : BitVec 32 := Scalar.divsi v614 c1_i32_182
  let v617 : BitVec 32 := Scalar.muli v616 c1_i32_182
  let v618 : BitVec 32 := Scalar.addi v452 v617
  let v615 : BitVec 32 := Scalar.addi v452 v614
  let c1_i32_184 : BitVec 32 := 1#32
  ⟨v618, v615, c1_i32_184⟩
def k0_off29 (v239 : BitVec 32) (v246 : BitVec 32) (k0_t2 : Fin k0_t2_loop.trips) (k0_t28 : Fin (k0_t28_loop v239 v246 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v451 : BitVec 32 := Scalar.subi v239 v362
  let c0_i32_104 : BitVec 32 := 0#32
  let v452 : BitVec 32 := Scalar.maxsi v451 c0_i32_104
  let v453 : BitVec 32 := Scalar.subi v246 v362
  let c400_i32_105 : BitVec 32 := 400#32
  let v454 : BitVec 32 := Scalar.minsi v453 c400_i32_105
  let v614 : BitVec 32 := Scalar.subi v454 v452
  let c1_i32_182 : BitVec 32 := 1#32
  let v616 : BitVec 32 := Scalar.divsi v614 c1_i32_182
  let v617 : BitVec 32 := Scalar.muli v616 c1_i32_182
  let v618 : BitVec 32 := Scalar.addi v452 v617
  let c1_i32_184 : BitVec 32 := 1#32
  let arg15 : BitVec 32 := Scf.iv v618 c1_i32_184 k0_t28
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t29_loop (v246 : BitVec 32) (v253 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v458 : BitVec 32 := Scalar.subi v246 v362
  let c0_i32_107 : BitVec 32 := 0#32
  let v459 : BitVec 32 := Scalar.maxsi v458 c0_i32_107
  let v460 : BitVec 32 := Scalar.subi v253 v362
  let c400_i32_108 : BitVec 32 := 400#32
  let v461 : BitVec 32 := Scalar.minsi v460 c400_i32_108
  let v614 : BitVec 32 := Scalar.subi v461 v459
  let c1_i32_182 : BitVec 32 := 1#32
  let v616 : BitVec 32 := Scalar.divsi v614 c1_i32_182
  let v617 : BitVec 32 := Scalar.muli v616 c1_i32_182
  let v618 : BitVec 32 := Scalar.addi v459 v617
  let c1_i32_183 : BitVec 32 := 1#32
  ⟨v459, v618, c1_i32_183⟩
def k0_cond14 (v246 : BitVec 32) (v253 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v460 : BitVec 32 := Scalar.subi v253 v362
  let c400_i32_108 : BitVec 32 := 400#32
  let v461 : BitVec 32 := Scalar.minsi v460 c400_i32_108
  let v458 : BitVec 32 := Scalar.subi v246 v362
  let c0_i32_107 : BitVec 32 := 0#32
  let v459 : BitVec 32 := Scalar.maxsi v458 c0_i32_107
  let v462 : BitVec 1 := Scalar.cmpi .sgt v461 v459
  let v463 : BitVec 32 := Scalar.extui v462
  let c0_i32_109 : BitVec 32 := 0#32
  let v464 : BitVec 1 := Scalar.cmpi .ne v463 c0_i32_109
  v464

def k0_off30 (v246 : BitVec 32) (v253 : BitVec 32) (k0_t2 : Fin k0_t2_loop.trips) (k0_t29 : Fin (k0_t29_loop v246 v253 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v458 : BitVec 32 := Scalar.subi v246 v362
  let c0_i32_107 : BitVec 32 := 0#32
  let v459 : BitVec 32 := Scalar.maxsi v458 c0_i32_107
  let c1_i32_183 : BitVec 32 := 1#32
  let arg15 : BitVec 32 := Scf.iv v459 c1_i32_183 k0_t29
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t30_loop (v246 : BitVec 32) (v253 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v458 : BitVec 32 := Scalar.subi v246 v362
  let c0_i32_107 : BitVec 32 := 0#32
  let v459 : BitVec 32 := Scalar.maxsi v458 c0_i32_107
  let v460 : BitVec 32 := Scalar.subi v253 v362
  let c400_i32_108 : BitVec 32 := 400#32
  let v461 : BitVec 32 := Scalar.minsi v460 c400_i32_108
  let v614 : BitVec 32 := Scalar.subi v461 v459
  let c1_i32_182 : BitVec 32 := 1#32
  let v616 : BitVec 32 := Scalar.divsi v614 c1_i32_182
  let v617 : BitVec 32 := Scalar.muli v616 c1_i32_182
  let v618 : BitVec 32 := Scalar.addi v459 v617
  let v615 : BitVec 32 := Scalar.addi v459 v614
  let c1_i32_184 : BitVec 32 := 1#32
  ⟨v618, v615, c1_i32_184⟩
def k0_off31 (v246 : BitVec 32) (v253 : BitVec 32) (k0_t2 : Fin k0_t2_loop.trips) (k0_t30 : Fin (k0_t30_loop v246 v253 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v458 : BitVec 32 := Scalar.subi v246 v362
  let c0_i32_107 : BitVec 32 := 0#32
  let v459 : BitVec 32 := Scalar.maxsi v458 c0_i32_107
  let v460 : BitVec 32 := Scalar.subi v253 v362
  let c400_i32_108 : BitVec 32 := 400#32
  let v461 : BitVec 32 := Scalar.minsi v460 c400_i32_108
  let v614 : BitVec 32 := Scalar.subi v461 v459
  let c1_i32_182 : BitVec 32 := 1#32
  let v616 : BitVec 32 := Scalar.divsi v614 c1_i32_182
  let v617 : BitVec 32 := Scalar.muli v616 c1_i32_182
  let v618 : BitVec 32 := Scalar.addi v459 v617
  let c1_i32_184 : BitVec 32 := 1#32
  let arg15 : BitVec 32 := Scf.iv v618 c1_i32_184 k0_t30
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t31_loop (v253 : BitVec 32) (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v465 : BitVec 32 := Scalar.subi v253 v362
  let c0_i32_110 : BitVec 32 := 0#32
  let v466 : BitVec 32 := Scalar.maxsi v465 c0_i32_110
  let v467 : BitVec 32 := Scalar.subi v260 v362
  let c400_i32_111 : BitVec 32 := 400#32
  let v468 : BitVec 32 := Scalar.minsi v467 c400_i32_111
  let v614 : BitVec 32 := Scalar.subi v468 v466
  let c1_i32_182 : BitVec 32 := 1#32
  let v616 : BitVec 32 := Scalar.divsi v614 c1_i32_182
  let v617 : BitVec 32 := Scalar.muli v616 c1_i32_182
  let v618 : BitVec 32 := Scalar.addi v466 v617
  let c1_i32_183 : BitVec 32 := 1#32
  ⟨v466, v618, c1_i32_183⟩
def k0_cond15 (v253 : BitVec 32) (v260 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v467 : BitVec 32 := Scalar.subi v260 v362
  let c400_i32_111 : BitVec 32 := 400#32
  let v468 : BitVec 32 := Scalar.minsi v467 c400_i32_111
  let v465 : BitVec 32 := Scalar.subi v253 v362
  let c0_i32_110 : BitVec 32 := 0#32
  let v466 : BitVec 32 := Scalar.maxsi v465 c0_i32_110
  let v469 : BitVec 1 := Scalar.cmpi .sgt v468 v466
  let v470 : BitVec 32 := Scalar.extui v469
  let c0_i32_112 : BitVec 32 := 0#32
  let v471 : BitVec 1 := Scalar.cmpi .ne v470 c0_i32_112
  v471

def k0_off32 (v253 : BitVec 32) (v260 : BitVec 32) (k0_t2 : Fin k0_t2_loop.trips) (k0_t31 : Fin (k0_t31_loop v253 v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v465 : BitVec 32 := Scalar.subi v253 v362
  let c0_i32_110 : BitVec 32 := 0#32
  let v466 : BitVec 32 := Scalar.maxsi v465 c0_i32_110
  let c1_i32_183 : BitVec 32 := 1#32
  let arg15 : BitVec 32 := Scf.iv v466 c1_i32_183 k0_t31
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t32_loop (v253 : BitVec 32) (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v465 : BitVec 32 := Scalar.subi v253 v362
  let c0_i32_110 : BitVec 32 := 0#32
  let v466 : BitVec 32 := Scalar.maxsi v465 c0_i32_110
  let v467 : BitVec 32 := Scalar.subi v260 v362
  let c400_i32_111 : BitVec 32 := 400#32
  let v468 : BitVec 32 := Scalar.minsi v467 c400_i32_111
  let v614 : BitVec 32 := Scalar.subi v468 v466
  let c1_i32_182 : BitVec 32 := 1#32
  let v616 : BitVec 32 := Scalar.divsi v614 c1_i32_182
  let v617 : BitVec 32 := Scalar.muli v616 c1_i32_182
  let v618 : BitVec 32 := Scalar.addi v466 v617
  let v615 : BitVec 32 := Scalar.addi v466 v614
  let c1_i32_184 : BitVec 32 := 1#32
  ⟨v618, v615, c1_i32_184⟩
def k0_off33 (v253 : BitVec 32) (v260 : BitVec 32) (k0_t2 : Fin k0_t2_loop.trips) (k0_t32 : Fin (k0_t32_loop v253 v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v465 : BitVec 32 := Scalar.subi v253 v362
  let c0_i32_110 : BitVec 32 := 0#32
  let v466 : BitVec 32 := Scalar.maxsi v465 c0_i32_110
  let v467 : BitVec 32 := Scalar.subi v260 v362
  let c400_i32_111 : BitVec 32 := 400#32
  let v468 : BitVec 32 := Scalar.minsi v467 c400_i32_111
  let v614 : BitVec 32 := Scalar.subi v468 v466
  let c1_i32_182 : BitVec 32 := 1#32
  let v616 : BitVec 32 := Scalar.divsi v614 c1_i32_182
  let v617 : BitVec 32 := Scalar.muli v616 c1_i32_182
  let v618 : BitVec 32 := Scalar.addi v466 v617
  let c1_i32_184 : BitVec 32 := 1#32
  let arg15 : BitVec 32 := Scf.iv v618 c1_i32_184 k0_t32
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t33_loop (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v472 : BitVec 32 := Scalar.subi v260 v362
  let c0_i32_113 : BitVec 32 := 0#32
  let v473 : BitVec 32 := Scalar.maxsi v472 c0_i32_113
  let c4000_i32_58 : BitVec 32 := 4000#32
  let v474 : BitVec 32 := Scalar.subi c4000_i32_58 v362
  let c400_i32_114 : BitVec 32 := 400#32
  let v475 : BitVec 32 := Scalar.minsi v474 c400_i32_114
  let v614 : BitVec 32 := Scalar.subi v475 v473
  let c1_i32_182 : BitVec 32 := 1#32
  let v616 : BitVec 32 := Scalar.divsi v614 c1_i32_182
  let v617 : BitVec 32 := Scalar.muli v616 c1_i32_182
  let v618 : BitVec 32 := Scalar.addi v473 v617
  let c1_i32_183 : BitVec 32 := 1#32
  ⟨v473, v618, c1_i32_183⟩
def k0_cond16 (v260 : BitVec 32) (k0_t2 : Fin k0_t2_loop.trips) : BitVec 1 :=
  let c4000_i32_58 : BitVec 32 := 4000#32
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v474 : BitVec 32 := Scalar.subi c4000_i32_58 v362
  let c400_i32_114 : BitVec 32 := 400#32
  let v475 : BitVec 32 := Scalar.minsi v474 c400_i32_114
  let v472 : BitVec 32 := Scalar.subi v260 v362
  let c0_i32_113 : BitVec 32 := 0#32
  let v473 : BitVec 32 := Scalar.maxsi v472 c0_i32_113
  let v476 : BitVec 1 := Scalar.cmpi .sgt v475 v473
  let v477 : BitVec 32 := Scalar.extui v476
  let c0_i32_115 : BitVec 32 := 0#32
  let v478 : BitVec 1 := Scalar.cmpi .ne v477 c0_i32_115
  v478

def k0_off34 (v260 : BitVec 32) (k0_t2 : Fin k0_t2_loop.trips) (k0_t33 : Fin (k0_t33_loop v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v472 : BitVec 32 := Scalar.subi v260 v362
  let c0_i32_113 : BitVec 32 := 0#32
  let v473 : BitVec 32 := Scalar.maxsi v472 c0_i32_113
  let c1_i32_183 : BitVec 32 := 1#32
  let arg15 : BitVec 32 := Scf.iv v473 c1_i32_183 k0_t33
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t34_loop (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v472 : BitVec 32 := Scalar.subi v260 v362
  let c0_i32_113 : BitVec 32 := 0#32
  let v473 : BitVec 32 := Scalar.maxsi v472 c0_i32_113
  let c4000_i32_58 : BitVec 32 := 4000#32
  let v474 : BitVec 32 := Scalar.subi c4000_i32_58 v362
  let c400_i32_114 : BitVec 32 := 400#32
  let v475 : BitVec 32 := Scalar.minsi v474 c400_i32_114
  let v614 : BitVec 32 := Scalar.subi v475 v473
  let c1_i32_182 : BitVec 32 := 1#32
  let v616 : BitVec 32 := Scalar.divsi v614 c1_i32_182
  let v617 : BitVec 32 := Scalar.muli v616 c1_i32_182
  let v618 : BitVec 32 := Scalar.addi v473 v617
  let v615 : BitVec 32 := Scalar.addi v473 v614
  let c1_i32_184 : BitVec 32 := 1#32
  ⟨v618, v615, c1_i32_184⟩
def k0_off35 (v260 : BitVec 32) (k0_t2 : Fin k0_t2_loop.trips) (k0_t34 : Fin (k0_t34_loop v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c400_i32_66 : BitVec 32 := 400#32
  let v362 : BitVec 32 := Scalar.muli v361 c400_i32_66
  let v472 : BitVec 32 := Scalar.subi v260 v362
  let c0_i32_113 : BitVec 32 := 0#32
  let v473 : BitVec 32 := Scalar.maxsi v472 c0_i32_113
  let c4000_i32_58 : BitVec 32 := 4000#32
  let v474 : BitVec 32 := Scalar.subi c4000_i32_58 v362
  let c400_i32_114 : BitVec 32 := 400#32
  let v475 : BitVec 32 := Scalar.minsi v474 c400_i32_114
  let v614 : BitVec 32 := Scalar.subi v475 v473
  let c1_i32_182 : BitVec 32 := 1#32
  let v616 : BitVec 32 := Scalar.divsi v614 c1_i32_182
  let v617 : BitVec 32 := Scalar.muli v616 c1_i32_182
  let v618 : BitVec 32 := Scalar.addi v473 v617
  let c1_i32_184 : BitVec 32 := 1#32
  let arg15 : BitVec 32 := Scf.iv v618 c1_i32_184 k0_t34
  let c128_i32_193 : BitVec 32 := 128#32
  let v629 : BitVec 32 := Scalar.muli arg15 c128_i32_193
  let v630 : BitVec 32 := Scalar.addi v629 c0_i32_194
  let v631 : Index := Scalar.indexCast v630
  ![v631.toNat]
def k0_cond17 (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c2_i32_116 : BitVec 32 := 2#32
  let v479 : BitVec 32 := Scalar.addi v361 c2_i32_116
  let c10_i32_117 : BitVec 32 := 10#32
  let v480 : BitVec 1 := Scalar.cmpi .slt v479 c10_i32_117
  let v481 : BitVec 32 := Scalar.extui v480
  let c0_i32_118 : BitVec 32 := 0#32
  let v482 : BitVec 1 := Scalar.cmpi .ne v481 c0_i32_118
  v482

def k0_off36 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4000_i32 : BitVec 32 := 4000#32
  let v2 : BitVec 32 := Scalar.muli v1 c4000_i32
  let c0_i32_59 : BitVec 32 := 0#32
  let c1_i32_61 : BitVec 32 := 1#32
  let arg14 : BitVec 32 := Scf.iv c0_i32_59 c1_i32_61 k0_t2
  let c2_i32_64 : BitVec 32 := 2#32
  let v360 : BitVec 32 := Scalar.muli arg14 c2_i32_64
  let c0_i32_65 : BitVec 32 := 0#32
  let v361 : BitVec 32 := Scalar.addi v360 c0_i32_65
  let c2_i32_116 : BitVec 32 := 2#32
  let v479 : BitVec 32 := Scalar.addi v361 c2_i32_116
  let c400_i32_174 : BitVec 32 := 400#32
  let v606 : BitVec 32 := Scalar.muli v479 c400_i32_174
  let v607 : BitVec 32 := Scalar.addi v2 v606
  let c128_i32_175 : BitVec 32 := 128#32
  let v608 : BitVec 32 := Scalar.muli v607 c128_i32_175
  ![v608.toNat]
def k0_off37 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4000_i32 : BitVec 32 := 4000#32
  let v2 : BitVec 32 := Scalar.muli v1 c4000_i32
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v486 : BitVec 32 := Scalar.addi v2 v485
  let c128_i32_122 : BitVec 32 := 128#32
  let v487 : BitVec 32 := Scalar.muli v486 c128_i32_122
  ![v487.toNat]
@[reducible] def k0_t35_loop (v155 : BitVec 32) (v162 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v490 : BitVec 32 := Scalar.subi v155 v485
  let c0_i32_123 : BitVec 32 := 0#32
  let v491 : BitVec 32 := Scalar.maxsi v490 c0_i32_123
  let v492 : BitVec 32 := Scalar.subi v162 v485
  let c400_i32_124 : BitVec 32 := 400#32
  let v493 : BitVec 32 := Scalar.minsi v492 c400_i32_124
  let v614 : BitVec 32 := Scalar.subi v493 v491
  let c1_i32_182 : BitVec 32 := 1#32
  let v616 : BitVec 32 := Scalar.divsi v614 c1_i32_182
  let v617 : BitVec 32 := Scalar.muli v616 c1_i32_182
  let v618 : BitVec 32 := Scalar.addi v491 v617
  let c1_i32_183 : BitVec 32 := 1#32
  ⟨v491, v618, c1_i32_183⟩
def k0_cond18 (v155 : BitVec 32) (v162 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v492 : BitVec 32 := Scalar.subi v162 v485
  let c400_i32_124 : BitVec 32 := 400#32
  let v493 : BitVec 32 := Scalar.minsi v492 c400_i32_124
  let v490 : BitVec 32 := Scalar.subi v155 v485
  let c0_i32_123 : BitVec 32 := 0#32
  let v491 : BitVec 32 := Scalar.maxsi v490 c0_i32_123
  let v494 : BitVec 1 := Scalar.cmpi .sgt v493 v491
  let v495 : BitVec 32 := Scalar.extui v494
  let c0_i32_125 : BitVec 32 := 0#32
  let v496 : BitVec 1 := Scalar.cmpi .ne v495 c0_i32_125
  v496

def k0_off38 (v155 : BitVec 32) (v162 : BitVec 32) (k0_t2 : Fin k0_t2_loop.trips) (k0_t35 : Fin (k0_t35_loop v155 v162 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v490 : BitVec 32 := Scalar.subi v155 v485
  let c0_i32_123 : BitVec 32 := 0#32
  let v491 : BitVec 32 := Scalar.maxsi v490 c0_i32_123
  let c1_i32_183 : BitVec 32 := 1#32
  let arg15 : BitVec 32 := Scf.iv v491 c1_i32_183 k0_t35
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t36_loop (v155 : BitVec 32) (v162 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v490 : BitVec 32 := Scalar.subi v155 v485
  let c0_i32_123 : BitVec 32 := 0#32
  let v491 : BitVec 32 := Scalar.maxsi v490 c0_i32_123
  let v492 : BitVec 32 := Scalar.subi v162 v485
  let c400_i32_124 : BitVec 32 := 400#32
  let v493 : BitVec 32 := Scalar.minsi v492 c400_i32_124
  let v614 : BitVec 32 := Scalar.subi v493 v491
  let c1_i32_182 : BitVec 32 := 1#32
  let v616 : BitVec 32 := Scalar.divsi v614 c1_i32_182
  let v617 : BitVec 32 := Scalar.muli v616 c1_i32_182
  let v618 : BitVec 32 := Scalar.addi v491 v617
  let v615 : BitVec 32 := Scalar.addi v491 v614
  let c1_i32_184 : BitVec 32 := 1#32
  ⟨v618, v615, c1_i32_184⟩
def k0_off39 (v155 : BitVec 32) (v162 : BitVec 32) (k0_t2 : Fin k0_t2_loop.trips) (k0_t36 : Fin (k0_t36_loop v155 v162 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v490 : BitVec 32 := Scalar.subi v155 v485
  let c0_i32_123 : BitVec 32 := 0#32
  let v491 : BitVec 32 := Scalar.maxsi v490 c0_i32_123
  let v492 : BitVec 32 := Scalar.subi v162 v485
  let c400_i32_124 : BitVec 32 := 400#32
  let v493 : BitVec 32 := Scalar.minsi v492 c400_i32_124
  let v614 : BitVec 32 := Scalar.subi v493 v491
  let c1_i32_182 : BitVec 32 := 1#32
  let v616 : BitVec 32 := Scalar.divsi v614 c1_i32_182
  let v617 : BitVec 32 := Scalar.muli v616 c1_i32_182
  let v618 : BitVec 32 := Scalar.addi v491 v617
  let c1_i32_184 : BitVec 32 := 1#32
  let arg15 : BitVec 32 := Scf.iv v618 c1_i32_184 k0_t36
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk2 (v155 : BitVec 32) (v162 : BitVec 32) : Prop :=
  (∀ k0_t2 : Fin k0_t2_loop.trips, ∀ (k0_h1 : k0_cond1 v155 v162 k0_t2 = 1#1), (k0_t3_loop v155 v162 k0_t2).OK) ∧
  (∀ (k0_t2 : Fin k0_t2_loop.trips) (k0_t3 : Fin (k0_t3_loop v155 v162 k0_t2).trips), ∀ (k0_h1 : k0_cond1 v155 v162 k0_t2 = 1#1), ∀ (r : Fin 8), ∀ a, (k0_off4 v155 v162 k0_t2 k0_t3 (BitVec.ofNat 32 (16 * r.val))) a + S16.size a ≤ S51200.size a) ∧
  (∀ k0_t2 : Fin k0_t2_loop.trips, ∀ (k0_h1 : k0_cond1 v155 v162 k0_t2 = 1#1), (k0_t4_loop v155 v162 k0_t2).OK) ∧
  (∀ (k0_t2 : Fin k0_t2_loop.trips) (k0_t4 : Fin (k0_t4_loop v155 v162 k0_t2).trips), ∀ (k0_h1 : k0_cond1 v155 v162 k0_t2 = 1#1), ∀ (r : Fin 8), ∀ a, (k0_off5 v155 v162 k0_t2 k0_t4 (BitVec.ofNat 32 (16 * r.val))) a + S16.size a ≤ S51200.size a) ∧
  (∀ k0_t2 : Fin k0_t2_loop.trips, ∀ (k0_h18 : k0_cond18 v155 v162 k0_t2 = 1#1), (k0_t35_loop v155 v162 k0_t2).OK) ∧
  (∀ (k0_t2 : Fin k0_t2_loop.trips) (k0_t35 : Fin (k0_t35_loop v155 v162 k0_t2).trips), ∀ (k0_h18 : k0_cond18 v155 v162 k0_t2 = 1#1), ∀ (r : Fin 8), ∀ a, (k0_off38 v155 v162 k0_t2 k0_t35 (BitVec.ofNat 32 (16 * r.val))) a + S16.size a ≤ S51200.size a) ∧
  (∀ k0_t2 : Fin k0_t2_loop.trips, ∀ (k0_h18 : k0_cond18 v155 v162 k0_t2 = 1#1), (k0_t36_loop v155 v162 k0_t2).OK) ∧
  (∀ (k0_t2 : Fin k0_t2_loop.trips) (k0_t36 : Fin (k0_t36_loop v155 v162 k0_t2).trips), ∀ (k0_h18 : k0_cond18 v155 v162 k0_t2 = 1#1), ∀ (r : Fin 8), ∀ a, (k0_off39 v155 v162 k0_t2 k0_t36 (BitVec.ofNat 32 (16 * r.val))) a + S16.size a ≤ S51200.size a)
theorem k0_t3_ok : ∀ (v155 : BitVec 32) (v162 : BitVec 32) (k0_hw2 : k0_chk2 v155 v162) (k0_t2 : Fin k0_t2_loop.trips), ∀ (k0_h1 : k0_cond1 v155 v162 k0_t2 = 1#1), (k0_t3_loop v155 v162 k0_t2).OK := fun v155 v162 k0_hw2 k0_t2 k0_h1 => k0_hw2.1 k0_t2 k0_h1
theorem k0_off4_inb : ∀ (v155 : BitVec 32) (v162 : BitVec 32) (k0_hw2 : k0_chk2 v155 v162) (k0_t2 : Fin k0_t2_loop.trips) (k0_t3 : Fin (k0_t3_loop v155 v162 k0_t2).trips), ∀ (k0_h1 : k0_cond1 v155 v162 k0_t2 = 1#1), ∀ (r : Fin 8), ∀ a, (k0_off4 v155 v162 k0_t2 k0_t3 (BitVec.ofNat 32 (16 * r.val))) a + S16.size a ≤ S51200.size a := fun v155 v162 k0_hw2 k0_t2 k0_t3 k0_h1 r => k0_hw2.2.1 k0_t2 k0_t3 k0_h1 r
theorem k0_t4_ok : ∀ (v155 : BitVec 32) (v162 : BitVec 32) (k0_hw2 : k0_chk2 v155 v162) (k0_t2 : Fin k0_t2_loop.trips), ∀ (k0_h1 : k0_cond1 v155 v162 k0_t2 = 1#1), (k0_t4_loop v155 v162 k0_t2).OK := fun v155 v162 k0_hw2 k0_t2 k0_h1 => k0_hw2.2.2.1 k0_t2 k0_h1
theorem k0_off5_inb : ∀ (v155 : BitVec 32) (v162 : BitVec 32) (k0_hw2 : k0_chk2 v155 v162) (k0_t2 : Fin k0_t2_loop.trips) (k0_t4 : Fin (k0_t4_loop v155 v162 k0_t2).trips), ∀ (k0_h1 : k0_cond1 v155 v162 k0_t2 = 1#1), ∀ (r : Fin 8), ∀ a, (k0_off5 v155 v162 k0_t2 k0_t4 (BitVec.ofNat 32 (16 * r.val))) a + S16.size a ≤ S51200.size a := fun v155 v162 k0_hw2 k0_t2 k0_t4 k0_h1 r => k0_hw2.2.2.2.1 k0_t2 k0_t4 k0_h1 r
theorem k0_t35_ok : ∀ (v155 : BitVec 32) (v162 : BitVec 32) (k0_hw2 : k0_chk2 v155 v162) (k0_t2 : Fin k0_t2_loop.trips), ∀ (k0_h18 : k0_cond18 v155 v162 k0_t2 = 1#1), (k0_t35_loop v155 v162 k0_t2).OK := fun v155 v162 k0_hw2 k0_t2 k0_h18 => k0_hw2.2.2.2.2.1 k0_t2 k0_h18
theorem k0_off38_inb : ∀ (v155 : BitVec 32) (v162 : BitVec 32) (k0_hw2 : k0_chk2 v155 v162) (k0_t2 : Fin k0_t2_loop.trips) (k0_t35 : Fin (k0_t35_loop v155 v162 k0_t2).trips), ∀ (k0_h18 : k0_cond18 v155 v162 k0_t2 = 1#1), ∀ (r : Fin 8), ∀ a, (k0_off38 v155 v162 k0_t2 k0_t35 (BitVec.ofNat 32 (16 * r.val))) a + S16.size a ≤ S51200.size a := fun v155 v162 k0_hw2 k0_t2 k0_t35 k0_h18 r => k0_hw2.2.2.2.2.2.1 k0_t2 k0_t35 k0_h18 r
theorem k0_t36_ok : ∀ (v155 : BitVec 32) (v162 : BitVec 32) (k0_hw2 : k0_chk2 v155 v162) (k0_t2 : Fin k0_t2_loop.trips), ∀ (k0_h18 : k0_cond18 v155 v162 k0_t2 = 1#1), (k0_t36_loop v155 v162 k0_t2).OK := fun v155 v162 k0_hw2 k0_t2 k0_h18 => k0_hw2.2.2.2.2.2.2.1 k0_t2 k0_h18
theorem k0_off39_inb : ∀ (v155 : BitVec 32) (v162 : BitVec 32) (k0_hw2 : k0_chk2 v155 v162) (k0_t2 : Fin k0_t2_loop.trips) (k0_t36 : Fin (k0_t36_loop v155 v162 k0_t2).trips), ∀ (k0_h18 : k0_cond18 v155 v162 k0_t2 = 1#1), ∀ (r : Fin 8), ∀ a, (k0_off39 v155 v162 k0_t2 k0_t36 (BitVec.ofNat 32 (16 * r.val))) a + S16.size a ≤ S51200.size a := fun v155 v162 k0_hw2 k0_t2 k0_t36 k0_h18 r => k0_hw2.2.2.2.2.2.2.2 k0_t2 k0_t36 k0_h18 r

@[reducible] def k0_t37_loop (v162 : BitVec 32) (v169 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v497 : BitVec 32 := Scalar.subi v162 v485
  let c0_i32_126 : BitVec 32 := 0#32
  let v498 : BitVec 32 := Scalar.maxsi v497 c0_i32_126
  let v499 : BitVec 32 := Scalar.subi v169 v485
  let c400_i32_127 : BitVec 32 := 400#32
  let v500 : BitVec 32 := Scalar.minsi v499 c400_i32_127
  let v614 : BitVec 32 := Scalar.subi v500 v498
  let c1_i32_182 : BitVec 32 := 1#32
  let v616 : BitVec 32 := Scalar.divsi v614 c1_i32_182
  let v617 : BitVec 32 := Scalar.muli v616 c1_i32_182
  let v618 : BitVec 32 := Scalar.addi v498 v617
  let c1_i32_183 : BitVec 32 := 1#32
  ⟨v498, v618, c1_i32_183⟩
def k0_cond19 (v162 : BitVec 32) (v169 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v499 : BitVec 32 := Scalar.subi v169 v485
  let c400_i32_127 : BitVec 32 := 400#32
  let v500 : BitVec 32 := Scalar.minsi v499 c400_i32_127
  let v497 : BitVec 32 := Scalar.subi v162 v485
  let c0_i32_126 : BitVec 32 := 0#32
  let v498 : BitVec 32 := Scalar.maxsi v497 c0_i32_126
  let v501 : BitVec 1 := Scalar.cmpi .sgt v500 v498
  let v502 : BitVec 32 := Scalar.extui v501
  let c0_i32_128 : BitVec 32 := 0#32
  let v503 : BitVec 1 := Scalar.cmpi .ne v502 c0_i32_128
  v503

def k0_off40 (v162 : BitVec 32) (v169 : BitVec 32) (k0_t2 : Fin k0_t2_loop.trips) (k0_t37 : Fin (k0_t37_loop v162 v169 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v497 : BitVec 32 := Scalar.subi v162 v485
  let c0_i32_126 : BitVec 32 := 0#32
  let v498 : BitVec 32 := Scalar.maxsi v497 c0_i32_126
  let c1_i32_183 : BitVec 32 := 1#32
  let arg15 : BitVec 32 := Scf.iv v498 c1_i32_183 k0_t37
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t38_loop (v162 : BitVec 32) (v169 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v497 : BitVec 32 := Scalar.subi v162 v485
  let c0_i32_126 : BitVec 32 := 0#32
  let v498 : BitVec 32 := Scalar.maxsi v497 c0_i32_126
  let v499 : BitVec 32 := Scalar.subi v169 v485
  let c400_i32_127 : BitVec 32 := 400#32
  let v500 : BitVec 32 := Scalar.minsi v499 c400_i32_127
  let v614 : BitVec 32 := Scalar.subi v500 v498
  let c1_i32_182 : BitVec 32 := 1#32
  let v616 : BitVec 32 := Scalar.divsi v614 c1_i32_182
  let v617 : BitVec 32 := Scalar.muli v616 c1_i32_182
  let v618 : BitVec 32 := Scalar.addi v498 v617
  let v615 : BitVec 32 := Scalar.addi v498 v614
  let c1_i32_184 : BitVec 32 := 1#32
  ⟨v618, v615, c1_i32_184⟩
def k0_off41 (v162 : BitVec 32) (v169 : BitVec 32) (k0_t2 : Fin k0_t2_loop.trips) (k0_t38 : Fin (k0_t38_loop v162 v169 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v497 : BitVec 32 := Scalar.subi v162 v485
  let c0_i32_126 : BitVec 32 := 0#32
  let v498 : BitVec 32 := Scalar.maxsi v497 c0_i32_126
  let v499 : BitVec 32 := Scalar.subi v169 v485
  let c400_i32_127 : BitVec 32 := 400#32
  let v500 : BitVec 32 := Scalar.minsi v499 c400_i32_127
  let v614 : BitVec 32 := Scalar.subi v500 v498
  let c1_i32_182 : BitVec 32 := 1#32
  let v616 : BitVec 32 := Scalar.divsi v614 c1_i32_182
  let v617 : BitVec 32 := Scalar.muli v616 c1_i32_182
  let v618 : BitVec 32 := Scalar.addi v498 v617
  let c1_i32_184 : BitVec 32 := 1#32
  let arg15 : BitVec 32 := Scf.iv v618 c1_i32_184 k0_t38
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk3 (v162 : BitVec 32) (v169 : BitVec 32) : Prop :=
  (∀ k0_t2 : Fin k0_t2_loop.trips, ∀ (k0_h2 : k0_cond2 v162 v169 k0_t2 = 1#1), (k0_t5_loop v162 v169 k0_t2).OK) ∧
  (∀ (k0_t2 : Fin k0_t2_loop.trips) (k0_t5 : Fin (k0_t5_loop v162 v169 k0_t2).trips), ∀ (k0_h2 : k0_cond2 v162 v169 k0_t2 = 1#1), ∀ (r : Fin 8), ∀ a, (k0_off6 v162 v169 k0_t2 k0_t5 (BitVec.ofNat 32 (16 * r.val))) a + S16.size a ≤ S51200.size a) ∧
  (∀ k0_t2 : Fin k0_t2_loop.trips, ∀ (k0_h2 : k0_cond2 v162 v169 k0_t2 = 1#1), (k0_t6_loop v162 v169 k0_t2).OK) ∧
  (∀ (k0_t2 : Fin k0_t2_loop.trips) (k0_t6 : Fin (k0_t6_loop v162 v169 k0_t2).trips), ∀ (k0_h2 : k0_cond2 v162 v169 k0_t2 = 1#1), ∀ (r : Fin 8), ∀ a, (k0_off7 v162 v169 k0_t2 k0_t6 (BitVec.ofNat 32 (16 * r.val))) a + S16.size a ≤ S51200.size a) ∧
  (∀ k0_t2 : Fin k0_t2_loop.trips, ∀ (k0_h19 : k0_cond19 v162 v169 k0_t2 = 1#1), (k0_t37_loop v162 v169 k0_t2).OK) ∧
  (∀ (k0_t2 : Fin k0_t2_loop.trips) (k0_t37 : Fin (k0_t37_loop v162 v169 k0_t2).trips), ∀ (k0_h19 : k0_cond19 v162 v169 k0_t2 = 1#1), ∀ (r : Fin 8), ∀ a, (k0_off40 v162 v169 k0_t2 k0_t37 (BitVec.ofNat 32 (16 * r.val))) a + S16.size a ≤ S51200.size a) ∧
  (∀ k0_t2 : Fin k0_t2_loop.trips, ∀ (k0_h19 : k0_cond19 v162 v169 k0_t2 = 1#1), (k0_t38_loop v162 v169 k0_t2).OK) ∧
  (∀ (k0_t2 : Fin k0_t2_loop.trips) (k0_t38 : Fin (k0_t38_loop v162 v169 k0_t2).trips), ∀ (k0_h19 : k0_cond19 v162 v169 k0_t2 = 1#1), ∀ (r : Fin 8), ∀ a, (k0_off41 v162 v169 k0_t2 k0_t38 (BitVec.ofNat 32 (16 * r.val))) a + S16.size a ≤ S51200.size a)
theorem k0_t5_ok : ∀ (v162 : BitVec 32) (v169 : BitVec 32) (k0_hw3 : k0_chk3 v162 v169) (k0_t2 : Fin k0_t2_loop.trips), ∀ (k0_h2 : k0_cond2 v162 v169 k0_t2 = 1#1), (k0_t5_loop v162 v169 k0_t2).OK := fun v162 v169 k0_hw3 k0_t2 k0_h2 => k0_hw3.1 k0_t2 k0_h2
theorem k0_off6_inb : ∀ (v162 : BitVec 32) (v169 : BitVec 32) (k0_hw3 : k0_chk3 v162 v169) (k0_t2 : Fin k0_t2_loop.trips) (k0_t5 : Fin (k0_t5_loop v162 v169 k0_t2).trips), ∀ (k0_h2 : k0_cond2 v162 v169 k0_t2 = 1#1), ∀ (r : Fin 8), ∀ a, (k0_off6 v162 v169 k0_t2 k0_t5 (BitVec.ofNat 32 (16 * r.val))) a + S16.size a ≤ S51200.size a := fun v162 v169 k0_hw3 k0_t2 k0_t5 k0_h2 r => k0_hw3.2.1 k0_t2 k0_t5 k0_h2 r
theorem k0_t6_ok : ∀ (v162 : BitVec 32) (v169 : BitVec 32) (k0_hw3 : k0_chk3 v162 v169) (k0_t2 : Fin k0_t2_loop.trips), ∀ (k0_h2 : k0_cond2 v162 v169 k0_t2 = 1#1), (k0_t6_loop v162 v169 k0_t2).OK := fun v162 v169 k0_hw3 k0_t2 k0_h2 => k0_hw3.2.2.1 k0_t2 k0_h2
theorem k0_off7_inb : ∀ (v162 : BitVec 32) (v169 : BitVec 32) (k0_hw3 : k0_chk3 v162 v169) (k0_t2 : Fin k0_t2_loop.trips) (k0_t6 : Fin (k0_t6_loop v162 v169 k0_t2).trips), ∀ (k0_h2 : k0_cond2 v162 v169 k0_t2 = 1#1), ∀ (r : Fin 8), ∀ a, (k0_off7 v162 v169 k0_t2 k0_t6 (BitVec.ofNat 32 (16 * r.val))) a + S16.size a ≤ S51200.size a := fun v162 v169 k0_hw3 k0_t2 k0_t6 k0_h2 r => k0_hw3.2.2.2.1 k0_t2 k0_t6 k0_h2 r
theorem k0_t37_ok : ∀ (v162 : BitVec 32) (v169 : BitVec 32) (k0_hw3 : k0_chk3 v162 v169) (k0_t2 : Fin k0_t2_loop.trips), ∀ (k0_h19 : k0_cond19 v162 v169 k0_t2 = 1#1), (k0_t37_loop v162 v169 k0_t2).OK := fun v162 v169 k0_hw3 k0_t2 k0_h19 => k0_hw3.2.2.2.2.1 k0_t2 k0_h19
theorem k0_off40_inb : ∀ (v162 : BitVec 32) (v169 : BitVec 32) (k0_hw3 : k0_chk3 v162 v169) (k0_t2 : Fin k0_t2_loop.trips) (k0_t37 : Fin (k0_t37_loop v162 v169 k0_t2).trips), ∀ (k0_h19 : k0_cond19 v162 v169 k0_t2 = 1#1), ∀ (r : Fin 8), ∀ a, (k0_off40 v162 v169 k0_t2 k0_t37 (BitVec.ofNat 32 (16 * r.val))) a + S16.size a ≤ S51200.size a := fun v162 v169 k0_hw3 k0_t2 k0_t37 k0_h19 r => k0_hw3.2.2.2.2.2.1 k0_t2 k0_t37 k0_h19 r
theorem k0_t38_ok : ∀ (v162 : BitVec 32) (v169 : BitVec 32) (k0_hw3 : k0_chk3 v162 v169) (k0_t2 : Fin k0_t2_loop.trips), ∀ (k0_h19 : k0_cond19 v162 v169 k0_t2 = 1#1), (k0_t38_loop v162 v169 k0_t2).OK := fun v162 v169 k0_hw3 k0_t2 k0_h19 => k0_hw3.2.2.2.2.2.2.1 k0_t2 k0_h19
theorem k0_off41_inb : ∀ (v162 : BitVec 32) (v169 : BitVec 32) (k0_hw3 : k0_chk3 v162 v169) (k0_t2 : Fin k0_t2_loop.trips) (k0_t38 : Fin (k0_t38_loop v162 v169 k0_t2).trips), ∀ (k0_h19 : k0_cond19 v162 v169 k0_t2 = 1#1), ∀ (r : Fin 8), ∀ a, (k0_off41 v162 v169 k0_t2 k0_t38 (BitVec.ofNat 32 (16 * r.val))) a + S16.size a ≤ S51200.size a := fun v162 v169 k0_hw3 k0_t2 k0_t38 k0_h19 r => k0_hw3.2.2.2.2.2.2.2 k0_t2 k0_t38 k0_h19 r

@[reducible] def k0_t39_loop (v169 : BitVec 32) (v176 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v504 : BitVec 32 := Scalar.subi v169 v485
  let c0_i32_129 : BitVec 32 := 0#32
  let v505 : BitVec 32 := Scalar.maxsi v504 c0_i32_129
  let v506 : BitVec 32 := Scalar.subi v176 v485
  let c400_i32_130 : BitVec 32 := 400#32
  let v507 : BitVec 32 := Scalar.minsi v506 c400_i32_130
  let v614 : BitVec 32 := Scalar.subi v507 v505
  let c1_i32_182 : BitVec 32 := 1#32
  let v616 : BitVec 32 := Scalar.divsi v614 c1_i32_182
  let v617 : BitVec 32 := Scalar.muli v616 c1_i32_182
  let v618 : BitVec 32 := Scalar.addi v505 v617
  let c1_i32_183 : BitVec 32 := 1#32
  ⟨v505, v618, c1_i32_183⟩
def k0_cond20 (v169 : BitVec 32) (v176 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v506 : BitVec 32 := Scalar.subi v176 v485
  let c400_i32_130 : BitVec 32 := 400#32
  let v507 : BitVec 32 := Scalar.minsi v506 c400_i32_130
  let v504 : BitVec 32 := Scalar.subi v169 v485
  let c0_i32_129 : BitVec 32 := 0#32
  let v505 : BitVec 32 := Scalar.maxsi v504 c0_i32_129
  let v508 : BitVec 1 := Scalar.cmpi .sgt v507 v505
  let v509 : BitVec 32 := Scalar.extui v508
  let c0_i32_131 : BitVec 32 := 0#32
  let v510 : BitVec 1 := Scalar.cmpi .ne v509 c0_i32_131
  v510

def k0_off42 (v169 : BitVec 32) (v176 : BitVec 32) (k0_t2 : Fin k0_t2_loop.trips) (k0_t39 : Fin (k0_t39_loop v169 v176 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v504 : BitVec 32 := Scalar.subi v169 v485
  let c0_i32_129 : BitVec 32 := 0#32
  let v505 : BitVec 32 := Scalar.maxsi v504 c0_i32_129
  let c1_i32_183 : BitVec 32 := 1#32
  let arg15 : BitVec 32 := Scf.iv v505 c1_i32_183 k0_t39
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t40_loop (v169 : BitVec 32) (v176 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v504 : BitVec 32 := Scalar.subi v169 v485
  let c0_i32_129 : BitVec 32 := 0#32
  let v505 : BitVec 32 := Scalar.maxsi v504 c0_i32_129
  let v506 : BitVec 32 := Scalar.subi v176 v485
  let c400_i32_130 : BitVec 32 := 400#32
  let v507 : BitVec 32 := Scalar.minsi v506 c400_i32_130
  let v614 : BitVec 32 := Scalar.subi v507 v505
  let c1_i32_182 : BitVec 32 := 1#32
  let v616 : BitVec 32 := Scalar.divsi v614 c1_i32_182
  let v617 : BitVec 32 := Scalar.muli v616 c1_i32_182
  let v618 : BitVec 32 := Scalar.addi v505 v617
  let v615 : BitVec 32 := Scalar.addi v505 v614
  let c1_i32_184 : BitVec 32 := 1#32
  ⟨v618, v615, c1_i32_184⟩
def k0_off43 (v169 : BitVec 32) (v176 : BitVec 32) (k0_t2 : Fin k0_t2_loop.trips) (k0_t40 : Fin (k0_t40_loop v169 v176 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v504 : BitVec 32 := Scalar.subi v169 v485
  let c0_i32_129 : BitVec 32 := 0#32
  let v505 : BitVec 32 := Scalar.maxsi v504 c0_i32_129
  let v506 : BitVec 32 := Scalar.subi v176 v485
  let c400_i32_130 : BitVec 32 := 400#32
  let v507 : BitVec 32 := Scalar.minsi v506 c400_i32_130
  let v614 : BitVec 32 := Scalar.subi v507 v505
  let c1_i32_182 : BitVec 32 := 1#32
  let v616 : BitVec 32 := Scalar.divsi v614 c1_i32_182
  let v617 : BitVec 32 := Scalar.muli v616 c1_i32_182
  let v618 : BitVec 32 := Scalar.addi v505 v617
  let c1_i32_184 : BitVec 32 := 1#32
  let arg15 : BitVec 32 := Scf.iv v618 c1_i32_184 k0_t40
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk4 (v169 : BitVec 32) (v176 : BitVec 32) : Prop :=
  (∀ k0_t2 : Fin k0_t2_loop.trips, ∀ (k0_h3 : k0_cond3 v169 v176 k0_t2 = 1#1), (k0_t7_loop v169 v176 k0_t2).OK) ∧
  (∀ (k0_t2 : Fin k0_t2_loop.trips) (k0_t7 : Fin (k0_t7_loop v169 v176 k0_t2).trips), ∀ (k0_h3 : k0_cond3 v169 v176 k0_t2 = 1#1), ∀ (r : Fin 8), ∀ a, (k0_off8 v169 v176 k0_t2 k0_t7 (BitVec.ofNat 32 (16 * r.val))) a + S16.size a ≤ S51200.size a) ∧
  (∀ k0_t2 : Fin k0_t2_loop.trips, ∀ (k0_h3 : k0_cond3 v169 v176 k0_t2 = 1#1), (k0_t8_loop v169 v176 k0_t2).OK) ∧
  (∀ (k0_t2 : Fin k0_t2_loop.trips) (k0_t8 : Fin (k0_t8_loop v169 v176 k0_t2).trips), ∀ (k0_h3 : k0_cond3 v169 v176 k0_t2 = 1#1), ∀ (r : Fin 8), ∀ a, (k0_off9 v169 v176 k0_t2 k0_t8 (BitVec.ofNat 32 (16 * r.val))) a + S16.size a ≤ S51200.size a) ∧
  (∀ k0_t2 : Fin k0_t2_loop.trips, ∀ (k0_h20 : k0_cond20 v169 v176 k0_t2 = 1#1), (k0_t39_loop v169 v176 k0_t2).OK) ∧
  (∀ (k0_t2 : Fin k0_t2_loop.trips) (k0_t39 : Fin (k0_t39_loop v169 v176 k0_t2).trips), ∀ (k0_h20 : k0_cond20 v169 v176 k0_t2 = 1#1), ∀ (r : Fin 8), ∀ a, (k0_off42 v169 v176 k0_t2 k0_t39 (BitVec.ofNat 32 (16 * r.val))) a + S16.size a ≤ S51200.size a) ∧
  (∀ k0_t2 : Fin k0_t2_loop.trips, ∀ (k0_h20 : k0_cond20 v169 v176 k0_t2 = 1#1), (k0_t40_loop v169 v176 k0_t2).OK) ∧
  (∀ (k0_t2 : Fin k0_t2_loop.trips) (k0_t40 : Fin (k0_t40_loop v169 v176 k0_t2).trips), ∀ (k0_h20 : k0_cond20 v169 v176 k0_t2 = 1#1), ∀ (r : Fin 8), ∀ a, (k0_off43 v169 v176 k0_t2 k0_t40 (BitVec.ofNat 32 (16 * r.val))) a + S16.size a ≤ S51200.size a)
theorem k0_t7_ok : ∀ (v169 : BitVec 32) (v176 : BitVec 32) (k0_hw4 : k0_chk4 v169 v176) (k0_t2 : Fin k0_t2_loop.trips), ∀ (k0_h3 : k0_cond3 v169 v176 k0_t2 = 1#1), (k0_t7_loop v169 v176 k0_t2).OK := fun v169 v176 k0_hw4 k0_t2 k0_h3 => k0_hw4.1 k0_t2 k0_h3
theorem k0_off8_inb : ∀ (v169 : BitVec 32) (v176 : BitVec 32) (k0_hw4 : k0_chk4 v169 v176) (k0_t2 : Fin k0_t2_loop.trips) (k0_t7 : Fin (k0_t7_loop v169 v176 k0_t2).trips), ∀ (k0_h3 : k0_cond3 v169 v176 k0_t2 = 1#1), ∀ (r : Fin 8), ∀ a, (k0_off8 v169 v176 k0_t2 k0_t7 (BitVec.ofNat 32 (16 * r.val))) a + S16.size a ≤ S51200.size a := fun v169 v176 k0_hw4 k0_t2 k0_t7 k0_h3 r => k0_hw4.2.1 k0_t2 k0_t7 k0_h3 r
theorem k0_t8_ok : ∀ (v169 : BitVec 32) (v176 : BitVec 32) (k0_hw4 : k0_chk4 v169 v176) (k0_t2 : Fin k0_t2_loop.trips), ∀ (k0_h3 : k0_cond3 v169 v176 k0_t2 = 1#1), (k0_t8_loop v169 v176 k0_t2).OK := fun v169 v176 k0_hw4 k0_t2 k0_h3 => k0_hw4.2.2.1 k0_t2 k0_h3
theorem k0_off9_inb : ∀ (v169 : BitVec 32) (v176 : BitVec 32) (k0_hw4 : k0_chk4 v169 v176) (k0_t2 : Fin k0_t2_loop.trips) (k0_t8 : Fin (k0_t8_loop v169 v176 k0_t2).trips), ∀ (k0_h3 : k0_cond3 v169 v176 k0_t2 = 1#1), ∀ (r : Fin 8), ∀ a, (k0_off9 v169 v176 k0_t2 k0_t8 (BitVec.ofNat 32 (16 * r.val))) a + S16.size a ≤ S51200.size a := fun v169 v176 k0_hw4 k0_t2 k0_t8 k0_h3 r => k0_hw4.2.2.2.1 k0_t2 k0_t8 k0_h3 r
theorem k0_t39_ok : ∀ (v169 : BitVec 32) (v176 : BitVec 32) (k0_hw4 : k0_chk4 v169 v176) (k0_t2 : Fin k0_t2_loop.trips), ∀ (k0_h20 : k0_cond20 v169 v176 k0_t2 = 1#1), (k0_t39_loop v169 v176 k0_t2).OK := fun v169 v176 k0_hw4 k0_t2 k0_h20 => k0_hw4.2.2.2.2.1 k0_t2 k0_h20
theorem k0_off42_inb : ∀ (v169 : BitVec 32) (v176 : BitVec 32) (k0_hw4 : k0_chk4 v169 v176) (k0_t2 : Fin k0_t2_loop.trips) (k0_t39 : Fin (k0_t39_loop v169 v176 k0_t2).trips), ∀ (k0_h20 : k0_cond20 v169 v176 k0_t2 = 1#1), ∀ (r : Fin 8), ∀ a, (k0_off42 v169 v176 k0_t2 k0_t39 (BitVec.ofNat 32 (16 * r.val))) a + S16.size a ≤ S51200.size a := fun v169 v176 k0_hw4 k0_t2 k0_t39 k0_h20 r => k0_hw4.2.2.2.2.2.1 k0_t2 k0_t39 k0_h20 r
theorem k0_t40_ok : ∀ (v169 : BitVec 32) (v176 : BitVec 32) (k0_hw4 : k0_chk4 v169 v176) (k0_t2 : Fin k0_t2_loop.trips), ∀ (k0_h20 : k0_cond20 v169 v176 k0_t2 = 1#1), (k0_t40_loop v169 v176 k0_t2).OK := fun v169 v176 k0_hw4 k0_t2 k0_h20 => k0_hw4.2.2.2.2.2.2.1 k0_t2 k0_h20
theorem k0_off43_inb : ∀ (v169 : BitVec 32) (v176 : BitVec 32) (k0_hw4 : k0_chk4 v169 v176) (k0_t2 : Fin k0_t2_loop.trips) (k0_t40 : Fin (k0_t40_loop v169 v176 k0_t2).trips), ∀ (k0_h20 : k0_cond20 v169 v176 k0_t2 = 1#1), ∀ (r : Fin 8), ∀ a, (k0_off43 v169 v176 k0_t2 k0_t40 (BitVec.ofNat 32 (16 * r.val))) a + S16.size a ≤ S51200.size a := fun v169 v176 k0_hw4 k0_t2 k0_t40 k0_h20 r => k0_hw4.2.2.2.2.2.2.2 k0_t2 k0_t40 k0_h20 r

@[reducible] def k0_t41_loop (v176 : BitVec 32) (v183 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v511 : BitVec 32 := Scalar.subi v176 v485
  let c0_i32_132 : BitVec 32 := 0#32
  let v512 : BitVec 32 := Scalar.maxsi v511 c0_i32_132
  let v513 : BitVec 32 := Scalar.subi v183 v485
  let c400_i32_133 : BitVec 32 := 400#32
  let v514 : BitVec 32 := Scalar.minsi v513 c400_i32_133
  let v614 : BitVec 32 := Scalar.subi v514 v512
  let c1_i32_182 : BitVec 32 := 1#32
  let v616 : BitVec 32 := Scalar.divsi v614 c1_i32_182
  let v617 : BitVec 32 := Scalar.muli v616 c1_i32_182
  let v618 : BitVec 32 := Scalar.addi v512 v617
  let c1_i32_183 : BitVec 32 := 1#32
  ⟨v512, v618, c1_i32_183⟩
def k0_cond21 (v176 : BitVec 32) (v183 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v513 : BitVec 32 := Scalar.subi v183 v485
  let c400_i32_133 : BitVec 32 := 400#32
  let v514 : BitVec 32 := Scalar.minsi v513 c400_i32_133
  let v511 : BitVec 32 := Scalar.subi v176 v485
  let c0_i32_132 : BitVec 32 := 0#32
  let v512 : BitVec 32 := Scalar.maxsi v511 c0_i32_132
  let v515 : BitVec 1 := Scalar.cmpi .sgt v514 v512
  let v516 : BitVec 32 := Scalar.extui v515
  let c0_i32_134 : BitVec 32 := 0#32
  let v517 : BitVec 1 := Scalar.cmpi .ne v516 c0_i32_134
  v517

def k0_off44 (v176 : BitVec 32) (v183 : BitVec 32) (k0_t2 : Fin k0_t2_loop.trips) (k0_t41 : Fin (k0_t41_loop v176 v183 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v511 : BitVec 32 := Scalar.subi v176 v485
  let c0_i32_132 : BitVec 32 := 0#32
  let v512 : BitVec 32 := Scalar.maxsi v511 c0_i32_132
  let c1_i32_183 : BitVec 32 := 1#32
  let arg15 : BitVec 32 := Scf.iv v512 c1_i32_183 k0_t41
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t42_loop (v176 : BitVec 32) (v183 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v511 : BitVec 32 := Scalar.subi v176 v485
  let c0_i32_132 : BitVec 32 := 0#32
  let v512 : BitVec 32 := Scalar.maxsi v511 c0_i32_132
  let v513 : BitVec 32 := Scalar.subi v183 v485
  let c400_i32_133 : BitVec 32 := 400#32
  let v514 : BitVec 32 := Scalar.minsi v513 c400_i32_133
  let v614 : BitVec 32 := Scalar.subi v514 v512
  let c1_i32_182 : BitVec 32 := 1#32
  let v616 : BitVec 32 := Scalar.divsi v614 c1_i32_182
  let v617 : BitVec 32 := Scalar.muli v616 c1_i32_182
  let v618 : BitVec 32 := Scalar.addi v512 v617
  let v615 : BitVec 32 := Scalar.addi v512 v614
  let c1_i32_184 : BitVec 32 := 1#32
  ⟨v618, v615, c1_i32_184⟩
def k0_off45 (v176 : BitVec 32) (v183 : BitVec 32) (k0_t2 : Fin k0_t2_loop.trips) (k0_t42 : Fin (k0_t42_loop v176 v183 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v511 : BitVec 32 := Scalar.subi v176 v485
  let c0_i32_132 : BitVec 32 := 0#32
  let v512 : BitVec 32 := Scalar.maxsi v511 c0_i32_132
  let v513 : BitVec 32 := Scalar.subi v183 v485
  let c400_i32_133 : BitVec 32 := 400#32
  let v514 : BitVec 32 := Scalar.minsi v513 c400_i32_133
  let v614 : BitVec 32 := Scalar.subi v514 v512
  let c1_i32_182 : BitVec 32 := 1#32
  let v616 : BitVec 32 := Scalar.divsi v614 c1_i32_182
  let v617 : BitVec 32 := Scalar.muli v616 c1_i32_182
  let v618 : BitVec 32 := Scalar.addi v512 v617
  let c1_i32_184 : BitVec 32 := 1#32
  let arg15 : BitVec 32 := Scf.iv v618 c1_i32_184 k0_t42
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk5 (v176 : BitVec 32) (v183 : BitVec 32) : Prop :=
  (∀ k0_t2 : Fin k0_t2_loop.trips, ∀ (k0_h4 : k0_cond4 v176 v183 k0_t2 = 1#1), (k0_t9_loop v176 v183 k0_t2).OK) ∧
  (∀ (k0_t2 : Fin k0_t2_loop.trips) (k0_t9 : Fin (k0_t9_loop v176 v183 k0_t2).trips), ∀ (k0_h4 : k0_cond4 v176 v183 k0_t2 = 1#1), ∀ (r : Fin 8), ∀ a, (k0_off10 v176 v183 k0_t2 k0_t9 (BitVec.ofNat 32 (16 * r.val))) a + S16.size a ≤ S51200.size a) ∧
  (∀ k0_t2 : Fin k0_t2_loop.trips, ∀ (k0_h4 : k0_cond4 v176 v183 k0_t2 = 1#1), (k0_t10_loop v176 v183 k0_t2).OK) ∧
  (∀ (k0_t2 : Fin k0_t2_loop.trips) (k0_t10 : Fin (k0_t10_loop v176 v183 k0_t2).trips), ∀ (k0_h4 : k0_cond4 v176 v183 k0_t2 = 1#1), ∀ (r : Fin 8), ∀ a, (k0_off11 v176 v183 k0_t2 k0_t10 (BitVec.ofNat 32 (16 * r.val))) a + S16.size a ≤ S51200.size a) ∧
  (∀ k0_t2 : Fin k0_t2_loop.trips, ∀ (k0_h21 : k0_cond21 v176 v183 k0_t2 = 1#1), (k0_t41_loop v176 v183 k0_t2).OK) ∧
  (∀ (k0_t2 : Fin k0_t2_loop.trips) (k0_t41 : Fin (k0_t41_loop v176 v183 k0_t2).trips), ∀ (k0_h21 : k0_cond21 v176 v183 k0_t2 = 1#1), ∀ (r : Fin 8), ∀ a, (k0_off44 v176 v183 k0_t2 k0_t41 (BitVec.ofNat 32 (16 * r.val))) a + S16.size a ≤ S51200.size a) ∧
  (∀ k0_t2 : Fin k0_t2_loop.trips, ∀ (k0_h21 : k0_cond21 v176 v183 k0_t2 = 1#1), (k0_t42_loop v176 v183 k0_t2).OK) ∧
  (∀ (k0_t2 : Fin k0_t2_loop.trips) (k0_t42 : Fin (k0_t42_loop v176 v183 k0_t2).trips), ∀ (k0_h21 : k0_cond21 v176 v183 k0_t2 = 1#1), ∀ (r : Fin 8), ∀ a, (k0_off45 v176 v183 k0_t2 k0_t42 (BitVec.ofNat 32 (16 * r.val))) a + S16.size a ≤ S51200.size a)
theorem k0_t9_ok : ∀ (v176 : BitVec 32) (v183 : BitVec 32) (k0_hw5 : k0_chk5 v176 v183) (k0_t2 : Fin k0_t2_loop.trips), ∀ (k0_h4 : k0_cond4 v176 v183 k0_t2 = 1#1), (k0_t9_loop v176 v183 k0_t2).OK := fun v176 v183 k0_hw5 k0_t2 k0_h4 => k0_hw5.1 k0_t2 k0_h4
theorem k0_off10_inb : ∀ (v176 : BitVec 32) (v183 : BitVec 32) (k0_hw5 : k0_chk5 v176 v183) (k0_t2 : Fin k0_t2_loop.trips) (k0_t9 : Fin (k0_t9_loop v176 v183 k0_t2).trips), ∀ (k0_h4 : k0_cond4 v176 v183 k0_t2 = 1#1), ∀ (r : Fin 8), ∀ a, (k0_off10 v176 v183 k0_t2 k0_t9 (BitVec.ofNat 32 (16 * r.val))) a + S16.size a ≤ S51200.size a := fun v176 v183 k0_hw5 k0_t2 k0_t9 k0_h4 r => k0_hw5.2.1 k0_t2 k0_t9 k0_h4 r
theorem k0_t10_ok : ∀ (v176 : BitVec 32) (v183 : BitVec 32) (k0_hw5 : k0_chk5 v176 v183) (k0_t2 : Fin k0_t2_loop.trips), ∀ (k0_h4 : k0_cond4 v176 v183 k0_t2 = 1#1), (k0_t10_loop v176 v183 k0_t2).OK := fun v176 v183 k0_hw5 k0_t2 k0_h4 => k0_hw5.2.2.1 k0_t2 k0_h4
theorem k0_off11_inb : ∀ (v176 : BitVec 32) (v183 : BitVec 32) (k0_hw5 : k0_chk5 v176 v183) (k0_t2 : Fin k0_t2_loop.trips) (k0_t10 : Fin (k0_t10_loop v176 v183 k0_t2).trips), ∀ (k0_h4 : k0_cond4 v176 v183 k0_t2 = 1#1), ∀ (r : Fin 8), ∀ a, (k0_off11 v176 v183 k0_t2 k0_t10 (BitVec.ofNat 32 (16 * r.val))) a + S16.size a ≤ S51200.size a := fun v176 v183 k0_hw5 k0_t2 k0_t10 k0_h4 r => k0_hw5.2.2.2.1 k0_t2 k0_t10 k0_h4 r
theorem k0_t41_ok : ∀ (v176 : BitVec 32) (v183 : BitVec 32) (k0_hw5 : k0_chk5 v176 v183) (k0_t2 : Fin k0_t2_loop.trips), ∀ (k0_h21 : k0_cond21 v176 v183 k0_t2 = 1#1), (k0_t41_loop v176 v183 k0_t2).OK := fun v176 v183 k0_hw5 k0_t2 k0_h21 => k0_hw5.2.2.2.2.1 k0_t2 k0_h21
theorem k0_off44_inb : ∀ (v176 : BitVec 32) (v183 : BitVec 32) (k0_hw5 : k0_chk5 v176 v183) (k0_t2 : Fin k0_t2_loop.trips) (k0_t41 : Fin (k0_t41_loop v176 v183 k0_t2).trips), ∀ (k0_h21 : k0_cond21 v176 v183 k0_t2 = 1#1), ∀ (r : Fin 8), ∀ a, (k0_off44 v176 v183 k0_t2 k0_t41 (BitVec.ofNat 32 (16 * r.val))) a + S16.size a ≤ S51200.size a := fun v176 v183 k0_hw5 k0_t2 k0_t41 k0_h21 r => k0_hw5.2.2.2.2.2.1 k0_t2 k0_t41 k0_h21 r
theorem k0_t42_ok : ∀ (v176 : BitVec 32) (v183 : BitVec 32) (k0_hw5 : k0_chk5 v176 v183) (k0_t2 : Fin k0_t2_loop.trips), ∀ (k0_h21 : k0_cond21 v176 v183 k0_t2 = 1#1), (k0_t42_loop v176 v183 k0_t2).OK := fun v176 v183 k0_hw5 k0_t2 k0_h21 => k0_hw5.2.2.2.2.2.2.1 k0_t2 k0_h21
theorem k0_off45_inb : ∀ (v176 : BitVec 32) (v183 : BitVec 32) (k0_hw5 : k0_chk5 v176 v183) (k0_t2 : Fin k0_t2_loop.trips) (k0_t42 : Fin (k0_t42_loop v176 v183 k0_t2).trips), ∀ (k0_h21 : k0_cond21 v176 v183 k0_t2 = 1#1), ∀ (r : Fin 8), ∀ a, (k0_off45 v176 v183 k0_t2 k0_t42 (BitVec.ofNat 32 (16 * r.val))) a + S16.size a ≤ S51200.size a := fun v176 v183 k0_hw5 k0_t2 k0_t42 k0_h21 r => k0_hw5.2.2.2.2.2.2.2 k0_t2 k0_t42 k0_h21 r

@[reducible] def k0_t43_loop (v183 : BitVec 32) (v190 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v518 : BitVec 32 := Scalar.subi v183 v485
  let c0_i32_135 : BitVec 32 := 0#32
  let v519 : BitVec 32 := Scalar.maxsi v518 c0_i32_135
  let v520 : BitVec 32 := Scalar.subi v190 v485
  let c400_i32_136 : BitVec 32 := 400#32
  let v521 : BitVec 32 := Scalar.minsi v520 c400_i32_136
  let v614 : BitVec 32 := Scalar.subi v521 v519
  let c1_i32_182 : BitVec 32 := 1#32
  let v616 : BitVec 32 := Scalar.divsi v614 c1_i32_182
  let v617 : BitVec 32 := Scalar.muli v616 c1_i32_182
  let v618 : BitVec 32 := Scalar.addi v519 v617
  let c1_i32_183 : BitVec 32 := 1#32
  ⟨v519, v618, c1_i32_183⟩
def k0_cond22 (v183 : BitVec 32) (v190 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v520 : BitVec 32 := Scalar.subi v190 v485
  let c400_i32_136 : BitVec 32 := 400#32
  let v521 : BitVec 32 := Scalar.minsi v520 c400_i32_136
  let v518 : BitVec 32 := Scalar.subi v183 v485
  let c0_i32_135 : BitVec 32 := 0#32
  let v519 : BitVec 32 := Scalar.maxsi v518 c0_i32_135
  let v522 : BitVec 1 := Scalar.cmpi .sgt v521 v519
  let v523 : BitVec 32 := Scalar.extui v522
  let c0_i32_137 : BitVec 32 := 0#32
  let v524 : BitVec 1 := Scalar.cmpi .ne v523 c0_i32_137
  v524

def k0_off46 (v183 : BitVec 32) (v190 : BitVec 32) (k0_t2 : Fin k0_t2_loop.trips) (k0_t43 : Fin (k0_t43_loop v183 v190 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v518 : BitVec 32 := Scalar.subi v183 v485
  let c0_i32_135 : BitVec 32 := 0#32
  let v519 : BitVec 32 := Scalar.maxsi v518 c0_i32_135
  let c1_i32_183 : BitVec 32 := 1#32
  let arg15 : BitVec 32 := Scf.iv v519 c1_i32_183 k0_t43
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t44_loop (v183 : BitVec 32) (v190 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v518 : BitVec 32 := Scalar.subi v183 v485
  let c0_i32_135 : BitVec 32 := 0#32
  let v519 : BitVec 32 := Scalar.maxsi v518 c0_i32_135
  let v520 : BitVec 32 := Scalar.subi v190 v485
  let c400_i32_136 : BitVec 32 := 400#32
  let v521 : BitVec 32 := Scalar.minsi v520 c400_i32_136
  let v614 : BitVec 32 := Scalar.subi v521 v519
  let c1_i32_182 : BitVec 32 := 1#32
  let v616 : BitVec 32 := Scalar.divsi v614 c1_i32_182
  let v617 : BitVec 32 := Scalar.muli v616 c1_i32_182
  let v618 : BitVec 32 := Scalar.addi v519 v617
  let v615 : BitVec 32 := Scalar.addi v519 v614
  let c1_i32_184 : BitVec 32 := 1#32
  ⟨v618, v615, c1_i32_184⟩
def k0_off47 (v183 : BitVec 32) (v190 : BitVec 32) (k0_t2 : Fin k0_t2_loop.trips) (k0_t44 : Fin (k0_t44_loop v183 v190 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v518 : BitVec 32 := Scalar.subi v183 v485
  let c0_i32_135 : BitVec 32 := 0#32
  let v519 : BitVec 32 := Scalar.maxsi v518 c0_i32_135
  let v520 : BitVec 32 := Scalar.subi v190 v485
  let c400_i32_136 : BitVec 32 := 400#32
  let v521 : BitVec 32 := Scalar.minsi v520 c400_i32_136
  let v614 : BitVec 32 := Scalar.subi v521 v519
  let c1_i32_182 : BitVec 32 := 1#32
  let v616 : BitVec 32 := Scalar.divsi v614 c1_i32_182
  let v617 : BitVec 32 := Scalar.muli v616 c1_i32_182
  let v618 : BitVec 32 := Scalar.addi v519 v617
  let c1_i32_184 : BitVec 32 := 1#32
  let arg15 : BitVec 32 := Scf.iv v618 c1_i32_184 k0_t44
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk6 (v183 : BitVec 32) (v190 : BitVec 32) : Prop :=
  (∀ k0_t2 : Fin k0_t2_loop.trips, ∀ (k0_h5 : k0_cond5 v183 v190 k0_t2 = 1#1), (k0_t11_loop v183 v190 k0_t2).OK) ∧
  (∀ (k0_t2 : Fin k0_t2_loop.trips) (k0_t11 : Fin (k0_t11_loop v183 v190 k0_t2).trips), ∀ (k0_h5 : k0_cond5 v183 v190 k0_t2 = 1#1), ∀ (r : Fin 8), ∀ a, (k0_off12 v183 v190 k0_t2 k0_t11 (BitVec.ofNat 32 (16 * r.val))) a + S16.size a ≤ S51200.size a) ∧
  (∀ k0_t2 : Fin k0_t2_loop.trips, ∀ (k0_h5 : k0_cond5 v183 v190 k0_t2 = 1#1), (k0_t12_loop v183 v190 k0_t2).OK) ∧
  (∀ (k0_t2 : Fin k0_t2_loop.trips) (k0_t12 : Fin (k0_t12_loop v183 v190 k0_t2).trips), ∀ (k0_h5 : k0_cond5 v183 v190 k0_t2 = 1#1), ∀ (r : Fin 8), ∀ a, (k0_off13 v183 v190 k0_t2 k0_t12 (BitVec.ofNat 32 (16 * r.val))) a + S16.size a ≤ S51200.size a) ∧
  (∀ k0_t2 : Fin k0_t2_loop.trips, ∀ (k0_h22 : k0_cond22 v183 v190 k0_t2 = 1#1), (k0_t43_loop v183 v190 k0_t2).OK) ∧
  (∀ (k0_t2 : Fin k0_t2_loop.trips) (k0_t43 : Fin (k0_t43_loop v183 v190 k0_t2).trips), ∀ (k0_h22 : k0_cond22 v183 v190 k0_t2 = 1#1), ∀ (r : Fin 8), ∀ a, (k0_off46 v183 v190 k0_t2 k0_t43 (BitVec.ofNat 32 (16 * r.val))) a + S16.size a ≤ S51200.size a) ∧
  (∀ k0_t2 : Fin k0_t2_loop.trips, ∀ (k0_h22 : k0_cond22 v183 v190 k0_t2 = 1#1), (k0_t44_loop v183 v190 k0_t2).OK) ∧
  (∀ (k0_t2 : Fin k0_t2_loop.trips) (k0_t44 : Fin (k0_t44_loop v183 v190 k0_t2).trips), ∀ (k0_h22 : k0_cond22 v183 v190 k0_t2 = 1#1), ∀ (r : Fin 8), ∀ a, (k0_off47 v183 v190 k0_t2 k0_t44 (BitVec.ofNat 32 (16 * r.val))) a + S16.size a ≤ S51200.size a)
theorem k0_t11_ok : ∀ (v183 : BitVec 32) (v190 : BitVec 32) (k0_hw6 : k0_chk6 v183 v190) (k0_t2 : Fin k0_t2_loop.trips), ∀ (k0_h5 : k0_cond5 v183 v190 k0_t2 = 1#1), (k0_t11_loop v183 v190 k0_t2).OK := fun v183 v190 k0_hw6 k0_t2 k0_h5 => k0_hw6.1 k0_t2 k0_h5
theorem k0_off12_inb : ∀ (v183 : BitVec 32) (v190 : BitVec 32) (k0_hw6 : k0_chk6 v183 v190) (k0_t2 : Fin k0_t2_loop.trips) (k0_t11 : Fin (k0_t11_loop v183 v190 k0_t2).trips), ∀ (k0_h5 : k0_cond5 v183 v190 k0_t2 = 1#1), ∀ (r : Fin 8), ∀ a, (k0_off12 v183 v190 k0_t2 k0_t11 (BitVec.ofNat 32 (16 * r.val))) a + S16.size a ≤ S51200.size a := fun v183 v190 k0_hw6 k0_t2 k0_t11 k0_h5 r => k0_hw6.2.1 k0_t2 k0_t11 k0_h5 r
theorem k0_t12_ok : ∀ (v183 : BitVec 32) (v190 : BitVec 32) (k0_hw6 : k0_chk6 v183 v190) (k0_t2 : Fin k0_t2_loop.trips), ∀ (k0_h5 : k0_cond5 v183 v190 k0_t2 = 1#1), (k0_t12_loop v183 v190 k0_t2).OK := fun v183 v190 k0_hw6 k0_t2 k0_h5 => k0_hw6.2.2.1 k0_t2 k0_h5
theorem k0_off13_inb : ∀ (v183 : BitVec 32) (v190 : BitVec 32) (k0_hw6 : k0_chk6 v183 v190) (k0_t2 : Fin k0_t2_loop.trips) (k0_t12 : Fin (k0_t12_loop v183 v190 k0_t2).trips), ∀ (k0_h5 : k0_cond5 v183 v190 k0_t2 = 1#1), ∀ (r : Fin 8), ∀ a, (k0_off13 v183 v190 k0_t2 k0_t12 (BitVec.ofNat 32 (16 * r.val))) a + S16.size a ≤ S51200.size a := fun v183 v190 k0_hw6 k0_t2 k0_t12 k0_h5 r => k0_hw6.2.2.2.1 k0_t2 k0_t12 k0_h5 r
theorem k0_t43_ok : ∀ (v183 : BitVec 32) (v190 : BitVec 32) (k0_hw6 : k0_chk6 v183 v190) (k0_t2 : Fin k0_t2_loop.trips), ∀ (k0_h22 : k0_cond22 v183 v190 k0_t2 = 1#1), (k0_t43_loop v183 v190 k0_t2).OK := fun v183 v190 k0_hw6 k0_t2 k0_h22 => k0_hw6.2.2.2.2.1 k0_t2 k0_h22
theorem k0_off46_inb : ∀ (v183 : BitVec 32) (v190 : BitVec 32) (k0_hw6 : k0_chk6 v183 v190) (k0_t2 : Fin k0_t2_loop.trips) (k0_t43 : Fin (k0_t43_loop v183 v190 k0_t2).trips), ∀ (k0_h22 : k0_cond22 v183 v190 k0_t2 = 1#1), ∀ (r : Fin 8), ∀ a, (k0_off46 v183 v190 k0_t2 k0_t43 (BitVec.ofNat 32 (16 * r.val))) a + S16.size a ≤ S51200.size a := fun v183 v190 k0_hw6 k0_t2 k0_t43 k0_h22 r => k0_hw6.2.2.2.2.2.1 k0_t2 k0_t43 k0_h22 r
theorem k0_t44_ok : ∀ (v183 : BitVec 32) (v190 : BitVec 32) (k0_hw6 : k0_chk6 v183 v190) (k0_t2 : Fin k0_t2_loop.trips), ∀ (k0_h22 : k0_cond22 v183 v190 k0_t2 = 1#1), (k0_t44_loop v183 v190 k0_t2).OK := fun v183 v190 k0_hw6 k0_t2 k0_h22 => k0_hw6.2.2.2.2.2.2.1 k0_t2 k0_h22
theorem k0_off47_inb : ∀ (v183 : BitVec 32) (v190 : BitVec 32) (k0_hw6 : k0_chk6 v183 v190) (k0_t2 : Fin k0_t2_loop.trips) (k0_t44 : Fin (k0_t44_loop v183 v190 k0_t2).trips), ∀ (k0_h22 : k0_cond22 v183 v190 k0_t2 = 1#1), ∀ (r : Fin 8), ∀ a, (k0_off47 v183 v190 k0_t2 k0_t44 (BitVec.ofNat 32 (16 * r.val))) a + S16.size a ≤ S51200.size a := fun v183 v190 k0_hw6 k0_t2 k0_t44 k0_h22 r => k0_hw6.2.2.2.2.2.2.2 k0_t2 k0_t44 k0_h22 r

@[reducible] def k0_t45_loop (v190 : BitVec 32) (v197 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v525 : BitVec 32 := Scalar.subi v190 v485
  let c0_i32_138 : BitVec 32 := 0#32
  let v526 : BitVec 32 := Scalar.maxsi v525 c0_i32_138
  let v527 : BitVec 32 := Scalar.subi v197 v485
  let c400_i32_139 : BitVec 32 := 400#32
  let v528 : BitVec 32 := Scalar.minsi v527 c400_i32_139
  let v614 : BitVec 32 := Scalar.subi v528 v526
  let c1_i32_182 : BitVec 32 := 1#32
  let v616 : BitVec 32 := Scalar.divsi v614 c1_i32_182
  let v617 : BitVec 32 := Scalar.muli v616 c1_i32_182
  let v618 : BitVec 32 := Scalar.addi v526 v617
  let c1_i32_183 : BitVec 32 := 1#32
  ⟨v526, v618, c1_i32_183⟩
def k0_cond23 (v190 : BitVec 32) (v197 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v527 : BitVec 32 := Scalar.subi v197 v485
  let c400_i32_139 : BitVec 32 := 400#32
  let v528 : BitVec 32 := Scalar.minsi v527 c400_i32_139
  let v525 : BitVec 32 := Scalar.subi v190 v485
  let c0_i32_138 : BitVec 32 := 0#32
  let v526 : BitVec 32 := Scalar.maxsi v525 c0_i32_138
  let v529 : BitVec 1 := Scalar.cmpi .sgt v528 v526
  let v530 : BitVec 32 := Scalar.extui v529
  let c0_i32_140 : BitVec 32 := 0#32
  let v531 : BitVec 1 := Scalar.cmpi .ne v530 c0_i32_140
  v531

def k0_off48 (v190 : BitVec 32) (v197 : BitVec 32) (k0_t2 : Fin k0_t2_loop.trips) (k0_t45 : Fin (k0_t45_loop v190 v197 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v525 : BitVec 32 := Scalar.subi v190 v485
  let c0_i32_138 : BitVec 32 := 0#32
  let v526 : BitVec 32 := Scalar.maxsi v525 c0_i32_138
  let c1_i32_183 : BitVec 32 := 1#32
  let arg15 : BitVec 32 := Scf.iv v526 c1_i32_183 k0_t45
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t46_loop (v190 : BitVec 32) (v197 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v525 : BitVec 32 := Scalar.subi v190 v485
  let c0_i32_138 : BitVec 32 := 0#32
  let v526 : BitVec 32 := Scalar.maxsi v525 c0_i32_138
  let v527 : BitVec 32 := Scalar.subi v197 v485
  let c400_i32_139 : BitVec 32 := 400#32
  let v528 : BitVec 32 := Scalar.minsi v527 c400_i32_139
  let v614 : BitVec 32 := Scalar.subi v528 v526
  let c1_i32_182 : BitVec 32 := 1#32
  let v616 : BitVec 32 := Scalar.divsi v614 c1_i32_182
  let v617 : BitVec 32 := Scalar.muli v616 c1_i32_182
  let v618 : BitVec 32 := Scalar.addi v526 v617
  let v615 : BitVec 32 := Scalar.addi v526 v614
  let c1_i32_184 : BitVec 32 := 1#32
  ⟨v618, v615, c1_i32_184⟩
def k0_off49 (v190 : BitVec 32) (v197 : BitVec 32) (k0_t2 : Fin k0_t2_loop.trips) (k0_t46 : Fin (k0_t46_loop v190 v197 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v525 : BitVec 32 := Scalar.subi v190 v485
  let c0_i32_138 : BitVec 32 := 0#32
  let v526 : BitVec 32 := Scalar.maxsi v525 c0_i32_138
  let v527 : BitVec 32 := Scalar.subi v197 v485
  let c400_i32_139 : BitVec 32 := 400#32
  let v528 : BitVec 32 := Scalar.minsi v527 c400_i32_139
  let v614 : BitVec 32 := Scalar.subi v528 v526
  let c1_i32_182 : BitVec 32 := 1#32
  let v616 : BitVec 32 := Scalar.divsi v614 c1_i32_182
  let v617 : BitVec 32 := Scalar.muli v616 c1_i32_182
  let v618 : BitVec 32 := Scalar.addi v526 v617
  let c1_i32_184 : BitVec 32 := 1#32
  let arg15 : BitVec 32 := Scf.iv v618 c1_i32_184 k0_t46
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk7 (v190 : BitVec 32) (v197 : BitVec 32) : Prop :=
  (∀ k0_t2 : Fin k0_t2_loop.trips, ∀ (k0_h6 : k0_cond6 v190 v197 k0_t2 = 1#1), (k0_t13_loop v190 v197 k0_t2).OK) ∧
  (∀ (k0_t2 : Fin k0_t2_loop.trips) (k0_t13 : Fin (k0_t13_loop v190 v197 k0_t2).trips), ∀ (k0_h6 : k0_cond6 v190 v197 k0_t2 = 1#1), ∀ (r : Fin 8), ∀ a, (k0_off14 v190 v197 k0_t2 k0_t13 (BitVec.ofNat 32 (16 * r.val))) a + S16.size a ≤ S51200.size a) ∧
  (∀ k0_t2 : Fin k0_t2_loop.trips, ∀ (k0_h6 : k0_cond6 v190 v197 k0_t2 = 1#1), (k0_t14_loop v190 v197 k0_t2).OK) ∧
  (∀ (k0_t2 : Fin k0_t2_loop.trips) (k0_t14 : Fin (k0_t14_loop v190 v197 k0_t2).trips), ∀ (k0_h6 : k0_cond6 v190 v197 k0_t2 = 1#1), ∀ (r : Fin 8), ∀ a, (k0_off15 v190 v197 k0_t2 k0_t14 (BitVec.ofNat 32 (16 * r.val))) a + S16.size a ≤ S51200.size a) ∧
  (∀ k0_t2 : Fin k0_t2_loop.trips, ∀ (k0_h23 : k0_cond23 v190 v197 k0_t2 = 1#1), (k0_t45_loop v190 v197 k0_t2).OK) ∧
  (∀ (k0_t2 : Fin k0_t2_loop.trips) (k0_t45 : Fin (k0_t45_loop v190 v197 k0_t2).trips), ∀ (k0_h23 : k0_cond23 v190 v197 k0_t2 = 1#1), ∀ (r : Fin 8), ∀ a, (k0_off48 v190 v197 k0_t2 k0_t45 (BitVec.ofNat 32 (16 * r.val))) a + S16.size a ≤ S51200.size a) ∧
  (∀ k0_t2 : Fin k0_t2_loop.trips, ∀ (k0_h23 : k0_cond23 v190 v197 k0_t2 = 1#1), (k0_t46_loop v190 v197 k0_t2).OK) ∧
  (∀ (k0_t2 : Fin k0_t2_loop.trips) (k0_t46 : Fin (k0_t46_loop v190 v197 k0_t2).trips), ∀ (k0_h23 : k0_cond23 v190 v197 k0_t2 = 1#1), ∀ (r : Fin 8), ∀ a, (k0_off49 v190 v197 k0_t2 k0_t46 (BitVec.ofNat 32 (16 * r.val))) a + S16.size a ≤ S51200.size a)
theorem k0_t13_ok : ∀ (v190 : BitVec 32) (v197 : BitVec 32) (k0_hw7 : k0_chk7 v190 v197) (k0_t2 : Fin k0_t2_loop.trips), ∀ (k0_h6 : k0_cond6 v190 v197 k0_t2 = 1#1), (k0_t13_loop v190 v197 k0_t2).OK := fun v190 v197 k0_hw7 k0_t2 k0_h6 => k0_hw7.1 k0_t2 k0_h6
theorem k0_off14_inb : ∀ (v190 : BitVec 32) (v197 : BitVec 32) (k0_hw7 : k0_chk7 v190 v197) (k0_t2 : Fin k0_t2_loop.trips) (k0_t13 : Fin (k0_t13_loop v190 v197 k0_t2).trips), ∀ (k0_h6 : k0_cond6 v190 v197 k0_t2 = 1#1), ∀ (r : Fin 8), ∀ a, (k0_off14 v190 v197 k0_t2 k0_t13 (BitVec.ofNat 32 (16 * r.val))) a + S16.size a ≤ S51200.size a := fun v190 v197 k0_hw7 k0_t2 k0_t13 k0_h6 r => k0_hw7.2.1 k0_t2 k0_t13 k0_h6 r
theorem k0_t14_ok : ∀ (v190 : BitVec 32) (v197 : BitVec 32) (k0_hw7 : k0_chk7 v190 v197) (k0_t2 : Fin k0_t2_loop.trips), ∀ (k0_h6 : k0_cond6 v190 v197 k0_t2 = 1#1), (k0_t14_loop v190 v197 k0_t2).OK := fun v190 v197 k0_hw7 k0_t2 k0_h6 => k0_hw7.2.2.1 k0_t2 k0_h6
theorem k0_off15_inb : ∀ (v190 : BitVec 32) (v197 : BitVec 32) (k0_hw7 : k0_chk7 v190 v197) (k0_t2 : Fin k0_t2_loop.trips) (k0_t14 : Fin (k0_t14_loop v190 v197 k0_t2).trips), ∀ (k0_h6 : k0_cond6 v190 v197 k0_t2 = 1#1), ∀ (r : Fin 8), ∀ a, (k0_off15 v190 v197 k0_t2 k0_t14 (BitVec.ofNat 32 (16 * r.val))) a + S16.size a ≤ S51200.size a := fun v190 v197 k0_hw7 k0_t2 k0_t14 k0_h6 r => k0_hw7.2.2.2.1 k0_t2 k0_t14 k0_h6 r
theorem k0_t45_ok : ∀ (v190 : BitVec 32) (v197 : BitVec 32) (k0_hw7 : k0_chk7 v190 v197) (k0_t2 : Fin k0_t2_loop.trips), ∀ (k0_h23 : k0_cond23 v190 v197 k0_t2 = 1#1), (k0_t45_loop v190 v197 k0_t2).OK := fun v190 v197 k0_hw7 k0_t2 k0_h23 => k0_hw7.2.2.2.2.1 k0_t2 k0_h23
theorem k0_off48_inb : ∀ (v190 : BitVec 32) (v197 : BitVec 32) (k0_hw7 : k0_chk7 v190 v197) (k0_t2 : Fin k0_t2_loop.trips) (k0_t45 : Fin (k0_t45_loop v190 v197 k0_t2).trips), ∀ (k0_h23 : k0_cond23 v190 v197 k0_t2 = 1#1), ∀ (r : Fin 8), ∀ a, (k0_off48 v190 v197 k0_t2 k0_t45 (BitVec.ofNat 32 (16 * r.val))) a + S16.size a ≤ S51200.size a := fun v190 v197 k0_hw7 k0_t2 k0_t45 k0_h23 r => k0_hw7.2.2.2.2.2.1 k0_t2 k0_t45 k0_h23 r
theorem k0_t46_ok : ∀ (v190 : BitVec 32) (v197 : BitVec 32) (k0_hw7 : k0_chk7 v190 v197) (k0_t2 : Fin k0_t2_loop.trips), ∀ (k0_h23 : k0_cond23 v190 v197 k0_t2 = 1#1), (k0_t46_loop v190 v197 k0_t2).OK := fun v190 v197 k0_hw7 k0_t2 k0_h23 => k0_hw7.2.2.2.2.2.2.1 k0_t2 k0_h23
theorem k0_off49_inb : ∀ (v190 : BitVec 32) (v197 : BitVec 32) (k0_hw7 : k0_chk7 v190 v197) (k0_t2 : Fin k0_t2_loop.trips) (k0_t46 : Fin (k0_t46_loop v190 v197 k0_t2).trips), ∀ (k0_h23 : k0_cond23 v190 v197 k0_t2 = 1#1), ∀ (r : Fin 8), ∀ a, (k0_off49 v190 v197 k0_t2 k0_t46 (BitVec.ofNat 32 (16 * r.val))) a + S16.size a ≤ S51200.size a := fun v190 v197 k0_hw7 k0_t2 k0_t46 k0_h23 r => k0_hw7.2.2.2.2.2.2.2 k0_t2 k0_t46 k0_h23 r

@[reducible] def k0_t47_loop (v197 : BitVec 32) (v204 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v532 : BitVec 32 := Scalar.subi v197 v485
  let c0_i32_141 : BitVec 32 := 0#32
  let v533 : BitVec 32 := Scalar.maxsi v532 c0_i32_141
  let v534 : BitVec 32 := Scalar.subi v204 v485
  let c400_i32_142 : BitVec 32 := 400#32
  let v535 : BitVec 32 := Scalar.minsi v534 c400_i32_142
  let v614 : BitVec 32 := Scalar.subi v535 v533
  let c1_i32_182 : BitVec 32 := 1#32
  let v616 : BitVec 32 := Scalar.divsi v614 c1_i32_182
  let v617 : BitVec 32 := Scalar.muli v616 c1_i32_182
  let v618 : BitVec 32 := Scalar.addi v533 v617
  let c1_i32_183 : BitVec 32 := 1#32
  ⟨v533, v618, c1_i32_183⟩
def k0_cond24 (v197 : BitVec 32) (v204 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v534 : BitVec 32 := Scalar.subi v204 v485
  let c400_i32_142 : BitVec 32 := 400#32
  let v535 : BitVec 32 := Scalar.minsi v534 c400_i32_142
  let v532 : BitVec 32 := Scalar.subi v197 v485
  let c0_i32_141 : BitVec 32 := 0#32
  let v533 : BitVec 32 := Scalar.maxsi v532 c0_i32_141
  let v536 : BitVec 1 := Scalar.cmpi .sgt v535 v533
  let v537 : BitVec 32 := Scalar.extui v536
  let c0_i32_143 : BitVec 32 := 0#32
  let v538 : BitVec 1 := Scalar.cmpi .ne v537 c0_i32_143
  v538

def k0_off50 (v197 : BitVec 32) (v204 : BitVec 32) (k0_t2 : Fin k0_t2_loop.trips) (k0_t47 : Fin (k0_t47_loop v197 v204 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v532 : BitVec 32 := Scalar.subi v197 v485
  let c0_i32_141 : BitVec 32 := 0#32
  let v533 : BitVec 32 := Scalar.maxsi v532 c0_i32_141
  let c1_i32_183 : BitVec 32 := 1#32
  let arg15 : BitVec 32 := Scf.iv v533 c1_i32_183 k0_t47
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t48_loop (v197 : BitVec 32) (v204 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v532 : BitVec 32 := Scalar.subi v197 v485
  let c0_i32_141 : BitVec 32 := 0#32
  let v533 : BitVec 32 := Scalar.maxsi v532 c0_i32_141
  let v534 : BitVec 32 := Scalar.subi v204 v485
  let c400_i32_142 : BitVec 32 := 400#32
  let v535 : BitVec 32 := Scalar.minsi v534 c400_i32_142
  let v614 : BitVec 32 := Scalar.subi v535 v533
  let c1_i32_182 : BitVec 32 := 1#32
  let v616 : BitVec 32 := Scalar.divsi v614 c1_i32_182
  let v617 : BitVec 32 := Scalar.muli v616 c1_i32_182
  let v618 : BitVec 32 := Scalar.addi v533 v617
  let v615 : BitVec 32 := Scalar.addi v533 v614
  let c1_i32_184 : BitVec 32 := 1#32
  ⟨v618, v615, c1_i32_184⟩
def k0_off51 (v197 : BitVec 32) (v204 : BitVec 32) (k0_t2 : Fin k0_t2_loop.trips) (k0_t48 : Fin (k0_t48_loop v197 v204 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v532 : BitVec 32 := Scalar.subi v197 v485
  let c0_i32_141 : BitVec 32 := 0#32
  let v533 : BitVec 32 := Scalar.maxsi v532 c0_i32_141
  let v534 : BitVec 32 := Scalar.subi v204 v485
  let c400_i32_142 : BitVec 32 := 400#32
  let v535 : BitVec 32 := Scalar.minsi v534 c400_i32_142
  let v614 : BitVec 32 := Scalar.subi v535 v533
  let c1_i32_182 : BitVec 32 := 1#32
  let v616 : BitVec 32 := Scalar.divsi v614 c1_i32_182
  let v617 : BitVec 32 := Scalar.muli v616 c1_i32_182
  let v618 : BitVec 32 := Scalar.addi v533 v617
  let c1_i32_184 : BitVec 32 := 1#32
  let arg15 : BitVec 32 := Scf.iv v618 c1_i32_184 k0_t48
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk8 (v197 : BitVec 32) (v204 : BitVec 32) : Prop :=
  (∀ k0_t2 : Fin k0_t2_loop.trips, ∀ (k0_h7 : k0_cond7 v197 v204 k0_t2 = 1#1), (k0_t15_loop v197 v204 k0_t2).OK) ∧
  (∀ (k0_t2 : Fin k0_t2_loop.trips) (k0_t15 : Fin (k0_t15_loop v197 v204 k0_t2).trips), ∀ (k0_h7 : k0_cond7 v197 v204 k0_t2 = 1#1), ∀ (r : Fin 8), ∀ a, (k0_off16 v197 v204 k0_t2 k0_t15 (BitVec.ofNat 32 (16 * r.val))) a + S16.size a ≤ S51200.size a) ∧
  (∀ k0_t2 : Fin k0_t2_loop.trips, ∀ (k0_h7 : k0_cond7 v197 v204 k0_t2 = 1#1), (k0_t16_loop v197 v204 k0_t2).OK) ∧
  (∀ (k0_t2 : Fin k0_t2_loop.trips) (k0_t16 : Fin (k0_t16_loop v197 v204 k0_t2).trips), ∀ (k0_h7 : k0_cond7 v197 v204 k0_t2 = 1#1), ∀ (r : Fin 8), ∀ a, (k0_off17 v197 v204 k0_t2 k0_t16 (BitVec.ofNat 32 (16 * r.val))) a + S16.size a ≤ S51200.size a) ∧
  (∀ k0_t2 : Fin k0_t2_loop.trips, ∀ (k0_h24 : k0_cond24 v197 v204 k0_t2 = 1#1), (k0_t47_loop v197 v204 k0_t2).OK) ∧
  (∀ (k0_t2 : Fin k0_t2_loop.trips) (k0_t47 : Fin (k0_t47_loop v197 v204 k0_t2).trips), ∀ (k0_h24 : k0_cond24 v197 v204 k0_t2 = 1#1), ∀ (r : Fin 8), ∀ a, (k0_off50 v197 v204 k0_t2 k0_t47 (BitVec.ofNat 32 (16 * r.val))) a + S16.size a ≤ S51200.size a) ∧
  (∀ k0_t2 : Fin k0_t2_loop.trips, ∀ (k0_h24 : k0_cond24 v197 v204 k0_t2 = 1#1), (k0_t48_loop v197 v204 k0_t2).OK) ∧
  (∀ (k0_t2 : Fin k0_t2_loop.trips) (k0_t48 : Fin (k0_t48_loop v197 v204 k0_t2).trips), ∀ (k0_h24 : k0_cond24 v197 v204 k0_t2 = 1#1), ∀ (r : Fin 8), ∀ a, (k0_off51 v197 v204 k0_t2 k0_t48 (BitVec.ofNat 32 (16 * r.val))) a + S16.size a ≤ S51200.size a)
theorem k0_t15_ok : ∀ (v197 : BitVec 32) (v204 : BitVec 32) (k0_hw8 : k0_chk8 v197 v204) (k0_t2 : Fin k0_t2_loop.trips), ∀ (k0_h7 : k0_cond7 v197 v204 k0_t2 = 1#1), (k0_t15_loop v197 v204 k0_t2).OK := fun v197 v204 k0_hw8 k0_t2 k0_h7 => k0_hw8.1 k0_t2 k0_h7
theorem k0_off16_inb : ∀ (v197 : BitVec 32) (v204 : BitVec 32) (k0_hw8 : k0_chk8 v197 v204) (k0_t2 : Fin k0_t2_loop.trips) (k0_t15 : Fin (k0_t15_loop v197 v204 k0_t2).trips), ∀ (k0_h7 : k0_cond7 v197 v204 k0_t2 = 1#1), ∀ (r : Fin 8), ∀ a, (k0_off16 v197 v204 k0_t2 k0_t15 (BitVec.ofNat 32 (16 * r.val))) a + S16.size a ≤ S51200.size a := fun v197 v204 k0_hw8 k0_t2 k0_t15 k0_h7 r => k0_hw8.2.1 k0_t2 k0_t15 k0_h7 r
theorem k0_t16_ok : ∀ (v197 : BitVec 32) (v204 : BitVec 32) (k0_hw8 : k0_chk8 v197 v204) (k0_t2 : Fin k0_t2_loop.trips), ∀ (k0_h7 : k0_cond7 v197 v204 k0_t2 = 1#1), (k0_t16_loop v197 v204 k0_t2).OK := fun v197 v204 k0_hw8 k0_t2 k0_h7 => k0_hw8.2.2.1 k0_t2 k0_h7
theorem k0_off17_inb : ∀ (v197 : BitVec 32) (v204 : BitVec 32) (k0_hw8 : k0_chk8 v197 v204) (k0_t2 : Fin k0_t2_loop.trips) (k0_t16 : Fin (k0_t16_loop v197 v204 k0_t2).trips), ∀ (k0_h7 : k0_cond7 v197 v204 k0_t2 = 1#1), ∀ (r : Fin 8), ∀ a, (k0_off17 v197 v204 k0_t2 k0_t16 (BitVec.ofNat 32 (16 * r.val))) a + S16.size a ≤ S51200.size a := fun v197 v204 k0_hw8 k0_t2 k0_t16 k0_h7 r => k0_hw8.2.2.2.1 k0_t2 k0_t16 k0_h7 r
theorem k0_t47_ok : ∀ (v197 : BitVec 32) (v204 : BitVec 32) (k0_hw8 : k0_chk8 v197 v204) (k0_t2 : Fin k0_t2_loop.trips), ∀ (k0_h24 : k0_cond24 v197 v204 k0_t2 = 1#1), (k0_t47_loop v197 v204 k0_t2).OK := fun v197 v204 k0_hw8 k0_t2 k0_h24 => k0_hw8.2.2.2.2.1 k0_t2 k0_h24
theorem k0_off50_inb : ∀ (v197 : BitVec 32) (v204 : BitVec 32) (k0_hw8 : k0_chk8 v197 v204) (k0_t2 : Fin k0_t2_loop.trips) (k0_t47 : Fin (k0_t47_loop v197 v204 k0_t2).trips), ∀ (k0_h24 : k0_cond24 v197 v204 k0_t2 = 1#1), ∀ (r : Fin 8), ∀ a, (k0_off50 v197 v204 k0_t2 k0_t47 (BitVec.ofNat 32 (16 * r.val))) a + S16.size a ≤ S51200.size a := fun v197 v204 k0_hw8 k0_t2 k0_t47 k0_h24 r => k0_hw8.2.2.2.2.2.1 k0_t2 k0_t47 k0_h24 r
theorem k0_t48_ok : ∀ (v197 : BitVec 32) (v204 : BitVec 32) (k0_hw8 : k0_chk8 v197 v204) (k0_t2 : Fin k0_t2_loop.trips), ∀ (k0_h24 : k0_cond24 v197 v204 k0_t2 = 1#1), (k0_t48_loop v197 v204 k0_t2).OK := fun v197 v204 k0_hw8 k0_t2 k0_h24 => k0_hw8.2.2.2.2.2.2.1 k0_t2 k0_h24
theorem k0_off51_inb : ∀ (v197 : BitVec 32) (v204 : BitVec 32) (k0_hw8 : k0_chk8 v197 v204) (k0_t2 : Fin k0_t2_loop.trips) (k0_t48 : Fin (k0_t48_loop v197 v204 k0_t2).trips), ∀ (k0_h24 : k0_cond24 v197 v204 k0_t2 = 1#1), ∀ (r : Fin 8), ∀ a, (k0_off51 v197 v204 k0_t2 k0_t48 (BitVec.ofNat 32 (16 * r.val))) a + S16.size a ≤ S51200.size a := fun v197 v204 k0_hw8 k0_t2 k0_t48 k0_h24 r => k0_hw8.2.2.2.2.2.2.2 k0_t2 k0_t48 k0_h24 r

@[reducible] def k0_t49_loop (v204 : BitVec 32) (v211 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v539 : BitVec 32 := Scalar.subi v204 v485
  let c0_i32_144 : BitVec 32 := 0#32
  let v540 : BitVec 32 := Scalar.maxsi v539 c0_i32_144
  let v541 : BitVec 32 := Scalar.subi v211 v485
  let c400_i32_145 : BitVec 32 := 400#32
  let v542 : BitVec 32 := Scalar.minsi v541 c400_i32_145
  let v614 : BitVec 32 := Scalar.subi v542 v540
  let c1_i32_182 : BitVec 32 := 1#32
  let v616 : BitVec 32 := Scalar.divsi v614 c1_i32_182
  let v617 : BitVec 32 := Scalar.muli v616 c1_i32_182
  let v618 : BitVec 32 := Scalar.addi v540 v617
  let c1_i32_183 : BitVec 32 := 1#32
  ⟨v540, v618, c1_i32_183⟩
def k0_cond25 (v204 : BitVec 32) (v211 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v541 : BitVec 32 := Scalar.subi v211 v485
  let c400_i32_145 : BitVec 32 := 400#32
  let v542 : BitVec 32 := Scalar.minsi v541 c400_i32_145
  let v539 : BitVec 32 := Scalar.subi v204 v485
  let c0_i32_144 : BitVec 32 := 0#32
  let v540 : BitVec 32 := Scalar.maxsi v539 c0_i32_144
  let v543 : BitVec 1 := Scalar.cmpi .sgt v542 v540
  let v544 : BitVec 32 := Scalar.extui v543
  let c0_i32_146 : BitVec 32 := 0#32
  let v545 : BitVec 1 := Scalar.cmpi .ne v544 c0_i32_146
  v545

def k0_off52 (v204 : BitVec 32) (v211 : BitVec 32) (k0_t2 : Fin k0_t2_loop.trips) (k0_t49 : Fin (k0_t49_loop v204 v211 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v539 : BitVec 32 := Scalar.subi v204 v485
  let c0_i32_144 : BitVec 32 := 0#32
  let v540 : BitVec 32 := Scalar.maxsi v539 c0_i32_144
  let c1_i32_183 : BitVec 32 := 1#32
  let arg15 : BitVec 32 := Scf.iv v540 c1_i32_183 k0_t49
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t50_loop (v204 : BitVec 32) (v211 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v539 : BitVec 32 := Scalar.subi v204 v485
  let c0_i32_144 : BitVec 32 := 0#32
  let v540 : BitVec 32 := Scalar.maxsi v539 c0_i32_144
  let v541 : BitVec 32 := Scalar.subi v211 v485
  let c400_i32_145 : BitVec 32 := 400#32
  let v542 : BitVec 32 := Scalar.minsi v541 c400_i32_145
  let v614 : BitVec 32 := Scalar.subi v542 v540
  let c1_i32_182 : BitVec 32 := 1#32
  let v616 : BitVec 32 := Scalar.divsi v614 c1_i32_182
  let v617 : BitVec 32 := Scalar.muli v616 c1_i32_182
  let v618 : BitVec 32 := Scalar.addi v540 v617
  let v615 : BitVec 32 := Scalar.addi v540 v614
  let c1_i32_184 : BitVec 32 := 1#32
  ⟨v618, v615, c1_i32_184⟩
def k0_off53 (v204 : BitVec 32) (v211 : BitVec 32) (k0_t2 : Fin k0_t2_loop.trips) (k0_t50 : Fin (k0_t50_loop v204 v211 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v539 : BitVec 32 := Scalar.subi v204 v485
  let c0_i32_144 : BitVec 32 := 0#32
  let v540 : BitVec 32 := Scalar.maxsi v539 c0_i32_144
  let v541 : BitVec 32 := Scalar.subi v211 v485
  let c400_i32_145 : BitVec 32 := 400#32
  let v542 : BitVec 32 := Scalar.minsi v541 c400_i32_145
  let v614 : BitVec 32 := Scalar.subi v542 v540
  let c1_i32_182 : BitVec 32 := 1#32
  let v616 : BitVec 32 := Scalar.divsi v614 c1_i32_182
  let v617 : BitVec 32 := Scalar.muli v616 c1_i32_182
  let v618 : BitVec 32 := Scalar.addi v540 v617
  let c1_i32_184 : BitVec 32 := 1#32
  let arg15 : BitVec 32 := Scf.iv v618 c1_i32_184 k0_t50
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk9 (v204 : BitVec 32) (v211 : BitVec 32) : Prop :=
  (∀ k0_t2 : Fin k0_t2_loop.trips, ∀ (k0_h8 : k0_cond8 v204 v211 k0_t2 = 1#1), (k0_t17_loop v204 v211 k0_t2).OK) ∧
  (∀ (k0_t2 : Fin k0_t2_loop.trips) (k0_t17 : Fin (k0_t17_loop v204 v211 k0_t2).trips), ∀ (k0_h8 : k0_cond8 v204 v211 k0_t2 = 1#1), ∀ (r : Fin 8), ∀ a, (k0_off18 v204 v211 k0_t2 k0_t17 (BitVec.ofNat 32 (16 * r.val))) a + S16.size a ≤ S51200.size a) ∧
  (∀ k0_t2 : Fin k0_t2_loop.trips, ∀ (k0_h8 : k0_cond8 v204 v211 k0_t2 = 1#1), (k0_t18_loop v204 v211 k0_t2).OK) ∧
  (∀ (k0_t2 : Fin k0_t2_loop.trips) (k0_t18 : Fin (k0_t18_loop v204 v211 k0_t2).trips), ∀ (k0_h8 : k0_cond8 v204 v211 k0_t2 = 1#1), ∀ (r : Fin 8), ∀ a, (k0_off19 v204 v211 k0_t2 k0_t18 (BitVec.ofNat 32 (16 * r.val))) a + S16.size a ≤ S51200.size a) ∧
  (∀ k0_t2 : Fin k0_t2_loop.trips, ∀ (k0_h25 : k0_cond25 v204 v211 k0_t2 = 1#1), (k0_t49_loop v204 v211 k0_t2).OK) ∧
  (∀ (k0_t2 : Fin k0_t2_loop.trips) (k0_t49 : Fin (k0_t49_loop v204 v211 k0_t2).trips), ∀ (k0_h25 : k0_cond25 v204 v211 k0_t2 = 1#1), ∀ (r : Fin 8), ∀ a, (k0_off52 v204 v211 k0_t2 k0_t49 (BitVec.ofNat 32 (16 * r.val))) a + S16.size a ≤ S51200.size a) ∧
  (∀ k0_t2 : Fin k0_t2_loop.trips, ∀ (k0_h25 : k0_cond25 v204 v211 k0_t2 = 1#1), (k0_t50_loop v204 v211 k0_t2).OK) ∧
  (∀ (k0_t2 : Fin k0_t2_loop.trips) (k0_t50 : Fin (k0_t50_loop v204 v211 k0_t2).trips), ∀ (k0_h25 : k0_cond25 v204 v211 k0_t2 = 1#1), ∀ (r : Fin 8), ∀ a, (k0_off53 v204 v211 k0_t2 k0_t50 (BitVec.ofNat 32 (16 * r.val))) a + S16.size a ≤ S51200.size a)
theorem k0_t17_ok : ∀ (v204 : BitVec 32) (v211 : BitVec 32) (k0_hw9 : k0_chk9 v204 v211) (k0_t2 : Fin k0_t2_loop.trips), ∀ (k0_h8 : k0_cond8 v204 v211 k0_t2 = 1#1), (k0_t17_loop v204 v211 k0_t2).OK := fun v204 v211 k0_hw9 k0_t2 k0_h8 => k0_hw9.1 k0_t2 k0_h8
theorem k0_off18_inb : ∀ (v204 : BitVec 32) (v211 : BitVec 32) (k0_hw9 : k0_chk9 v204 v211) (k0_t2 : Fin k0_t2_loop.trips) (k0_t17 : Fin (k0_t17_loop v204 v211 k0_t2).trips), ∀ (k0_h8 : k0_cond8 v204 v211 k0_t2 = 1#1), ∀ (r : Fin 8), ∀ a, (k0_off18 v204 v211 k0_t2 k0_t17 (BitVec.ofNat 32 (16 * r.val))) a + S16.size a ≤ S51200.size a := fun v204 v211 k0_hw9 k0_t2 k0_t17 k0_h8 r => k0_hw9.2.1 k0_t2 k0_t17 k0_h8 r
theorem k0_t18_ok : ∀ (v204 : BitVec 32) (v211 : BitVec 32) (k0_hw9 : k0_chk9 v204 v211) (k0_t2 : Fin k0_t2_loop.trips), ∀ (k0_h8 : k0_cond8 v204 v211 k0_t2 = 1#1), (k0_t18_loop v204 v211 k0_t2).OK := fun v204 v211 k0_hw9 k0_t2 k0_h8 => k0_hw9.2.2.1 k0_t2 k0_h8
theorem k0_off19_inb : ∀ (v204 : BitVec 32) (v211 : BitVec 32) (k0_hw9 : k0_chk9 v204 v211) (k0_t2 : Fin k0_t2_loop.trips) (k0_t18 : Fin (k0_t18_loop v204 v211 k0_t2).trips), ∀ (k0_h8 : k0_cond8 v204 v211 k0_t2 = 1#1), ∀ (r : Fin 8), ∀ a, (k0_off19 v204 v211 k0_t2 k0_t18 (BitVec.ofNat 32 (16 * r.val))) a + S16.size a ≤ S51200.size a := fun v204 v211 k0_hw9 k0_t2 k0_t18 k0_h8 r => k0_hw9.2.2.2.1 k0_t2 k0_t18 k0_h8 r
theorem k0_t49_ok : ∀ (v204 : BitVec 32) (v211 : BitVec 32) (k0_hw9 : k0_chk9 v204 v211) (k0_t2 : Fin k0_t2_loop.trips), ∀ (k0_h25 : k0_cond25 v204 v211 k0_t2 = 1#1), (k0_t49_loop v204 v211 k0_t2).OK := fun v204 v211 k0_hw9 k0_t2 k0_h25 => k0_hw9.2.2.2.2.1 k0_t2 k0_h25
theorem k0_off52_inb : ∀ (v204 : BitVec 32) (v211 : BitVec 32) (k0_hw9 : k0_chk9 v204 v211) (k0_t2 : Fin k0_t2_loop.trips) (k0_t49 : Fin (k0_t49_loop v204 v211 k0_t2).trips), ∀ (k0_h25 : k0_cond25 v204 v211 k0_t2 = 1#1), ∀ (r : Fin 8), ∀ a, (k0_off52 v204 v211 k0_t2 k0_t49 (BitVec.ofNat 32 (16 * r.val))) a + S16.size a ≤ S51200.size a := fun v204 v211 k0_hw9 k0_t2 k0_t49 k0_h25 r => k0_hw9.2.2.2.2.2.1 k0_t2 k0_t49 k0_h25 r
theorem k0_t50_ok : ∀ (v204 : BitVec 32) (v211 : BitVec 32) (k0_hw9 : k0_chk9 v204 v211) (k0_t2 : Fin k0_t2_loop.trips), ∀ (k0_h25 : k0_cond25 v204 v211 k0_t2 = 1#1), (k0_t50_loop v204 v211 k0_t2).OK := fun v204 v211 k0_hw9 k0_t2 k0_h25 => k0_hw9.2.2.2.2.2.2.1 k0_t2 k0_h25
theorem k0_off53_inb : ∀ (v204 : BitVec 32) (v211 : BitVec 32) (k0_hw9 : k0_chk9 v204 v211) (k0_t2 : Fin k0_t2_loop.trips) (k0_t50 : Fin (k0_t50_loop v204 v211 k0_t2).trips), ∀ (k0_h25 : k0_cond25 v204 v211 k0_t2 = 1#1), ∀ (r : Fin 8), ∀ a, (k0_off53 v204 v211 k0_t2 k0_t50 (BitVec.ofNat 32 (16 * r.val))) a + S16.size a ≤ S51200.size a := fun v204 v211 k0_hw9 k0_t2 k0_t50 k0_h25 r => k0_hw9.2.2.2.2.2.2.2 k0_t2 k0_t50 k0_h25 r

@[reducible] def k0_t51_loop (v211 : BitVec 32) (v218 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v546 : BitVec 32 := Scalar.subi v211 v485
  let c0_i32_147 : BitVec 32 := 0#32
  let v547 : BitVec 32 := Scalar.maxsi v546 c0_i32_147
  let v548 : BitVec 32 := Scalar.subi v218 v485
  let c400_i32_148 : BitVec 32 := 400#32
  let v549 : BitVec 32 := Scalar.minsi v548 c400_i32_148
  let v614 : BitVec 32 := Scalar.subi v549 v547
  let c1_i32_182 : BitVec 32 := 1#32
  let v616 : BitVec 32 := Scalar.divsi v614 c1_i32_182
  let v617 : BitVec 32 := Scalar.muli v616 c1_i32_182
  let v618 : BitVec 32 := Scalar.addi v547 v617
  let c1_i32_183 : BitVec 32 := 1#32
  ⟨v547, v618, c1_i32_183⟩
def k0_cond26 (v211 : BitVec 32) (v218 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v548 : BitVec 32 := Scalar.subi v218 v485
  let c400_i32_148 : BitVec 32 := 400#32
  let v549 : BitVec 32 := Scalar.minsi v548 c400_i32_148
  let v546 : BitVec 32 := Scalar.subi v211 v485
  let c0_i32_147 : BitVec 32 := 0#32
  let v547 : BitVec 32 := Scalar.maxsi v546 c0_i32_147
  let v550 : BitVec 1 := Scalar.cmpi .sgt v549 v547
  let v551 : BitVec 32 := Scalar.extui v550
  let c0_i32_149 : BitVec 32 := 0#32
  let v552 : BitVec 1 := Scalar.cmpi .ne v551 c0_i32_149
  v552

def k0_off54 (v211 : BitVec 32) (v218 : BitVec 32) (k0_t2 : Fin k0_t2_loop.trips) (k0_t51 : Fin (k0_t51_loop v211 v218 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v546 : BitVec 32 := Scalar.subi v211 v485
  let c0_i32_147 : BitVec 32 := 0#32
  let v547 : BitVec 32 := Scalar.maxsi v546 c0_i32_147
  let c1_i32_183 : BitVec 32 := 1#32
  let arg15 : BitVec 32 := Scf.iv v547 c1_i32_183 k0_t51
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t52_loop (v211 : BitVec 32) (v218 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v546 : BitVec 32 := Scalar.subi v211 v485
  let c0_i32_147 : BitVec 32 := 0#32
  let v547 : BitVec 32 := Scalar.maxsi v546 c0_i32_147
  let v548 : BitVec 32 := Scalar.subi v218 v485
  let c400_i32_148 : BitVec 32 := 400#32
  let v549 : BitVec 32 := Scalar.minsi v548 c400_i32_148
  let v614 : BitVec 32 := Scalar.subi v549 v547
  let c1_i32_182 : BitVec 32 := 1#32
  let v616 : BitVec 32 := Scalar.divsi v614 c1_i32_182
  let v617 : BitVec 32 := Scalar.muli v616 c1_i32_182
  let v618 : BitVec 32 := Scalar.addi v547 v617
  let v615 : BitVec 32 := Scalar.addi v547 v614
  let c1_i32_184 : BitVec 32 := 1#32
  ⟨v618, v615, c1_i32_184⟩
def k0_off55 (v211 : BitVec 32) (v218 : BitVec 32) (k0_t2 : Fin k0_t2_loop.trips) (k0_t52 : Fin (k0_t52_loop v211 v218 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v546 : BitVec 32 := Scalar.subi v211 v485
  let c0_i32_147 : BitVec 32 := 0#32
  let v547 : BitVec 32 := Scalar.maxsi v546 c0_i32_147
  let v548 : BitVec 32 := Scalar.subi v218 v485
  let c400_i32_148 : BitVec 32 := 400#32
  let v549 : BitVec 32 := Scalar.minsi v548 c400_i32_148
  let v614 : BitVec 32 := Scalar.subi v549 v547
  let c1_i32_182 : BitVec 32 := 1#32
  let v616 : BitVec 32 := Scalar.divsi v614 c1_i32_182
  let v617 : BitVec 32 := Scalar.muli v616 c1_i32_182
  let v618 : BitVec 32 := Scalar.addi v547 v617
  let c1_i32_184 : BitVec 32 := 1#32
  let arg15 : BitVec 32 := Scf.iv v618 c1_i32_184 k0_t52
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk10 (v211 : BitVec 32) (v218 : BitVec 32) : Prop :=
  (∀ k0_t2 : Fin k0_t2_loop.trips, ∀ (k0_h9 : k0_cond9 v211 v218 k0_t2 = 1#1), (k0_t19_loop v211 v218 k0_t2).OK) ∧
  (∀ (k0_t2 : Fin k0_t2_loop.trips) (k0_t19 : Fin (k0_t19_loop v211 v218 k0_t2).trips), ∀ (k0_h9 : k0_cond9 v211 v218 k0_t2 = 1#1), ∀ (r : Fin 8), ∀ a, (k0_off20 v211 v218 k0_t2 k0_t19 (BitVec.ofNat 32 (16 * r.val))) a + S16.size a ≤ S51200.size a) ∧
  (∀ k0_t2 : Fin k0_t2_loop.trips, ∀ (k0_h9 : k0_cond9 v211 v218 k0_t2 = 1#1), (k0_t20_loop v211 v218 k0_t2).OK) ∧
  (∀ (k0_t2 : Fin k0_t2_loop.trips) (k0_t20 : Fin (k0_t20_loop v211 v218 k0_t2).trips), ∀ (k0_h9 : k0_cond9 v211 v218 k0_t2 = 1#1), ∀ (r : Fin 8), ∀ a, (k0_off21 v211 v218 k0_t2 k0_t20 (BitVec.ofNat 32 (16 * r.val))) a + S16.size a ≤ S51200.size a) ∧
  (∀ k0_t2 : Fin k0_t2_loop.trips, ∀ (k0_h26 : k0_cond26 v211 v218 k0_t2 = 1#1), (k0_t51_loop v211 v218 k0_t2).OK) ∧
  (∀ (k0_t2 : Fin k0_t2_loop.trips) (k0_t51 : Fin (k0_t51_loop v211 v218 k0_t2).trips), ∀ (k0_h26 : k0_cond26 v211 v218 k0_t2 = 1#1), ∀ (r : Fin 8), ∀ a, (k0_off54 v211 v218 k0_t2 k0_t51 (BitVec.ofNat 32 (16 * r.val))) a + S16.size a ≤ S51200.size a) ∧
  (∀ k0_t2 : Fin k0_t2_loop.trips, ∀ (k0_h26 : k0_cond26 v211 v218 k0_t2 = 1#1), (k0_t52_loop v211 v218 k0_t2).OK) ∧
  (∀ (k0_t2 : Fin k0_t2_loop.trips) (k0_t52 : Fin (k0_t52_loop v211 v218 k0_t2).trips), ∀ (k0_h26 : k0_cond26 v211 v218 k0_t2 = 1#1), ∀ (r : Fin 8), ∀ a, (k0_off55 v211 v218 k0_t2 k0_t52 (BitVec.ofNat 32 (16 * r.val))) a + S16.size a ≤ S51200.size a)
theorem k0_t19_ok : ∀ (v211 : BitVec 32) (v218 : BitVec 32) (k0_hw10 : k0_chk10 v211 v218) (k0_t2 : Fin k0_t2_loop.trips), ∀ (k0_h9 : k0_cond9 v211 v218 k0_t2 = 1#1), (k0_t19_loop v211 v218 k0_t2).OK := fun v211 v218 k0_hw10 k0_t2 k0_h9 => k0_hw10.1 k0_t2 k0_h9
theorem k0_off20_inb : ∀ (v211 : BitVec 32) (v218 : BitVec 32) (k0_hw10 : k0_chk10 v211 v218) (k0_t2 : Fin k0_t2_loop.trips) (k0_t19 : Fin (k0_t19_loop v211 v218 k0_t2).trips), ∀ (k0_h9 : k0_cond9 v211 v218 k0_t2 = 1#1), ∀ (r : Fin 8), ∀ a, (k0_off20 v211 v218 k0_t2 k0_t19 (BitVec.ofNat 32 (16 * r.val))) a + S16.size a ≤ S51200.size a := fun v211 v218 k0_hw10 k0_t2 k0_t19 k0_h9 r => k0_hw10.2.1 k0_t2 k0_t19 k0_h9 r
theorem k0_t20_ok : ∀ (v211 : BitVec 32) (v218 : BitVec 32) (k0_hw10 : k0_chk10 v211 v218) (k0_t2 : Fin k0_t2_loop.trips), ∀ (k0_h9 : k0_cond9 v211 v218 k0_t2 = 1#1), (k0_t20_loop v211 v218 k0_t2).OK := fun v211 v218 k0_hw10 k0_t2 k0_h9 => k0_hw10.2.2.1 k0_t2 k0_h9
theorem k0_off21_inb : ∀ (v211 : BitVec 32) (v218 : BitVec 32) (k0_hw10 : k0_chk10 v211 v218) (k0_t2 : Fin k0_t2_loop.trips) (k0_t20 : Fin (k0_t20_loop v211 v218 k0_t2).trips), ∀ (k0_h9 : k0_cond9 v211 v218 k0_t2 = 1#1), ∀ (r : Fin 8), ∀ a, (k0_off21 v211 v218 k0_t2 k0_t20 (BitVec.ofNat 32 (16 * r.val))) a + S16.size a ≤ S51200.size a := fun v211 v218 k0_hw10 k0_t2 k0_t20 k0_h9 r => k0_hw10.2.2.2.1 k0_t2 k0_t20 k0_h9 r
theorem k0_t51_ok : ∀ (v211 : BitVec 32) (v218 : BitVec 32) (k0_hw10 : k0_chk10 v211 v218) (k0_t2 : Fin k0_t2_loop.trips), ∀ (k0_h26 : k0_cond26 v211 v218 k0_t2 = 1#1), (k0_t51_loop v211 v218 k0_t2).OK := fun v211 v218 k0_hw10 k0_t2 k0_h26 => k0_hw10.2.2.2.2.1 k0_t2 k0_h26
theorem k0_off54_inb : ∀ (v211 : BitVec 32) (v218 : BitVec 32) (k0_hw10 : k0_chk10 v211 v218) (k0_t2 : Fin k0_t2_loop.trips) (k0_t51 : Fin (k0_t51_loop v211 v218 k0_t2).trips), ∀ (k0_h26 : k0_cond26 v211 v218 k0_t2 = 1#1), ∀ (r : Fin 8), ∀ a, (k0_off54 v211 v218 k0_t2 k0_t51 (BitVec.ofNat 32 (16 * r.val))) a + S16.size a ≤ S51200.size a := fun v211 v218 k0_hw10 k0_t2 k0_t51 k0_h26 r => k0_hw10.2.2.2.2.2.1 k0_t2 k0_t51 k0_h26 r
theorem k0_t52_ok : ∀ (v211 : BitVec 32) (v218 : BitVec 32) (k0_hw10 : k0_chk10 v211 v218) (k0_t2 : Fin k0_t2_loop.trips), ∀ (k0_h26 : k0_cond26 v211 v218 k0_t2 = 1#1), (k0_t52_loop v211 v218 k0_t2).OK := fun v211 v218 k0_hw10 k0_t2 k0_h26 => k0_hw10.2.2.2.2.2.2.1 k0_t2 k0_h26
theorem k0_off55_inb : ∀ (v211 : BitVec 32) (v218 : BitVec 32) (k0_hw10 : k0_chk10 v211 v218) (k0_t2 : Fin k0_t2_loop.trips) (k0_t52 : Fin (k0_t52_loop v211 v218 k0_t2).trips), ∀ (k0_h26 : k0_cond26 v211 v218 k0_t2 = 1#1), ∀ (r : Fin 8), ∀ a, (k0_off55 v211 v218 k0_t2 k0_t52 (BitVec.ofNat 32 (16 * r.val))) a + S16.size a ≤ S51200.size a := fun v211 v218 k0_hw10 k0_t2 k0_t52 k0_h26 r => k0_hw10.2.2.2.2.2.2.2 k0_t2 k0_t52 k0_h26 r

@[reducible] def k0_t53_loop (v218 : BitVec 32) (v225 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v553 : BitVec 32 := Scalar.subi v218 v485
  let c0_i32_150 : BitVec 32 := 0#32
  let v554 : BitVec 32 := Scalar.maxsi v553 c0_i32_150
  let v555 : BitVec 32 := Scalar.subi v225 v485
  let c400_i32_151 : BitVec 32 := 400#32
  let v556 : BitVec 32 := Scalar.minsi v555 c400_i32_151
  let v614 : BitVec 32 := Scalar.subi v556 v554
  let c1_i32_182 : BitVec 32 := 1#32
  let v616 : BitVec 32 := Scalar.divsi v614 c1_i32_182
  let v617 : BitVec 32 := Scalar.muli v616 c1_i32_182
  let v618 : BitVec 32 := Scalar.addi v554 v617
  let c1_i32_183 : BitVec 32 := 1#32
  ⟨v554, v618, c1_i32_183⟩
def k0_cond27 (v218 : BitVec 32) (v225 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v555 : BitVec 32 := Scalar.subi v225 v485
  let c400_i32_151 : BitVec 32 := 400#32
  let v556 : BitVec 32 := Scalar.minsi v555 c400_i32_151
  let v553 : BitVec 32 := Scalar.subi v218 v485
  let c0_i32_150 : BitVec 32 := 0#32
  let v554 : BitVec 32 := Scalar.maxsi v553 c0_i32_150
  let v557 : BitVec 1 := Scalar.cmpi .sgt v556 v554
  let v558 : BitVec 32 := Scalar.extui v557
  let c0_i32_152 : BitVec 32 := 0#32
  let v559 : BitVec 1 := Scalar.cmpi .ne v558 c0_i32_152
  v559

def k0_off56 (v218 : BitVec 32) (v225 : BitVec 32) (k0_t2 : Fin k0_t2_loop.trips) (k0_t53 : Fin (k0_t53_loop v218 v225 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v553 : BitVec 32 := Scalar.subi v218 v485
  let c0_i32_150 : BitVec 32 := 0#32
  let v554 : BitVec 32 := Scalar.maxsi v553 c0_i32_150
  let c1_i32_183 : BitVec 32 := 1#32
  let arg15 : BitVec 32 := Scf.iv v554 c1_i32_183 k0_t53
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t54_loop (v218 : BitVec 32) (v225 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v553 : BitVec 32 := Scalar.subi v218 v485
  let c0_i32_150 : BitVec 32 := 0#32
  let v554 : BitVec 32 := Scalar.maxsi v553 c0_i32_150
  let v555 : BitVec 32 := Scalar.subi v225 v485
  let c400_i32_151 : BitVec 32 := 400#32
  let v556 : BitVec 32 := Scalar.minsi v555 c400_i32_151
  let v614 : BitVec 32 := Scalar.subi v556 v554
  let c1_i32_182 : BitVec 32 := 1#32
  let v616 : BitVec 32 := Scalar.divsi v614 c1_i32_182
  let v617 : BitVec 32 := Scalar.muli v616 c1_i32_182
  let v618 : BitVec 32 := Scalar.addi v554 v617
  let v615 : BitVec 32 := Scalar.addi v554 v614
  let c1_i32_184 : BitVec 32 := 1#32
  ⟨v618, v615, c1_i32_184⟩
def k0_off57 (v218 : BitVec 32) (v225 : BitVec 32) (k0_t2 : Fin k0_t2_loop.trips) (k0_t54 : Fin (k0_t54_loop v218 v225 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v553 : BitVec 32 := Scalar.subi v218 v485
  let c0_i32_150 : BitVec 32 := 0#32
  let v554 : BitVec 32 := Scalar.maxsi v553 c0_i32_150
  let v555 : BitVec 32 := Scalar.subi v225 v485
  let c400_i32_151 : BitVec 32 := 400#32
  let v556 : BitVec 32 := Scalar.minsi v555 c400_i32_151
  let v614 : BitVec 32 := Scalar.subi v556 v554
  let c1_i32_182 : BitVec 32 := 1#32
  let v616 : BitVec 32 := Scalar.divsi v614 c1_i32_182
  let v617 : BitVec 32 := Scalar.muli v616 c1_i32_182
  let v618 : BitVec 32 := Scalar.addi v554 v617
  let c1_i32_184 : BitVec 32 := 1#32
  let arg15 : BitVec 32 := Scf.iv v618 c1_i32_184 k0_t54
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk11 (v218 : BitVec 32) (v225 : BitVec 32) : Prop :=
  (∀ k0_t2 : Fin k0_t2_loop.trips, ∀ (k0_h10 : k0_cond10 v218 v225 k0_t2 = 1#1), (k0_t21_loop v218 v225 k0_t2).OK) ∧
  (∀ (k0_t2 : Fin k0_t2_loop.trips) (k0_t21 : Fin (k0_t21_loop v218 v225 k0_t2).trips), ∀ (k0_h10 : k0_cond10 v218 v225 k0_t2 = 1#1), ∀ (r : Fin 8), ∀ a, (k0_off22 v218 v225 k0_t2 k0_t21 (BitVec.ofNat 32 (16 * r.val))) a + S16.size a ≤ S51200.size a) ∧
  (∀ k0_t2 : Fin k0_t2_loop.trips, ∀ (k0_h10 : k0_cond10 v218 v225 k0_t2 = 1#1), (k0_t22_loop v218 v225 k0_t2).OK) ∧
  (∀ (k0_t2 : Fin k0_t2_loop.trips) (k0_t22 : Fin (k0_t22_loop v218 v225 k0_t2).trips), ∀ (k0_h10 : k0_cond10 v218 v225 k0_t2 = 1#1), ∀ (r : Fin 8), ∀ a, (k0_off23 v218 v225 k0_t2 k0_t22 (BitVec.ofNat 32 (16 * r.val))) a + S16.size a ≤ S51200.size a) ∧
  (∀ k0_t2 : Fin k0_t2_loop.trips, ∀ (k0_h27 : k0_cond27 v218 v225 k0_t2 = 1#1), (k0_t53_loop v218 v225 k0_t2).OK) ∧
  (∀ (k0_t2 : Fin k0_t2_loop.trips) (k0_t53 : Fin (k0_t53_loop v218 v225 k0_t2).trips), ∀ (k0_h27 : k0_cond27 v218 v225 k0_t2 = 1#1), ∀ (r : Fin 8), ∀ a, (k0_off56 v218 v225 k0_t2 k0_t53 (BitVec.ofNat 32 (16 * r.val))) a + S16.size a ≤ S51200.size a) ∧
  (∀ k0_t2 : Fin k0_t2_loop.trips, ∀ (k0_h27 : k0_cond27 v218 v225 k0_t2 = 1#1), (k0_t54_loop v218 v225 k0_t2).OK) ∧
  (∀ (k0_t2 : Fin k0_t2_loop.trips) (k0_t54 : Fin (k0_t54_loop v218 v225 k0_t2).trips), ∀ (k0_h27 : k0_cond27 v218 v225 k0_t2 = 1#1), ∀ (r : Fin 8), ∀ a, (k0_off57 v218 v225 k0_t2 k0_t54 (BitVec.ofNat 32 (16 * r.val))) a + S16.size a ≤ S51200.size a)
theorem k0_t21_ok : ∀ (v218 : BitVec 32) (v225 : BitVec 32) (k0_hw11 : k0_chk11 v218 v225) (k0_t2 : Fin k0_t2_loop.trips), ∀ (k0_h10 : k0_cond10 v218 v225 k0_t2 = 1#1), (k0_t21_loop v218 v225 k0_t2).OK := fun v218 v225 k0_hw11 k0_t2 k0_h10 => k0_hw11.1 k0_t2 k0_h10
theorem k0_off22_inb : ∀ (v218 : BitVec 32) (v225 : BitVec 32) (k0_hw11 : k0_chk11 v218 v225) (k0_t2 : Fin k0_t2_loop.trips) (k0_t21 : Fin (k0_t21_loop v218 v225 k0_t2).trips), ∀ (k0_h10 : k0_cond10 v218 v225 k0_t2 = 1#1), ∀ (r : Fin 8), ∀ a, (k0_off22 v218 v225 k0_t2 k0_t21 (BitVec.ofNat 32 (16 * r.val))) a + S16.size a ≤ S51200.size a := fun v218 v225 k0_hw11 k0_t2 k0_t21 k0_h10 r => k0_hw11.2.1 k0_t2 k0_t21 k0_h10 r
theorem k0_t22_ok : ∀ (v218 : BitVec 32) (v225 : BitVec 32) (k0_hw11 : k0_chk11 v218 v225) (k0_t2 : Fin k0_t2_loop.trips), ∀ (k0_h10 : k0_cond10 v218 v225 k0_t2 = 1#1), (k0_t22_loop v218 v225 k0_t2).OK := fun v218 v225 k0_hw11 k0_t2 k0_h10 => k0_hw11.2.2.1 k0_t2 k0_h10
theorem k0_off23_inb : ∀ (v218 : BitVec 32) (v225 : BitVec 32) (k0_hw11 : k0_chk11 v218 v225) (k0_t2 : Fin k0_t2_loop.trips) (k0_t22 : Fin (k0_t22_loop v218 v225 k0_t2).trips), ∀ (k0_h10 : k0_cond10 v218 v225 k0_t2 = 1#1), ∀ (r : Fin 8), ∀ a, (k0_off23 v218 v225 k0_t2 k0_t22 (BitVec.ofNat 32 (16 * r.val))) a + S16.size a ≤ S51200.size a := fun v218 v225 k0_hw11 k0_t2 k0_t22 k0_h10 r => k0_hw11.2.2.2.1 k0_t2 k0_t22 k0_h10 r
theorem k0_t53_ok : ∀ (v218 : BitVec 32) (v225 : BitVec 32) (k0_hw11 : k0_chk11 v218 v225) (k0_t2 : Fin k0_t2_loop.trips), ∀ (k0_h27 : k0_cond27 v218 v225 k0_t2 = 1#1), (k0_t53_loop v218 v225 k0_t2).OK := fun v218 v225 k0_hw11 k0_t2 k0_h27 => k0_hw11.2.2.2.2.1 k0_t2 k0_h27
theorem k0_off56_inb : ∀ (v218 : BitVec 32) (v225 : BitVec 32) (k0_hw11 : k0_chk11 v218 v225) (k0_t2 : Fin k0_t2_loop.trips) (k0_t53 : Fin (k0_t53_loop v218 v225 k0_t2).trips), ∀ (k0_h27 : k0_cond27 v218 v225 k0_t2 = 1#1), ∀ (r : Fin 8), ∀ a, (k0_off56 v218 v225 k0_t2 k0_t53 (BitVec.ofNat 32 (16 * r.val))) a + S16.size a ≤ S51200.size a := fun v218 v225 k0_hw11 k0_t2 k0_t53 k0_h27 r => k0_hw11.2.2.2.2.2.1 k0_t2 k0_t53 k0_h27 r
theorem k0_t54_ok : ∀ (v218 : BitVec 32) (v225 : BitVec 32) (k0_hw11 : k0_chk11 v218 v225) (k0_t2 : Fin k0_t2_loop.trips), ∀ (k0_h27 : k0_cond27 v218 v225 k0_t2 = 1#1), (k0_t54_loop v218 v225 k0_t2).OK := fun v218 v225 k0_hw11 k0_t2 k0_h27 => k0_hw11.2.2.2.2.2.2.1 k0_t2 k0_h27
theorem k0_off57_inb : ∀ (v218 : BitVec 32) (v225 : BitVec 32) (k0_hw11 : k0_chk11 v218 v225) (k0_t2 : Fin k0_t2_loop.trips) (k0_t54 : Fin (k0_t54_loop v218 v225 k0_t2).trips), ∀ (k0_h27 : k0_cond27 v218 v225 k0_t2 = 1#1), ∀ (r : Fin 8), ∀ a, (k0_off57 v218 v225 k0_t2 k0_t54 (BitVec.ofNat 32 (16 * r.val))) a + S16.size a ≤ S51200.size a := fun v218 v225 k0_hw11 k0_t2 k0_t54 k0_h27 r => k0_hw11.2.2.2.2.2.2.2 k0_t2 k0_t54 k0_h27 r

@[reducible] def k0_t55_loop (v225 : BitVec 32) (v232 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v560 : BitVec 32 := Scalar.subi v225 v485
  let c0_i32_153 : BitVec 32 := 0#32
  let v561 : BitVec 32 := Scalar.maxsi v560 c0_i32_153
  let v562 : BitVec 32 := Scalar.subi v232 v485
  let c400_i32_154 : BitVec 32 := 400#32
  let v563 : BitVec 32 := Scalar.minsi v562 c400_i32_154
  let v614 : BitVec 32 := Scalar.subi v563 v561
  let c1_i32_182 : BitVec 32 := 1#32
  let v616 : BitVec 32 := Scalar.divsi v614 c1_i32_182
  let v617 : BitVec 32 := Scalar.muli v616 c1_i32_182
  let v618 : BitVec 32 := Scalar.addi v561 v617
  let c1_i32_183 : BitVec 32 := 1#32
  ⟨v561, v618, c1_i32_183⟩
def k0_cond28 (v225 : BitVec 32) (v232 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v562 : BitVec 32 := Scalar.subi v232 v485
  let c400_i32_154 : BitVec 32 := 400#32
  let v563 : BitVec 32 := Scalar.minsi v562 c400_i32_154
  let v560 : BitVec 32 := Scalar.subi v225 v485
  let c0_i32_153 : BitVec 32 := 0#32
  let v561 : BitVec 32 := Scalar.maxsi v560 c0_i32_153
  let v564 : BitVec 1 := Scalar.cmpi .sgt v563 v561
  let v565 : BitVec 32 := Scalar.extui v564
  let c0_i32_155 : BitVec 32 := 0#32
  let v566 : BitVec 1 := Scalar.cmpi .ne v565 c0_i32_155
  v566

def k0_off58 (v225 : BitVec 32) (v232 : BitVec 32) (k0_t2 : Fin k0_t2_loop.trips) (k0_t55 : Fin (k0_t55_loop v225 v232 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v560 : BitVec 32 := Scalar.subi v225 v485
  let c0_i32_153 : BitVec 32 := 0#32
  let v561 : BitVec 32 := Scalar.maxsi v560 c0_i32_153
  let c1_i32_183 : BitVec 32 := 1#32
  let arg15 : BitVec 32 := Scf.iv v561 c1_i32_183 k0_t55
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t56_loop (v225 : BitVec 32) (v232 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v560 : BitVec 32 := Scalar.subi v225 v485
  let c0_i32_153 : BitVec 32 := 0#32
  let v561 : BitVec 32 := Scalar.maxsi v560 c0_i32_153
  let v562 : BitVec 32 := Scalar.subi v232 v485
  let c400_i32_154 : BitVec 32 := 400#32
  let v563 : BitVec 32 := Scalar.minsi v562 c400_i32_154
  let v614 : BitVec 32 := Scalar.subi v563 v561
  let c1_i32_182 : BitVec 32 := 1#32
  let v616 : BitVec 32 := Scalar.divsi v614 c1_i32_182
  let v617 : BitVec 32 := Scalar.muli v616 c1_i32_182
  let v618 : BitVec 32 := Scalar.addi v561 v617
  let v615 : BitVec 32 := Scalar.addi v561 v614
  let c1_i32_184 : BitVec 32 := 1#32
  ⟨v618, v615, c1_i32_184⟩
def k0_off59 (v225 : BitVec 32) (v232 : BitVec 32) (k0_t2 : Fin k0_t2_loop.trips) (k0_t56 : Fin (k0_t56_loop v225 v232 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v560 : BitVec 32 := Scalar.subi v225 v485
  let c0_i32_153 : BitVec 32 := 0#32
  let v561 : BitVec 32 := Scalar.maxsi v560 c0_i32_153
  let v562 : BitVec 32 := Scalar.subi v232 v485
  let c400_i32_154 : BitVec 32 := 400#32
  let v563 : BitVec 32 := Scalar.minsi v562 c400_i32_154
  let v614 : BitVec 32 := Scalar.subi v563 v561
  let c1_i32_182 : BitVec 32 := 1#32
  let v616 : BitVec 32 := Scalar.divsi v614 c1_i32_182
  let v617 : BitVec 32 := Scalar.muli v616 c1_i32_182
  let v618 : BitVec 32 := Scalar.addi v561 v617
  let c1_i32_184 : BitVec 32 := 1#32
  let arg15 : BitVec 32 := Scf.iv v618 c1_i32_184 k0_t56
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk12 (v225 : BitVec 32) (v232 : BitVec 32) : Prop :=
  (∀ k0_t2 : Fin k0_t2_loop.trips, ∀ (k0_h11 : k0_cond11 v225 v232 k0_t2 = 1#1), (k0_t23_loop v225 v232 k0_t2).OK) ∧
  (∀ (k0_t2 : Fin k0_t2_loop.trips) (k0_t23 : Fin (k0_t23_loop v225 v232 k0_t2).trips), ∀ (k0_h11 : k0_cond11 v225 v232 k0_t2 = 1#1), ∀ (r : Fin 8), ∀ a, (k0_off24 v225 v232 k0_t2 k0_t23 (BitVec.ofNat 32 (16 * r.val))) a + S16.size a ≤ S51200.size a) ∧
  (∀ k0_t2 : Fin k0_t2_loop.trips, ∀ (k0_h11 : k0_cond11 v225 v232 k0_t2 = 1#1), (k0_t24_loop v225 v232 k0_t2).OK) ∧
  (∀ (k0_t2 : Fin k0_t2_loop.trips) (k0_t24 : Fin (k0_t24_loop v225 v232 k0_t2).trips), ∀ (k0_h11 : k0_cond11 v225 v232 k0_t2 = 1#1), ∀ (r : Fin 8), ∀ a, (k0_off25 v225 v232 k0_t2 k0_t24 (BitVec.ofNat 32 (16 * r.val))) a + S16.size a ≤ S51200.size a) ∧
  (∀ k0_t2 : Fin k0_t2_loop.trips, ∀ (k0_h28 : k0_cond28 v225 v232 k0_t2 = 1#1), (k0_t55_loop v225 v232 k0_t2).OK) ∧
  (∀ (k0_t2 : Fin k0_t2_loop.trips) (k0_t55 : Fin (k0_t55_loop v225 v232 k0_t2).trips), ∀ (k0_h28 : k0_cond28 v225 v232 k0_t2 = 1#1), ∀ (r : Fin 8), ∀ a, (k0_off58 v225 v232 k0_t2 k0_t55 (BitVec.ofNat 32 (16 * r.val))) a + S16.size a ≤ S51200.size a) ∧
  (∀ k0_t2 : Fin k0_t2_loop.trips, ∀ (k0_h28 : k0_cond28 v225 v232 k0_t2 = 1#1), (k0_t56_loop v225 v232 k0_t2).OK) ∧
  (∀ (k0_t2 : Fin k0_t2_loop.trips) (k0_t56 : Fin (k0_t56_loop v225 v232 k0_t2).trips), ∀ (k0_h28 : k0_cond28 v225 v232 k0_t2 = 1#1), ∀ (r : Fin 8), ∀ a, (k0_off59 v225 v232 k0_t2 k0_t56 (BitVec.ofNat 32 (16 * r.val))) a + S16.size a ≤ S51200.size a)
theorem k0_t23_ok : ∀ (v225 : BitVec 32) (v232 : BitVec 32) (k0_hw12 : k0_chk12 v225 v232) (k0_t2 : Fin k0_t2_loop.trips), ∀ (k0_h11 : k0_cond11 v225 v232 k0_t2 = 1#1), (k0_t23_loop v225 v232 k0_t2).OK := fun v225 v232 k0_hw12 k0_t2 k0_h11 => k0_hw12.1 k0_t2 k0_h11
theorem k0_off24_inb : ∀ (v225 : BitVec 32) (v232 : BitVec 32) (k0_hw12 : k0_chk12 v225 v232) (k0_t2 : Fin k0_t2_loop.trips) (k0_t23 : Fin (k0_t23_loop v225 v232 k0_t2).trips), ∀ (k0_h11 : k0_cond11 v225 v232 k0_t2 = 1#1), ∀ (r : Fin 8), ∀ a, (k0_off24 v225 v232 k0_t2 k0_t23 (BitVec.ofNat 32 (16 * r.val))) a + S16.size a ≤ S51200.size a := fun v225 v232 k0_hw12 k0_t2 k0_t23 k0_h11 r => k0_hw12.2.1 k0_t2 k0_t23 k0_h11 r
theorem k0_t24_ok : ∀ (v225 : BitVec 32) (v232 : BitVec 32) (k0_hw12 : k0_chk12 v225 v232) (k0_t2 : Fin k0_t2_loop.trips), ∀ (k0_h11 : k0_cond11 v225 v232 k0_t2 = 1#1), (k0_t24_loop v225 v232 k0_t2).OK := fun v225 v232 k0_hw12 k0_t2 k0_h11 => k0_hw12.2.2.1 k0_t2 k0_h11
theorem k0_off25_inb : ∀ (v225 : BitVec 32) (v232 : BitVec 32) (k0_hw12 : k0_chk12 v225 v232) (k0_t2 : Fin k0_t2_loop.trips) (k0_t24 : Fin (k0_t24_loop v225 v232 k0_t2).trips), ∀ (k0_h11 : k0_cond11 v225 v232 k0_t2 = 1#1), ∀ (r : Fin 8), ∀ a, (k0_off25 v225 v232 k0_t2 k0_t24 (BitVec.ofNat 32 (16 * r.val))) a + S16.size a ≤ S51200.size a := fun v225 v232 k0_hw12 k0_t2 k0_t24 k0_h11 r => k0_hw12.2.2.2.1 k0_t2 k0_t24 k0_h11 r
theorem k0_t55_ok : ∀ (v225 : BitVec 32) (v232 : BitVec 32) (k0_hw12 : k0_chk12 v225 v232) (k0_t2 : Fin k0_t2_loop.trips), ∀ (k0_h28 : k0_cond28 v225 v232 k0_t2 = 1#1), (k0_t55_loop v225 v232 k0_t2).OK := fun v225 v232 k0_hw12 k0_t2 k0_h28 => k0_hw12.2.2.2.2.1 k0_t2 k0_h28
theorem k0_off58_inb : ∀ (v225 : BitVec 32) (v232 : BitVec 32) (k0_hw12 : k0_chk12 v225 v232) (k0_t2 : Fin k0_t2_loop.trips) (k0_t55 : Fin (k0_t55_loop v225 v232 k0_t2).trips), ∀ (k0_h28 : k0_cond28 v225 v232 k0_t2 = 1#1), ∀ (r : Fin 8), ∀ a, (k0_off58 v225 v232 k0_t2 k0_t55 (BitVec.ofNat 32 (16 * r.val))) a + S16.size a ≤ S51200.size a := fun v225 v232 k0_hw12 k0_t2 k0_t55 k0_h28 r => k0_hw12.2.2.2.2.2.1 k0_t2 k0_t55 k0_h28 r
theorem k0_t56_ok : ∀ (v225 : BitVec 32) (v232 : BitVec 32) (k0_hw12 : k0_chk12 v225 v232) (k0_t2 : Fin k0_t2_loop.trips), ∀ (k0_h28 : k0_cond28 v225 v232 k0_t2 = 1#1), (k0_t56_loop v225 v232 k0_t2).OK := fun v225 v232 k0_hw12 k0_t2 k0_h28 => k0_hw12.2.2.2.2.2.2.1 k0_t2 k0_h28
theorem k0_off59_inb : ∀ (v225 : BitVec 32) (v232 : BitVec 32) (k0_hw12 : k0_chk12 v225 v232) (k0_t2 : Fin k0_t2_loop.trips) (k0_t56 : Fin (k0_t56_loop v225 v232 k0_t2).trips), ∀ (k0_h28 : k0_cond28 v225 v232 k0_t2 = 1#1), ∀ (r : Fin 8), ∀ a, (k0_off59 v225 v232 k0_t2 k0_t56 (BitVec.ofNat 32 (16 * r.val))) a + S16.size a ≤ S51200.size a := fun v225 v232 k0_hw12 k0_t2 k0_t56 k0_h28 r => k0_hw12.2.2.2.2.2.2.2 k0_t2 k0_t56 k0_h28 r

@[reducible] def k0_t57_loop (v232 : BitVec 32) (v239 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v567 : BitVec 32 := Scalar.subi v232 v485
  let c0_i32_156 : BitVec 32 := 0#32
  let v568 : BitVec 32 := Scalar.maxsi v567 c0_i32_156
  let v569 : BitVec 32 := Scalar.subi v239 v485
  let c400_i32_157 : BitVec 32 := 400#32
  let v570 : BitVec 32 := Scalar.minsi v569 c400_i32_157
  let v614 : BitVec 32 := Scalar.subi v570 v568
  let c1_i32_182 : BitVec 32 := 1#32
  let v616 : BitVec 32 := Scalar.divsi v614 c1_i32_182
  let v617 : BitVec 32 := Scalar.muli v616 c1_i32_182
  let v618 : BitVec 32 := Scalar.addi v568 v617
  let c1_i32_183 : BitVec 32 := 1#32
  ⟨v568, v618, c1_i32_183⟩
def k0_cond29 (v232 : BitVec 32) (v239 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v569 : BitVec 32 := Scalar.subi v239 v485
  let c400_i32_157 : BitVec 32 := 400#32
  let v570 : BitVec 32 := Scalar.minsi v569 c400_i32_157
  let v567 : BitVec 32 := Scalar.subi v232 v485
  let c0_i32_156 : BitVec 32 := 0#32
  let v568 : BitVec 32 := Scalar.maxsi v567 c0_i32_156
  let v571 : BitVec 1 := Scalar.cmpi .sgt v570 v568
  let v572 : BitVec 32 := Scalar.extui v571
  let c0_i32_158 : BitVec 32 := 0#32
  let v573 : BitVec 1 := Scalar.cmpi .ne v572 c0_i32_158
  v573

def k0_off60 (v232 : BitVec 32) (v239 : BitVec 32) (k0_t2 : Fin k0_t2_loop.trips) (k0_t57 : Fin (k0_t57_loop v232 v239 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v567 : BitVec 32 := Scalar.subi v232 v485
  let c0_i32_156 : BitVec 32 := 0#32
  let v568 : BitVec 32 := Scalar.maxsi v567 c0_i32_156
  let c1_i32_183 : BitVec 32 := 1#32
  let arg15 : BitVec 32 := Scf.iv v568 c1_i32_183 k0_t57
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t58_loop (v232 : BitVec 32) (v239 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v567 : BitVec 32 := Scalar.subi v232 v485
  let c0_i32_156 : BitVec 32 := 0#32
  let v568 : BitVec 32 := Scalar.maxsi v567 c0_i32_156
  let v569 : BitVec 32 := Scalar.subi v239 v485
  let c400_i32_157 : BitVec 32 := 400#32
  let v570 : BitVec 32 := Scalar.minsi v569 c400_i32_157
  let v614 : BitVec 32 := Scalar.subi v570 v568
  let c1_i32_182 : BitVec 32 := 1#32
  let v616 : BitVec 32 := Scalar.divsi v614 c1_i32_182
  let v617 : BitVec 32 := Scalar.muli v616 c1_i32_182
  let v618 : BitVec 32 := Scalar.addi v568 v617
  let v615 : BitVec 32 := Scalar.addi v568 v614
  let c1_i32_184 : BitVec 32 := 1#32
  ⟨v618, v615, c1_i32_184⟩
def k0_off61 (v232 : BitVec 32) (v239 : BitVec 32) (k0_t2 : Fin k0_t2_loop.trips) (k0_t58 : Fin (k0_t58_loop v232 v239 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v567 : BitVec 32 := Scalar.subi v232 v485
  let c0_i32_156 : BitVec 32 := 0#32
  let v568 : BitVec 32 := Scalar.maxsi v567 c0_i32_156
  let v569 : BitVec 32 := Scalar.subi v239 v485
  let c400_i32_157 : BitVec 32 := 400#32
  let v570 : BitVec 32 := Scalar.minsi v569 c400_i32_157
  let v614 : BitVec 32 := Scalar.subi v570 v568
  let c1_i32_182 : BitVec 32 := 1#32
  let v616 : BitVec 32 := Scalar.divsi v614 c1_i32_182
  let v617 : BitVec 32 := Scalar.muli v616 c1_i32_182
  let v618 : BitVec 32 := Scalar.addi v568 v617
  let c1_i32_184 : BitVec 32 := 1#32
  let arg15 : BitVec 32 := Scf.iv v618 c1_i32_184 k0_t58
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk13 (v232 : BitVec 32) (v239 : BitVec 32) : Prop :=
  (∀ k0_t2 : Fin k0_t2_loop.trips, ∀ (k0_h12 : k0_cond12 v232 v239 k0_t2 = 1#1), (k0_t25_loop v232 v239 k0_t2).OK) ∧
  (∀ (k0_t2 : Fin k0_t2_loop.trips) (k0_t25 : Fin (k0_t25_loop v232 v239 k0_t2).trips), ∀ (k0_h12 : k0_cond12 v232 v239 k0_t2 = 1#1), ∀ (r : Fin 8), ∀ a, (k0_off26 v232 v239 k0_t2 k0_t25 (BitVec.ofNat 32 (16 * r.val))) a + S16.size a ≤ S51200.size a) ∧
  (∀ k0_t2 : Fin k0_t2_loop.trips, ∀ (k0_h12 : k0_cond12 v232 v239 k0_t2 = 1#1), (k0_t26_loop v232 v239 k0_t2).OK) ∧
  (∀ (k0_t2 : Fin k0_t2_loop.trips) (k0_t26 : Fin (k0_t26_loop v232 v239 k0_t2).trips), ∀ (k0_h12 : k0_cond12 v232 v239 k0_t2 = 1#1), ∀ (r : Fin 8), ∀ a, (k0_off27 v232 v239 k0_t2 k0_t26 (BitVec.ofNat 32 (16 * r.val))) a + S16.size a ≤ S51200.size a) ∧
  (∀ k0_t2 : Fin k0_t2_loop.trips, ∀ (k0_h29 : k0_cond29 v232 v239 k0_t2 = 1#1), (k0_t57_loop v232 v239 k0_t2).OK) ∧
  (∀ (k0_t2 : Fin k0_t2_loop.trips) (k0_t57 : Fin (k0_t57_loop v232 v239 k0_t2).trips), ∀ (k0_h29 : k0_cond29 v232 v239 k0_t2 = 1#1), ∀ (r : Fin 8), ∀ a, (k0_off60 v232 v239 k0_t2 k0_t57 (BitVec.ofNat 32 (16 * r.val))) a + S16.size a ≤ S51200.size a) ∧
  (∀ k0_t2 : Fin k0_t2_loop.trips, ∀ (k0_h29 : k0_cond29 v232 v239 k0_t2 = 1#1), (k0_t58_loop v232 v239 k0_t2).OK) ∧
  (∀ (k0_t2 : Fin k0_t2_loop.trips) (k0_t58 : Fin (k0_t58_loop v232 v239 k0_t2).trips), ∀ (k0_h29 : k0_cond29 v232 v239 k0_t2 = 1#1), ∀ (r : Fin 8), ∀ a, (k0_off61 v232 v239 k0_t2 k0_t58 (BitVec.ofNat 32 (16 * r.val))) a + S16.size a ≤ S51200.size a)
theorem k0_t25_ok : ∀ (v232 : BitVec 32) (v239 : BitVec 32) (k0_hw13 : k0_chk13 v232 v239) (k0_t2 : Fin k0_t2_loop.trips), ∀ (k0_h12 : k0_cond12 v232 v239 k0_t2 = 1#1), (k0_t25_loop v232 v239 k0_t2).OK := fun v232 v239 k0_hw13 k0_t2 k0_h12 => k0_hw13.1 k0_t2 k0_h12
theorem k0_off26_inb : ∀ (v232 : BitVec 32) (v239 : BitVec 32) (k0_hw13 : k0_chk13 v232 v239) (k0_t2 : Fin k0_t2_loop.trips) (k0_t25 : Fin (k0_t25_loop v232 v239 k0_t2).trips), ∀ (k0_h12 : k0_cond12 v232 v239 k0_t2 = 1#1), ∀ (r : Fin 8), ∀ a, (k0_off26 v232 v239 k0_t2 k0_t25 (BitVec.ofNat 32 (16 * r.val))) a + S16.size a ≤ S51200.size a := fun v232 v239 k0_hw13 k0_t2 k0_t25 k0_h12 r => k0_hw13.2.1 k0_t2 k0_t25 k0_h12 r
theorem k0_t26_ok : ∀ (v232 : BitVec 32) (v239 : BitVec 32) (k0_hw13 : k0_chk13 v232 v239) (k0_t2 : Fin k0_t2_loop.trips), ∀ (k0_h12 : k0_cond12 v232 v239 k0_t2 = 1#1), (k0_t26_loop v232 v239 k0_t2).OK := fun v232 v239 k0_hw13 k0_t2 k0_h12 => k0_hw13.2.2.1 k0_t2 k0_h12
theorem k0_off27_inb : ∀ (v232 : BitVec 32) (v239 : BitVec 32) (k0_hw13 : k0_chk13 v232 v239) (k0_t2 : Fin k0_t2_loop.trips) (k0_t26 : Fin (k0_t26_loop v232 v239 k0_t2).trips), ∀ (k0_h12 : k0_cond12 v232 v239 k0_t2 = 1#1), ∀ (r : Fin 8), ∀ a, (k0_off27 v232 v239 k0_t2 k0_t26 (BitVec.ofNat 32 (16 * r.val))) a + S16.size a ≤ S51200.size a := fun v232 v239 k0_hw13 k0_t2 k0_t26 k0_h12 r => k0_hw13.2.2.2.1 k0_t2 k0_t26 k0_h12 r
theorem k0_t57_ok : ∀ (v232 : BitVec 32) (v239 : BitVec 32) (k0_hw13 : k0_chk13 v232 v239) (k0_t2 : Fin k0_t2_loop.trips), ∀ (k0_h29 : k0_cond29 v232 v239 k0_t2 = 1#1), (k0_t57_loop v232 v239 k0_t2).OK := fun v232 v239 k0_hw13 k0_t2 k0_h29 => k0_hw13.2.2.2.2.1 k0_t2 k0_h29
theorem k0_off60_inb : ∀ (v232 : BitVec 32) (v239 : BitVec 32) (k0_hw13 : k0_chk13 v232 v239) (k0_t2 : Fin k0_t2_loop.trips) (k0_t57 : Fin (k0_t57_loop v232 v239 k0_t2).trips), ∀ (k0_h29 : k0_cond29 v232 v239 k0_t2 = 1#1), ∀ (r : Fin 8), ∀ a, (k0_off60 v232 v239 k0_t2 k0_t57 (BitVec.ofNat 32 (16 * r.val))) a + S16.size a ≤ S51200.size a := fun v232 v239 k0_hw13 k0_t2 k0_t57 k0_h29 r => k0_hw13.2.2.2.2.2.1 k0_t2 k0_t57 k0_h29 r
theorem k0_t58_ok : ∀ (v232 : BitVec 32) (v239 : BitVec 32) (k0_hw13 : k0_chk13 v232 v239) (k0_t2 : Fin k0_t2_loop.trips), ∀ (k0_h29 : k0_cond29 v232 v239 k0_t2 = 1#1), (k0_t58_loop v232 v239 k0_t2).OK := fun v232 v239 k0_hw13 k0_t2 k0_h29 => k0_hw13.2.2.2.2.2.2.1 k0_t2 k0_h29
theorem k0_off61_inb : ∀ (v232 : BitVec 32) (v239 : BitVec 32) (k0_hw13 : k0_chk13 v232 v239) (k0_t2 : Fin k0_t2_loop.trips) (k0_t58 : Fin (k0_t58_loop v232 v239 k0_t2).trips), ∀ (k0_h29 : k0_cond29 v232 v239 k0_t2 = 1#1), ∀ (r : Fin 8), ∀ a, (k0_off61 v232 v239 k0_t2 k0_t58 (BitVec.ofNat 32 (16 * r.val))) a + S16.size a ≤ S51200.size a := fun v232 v239 k0_hw13 k0_t2 k0_t58 k0_h29 r => k0_hw13.2.2.2.2.2.2.2 k0_t2 k0_t58 k0_h29 r

@[reducible] def k0_t59_loop (v239 : BitVec 32) (v246 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v574 : BitVec 32 := Scalar.subi v239 v485
  let c0_i32_159 : BitVec 32 := 0#32
  let v575 : BitVec 32 := Scalar.maxsi v574 c0_i32_159
  let v576 : BitVec 32 := Scalar.subi v246 v485
  let c400_i32_160 : BitVec 32 := 400#32
  let v577 : BitVec 32 := Scalar.minsi v576 c400_i32_160
  let v614 : BitVec 32 := Scalar.subi v577 v575
  let c1_i32_182 : BitVec 32 := 1#32
  let v616 : BitVec 32 := Scalar.divsi v614 c1_i32_182
  let v617 : BitVec 32 := Scalar.muli v616 c1_i32_182
  let v618 : BitVec 32 := Scalar.addi v575 v617
  let c1_i32_183 : BitVec 32 := 1#32
  ⟨v575, v618, c1_i32_183⟩
def k0_cond30 (v239 : BitVec 32) (v246 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v576 : BitVec 32 := Scalar.subi v246 v485
  let c400_i32_160 : BitVec 32 := 400#32
  let v577 : BitVec 32 := Scalar.minsi v576 c400_i32_160
  let v574 : BitVec 32 := Scalar.subi v239 v485
  let c0_i32_159 : BitVec 32 := 0#32
  let v575 : BitVec 32 := Scalar.maxsi v574 c0_i32_159
  let v578 : BitVec 1 := Scalar.cmpi .sgt v577 v575
  let v579 : BitVec 32 := Scalar.extui v578
  let c0_i32_161 : BitVec 32 := 0#32
  let v580 : BitVec 1 := Scalar.cmpi .ne v579 c0_i32_161
  v580

def k0_off62 (v239 : BitVec 32) (v246 : BitVec 32) (k0_t2 : Fin k0_t2_loop.trips) (k0_t59 : Fin (k0_t59_loop v239 v246 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v574 : BitVec 32 := Scalar.subi v239 v485
  let c0_i32_159 : BitVec 32 := 0#32
  let v575 : BitVec 32 := Scalar.maxsi v574 c0_i32_159
  let c1_i32_183 : BitVec 32 := 1#32
  let arg15 : BitVec 32 := Scf.iv v575 c1_i32_183 k0_t59
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t60_loop (v239 : BitVec 32) (v246 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v574 : BitVec 32 := Scalar.subi v239 v485
  let c0_i32_159 : BitVec 32 := 0#32
  let v575 : BitVec 32 := Scalar.maxsi v574 c0_i32_159
  let v576 : BitVec 32 := Scalar.subi v246 v485
  let c400_i32_160 : BitVec 32 := 400#32
  let v577 : BitVec 32 := Scalar.minsi v576 c400_i32_160
  let v614 : BitVec 32 := Scalar.subi v577 v575
  let c1_i32_182 : BitVec 32 := 1#32
  let v616 : BitVec 32 := Scalar.divsi v614 c1_i32_182
  let v617 : BitVec 32 := Scalar.muli v616 c1_i32_182
  let v618 : BitVec 32 := Scalar.addi v575 v617
  let v615 : BitVec 32 := Scalar.addi v575 v614
  let c1_i32_184 : BitVec 32 := 1#32
  ⟨v618, v615, c1_i32_184⟩
def k0_off63 (v239 : BitVec 32) (v246 : BitVec 32) (k0_t2 : Fin k0_t2_loop.trips) (k0_t60 : Fin (k0_t60_loop v239 v246 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v574 : BitVec 32 := Scalar.subi v239 v485
  let c0_i32_159 : BitVec 32 := 0#32
  let v575 : BitVec 32 := Scalar.maxsi v574 c0_i32_159
  let v576 : BitVec 32 := Scalar.subi v246 v485
  let c400_i32_160 : BitVec 32 := 400#32
  let v577 : BitVec 32 := Scalar.minsi v576 c400_i32_160
  let v614 : BitVec 32 := Scalar.subi v577 v575
  let c1_i32_182 : BitVec 32 := 1#32
  let v616 : BitVec 32 := Scalar.divsi v614 c1_i32_182
  let v617 : BitVec 32 := Scalar.muli v616 c1_i32_182
  let v618 : BitVec 32 := Scalar.addi v575 v617
  let c1_i32_184 : BitVec 32 := 1#32
  let arg15 : BitVec 32 := Scf.iv v618 c1_i32_184 k0_t60
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk14 (v239 : BitVec 32) (v246 : BitVec 32) : Prop :=
  (∀ k0_t2 : Fin k0_t2_loop.trips, ∀ (k0_h13 : k0_cond13 v239 v246 k0_t2 = 1#1), (k0_t27_loop v239 v246 k0_t2).OK) ∧
  (∀ (k0_t2 : Fin k0_t2_loop.trips) (k0_t27 : Fin (k0_t27_loop v239 v246 k0_t2).trips), ∀ (k0_h13 : k0_cond13 v239 v246 k0_t2 = 1#1), ∀ (r : Fin 8), ∀ a, (k0_off28 v239 v246 k0_t2 k0_t27 (BitVec.ofNat 32 (16 * r.val))) a + S16.size a ≤ S51200.size a) ∧
  (∀ k0_t2 : Fin k0_t2_loop.trips, ∀ (k0_h13 : k0_cond13 v239 v246 k0_t2 = 1#1), (k0_t28_loop v239 v246 k0_t2).OK) ∧
  (∀ (k0_t2 : Fin k0_t2_loop.trips) (k0_t28 : Fin (k0_t28_loop v239 v246 k0_t2).trips), ∀ (k0_h13 : k0_cond13 v239 v246 k0_t2 = 1#1), ∀ (r : Fin 8), ∀ a, (k0_off29 v239 v246 k0_t2 k0_t28 (BitVec.ofNat 32 (16 * r.val))) a + S16.size a ≤ S51200.size a) ∧
  (∀ k0_t2 : Fin k0_t2_loop.trips, ∀ (k0_h30 : k0_cond30 v239 v246 k0_t2 = 1#1), (k0_t59_loop v239 v246 k0_t2).OK) ∧
  (∀ (k0_t2 : Fin k0_t2_loop.trips) (k0_t59 : Fin (k0_t59_loop v239 v246 k0_t2).trips), ∀ (k0_h30 : k0_cond30 v239 v246 k0_t2 = 1#1), ∀ (r : Fin 8), ∀ a, (k0_off62 v239 v246 k0_t2 k0_t59 (BitVec.ofNat 32 (16 * r.val))) a + S16.size a ≤ S51200.size a) ∧
  (∀ k0_t2 : Fin k0_t2_loop.trips, ∀ (k0_h30 : k0_cond30 v239 v246 k0_t2 = 1#1), (k0_t60_loop v239 v246 k0_t2).OK) ∧
  (∀ (k0_t2 : Fin k0_t2_loop.trips) (k0_t60 : Fin (k0_t60_loop v239 v246 k0_t2).trips), ∀ (k0_h30 : k0_cond30 v239 v246 k0_t2 = 1#1), ∀ (r : Fin 8), ∀ a, (k0_off63 v239 v246 k0_t2 k0_t60 (BitVec.ofNat 32 (16 * r.val))) a + S16.size a ≤ S51200.size a)
theorem k0_t27_ok : ∀ (v239 : BitVec 32) (v246 : BitVec 32) (k0_hw14 : k0_chk14 v239 v246) (k0_t2 : Fin k0_t2_loop.trips), ∀ (k0_h13 : k0_cond13 v239 v246 k0_t2 = 1#1), (k0_t27_loop v239 v246 k0_t2).OK := fun v239 v246 k0_hw14 k0_t2 k0_h13 => k0_hw14.1 k0_t2 k0_h13
theorem k0_off28_inb : ∀ (v239 : BitVec 32) (v246 : BitVec 32) (k0_hw14 : k0_chk14 v239 v246) (k0_t2 : Fin k0_t2_loop.trips) (k0_t27 : Fin (k0_t27_loop v239 v246 k0_t2).trips), ∀ (k0_h13 : k0_cond13 v239 v246 k0_t2 = 1#1), ∀ (r : Fin 8), ∀ a, (k0_off28 v239 v246 k0_t2 k0_t27 (BitVec.ofNat 32 (16 * r.val))) a + S16.size a ≤ S51200.size a := fun v239 v246 k0_hw14 k0_t2 k0_t27 k0_h13 r => k0_hw14.2.1 k0_t2 k0_t27 k0_h13 r
theorem k0_t28_ok : ∀ (v239 : BitVec 32) (v246 : BitVec 32) (k0_hw14 : k0_chk14 v239 v246) (k0_t2 : Fin k0_t2_loop.trips), ∀ (k0_h13 : k0_cond13 v239 v246 k0_t2 = 1#1), (k0_t28_loop v239 v246 k0_t2).OK := fun v239 v246 k0_hw14 k0_t2 k0_h13 => k0_hw14.2.2.1 k0_t2 k0_h13
theorem k0_off29_inb : ∀ (v239 : BitVec 32) (v246 : BitVec 32) (k0_hw14 : k0_chk14 v239 v246) (k0_t2 : Fin k0_t2_loop.trips) (k0_t28 : Fin (k0_t28_loop v239 v246 k0_t2).trips), ∀ (k0_h13 : k0_cond13 v239 v246 k0_t2 = 1#1), ∀ (r : Fin 8), ∀ a, (k0_off29 v239 v246 k0_t2 k0_t28 (BitVec.ofNat 32 (16 * r.val))) a + S16.size a ≤ S51200.size a := fun v239 v246 k0_hw14 k0_t2 k0_t28 k0_h13 r => k0_hw14.2.2.2.1 k0_t2 k0_t28 k0_h13 r
theorem k0_t59_ok : ∀ (v239 : BitVec 32) (v246 : BitVec 32) (k0_hw14 : k0_chk14 v239 v246) (k0_t2 : Fin k0_t2_loop.trips), ∀ (k0_h30 : k0_cond30 v239 v246 k0_t2 = 1#1), (k0_t59_loop v239 v246 k0_t2).OK := fun v239 v246 k0_hw14 k0_t2 k0_h30 => k0_hw14.2.2.2.2.1 k0_t2 k0_h30
theorem k0_off62_inb : ∀ (v239 : BitVec 32) (v246 : BitVec 32) (k0_hw14 : k0_chk14 v239 v246) (k0_t2 : Fin k0_t2_loop.trips) (k0_t59 : Fin (k0_t59_loop v239 v246 k0_t2).trips), ∀ (k0_h30 : k0_cond30 v239 v246 k0_t2 = 1#1), ∀ (r : Fin 8), ∀ a, (k0_off62 v239 v246 k0_t2 k0_t59 (BitVec.ofNat 32 (16 * r.val))) a + S16.size a ≤ S51200.size a := fun v239 v246 k0_hw14 k0_t2 k0_t59 k0_h30 r => k0_hw14.2.2.2.2.2.1 k0_t2 k0_t59 k0_h30 r
theorem k0_t60_ok : ∀ (v239 : BitVec 32) (v246 : BitVec 32) (k0_hw14 : k0_chk14 v239 v246) (k0_t2 : Fin k0_t2_loop.trips), ∀ (k0_h30 : k0_cond30 v239 v246 k0_t2 = 1#1), (k0_t60_loop v239 v246 k0_t2).OK := fun v239 v246 k0_hw14 k0_t2 k0_h30 => k0_hw14.2.2.2.2.2.2.1 k0_t2 k0_h30
theorem k0_off63_inb : ∀ (v239 : BitVec 32) (v246 : BitVec 32) (k0_hw14 : k0_chk14 v239 v246) (k0_t2 : Fin k0_t2_loop.trips) (k0_t60 : Fin (k0_t60_loop v239 v246 k0_t2).trips), ∀ (k0_h30 : k0_cond30 v239 v246 k0_t2 = 1#1), ∀ (r : Fin 8), ∀ a, (k0_off63 v239 v246 k0_t2 k0_t60 (BitVec.ofNat 32 (16 * r.val))) a + S16.size a ≤ S51200.size a := fun v239 v246 k0_hw14 k0_t2 k0_t60 k0_h30 r => k0_hw14.2.2.2.2.2.2.2 k0_t2 k0_t60 k0_h30 r

@[reducible] def k0_t61_loop (v246 : BitVec 32) (v253 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v581 : BitVec 32 := Scalar.subi v246 v485
  let c0_i32_162 : BitVec 32 := 0#32
  let v582 : BitVec 32 := Scalar.maxsi v581 c0_i32_162
  let v583 : BitVec 32 := Scalar.subi v253 v485
  let c400_i32_163 : BitVec 32 := 400#32
  let v584 : BitVec 32 := Scalar.minsi v583 c400_i32_163
  let v614 : BitVec 32 := Scalar.subi v584 v582
  let c1_i32_182 : BitVec 32 := 1#32
  let v616 : BitVec 32 := Scalar.divsi v614 c1_i32_182
  let v617 : BitVec 32 := Scalar.muli v616 c1_i32_182
  let v618 : BitVec 32 := Scalar.addi v582 v617
  let c1_i32_183 : BitVec 32 := 1#32
  ⟨v582, v618, c1_i32_183⟩
def k0_cond31 (v246 : BitVec 32) (v253 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v583 : BitVec 32 := Scalar.subi v253 v485
  let c400_i32_163 : BitVec 32 := 400#32
  let v584 : BitVec 32 := Scalar.minsi v583 c400_i32_163
  let v581 : BitVec 32 := Scalar.subi v246 v485
  let c0_i32_162 : BitVec 32 := 0#32
  let v582 : BitVec 32 := Scalar.maxsi v581 c0_i32_162
  let v585 : BitVec 1 := Scalar.cmpi .sgt v584 v582
  let v586 : BitVec 32 := Scalar.extui v585
  let c0_i32_164 : BitVec 32 := 0#32
  let v587 : BitVec 1 := Scalar.cmpi .ne v586 c0_i32_164
  v587

def k0_off64 (v246 : BitVec 32) (v253 : BitVec 32) (k0_t2 : Fin k0_t2_loop.trips) (k0_t61 : Fin (k0_t61_loop v246 v253 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v581 : BitVec 32 := Scalar.subi v246 v485
  let c0_i32_162 : BitVec 32 := 0#32
  let v582 : BitVec 32 := Scalar.maxsi v581 c0_i32_162
  let c1_i32_183 : BitVec 32 := 1#32
  let arg15 : BitVec 32 := Scf.iv v582 c1_i32_183 k0_t61
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t62_loop (v246 : BitVec 32) (v253 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v581 : BitVec 32 := Scalar.subi v246 v485
  let c0_i32_162 : BitVec 32 := 0#32
  let v582 : BitVec 32 := Scalar.maxsi v581 c0_i32_162
  let v583 : BitVec 32 := Scalar.subi v253 v485
  let c400_i32_163 : BitVec 32 := 400#32
  let v584 : BitVec 32 := Scalar.minsi v583 c400_i32_163
  let v614 : BitVec 32 := Scalar.subi v584 v582
  let c1_i32_182 : BitVec 32 := 1#32
  let v616 : BitVec 32 := Scalar.divsi v614 c1_i32_182
  let v617 : BitVec 32 := Scalar.muli v616 c1_i32_182
  let v618 : BitVec 32 := Scalar.addi v582 v617
  let v615 : BitVec 32 := Scalar.addi v582 v614
  let c1_i32_184 : BitVec 32 := 1#32
  ⟨v618, v615, c1_i32_184⟩
def k0_off65 (v246 : BitVec 32) (v253 : BitVec 32) (k0_t2 : Fin k0_t2_loop.trips) (k0_t62 : Fin (k0_t62_loop v246 v253 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v581 : BitVec 32 := Scalar.subi v246 v485
  let c0_i32_162 : BitVec 32 := 0#32
  let v582 : BitVec 32 := Scalar.maxsi v581 c0_i32_162
  let v583 : BitVec 32 := Scalar.subi v253 v485
  let c400_i32_163 : BitVec 32 := 400#32
  let v584 : BitVec 32 := Scalar.minsi v583 c400_i32_163
  let v614 : BitVec 32 := Scalar.subi v584 v582
  let c1_i32_182 : BitVec 32 := 1#32
  let v616 : BitVec 32 := Scalar.divsi v614 c1_i32_182
  let v617 : BitVec 32 := Scalar.muli v616 c1_i32_182
  let v618 : BitVec 32 := Scalar.addi v582 v617
  let c1_i32_184 : BitVec 32 := 1#32
  let arg15 : BitVec 32 := Scf.iv v618 c1_i32_184 k0_t62
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk15 (v246 : BitVec 32) (v253 : BitVec 32) : Prop :=
  (∀ k0_t2 : Fin k0_t2_loop.trips, ∀ (k0_h14 : k0_cond14 v246 v253 k0_t2 = 1#1), (k0_t29_loop v246 v253 k0_t2).OK) ∧
  (∀ (k0_t2 : Fin k0_t2_loop.trips) (k0_t29 : Fin (k0_t29_loop v246 v253 k0_t2).trips), ∀ (k0_h14 : k0_cond14 v246 v253 k0_t2 = 1#1), ∀ (r : Fin 8), ∀ a, (k0_off30 v246 v253 k0_t2 k0_t29 (BitVec.ofNat 32 (16 * r.val))) a + S16.size a ≤ S51200.size a) ∧
  (∀ k0_t2 : Fin k0_t2_loop.trips, ∀ (k0_h14 : k0_cond14 v246 v253 k0_t2 = 1#1), (k0_t30_loop v246 v253 k0_t2).OK) ∧
  (∀ (k0_t2 : Fin k0_t2_loop.trips) (k0_t30 : Fin (k0_t30_loop v246 v253 k0_t2).trips), ∀ (k0_h14 : k0_cond14 v246 v253 k0_t2 = 1#1), ∀ (r : Fin 8), ∀ a, (k0_off31 v246 v253 k0_t2 k0_t30 (BitVec.ofNat 32 (16 * r.val))) a + S16.size a ≤ S51200.size a) ∧
  (∀ k0_t2 : Fin k0_t2_loop.trips, ∀ (k0_h31 : k0_cond31 v246 v253 k0_t2 = 1#1), (k0_t61_loop v246 v253 k0_t2).OK) ∧
  (∀ (k0_t2 : Fin k0_t2_loop.trips) (k0_t61 : Fin (k0_t61_loop v246 v253 k0_t2).trips), ∀ (k0_h31 : k0_cond31 v246 v253 k0_t2 = 1#1), ∀ (r : Fin 8), ∀ a, (k0_off64 v246 v253 k0_t2 k0_t61 (BitVec.ofNat 32 (16 * r.val))) a + S16.size a ≤ S51200.size a) ∧
  (∀ k0_t2 : Fin k0_t2_loop.trips, ∀ (k0_h31 : k0_cond31 v246 v253 k0_t2 = 1#1), (k0_t62_loop v246 v253 k0_t2).OK) ∧
  (∀ (k0_t2 : Fin k0_t2_loop.trips) (k0_t62 : Fin (k0_t62_loop v246 v253 k0_t2).trips), ∀ (k0_h31 : k0_cond31 v246 v253 k0_t2 = 1#1), ∀ (r : Fin 8), ∀ a, (k0_off65 v246 v253 k0_t2 k0_t62 (BitVec.ofNat 32 (16 * r.val))) a + S16.size a ≤ S51200.size a)
theorem k0_t29_ok : ∀ (v246 : BitVec 32) (v253 : BitVec 32) (k0_hw15 : k0_chk15 v246 v253) (k0_t2 : Fin k0_t2_loop.trips), ∀ (k0_h14 : k0_cond14 v246 v253 k0_t2 = 1#1), (k0_t29_loop v246 v253 k0_t2).OK := fun v246 v253 k0_hw15 k0_t2 k0_h14 => k0_hw15.1 k0_t2 k0_h14
theorem k0_off30_inb : ∀ (v246 : BitVec 32) (v253 : BitVec 32) (k0_hw15 : k0_chk15 v246 v253) (k0_t2 : Fin k0_t2_loop.trips) (k0_t29 : Fin (k0_t29_loop v246 v253 k0_t2).trips), ∀ (k0_h14 : k0_cond14 v246 v253 k0_t2 = 1#1), ∀ (r : Fin 8), ∀ a, (k0_off30 v246 v253 k0_t2 k0_t29 (BitVec.ofNat 32 (16 * r.val))) a + S16.size a ≤ S51200.size a := fun v246 v253 k0_hw15 k0_t2 k0_t29 k0_h14 r => k0_hw15.2.1 k0_t2 k0_t29 k0_h14 r
theorem k0_t30_ok : ∀ (v246 : BitVec 32) (v253 : BitVec 32) (k0_hw15 : k0_chk15 v246 v253) (k0_t2 : Fin k0_t2_loop.trips), ∀ (k0_h14 : k0_cond14 v246 v253 k0_t2 = 1#1), (k0_t30_loop v246 v253 k0_t2).OK := fun v246 v253 k0_hw15 k0_t2 k0_h14 => k0_hw15.2.2.1 k0_t2 k0_h14
theorem k0_off31_inb : ∀ (v246 : BitVec 32) (v253 : BitVec 32) (k0_hw15 : k0_chk15 v246 v253) (k0_t2 : Fin k0_t2_loop.trips) (k0_t30 : Fin (k0_t30_loop v246 v253 k0_t2).trips), ∀ (k0_h14 : k0_cond14 v246 v253 k0_t2 = 1#1), ∀ (r : Fin 8), ∀ a, (k0_off31 v246 v253 k0_t2 k0_t30 (BitVec.ofNat 32 (16 * r.val))) a + S16.size a ≤ S51200.size a := fun v246 v253 k0_hw15 k0_t2 k0_t30 k0_h14 r => k0_hw15.2.2.2.1 k0_t2 k0_t30 k0_h14 r
theorem k0_t61_ok : ∀ (v246 : BitVec 32) (v253 : BitVec 32) (k0_hw15 : k0_chk15 v246 v253) (k0_t2 : Fin k0_t2_loop.trips), ∀ (k0_h31 : k0_cond31 v246 v253 k0_t2 = 1#1), (k0_t61_loop v246 v253 k0_t2).OK := fun v246 v253 k0_hw15 k0_t2 k0_h31 => k0_hw15.2.2.2.2.1 k0_t2 k0_h31
theorem k0_off64_inb : ∀ (v246 : BitVec 32) (v253 : BitVec 32) (k0_hw15 : k0_chk15 v246 v253) (k0_t2 : Fin k0_t2_loop.trips) (k0_t61 : Fin (k0_t61_loop v246 v253 k0_t2).trips), ∀ (k0_h31 : k0_cond31 v246 v253 k0_t2 = 1#1), ∀ (r : Fin 8), ∀ a, (k0_off64 v246 v253 k0_t2 k0_t61 (BitVec.ofNat 32 (16 * r.val))) a + S16.size a ≤ S51200.size a := fun v246 v253 k0_hw15 k0_t2 k0_t61 k0_h31 r => k0_hw15.2.2.2.2.2.1 k0_t2 k0_t61 k0_h31 r
theorem k0_t62_ok : ∀ (v246 : BitVec 32) (v253 : BitVec 32) (k0_hw15 : k0_chk15 v246 v253) (k0_t2 : Fin k0_t2_loop.trips), ∀ (k0_h31 : k0_cond31 v246 v253 k0_t2 = 1#1), (k0_t62_loop v246 v253 k0_t2).OK := fun v246 v253 k0_hw15 k0_t2 k0_h31 => k0_hw15.2.2.2.2.2.2.1 k0_t2 k0_h31
theorem k0_off65_inb : ∀ (v246 : BitVec 32) (v253 : BitVec 32) (k0_hw15 : k0_chk15 v246 v253) (k0_t2 : Fin k0_t2_loop.trips) (k0_t62 : Fin (k0_t62_loop v246 v253 k0_t2).trips), ∀ (k0_h31 : k0_cond31 v246 v253 k0_t2 = 1#1), ∀ (r : Fin 8), ∀ a, (k0_off65 v246 v253 k0_t2 k0_t62 (BitVec.ofNat 32 (16 * r.val))) a + S16.size a ≤ S51200.size a := fun v246 v253 k0_hw15 k0_t2 k0_t62 k0_h31 r => k0_hw15.2.2.2.2.2.2.2 k0_t2 k0_t62 k0_h31 r

@[reducible] def k0_t63_loop (v253 : BitVec 32) (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v588 : BitVec 32 := Scalar.subi v253 v485
  let c0_i32_165 : BitVec 32 := 0#32
  let v589 : BitVec 32 := Scalar.maxsi v588 c0_i32_165
  let v590 : BitVec 32 := Scalar.subi v260 v485
  let c400_i32_166 : BitVec 32 := 400#32
  let v591 : BitVec 32 := Scalar.minsi v590 c400_i32_166
  let v614 : BitVec 32 := Scalar.subi v591 v589
  let c1_i32_182 : BitVec 32 := 1#32
  let v616 : BitVec 32 := Scalar.divsi v614 c1_i32_182
  let v617 : BitVec 32 := Scalar.muli v616 c1_i32_182
  let v618 : BitVec 32 := Scalar.addi v589 v617
  let c1_i32_183 : BitVec 32 := 1#32
  ⟨v589, v618, c1_i32_183⟩
def k0_cond32 (v253 : BitVec 32) (v260 : BitVec 32) (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v590 : BitVec 32 := Scalar.subi v260 v485
  let c400_i32_166 : BitVec 32 := 400#32
  let v591 : BitVec 32 := Scalar.minsi v590 c400_i32_166
  let v588 : BitVec 32 := Scalar.subi v253 v485
  let c0_i32_165 : BitVec 32 := 0#32
  let v589 : BitVec 32 := Scalar.maxsi v588 c0_i32_165
  let v592 : BitVec 1 := Scalar.cmpi .sgt v591 v589
  let v593 : BitVec 32 := Scalar.extui v592
  let c0_i32_167 : BitVec 32 := 0#32
  let v594 : BitVec 1 := Scalar.cmpi .ne v593 c0_i32_167
  v594

def k0_off66 (v253 : BitVec 32) (v260 : BitVec 32) (k0_t2 : Fin k0_t2_loop.trips) (k0_t63 : Fin (k0_t63_loop v253 v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v588 : BitVec 32 := Scalar.subi v253 v485
  let c0_i32_165 : BitVec 32 := 0#32
  let v589 : BitVec 32 := Scalar.maxsi v588 c0_i32_165
  let c1_i32_183 : BitVec 32 := 1#32
  let arg15 : BitVec 32 := Scf.iv v589 c1_i32_183 k0_t63
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t64_loop (v253 : BitVec 32) (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v588 : BitVec 32 := Scalar.subi v253 v485
  let c0_i32_165 : BitVec 32 := 0#32
  let v589 : BitVec 32 := Scalar.maxsi v588 c0_i32_165
  let v590 : BitVec 32 := Scalar.subi v260 v485
  let c400_i32_166 : BitVec 32 := 400#32
  let v591 : BitVec 32 := Scalar.minsi v590 c400_i32_166
  let v614 : BitVec 32 := Scalar.subi v591 v589
  let c1_i32_182 : BitVec 32 := 1#32
  let v616 : BitVec 32 := Scalar.divsi v614 c1_i32_182
  let v617 : BitVec 32 := Scalar.muli v616 c1_i32_182
  let v618 : BitVec 32 := Scalar.addi v589 v617
  let v615 : BitVec 32 := Scalar.addi v589 v614
  let c1_i32_184 : BitVec 32 := 1#32
  ⟨v618, v615, c1_i32_184⟩
def k0_off67 (v253 : BitVec 32) (v260 : BitVec 32) (k0_t2 : Fin k0_t2_loop.trips) (k0_t64 : Fin (k0_t64_loop v253 v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v588 : BitVec 32 := Scalar.subi v253 v485
  let c0_i32_165 : BitVec 32 := 0#32
  let v589 : BitVec 32 := Scalar.maxsi v588 c0_i32_165
  let v590 : BitVec 32 := Scalar.subi v260 v485
  let c400_i32_166 : BitVec 32 := 400#32
  let v591 : BitVec 32 := Scalar.minsi v590 c400_i32_166
  let v614 : BitVec 32 := Scalar.subi v591 v589
  let c1_i32_182 : BitVec 32 := 1#32
  let v616 : BitVec 32 := Scalar.divsi v614 c1_i32_182
  let v617 : BitVec 32 := Scalar.muli v616 c1_i32_182
  let v618 : BitVec 32 := Scalar.addi v589 v617
  let c1_i32_184 : BitVec 32 := 1#32
  let arg15 : BitVec 32 := Scf.iv v618 c1_i32_184 k0_t64
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t65_loop (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v595 : BitVec 32 := Scalar.subi v260 v485
  let c0_i32_168 : BitVec 32 := 0#32
  let v596 : BitVec 32 := Scalar.maxsi v595 c0_i32_168
  let c4000_i32_58 : BitVec 32 := 4000#32
  let v597 : BitVec 32 := Scalar.subi c4000_i32_58 v485
  let c400_i32_169 : BitVec 32 := 400#32
  let v598 : BitVec 32 := Scalar.minsi v597 c400_i32_169
  let v614 : BitVec 32 := Scalar.subi v598 v596
  let c1_i32_182 : BitVec 32 := 1#32
  let v616 : BitVec 32 := Scalar.divsi v614 c1_i32_182
  let v617 : BitVec 32 := Scalar.muli v616 c1_i32_182
  let v618 : BitVec 32 := Scalar.addi v596 v617
  let c1_i32_183 : BitVec 32 := 1#32
  ⟨v596, v618, c1_i32_183⟩
def k0_cond33 (v260 : BitVec 32) (k0_t2 : Fin k0_t2_loop.trips) : BitVec 1 :=
  let c4000_i32_58 : BitVec 32 := 4000#32
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v597 : BitVec 32 := Scalar.subi c4000_i32_58 v485
  let c400_i32_169 : BitVec 32 := 400#32
  let v598 : BitVec 32 := Scalar.minsi v597 c400_i32_169
  let v595 : BitVec 32 := Scalar.subi v260 v485
  let c0_i32_168 : BitVec 32 := 0#32
  let v596 : BitVec 32 := Scalar.maxsi v595 c0_i32_168
  let v599 : BitVec 1 := Scalar.cmpi .sgt v598 v596
  let v600 : BitVec 32 := Scalar.extui v599
  let c0_i32_170 : BitVec 32 := 0#32
  let v601 : BitVec 1 := Scalar.cmpi .ne v600 c0_i32_170
  v601

def k0_off68 (v260 : BitVec 32) (k0_t2 : Fin k0_t2_loop.trips) (k0_t65 : Fin (k0_t65_loop v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v595 : BitVec 32 := Scalar.subi v260 v485
  let c0_i32_168 : BitVec 32 := 0#32
  let v596 : BitVec 32 := Scalar.maxsi v595 c0_i32_168
  let c1_i32_183 : BitVec 32 := 1#32
  let arg15 : BitVec 32 := Scf.iv v596 c1_i32_183 k0_t65
  let c128_i32_193 : BitVec 32 := 128#32
  let v629 : BitVec 32 := Scalar.muli arg15 c128_i32_193
  let v630 : BitVec 32 := Scalar.addi v629 c0_i32_194
  let v631 : Index := Scalar.indexCast v630
  ![v631.toNat]
@[reducible] def k0_t66_loop (v260 : BitVec 32) (k0_t2 : Fin k0_t2_loop.trips) : Scf.Loop 32 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v595 : BitVec 32 := Scalar.subi v260 v485
  let c0_i32_168 : BitVec 32 := 0#32
  let v596 : BitVec 32 := Scalar.maxsi v595 c0_i32_168
  let c4000_i32_58 : BitVec 32 := 4000#32
  let v597 : BitVec 32 := Scalar.subi c4000_i32_58 v485
  let c400_i32_169 : BitVec 32 := 400#32
  let v598 : BitVec 32 := Scalar.minsi v597 c400_i32_169
  let v614 : BitVec 32 := Scalar.subi v598 v596
  let c1_i32_182 : BitVec 32 := 1#32
  let v616 : BitVec 32 := Scalar.divsi v614 c1_i32_182
  let v617 : BitVec 32 := Scalar.muli v616 c1_i32_182
  let v618 : BitVec 32 := Scalar.addi v596 v617
  let v615 : BitVec 32 := Scalar.addi v596 v614
  let c1_i32_184 : BitVec 32 := 1#32
  ⟨v618, v615, c1_i32_184⟩
def k0_off69 (v260 : BitVec 32) (k0_t2 : Fin k0_t2_loop.trips) (k0_t66 : Fin (k0_t66_loop v260 k0_t2).trips) (c0_i32_194 : BitVec 32) : Fin 1 → Nat :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c400_i32_121 : BitVec 32 := 400#32
  let v485 : BitVec 32 := Scalar.muli v484 c400_i32_121
  let v595 : BitVec 32 := Scalar.subi v260 v485
  let c0_i32_168 : BitVec 32 := 0#32
  let v596 : BitVec 32 := Scalar.maxsi v595 c0_i32_168
  let c4000_i32_58 : BitVec 32 := 4000#32
  let v597 : BitVec 32 := Scalar.subi c4000_i32_58 v485
  let c400_i32_169 : BitVec 32 := 400#32
  let v598 : BitVec 32 := Scalar.minsi v597 c400_i32_169
  let v614 : BitVec 32 := Scalar.subi v598 v596
  let c1_i32_182 : BitVec 32 := 1#32
  let v616 : BitVec 32 := Scalar.divsi v614 c1_i32_182
  let v617 : BitVec 32 := Scalar.muli v616 c1_i32_182
  let v618 : BitVec 32 := Scalar.addi v596 v617
  let c1_i32_184 : BitVec 32 := 1#32
  let arg15 : BitVec 32 := Scf.iv v618 c1_i32_184 k0_t66
  let c128_i32_193 : BitVec 32 := 128#32
  let v629 : BitVec 32 := Scalar.muli arg15 c128_i32_193
  let v630 : BitVec 32 := Scalar.addi v629 c0_i32_194
  let v631 : Index := Scalar.indexCast v630
  ![v631.toNat]

def k0_chk16 (v253 : BitVec 32) (v260 : BitVec 32) : Prop :=
  (∀ k0_t2 : Fin k0_t2_loop.trips, ∀ (k0_h15 : k0_cond15 v253 v260 k0_t2 = 1#1), (k0_t31_loop v253 v260 k0_t2).OK) ∧
  (∀ (k0_t2 : Fin k0_t2_loop.trips) (k0_t31 : Fin (k0_t31_loop v253 v260 k0_t2).trips), ∀ (k0_h15 : k0_cond15 v253 v260 k0_t2 = 1#1), ∀ (r : Fin 8), ∀ a, (k0_off32 v253 v260 k0_t2 k0_t31 (BitVec.ofNat 32 (16 * r.val))) a + S16.size a ≤ S51200.size a) ∧
  (∀ k0_t2 : Fin k0_t2_loop.trips, ∀ (k0_h15 : k0_cond15 v253 v260 k0_t2 = 1#1), (k0_t32_loop v253 v260 k0_t2).OK) ∧
  (∀ (k0_t2 : Fin k0_t2_loop.trips) (k0_t32 : Fin (k0_t32_loop v253 v260 k0_t2).trips), ∀ (k0_h15 : k0_cond15 v253 v260 k0_t2 = 1#1), ∀ (r : Fin 8), ∀ a, (k0_off33 v253 v260 k0_t2 k0_t32 (BitVec.ofNat 32 (16 * r.val))) a + S16.size a ≤ S51200.size a) ∧
  (∀ k0_t2 : Fin k0_t2_loop.trips, ∀ (k0_h16 : k0_cond16 v260 k0_t2 = 1#1), (k0_t33_loop v260 k0_t2).OK) ∧
  (∀ (k0_t2 : Fin k0_t2_loop.trips) (k0_t33 : Fin (k0_t33_loop v260 k0_t2).trips), ∀ (k0_h16 : k0_cond16 v260 k0_t2 = 1#1), ∀ (r : Fin 8), ∀ a, (k0_off34 v260 k0_t2 k0_t33 (BitVec.ofNat 32 (16 * r.val))) a + S16.size a ≤ S51200.size a) ∧
  (∀ k0_t2 : Fin k0_t2_loop.trips, ∀ (k0_h16 : k0_cond16 v260 k0_t2 = 1#1), (k0_t34_loop v260 k0_t2).OK) ∧
  (∀ (k0_t2 : Fin k0_t2_loop.trips) (k0_t34 : Fin (k0_t34_loop v260 k0_t2).trips), ∀ (k0_h16 : k0_cond16 v260 k0_t2 = 1#1), ∀ (r : Fin 8), ∀ a, (k0_off35 v260 k0_t2 k0_t34 (BitVec.ofNat 32 (16 * r.val))) a + S16.size a ≤ S51200.size a) ∧
  (∀ k0_t2 : Fin k0_t2_loop.trips, ∀ (k0_h32 : k0_cond32 v253 v260 k0_t2 = 1#1), (k0_t63_loop v253 v260 k0_t2).OK) ∧
  (∀ (k0_t2 : Fin k0_t2_loop.trips) (k0_t63 : Fin (k0_t63_loop v253 v260 k0_t2).trips), ∀ (k0_h32 : k0_cond32 v253 v260 k0_t2 = 1#1), ∀ (r : Fin 8), ∀ a, (k0_off66 v253 v260 k0_t2 k0_t63 (BitVec.ofNat 32 (16 * r.val))) a + S16.size a ≤ S51200.size a) ∧
  (∀ k0_t2 : Fin k0_t2_loop.trips, ∀ (k0_h32 : k0_cond32 v253 v260 k0_t2 = 1#1), (k0_t64_loop v253 v260 k0_t2).OK) ∧
  (∀ (k0_t2 : Fin k0_t2_loop.trips) (k0_t64 : Fin (k0_t64_loop v253 v260 k0_t2).trips), ∀ (k0_h32 : k0_cond32 v253 v260 k0_t2 = 1#1), ∀ (r : Fin 8), ∀ a, (k0_off67 v253 v260 k0_t2 k0_t64 (BitVec.ofNat 32 (16 * r.val))) a + S16.size a ≤ S51200.size a) ∧
  (∀ k0_t2 : Fin k0_t2_loop.trips, ∀ (k0_h33 : k0_cond33 v260 k0_t2 = 1#1), (k0_t65_loop v260 k0_t2).OK) ∧
  (∀ (k0_t2 : Fin k0_t2_loop.trips) (k0_t65 : Fin (k0_t65_loop v260 k0_t2).trips), ∀ (k0_h33 : k0_cond33 v260 k0_t2 = 1#1), ∀ (r : Fin 8), ∀ a, (k0_off68 v260 k0_t2 k0_t65 (BitVec.ofNat 32 (16 * r.val))) a + S16.size a ≤ S51200.size a) ∧
  (∀ k0_t2 : Fin k0_t2_loop.trips, ∀ (k0_h33 : k0_cond33 v260 k0_t2 = 1#1), (k0_t66_loop v260 k0_t2).OK) ∧
  (∀ (k0_t2 : Fin k0_t2_loop.trips) (k0_t66 : Fin (k0_t66_loop v260 k0_t2).trips), ∀ (k0_h33 : k0_cond33 v260 k0_t2 = 1#1), ∀ (r : Fin 8), ∀ a, (k0_off69 v260 k0_t2 k0_t66 (BitVec.ofNat 32 (16 * r.val))) a + S16.size a ≤ S51200.size a)
theorem k0_t31_ok : ∀ (v253 : BitVec 32) (v260 : BitVec 32) (k0_hw16 : k0_chk16 v253 v260) (k0_t2 : Fin k0_t2_loop.trips), ∀ (k0_h15 : k0_cond15 v253 v260 k0_t2 = 1#1), (k0_t31_loop v253 v260 k0_t2).OK := fun v253 v260 k0_hw16 k0_t2 k0_h15 => k0_hw16.1 k0_t2 k0_h15
theorem k0_off32_inb : ∀ (v253 : BitVec 32) (v260 : BitVec 32) (k0_hw16 : k0_chk16 v253 v260) (k0_t2 : Fin k0_t2_loop.trips) (k0_t31 : Fin (k0_t31_loop v253 v260 k0_t2).trips), ∀ (k0_h15 : k0_cond15 v253 v260 k0_t2 = 1#1), ∀ (r : Fin 8), ∀ a, (k0_off32 v253 v260 k0_t2 k0_t31 (BitVec.ofNat 32 (16 * r.val))) a + S16.size a ≤ S51200.size a := fun v253 v260 k0_hw16 k0_t2 k0_t31 k0_h15 r => k0_hw16.2.1 k0_t2 k0_t31 k0_h15 r
theorem k0_t32_ok : ∀ (v253 : BitVec 32) (v260 : BitVec 32) (k0_hw16 : k0_chk16 v253 v260) (k0_t2 : Fin k0_t2_loop.trips), ∀ (k0_h15 : k0_cond15 v253 v260 k0_t2 = 1#1), (k0_t32_loop v253 v260 k0_t2).OK := fun v253 v260 k0_hw16 k0_t2 k0_h15 => k0_hw16.2.2.1 k0_t2 k0_h15
theorem k0_off33_inb : ∀ (v253 : BitVec 32) (v260 : BitVec 32) (k0_hw16 : k0_chk16 v253 v260) (k0_t2 : Fin k0_t2_loop.trips) (k0_t32 : Fin (k0_t32_loop v253 v260 k0_t2).trips), ∀ (k0_h15 : k0_cond15 v253 v260 k0_t2 = 1#1), ∀ (r : Fin 8), ∀ a, (k0_off33 v253 v260 k0_t2 k0_t32 (BitVec.ofNat 32 (16 * r.val))) a + S16.size a ≤ S51200.size a := fun v253 v260 k0_hw16 k0_t2 k0_t32 k0_h15 r => k0_hw16.2.2.2.1 k0_t2 k0_t32 k0_h15 r
theorem k0_t33_ok : ∀ (v253 : BitVec 32) (v260 : BitVec 32) (k0_hw16 : k0_chk16 v253 v260) (k0_t2 : Fin k0_t2_loop.trips), ∀ (k0_h16 : k0_cond16 v260 k0_t2 = 1#1), (k0_t33_loop v260 k0_t2).OK := fun v253 v260 k0_hw16 k0_t2 k0_h16 => k0_hw16.2.2.2.2.1 k0_t2 k0_h16
theorem k0_off34_inb : ∀ (v253 : BitVec 32) (v260 : BitVec 32) (k0_hw16 : k0_chk16 v253 v260) (k0_t2 : Fin k0_t2_loop.trips) (k0_t33 : Fin (k0_t33_loop v260 k0_t2).trips), ∀ (k0_h16 : k0_cond16 v260 k0_t2 = 1#1), ∀ (r : Fin 8), ∀ a, (k0_off34 v260 k0_t2 k0_t33 (BitVec.ofNat 32 (16 * r.val))) a + S16.size a ≤ S51200.size a := fun v253 v260 k0_hw16 k0_t2 k0_t33 k0_h16 r => k0_hw16.2.2.2.2.2.1 k0_t2 k0_t33 k0_h16 r
theorem k0_t34_ok : ∀ (v253 : BitVec 32) (v260 : BitVec 32) (k0_hw16 : k0_chk16 v253 v260) (k0_t2 : Fin k0_t2_loop.trips), ∀ (k0_h16 : k0_cond16 v260 k0_t2 = 1#1), (k0_t34_loop v260 k0_t2).OK := fun v253 v260 k0_hw16 k0_t2 k0_h16 => k0_hw16.2.2.2.2.2.2.1 k0_t2 k0_h16
theorem k0_off35_inb : ∀ (v253 : BitVec 32) (v260 : BitVec 32) (k0_hw16 : k0_chk16 v253 v260) (k0_t2 : Fin k0_t2_loop.trips) (k0_t34 : Fin (k0_t34_loop v260 k0_t2).trips), ∀ (k0_h16 : k0_cond16 v260 k0_t2 = 1#1), ∀ (r : Fin 8), ∀ a, (k0_off35 v260 k0_t2 k0_t34 (BitVec.ofNat 32 (16 * r.val))) a + S16.size a ≤ S51200.size a := fun v253 v260 k0_hw16 k0_t2 k0_t34 k0_h16 r => k0_hw16.2.2.2.2.2.2.2.1 k0_t2 k0_t34 k0_h16 r
theorem k0_t63_ok : ∀ (v253 : BitVec 32) (v260 : BitVec 32) (k0_hw16 : k0_chk16 v253 v260) (k0_t2 : Fin k0_t2_loop.trips), ∀ (k0_h32 : k0_cond32 v253 v260 k0_t2 = 1#1), (k0_t63_loop v253 v260 k0_t2).OK := fun v253 v260 k0_hw16 k0_t2 k0_h32 => k0_hw16.2.2.2.2.2.2.2.2.1 k0_t2 k0_h32
theorem k0_off66_inb : ∀ (v253 : BitVec 32) (v260 : BitVec 32) (k0_hw16 : k0_chk16 v253 v260) (k0_t2 : Fin k0_t2_loop.trips) (k0_t63 : Fin (k0_t63_loop v253 v260 k0_t2).trips), ∀ (k0_h32 : k0_cond32 v253 v260 k0_t2 = 1#1), ∀ (r : Fin 8), ∀ a, (k0_off66 v253 v260 k0_t2 k0_t63 (BitVec.ofNat 32 (16 * r.val))) a + S16.size a ≤ S51200.size a := fun v253 v260 k0_hw16 k0_t2 k0_t63 k0_h32 r => k0_hw16.2.2.2.2.2.2.2.2.2.1 k0_t2 k0_t63 k0_h32 r
theorem k0_t64_ok : ∀ (v253 : BitVec 32) (v260 : BitVec 32) (k0_hw16 : k0_chk16 v253 v260) (k0_t2 : Fin k0_t2_loop.trips), ∀ (k0_h32 : k0_cond32 v253 v260 k0_t2 = 1#1), (k0_t64_loop v253 v260 k0_t2).OK := fun v253 v260 k0_hw16 k0_t2 k0_h32 => k0_hw16.2.2.2.2.2.2.2.2.2.2.1 k0_t2 k0_h32
theorem k0_off67_inb : ∀ (v253 : BitVec 32) (v260 : BitVec 32) (k0_hw16 : k0_chk16 v253 v260) (k0_t2 : Fin k0_t2_loop.trips) (k0_t64 : Fin (k0_t64_loop v253 v260 k0_t2).trips), ∀ (k0_h32 : k0_cond32 v253 v260 k0_t2 = 1#1), ∀ (r : Fin 8), ∀ a, (k0_off67 v253 v260 k0_t2 k0_t64 (BitVec.ofNat 32 (16 * r.val))) a + S16.size a ≤ S51200.size a := fun v253 v260 k0_hw16 k0_t2 k0_t64 k0_h32 r => k0_hw16.2.2.2.2.2.2.2.2.2.2.2.1 k0_t2 k0_t64 k0_h32 r
theorem k0_t65_ok : ∀ (v253 : BitVec 32) (v260 : BitVec 32) (k0_hw16 : k0_chk16 v253 v260) (k0_t2 : Fin k0_t2_loop.trips), ∀ (k0_h33 : k0_cond33 v260 k0_t2 = 1#1), (k0_t65_loop v260 k0_t2).OK := fun v253 v260 k0_hw16 k0_t2 k0_h33 => k0_hw16.2.2.2.2.2.2.2.2.2.2.2.2.1 k0_t2 k0_h33
theorem k0_off68_inb : ∀ (v253 : BitVec 32) (v260 : BitVec 32) (k0_hw16 : k0_chk16 v253 v260) (k0_t2 : Fin k0_t2_loop.trips) (k0_t65 : Fin (k0_t65_loop v260 k0_t2).trips), ∀ (k0_h33 : k0_cond33 v260 k0_t2 = 1#1), ∀ (r : Fin 8), ∀ a, (k0_off68 v260 k0_t2 k0_t65 (BitVec.ofNat 32 (16 * r.val))) a + S16.size a ≤ S51200.size a := fun v253 v260 k0_hw16 k0_t2 k0_t65 k0_h33 r => k0_hw16.2.2.2.2.2.2.2.2.2.2.2.2.2.1 k0_t2 k0_t65 k0_h33 r
theorem k0_t66_ok : ∀ (v253 : BitVec 32) (v260 : BitVec 32) (k0_hw16 : k0_chk16 v253 v260) (k0_t2 : Fin k0_t2_loop.trips), ∀ (k0_h33 : k0_cond33 v260 k0_t2 = 1#1), (k0_t66_loop v260 k0_t2).OK := fun v253 v260 k0_hw16 k0_t2 k0_h33 => k0_hw16.2.2.2.2.2.2.2.2.2.2.2.2.2.2.1 k0_t2 k0_h33
theorem k0_off69_inb : ∀ (v253 : BitVec 32) (v260 : BitVec 32) (k0_hw16 : k0_chk16 v253 v260) (k0_t2 : Fin k0_t2_loop.trips) (k0_t66 : Fin (k0_t66_loop v260 k0_t2).trips), ∀ (k0_h33 : k0_cond33 v260 k0_t2 = 1#1), ∀ (r : Fin 8), ∀ a, (k0_off69 v260 k0_t2 k0_t66 (BitVec.ofNat 32 (16 * r.val))) a + S16.size a ≤ S51200.size a := fun v253 v260 k0_hw16 k0_t2 k0_t66 k0_h33 r => k0_hw16.2.2.2.2.2.2.2.2.2.2.2.2.2.2.2 k0_t2 k0_t66 k0_h33 r

def k0_cond34 (k0_t2 : Fin k0_t2_loop.trips) : BitVec 1 :=
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c2_i32_171 : BitVec 32 := 2#32
  let v602 : BitVec 32 := Scalar.addi v484 c2_i32_171
  let c10_i32_172 : BitVec 32 := 10#32
  let v603 : BitVec 1 := Scalar.cmpi .slt v602 c10_i32_172
  let v604 : BitVec 32 := Scalar.extui v603
  let c0_i32_173 : BitVec 32 := 0#32
  let v605 : BitVec 1 := Scalar.cmpi .ne v604 c0_i32_173
  v605

def k0_off70 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4000_i32 : BitVec 32 := 4000#32
  let v2 : BitVec 32 := Scalar.muli v1 c4000_i32
  let c0_i32_59 : BitVec 32 := 0#32
  let c1_i32_61 : BitVec 32 := 1#32
  let arg14 : BitVec 32 := Scf.iv c0_i32_59 c1_i32_61 k0_t2
  let c2_i32_119 : BitVec 32 := 2#32
  let v483 : BitVec 32 := Scalar.muli arg14 c2_i32_119
  let c1_i32_120 : BitVec 32 := 1#32
  let v484 : BitVec 32 := Scalar.addi v483 c1_i32_120
  let c2_i32_171 : BitVec 32 := 2#32
  let v602 : BitVec 32 := Scalar.addi v484 c2_i32_171
  let c400_i32_174 : BitVec 32 := 400#32
  let v606 : BitVec 32 := Scalar.muli v602 c400_i32_174
  let v607 : BitVec 32 := Scalar.addi v2 v606
  let c128_i32_175 : BitVec 32 := 128#32
  let v608 : BitVec 32 := Scalar.muli v607 c128_i32_175
  ![v608.toNat]
def k0_off71 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_64_r0 : BitVec 32 := 0#32
  ![v1.toNat, 0]
def k0_off72 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_63 : BitVec 32 := 16#32
  let v359 : BitVec 32 := Scalar.muli v1 c16_i32_63
  ![v359.toNat]
abbrev grid1 : Pipeline.Grid := ⟨1, ![12], ![false]⟩

def cc1_transform_0 (i : grid1.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x16000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1x16000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S16000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S1x1x3 : Shape := ⟨3, ![1, 1, 3]⟩
abbrev S_ : Shape := ⟨0, ![]⟩
abbrev S16x128 : Shape := ⟨2, ![16, 128]⟩
abbrev S320000x1 : Shape := ⟨2, ![320000, 1]⟩
abbrev S16 : Shape := ⟨1, ![16]⟩
abbrev S16x1 : Shape := ⟨2, ![16, 1]⟩
abbrev S16x130 : Shape := ⟨2, ![16, 130]⟩
abbrev S3 : Shape := ⟨1, ![3]⟩
abbrev S1 : Shape := ⟨1, ![1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S1x1x3, .f32⟩
  | .hbm, ⟨3, _⟩ => ⟨S_, .f32⟩
  | .hbm, ⟨4, _⟩ => ⟨S16x128, .f32⟩
  | .hbm, ⟨5, _⟩ => ⟨S320000x1, .i32⟩
  | .hbm, ⟨6, _⟩ => ⟨S16x128, .f32⟩
  | .hbm, ⟨7, _⟩ => ⟨S_, .f32⟩
  | .hbm, ⟨8, _⟩ => ⟨S320000, .f32⟩
  | .hbm, ⟨9, _⟩ => ⟨S_, .f32⟩
  | .hbm, ⟨10, _⟩ => ⟨S16, .f32⟩
  | .hbm, ⟨11, _⟩ => ⟨S320000x1, .i32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x1, .f32⟩
  | .hbm, ⟨17, _⟩ => ⟨S16x128, .f32⟩
  | .hbm, ⟨18, _⟩ => ⟨S16x128, .f32⟩
  | .hbm, ⟨19, _⟩ => ⟨S_, .i32⟩
  | .hbm, ⟨20, _⟩ => ⟨S_, .f32⟩
  | .hbm, ⟨21, _⟩ => ⟨S16x130, .f32⟩
  | .hbm, ⟨22, _⟩ => ⟨S3, .f32⟩
  | .hbm, ⟨23, _⟩ => ⟨S16x128, .f32⟩
  | .hbm, ⟨24, _⟩ => ⟨S1, .f32⟩
  | .hbm, ⟨25, _⟩ => ⟨S_, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S1, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S1, .f32⟩
  | .hbm, ⟨36, _⟩ => ⟨S_, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S_, .f32⟩
  | .hbm, ⟨43, _⟩ => ⟨S16x128, .f32⟩
  | .hbm, ⟨44, _⟩ => ⟨S16x128, .f32⟩
  | .hbm, ⟨45, _⟩ => ⟨S_, .f32⟩
  | .hbm, ⟨46, _⟩ => ⟨S16x128, .f32⟩
  | .hbm, ⟨47, _⟩ => ⟨S16x128, .f32⟩
  | .hbm, ⟨48, _⟩ => ⟨S_, .i32⟩
  | .hbm, ⟨49, _⟩ => ⟨S320000, .i32⟩
  | .hbm, ⟨50, _⟩ => ⟨S320000, .i1⟩
  | .hbm, ⟨51, _⟩ => ⟨S_, .i32⟩
  | .hbm, ⟨52, _⟩ => ⟨S320000, .i32⟩
  | .hbm, ⟨53, _⟩ => ⟨S320000, .i32⟩
  | .hbm, ⟨54, _⟩ => ⟨S320000, .i32⟩
  | .hbm, ⟨55, _⟩ => ⟨S320000x1, .i32⟩
  | .hbm, ⟨56, _⟩ => ⟨S1, .i32⟩
  | .hbm, ⟨57, _⟩ => ⟨S_, .i32⟩
  | .hbm, ⟨58, _⟩ => ⟨S320000x1, .i32⟩
  | .hbm, ⟨59, _⟩ => ⟨S320000x1, .i1⟩
  | .hbm, ⟨60, _⟩ => ⟨S1x1, .i32⟩
  | .hbm, ⟨61, _⟩ => ⟨S320000x1, .i32⟩
  | .hbm, ⟨62, _⟩ => ⟨S320000x1, .i1⟩
  | .hbm, ⟨63, _⟩ => ⟨S320000x1, .i1⟩
  | .hbm, ⟨64, _⟩ => ⟨S_, .i1⟩
  | .hbm, ⟨65, _⟩ => ⟨S320000, .i1⟩
  | .hbm, ⟨66, _⟩ => ⟨S320000x128, .f32⟩
  | .hbm, ⟨67, _⟩ => ⟨S320000x128, .i1⟩
  | .hbm, ⟨68, _⟩ => ⟨S_, .f32⟩
  | .hbm, ⟨69, _⟩ => ⟨S320000x128, .f32⟩
  | .hbm, ⟨70, _⟩ => ⟨S320000x128, .f32⟩
  | .hbm, ⟨71, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Sums.Words.lean ====
/- The words one segment's block of the SparseCore kernel computes with. Segment `s` covers the rows
`lo ≤ t < hi` of a tile's 4000, and a chunk the rows `cb ≤ t < cb + 400`; the block adds the rows in
both. Every printed block computes these words in the same way, so they are named once here, with
what they are as integers. -/
module

public import proofs.«01_k».proof.Proof.Gen.KernelIdeal.Skeleton
public import Idealize.ShloMosaic.Lib.LoopRemainder

@[expose] public section

namespace Cert.Sums

open Idealize.ShloMosaic Idealize.SL.Sem Cert.KernelIdeal Cert.KernelIdeal.Gen

/-- The first row of chunk `2 t + b`. -/
@[reducible] def cbw (b : BitVec 32) (t : Nat) : BitVec 32 :=
  Scalar.muli (Scalar.addi (Scalar.muli (Scf.iv 0#32 1#32 t) 2#32) b) 400#32

/-- The first row of the segment inside the chunk. -/
@[reducible] def gLo (lo cb : BitVec 32) : BitVec 32 := Scalar.maxsi (Scalar.subi lo cb) 0#32

/-- One past the last row of the segment inside the chunk. -/
@[reducible] def gHi (hi cb : BitVec 32) : BitVec 32 := Scalar.minsi (Scalar.subi hi cb) 400#32

/-- Whether the segment has a row in the chunk. -/
@[reducible] def gCond (lo hi cb : BitVec 32) : BitVec 1 :=
  Scalar.cmpi .ne (Scalar.extui (Scalar.cmpi .sgt (gHi hi cb) (gLo lo cb))) 0#32

/-- The loop over the segment's rows in the chunk. -/
@[reducible] def gLoop (lo hi cb : BitVec 32) : Scf.Loop 32 :=
  ⟨gLo lo cb, Scalar.addi (gLo lo cb) (Scalar.muli (Scalar.divsi (Scalar.subi (gHi hi cb) (gLo lo cb)) 1#32) 1#32), 1#32⟩

/-- The loop over the rows left over by steps of one: none. -/
@[reducible] def gRem (lo hi cb : BitVec 32) : Scf.Loop 32 :=
  ⟨Scalar.addi (gLo lo cb) (Scalar.muli (Scalar.divsi (Scalar.subi (gHi hi cb) (gLo lo cb)) 1#32) 1#32),
    Scalar.addi (gLo lo cb) (Scalar.subi (gHi hi cb) (gLo lo cb)), 1#32⟩

/-- Where trip `t` of a loop from the word `lb` reads its row's lanes from `c` on. -/
@[reducible] def gOff (lb : BitVec 32) (t : Nat) (c : BitVec 32) : Fin 1 → Nat :=
  ![(Scalar.indexCast (Scalar.addi (Scalar.muli (Scf.iv lb 1#32 t) 128#32) c)).toNat]

section
open Affine
variable {lo hi cb : BitVec 32} {a b c : Nat}

theorem isInt_cbw (d : Nat) (t : Nat) (ht : t < 5) (hd : d < 2) :
    IsInt (cbw (BitVec.ofNat 32 d) t) ((400 * (2 * t + d) : Nat) : Int) := by
  refine muli (ea := 2 * t + d) (eb := 400) (addi (ea := 2 * t) (eb := d) (muli (ea := t) (eb := 2)
    (iv (ea := 0) (eb := 1) (ofNat 0 ⟨rfl, by decide⟩) (ofNat 1 ⟨rfl, by decide⟩) t ?_) (ofNat 2 ⟨rfl, by decide⟩) ?_)
    (ofNat d ⟨rfl, by omega⟩) ?_) (ofNat 400 ⟨rfl, by decide⟩) ?_ <;> push_cast <;> omega

theorem isInt_gLo (hlo : IsInt lo a) (hcb : IsInt cb c) (ha : a ≤ 4000) (hc : c ≤ 4000) :
    IsInt (gLo lo cb) ((a - c : Nat) : Int) :=
  maxsi (subi (e := a - c) hlo hcb (by omega)) (ofNat 0 ⟨rfl, by decide⟩) (by push_cast; omega)

theorem isInt_gHi (hhi : IsInt hi b) (hcb : IsInt cb c) (hb : b ≤ 4000) (hc : c ≤ 4000) :
    IsInt (gHi hi cb) (min ((b : Int) - c) 400) :=
  minsi (subi (e := b - c) hhi hcb (by omega)) (ofNat 400 ⟨rfl, by decide⟩) rfl

/-- The block runs just where the segment has a row in the chunk. -/
theorem gCond_iff (hlo : IsInt lo a) (hhi : IsInt hi b) (hcb : IsInt cb c) (ha : a ≤ 4000) (hb : b ≤ 4000) (hc : c ≤ 4000) :
    gCond lo hi cb = 1#1 ↔ a - c < min (b - c) 400 := by
  have h1 := isInt_gLo hlo hcb ha hc
  have h2 := isInt_gHi hhi hcb hb hc
  by_cases h : a - c < min (b - c) 400
  · refine iff_of_true ?_ h
    exact ne_holds (extui_holds (e := 1) (sgt_holds h2 h1 (by omega)) rfl) (ofNat 0 ⟨rfl, by decide⟩) (by decide)
  · refine iff_of_false ?_ h
    exact ne_fails (extui_fails (e := 0) (sgt_fails h2 h1 (by omega)) rfl) (ofNat 0 ⟨rfl, by decide⟩) rfl

theorem isInt_gSub (hlo : IsInt lo a) (hhi : IsInt hi b) (hcb : IsInt cb c) (ha : a ≤ 4000) (hb : b ≤ 4000) (hc : c ≤ 4000) :
    IsInt (gLoop lo hi cb).ub (min ((b : Int) - c) 400) := by
  have h1 := isInt_gLo hlo hcb ha hc
  have h2 := isInt_gHi hhi hcb hb hc
  show IsInt (Scalar.addi _ (Scalar.muli (Scalar.divsi _ 1#32) 1#32)) _
  rw [Scalar.muli_divsi_one]
  exact addi h1 (subi (e := min ((b : Int) - c) 400 - (a - c : Nat)) h2 h1 (by omega)) (by omega)

/-- The loop's trips: one for each row of the segment in the chunk. -/
theorem gLoop_trips (hlo : IsInt lo a) (hhi : IsInt hi b) (hcb : IsInt cb c) (ha : a ≤ 4000) (hb : b ≤ 4000) (hc : c ≤ 4000) :
    (gLoop lo hi cb).trips = min (b - c) 400 - (a - c) := by
  have h1 := isInt_gLo hlo hcb ha hc
  have h2 := isInt_gSub hlo hhi hcb ha hb hc
  have e : (min ((b : Int) - c) 400 - (a - c : Nat)).toNat = min (b - c) 400 - (a - c) := by omega
  have h3 := by have := h1; unfold IsInt at this; exact this
  have h4 := by have := h2; unfold IsInt at this; exact this
  have h5 : (1#32 : BitVec 32).toInt = 1 := by decide
  show ((_ - (gLo lo cb).toInt + (1#32 : BitVec 32).toInt - 1) / (1#32 : BitVec 32).toInt).toNat = _
  rw [h3, h4, h5]
  omega

theorem gLoop_ok (hlo : IsInt lo a) (hhi : IsInt hi b) (hcb : IsInt cb c) (ha : a ≤ 4000) (hb : b ≤ 4000) (hc : c ≤ 4000) :
    (gLoop lo hi cb).OK :=
  ok (isInt_gLo hlo hcb ha hc) (isInt_gSub hlo hhi hcb ha hb hc) (ofNat 1 ⟨rfl, by decide⟩) (by omega)

/-- Trip `t` reads row `a - c + t` of the chunk. -/
theorem gOff_eq (hlo : IsInt lo a) (hcb : IsInt cb c) (ha : a ≤ 4000) (hc : c ≤ 4000) (t : Nat) (ht : t < 4000) (d : Nat) (hd : d < 128) :
    gOff (gLo lo cb) t (BitVec.ofNat 32 d) 0 = (a - c + t) * 128 + d := by
  have h1 : IsInt (Scalar.indexCast (Scalar.addi (Scalar.muli (Scf.iv (gLo lo cb) 1#32 t) 128#32) (BitVec.ofNat 32 d)))
      (((a - c + t) * 128 + d : Nat) : Int) := by
    refine indexCast (addi (ea := (((a - c + t) * 128 : Nat) : Int)) (eb := d) (muli (ea := ((a - c + t : Nat) : Int)) (eb := 128)
      (iv (isInt_gLo hlo hcb ha hc) (ofNat 1 ⟨rfl, by decide⟩) t ?_) (ofNat 128 ⟨rfl, by decide⟩) ?_) (ofNat d ⟨rfl, by omega⟩) ?_) <;>
      push_cast <;> omega
  have := toNat_of h1 (by omega)
  show (Scalar.indexCast _).toNat = _
  exact_mod_cast this

theorem gOff_inb (hlo : IsInt lo a) (hhi : IsInt hi b) (hcb : IsInt cb c) (ha : a ≤ 4000) (hb : b ≤ 4000) (hc : c ≤ 4000)
    (t : Fin (gLoop lo hi cb).trips) (r : Fin 8) :
    ∀ x, gOff (gLo lo cb) t (BitVec.ofNat 32 (16 * r.val)) x + S16.size x ≤ S51200.size x := by
  have ht := lt_of_lt_of_eq t.isLt (gLoop_trips hlo hhi hcb ha hb hc)
  refine Fin.forall_fin_one.mpr ?_
  rw [gOff_eq hlo hcb ha hc t (by omega) (16 * r.val) (by omega)]
  show _ + 16 ≤ 51200
  omega

end

/-- The checks the kernel makes of one pair of segment bounds, for the chunks of one parity. -/
def gChk (b lo hi : BitVec 32) : Prop :=
  (∀ t : Fin k0_t2_loop.trips, gCond lo hi (cbw b t) = 1#1 → (gLoop lo hi (cbw b t)).OK) ∧
  (∀ (t : Fin k0_t2_loop.trips) (t3 : Fin (gLoop lo hi (cbw b t)).trips), gCond lo hi (cbw b t) = 1#1 → ∀ (r : Fin 8) a,
    gOff (gLo lo (cbw b t)) t3 (BitVec.ofNat 32 (16 * r.val)) a + S16.size a ≤ S51200.size a) ∧
  (∀ t : Fin k0_t2_loop.trips, gCond lo hi (cbw b t) = 1#1 → (gRem lo hi (cbw b t)).OK) ∧
  (∀ (t : Fin k0_t2_loop.trips) (t3 : Fin (gRem lo hi (cbw b t)).trips), gCond lo hi (cbw b t) = 1#1 → ∀ (r : Fin 8) a,
    gOff (gRem lo hi (cbw b t)).lb t3 (BitVec.ofNat 32 (16 * r.val)) a + S16.size a ≤ S51200.size a)

/-- The chunk pairs: five. -/
theorem trips_t2 : k0_t2_loop.trips = 5 := by decide

/-- The checks hold of all bounds in a tile's rows. -/
theorem gChk_holds (d : Nat) (hd : d < 2) {lo hi : BitVec 32} {a b : Nat} (hlo : Affine.IsInt lo a) (hhi : Affine.IsInt hi b)
    (ha : a ≤ 4000) (hb : b ≤ 4000) : gChk (BitVec.ofNat 32 d) lo hi := by
  have ht (t : Fin k0_t2_loop.trips) : t.val < 5 := lt_of_lt_of_eq t.isLt trips_t2
  have hcb (t : Fin k0_t2_loop.trips) := isInt_cbw d t (ht t) hd
  have hc (t : Fin k0_t2_loop.trips) : 400 * (2 * t.val + d) ≤ 4000 := by have := ht t; omega
  exact ⟨fun t _ => gLoop_ok hlo hhi (hcb t) ha hb (hc t), fun t t3 _ r => gOff_inb hlo hhi (hcb t) ha hb (hc t) t3 r,
    fun t _ => Scf.rem_ok _ _, fun t t3 => (Scf.rem_no_trip _ _ t3).elim⟩

/-- A pair of neighbouring segments' bounds pass the kernel's checks: the first pair's, -/
theorem chk2_holds {lo hi : BitVec 32} {a b : Nat} (hlo : Affine.IsInt lo a) (hhi : Affine.IsInt hi b)
    (ha : a ≤ 4000) (hb : b ≤ 4000) : k0_chk2 lo hi := by
  have h0 := gChk_holds 0 (by decide) hlo hhi ha hb
  have h1 := gChk_holds 1 (by decide) hlo hhi ha hb
  exact ⟨h0.1, h0.2.1, h0.2.2.1, h0.2.2.2, h1.1, h1.2.1, h1.2.2.1, h1.2.2.2⟩

/-- and the last two pairs', the last one ending at the tile's last row. -/
theorem chk16_holds {lo hi : BitVec 32} {a b : Nat} (hlo : Affine.IsInt lo a) (hhi : Affine.IsInt hi b)
    (ha : a ≤ 4000) (hb : b ≤ 4000) : k0_chk16 lo hi := by
  have he : Affine.IsInt 4000#32 (4000 : Nat) := Affine.ofNat 4000 ⟨rfl, by decide⟩
  have h0 := gChk_holds 0 (by decide) hlo hhi ha hb
  have h1 := gChk_holds 1 (by decide) hlo hhi ha hb
  have g0 := gChk_holds 0 (by decide) hhi he hb le_rfl
  have g1 := gChk_holds 1 (by decide) hhi he hb le_rfl
  exact ⟨h0.1, h0.2.1, h0.2.2.1, h0.2.2.2, g0.1, g0.2.1, g0.2.2.1, g0.2.2.2,
    h1.1, h1.2.1, h1.2.2.1, h1.2.2.2, g1.1, g1.2.1, g1.2.2.1, g1.2.2.2⟩

theorem chk3_eq : k0_chk3 = k0_chk2 := rfl
theorem chk4_eq : k0_chk4 = k0_chk2 := rfl
theorem chk15_eq : k0_chk15 = k0_chk2 := rfl

end Cert.Sums
-- ==== Proof.Sums.Base.lean ====
/- The program as its launch sees it: the SparseCore call's configuration, the resource algebra the
proof works in, and the memrefs a tile's task runs on. -/
module

public import proofs.«01_k».proof.Proof.Sums.Words
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Transfers

@[expose] public section

noncomputable section

namespace Cert.Sums

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program below the SparseCore call: the kernels' and the two pipelines'. -/
abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

/-- The launch semaphores and the tiles' buffers are laid out as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipelines' rounds, the transfers' counters. -/
abbrev UH : Type := URounds (GSem nD τ sig) ℕ
abbrev UP : Type := URounds (GSem nD τ sig) Unit
abbrev UU : Type := UH × (UP × Counters)

/-- The worlds the proof speaks of. -/
abbrev MM (F : FTy → Type) : Type := MT nD τ sig (HIx 1) (Elt F) ℕ UU ℕ

abbrev EH : Emb UH (MM F) := embL
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MM F)).LandsIn (upEmb : UEmb _ (MM F)) := by unfold EP; infer_instance

/-- The arguments and results of the SparseCore call as a tile names them. -/
abbrev featW : Memref sig .scVector .hbm S40960000 .f32 := Memref.whole main_v0_scv
abbrev idxW : Memref sig .scVector .hbm S320000 .i32 := Memref.whole main_arg1_scv
abbrev psumW : Memref sig .scVector .hbm S32x2048 .f32 := Memref.whole main_v1_0_scv
abbrev pcntW : Memref sig .scVector .hbm S512 .f32 := Memref.whole main_v1_1_scv
/-- A tile's scratch: its indices, the two chunk buffers, the sums, the counts. -/
abbrev sIdx : Memref sig .scVector .vmem S4000 .i32 := Memref.whole cc0_scratch0
abbrev sA : Memref sig .scVector .vmem S51200 .f32 := Memref.whole cc0_scratch1
abbrev sB : Memref sig .scVector .vmem S51200 .f32 := Memref.whole cc0_scratch2
abbrev sAcc : Memref sig .scVector .vmem S2048 .f32 := Memref.whole cc0_scratch3
abbrev sCnt : Memref sig .scVector .vmem S16 .f32 := Memref.whole cc0_scratch4

end Cert.Sums

end
-- ==== Proof.Sums.Seg.lean ====
/- One segment's block of the SparseCore kernel: the loads and stores of a flat buffer sixteen lanes at
a time, with the values the buffer holds as a function of the position, and the block itself — the
rows of the segment in the chunk added one after the other onto the segment's 128 sums. -/
module

public import proofs.«01_k».proof.Proof.Sums.Base

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A row of 128 lanes as eight vectors of sixteen. -/
abbrev V8 (F : FTy → Type) : Type := Vec F S16 .f32 × Vec F S16 .f32 × Vec F S16 .f32 × Vec F S16 .f32
  × Vec F S16 .f32 × Vec F S16 .f32 × Vec F S16 .f32 × Vec F S16 .f32

/-- A flat buffer holding `A` position by position. -/
def H1 (c : Thread nD τ) {sp : Space} {n : Nat} {e : EltTy} (m : Memref sig c.2.kind sp ⟨1, ![n]⟩ e) (A : ℕ → Elt F e) : sProp (MM F) :=
  iprop(∃ f, ⌜∀ x, m.view.read (Elt F) f x = A (x 0).val⌝ ∗ m.view.loc c ↦[m.view.set]{fullShare} f)

/-- Lane `n` of sixteen. -/
def ix16 (n : ℕ) : S16.Idx := fun a => ⟨n % 16, by fin_cases a; exact Nat.mod_lt _ (by decide)⟩

/-- `A` with the sixteen positions from `o` on holding `w`. -/
def upd16 (A : ℕ → F .f32) (o : ℕ) (w : Vec F S16 .f32) : ℕ → F .f32 :=
  fun j => if o ≤ j ∧ j < o + 16 then w (ix16 (j - o)) else A j

/-- The terms `g 0, g 1, …, g (n - 1)` added one after the other onto `x`. -/
def addRows (g : ℕ → F .f32) (x : F .f32) : ℕ → F .f32
  | 0 => x
  | n + 1 => FloatOps.addf (addRows g x n) (g n)

variable {d : Dev nD} {cc : Fin τ.nSC} {j : Fin τ.nSub}

/-- A tile's program. -/
abbrev PR (F : FTy → Type) (cc : Fin τ.nSC) (j : Fin τ.nSub) (α : Type) : Type 1 := Prog (TpuEff nD τ sig (Elt F) Λ₀ (Proc.scVector cc j)) α

/-- A tile's program runs to `Q`. -/
abbrev WP (d : Dev nD) (cc : Fin τ.nSC) (j : Fin τ.nSub) {α : Type} (p : PR F cc j α) (Q : α → sProp (MM F)) : sProp (MM F) :=
  wp frame (wpE (defs₀ (F := F)) 𝒱₀ (V d cc j) none) Set.univ p Q

variable {α : Type} {Q : α → sProp (MM F)} {R : sProp (MM F)}

/-- Sixteen lanes loaded from a flat buffer. -/
theorem wp_load16 {sp : CoreSpace} {n : Nat} {m : Memref sig .scVector sp ⟨1, ![n]⟩ .f32} {A : ℕ → F .f32} {off : Fin 1 → Nat}
    {inb : ∀ a, off a + S16.size a ≤ (⟨1, ![n]⟩ : Shape).size a} {hl : m.view.LoadsAt (Rect.unit (s := ⟨1, ![n]⟩) off S16.size inb).toLoadRect}
    {k : Vec F S16 .f32 → PR F cc j α}
    (hk : iprop(R ∗ H1 (V d cc j) m A) ⊢ WP d cc j (k (fun x => A (off 0 + (x 0).val))) Q) :
    iprop(R ∗ H1 (V d cc j) m A) ⊢ WP d cc j
      (Prog.op (TpuEff.load m (Rect.unit (s := ⟨1, ![n]⟩) off S16.size inb).toLoadRect hl) k) Q := by
  unfold H1 at hk ⊢
  iintro ⟨HR, %f, %hf, Hm⟩
  iapply (wp_load 𝒱₀ (V d cc j) none Set.univ (S := m.view.set) (m.view.setOn_subset_set _)) $$ Hm
  iintro Hm
  have e : m.view.readAt (Elt F) (Rect.unit (s := ⟨1, ![n]⟩) off S16.size inb).toLoadRect f = fun x => A (off 0 + (x 0).val) := by
    funext x
    rw [View.readAt_apply, hf]
    congr 1
    show (off 0 + 1 * (x 0).val) = _
    omega
  rw [e]
  iapply hk
  isplitl [HR]; · iexact HR
  iexists f; isplitr; · ipureintro; exact hf
  iexact Hm

/-- Sixteen lanes stored to a flat buffer. -/
theorem wp_store16 {sp : CoreSpace} {n : Nat} {m : Memref sig .scVector sp ⟨1, ![n]⟩ .f32} {A : ℕ → F .f32} {off : Fin 1 → Nat}
    {inb : ∀ a, off a + S16.size a ≤ (⟨1, ![n]⟩ : Shape).size a} {w : Vec F S16 .f32}
    {hx : (m.access (Rect.unit (s := ⟨1, ![n]⟩) off S16.size inb)).Stores Finset.univ} {hm}
    {k : PUnit → PR F cc j α}
    (hk : iprop(R ∗ H1 (V d cc j) m (upd16 A (off 0) w)) ⊢ WP d cc j (k ⟨⟩) Q) :
    iprop(R ∗ H1 (V d cc j) m A) ⊢ WP d cc j
      (Prog.op (TpuEff.store m (Rect.unit (s := ⟨1, ![n]⟩) off S16.size inb) w Finset.univ hx hm) k) Q := by
  unfold H1 at hk ⊢
  iintro ⟨HR, %f, %hf, Hm⟩
  iapply (wp_store 𝒱₀ (V d cc j) none Set.univ (m := m) (r := Rect.unit (s := ⟨1, ![n]⟩) off S16.size inb) (S := m.view.set) (Memref.setOn_access_subset m _ _)) $$ Hm
  iintro Hm
  iapply hk
  isplitl [HR]; · iexact HR
  iexists _
  isplitr
  rotate_left
  · iexact Hm
  ipureintro
  intro x
  unfold upd16
  split
  · next h =>
    let y : S16.Idx := ix16 ((x 0).val - off 0)
    have hy : (Rect.unit (s := ⟨1, ![n]⟩) off S16.size inb).emb y = x := by
      funext a
      fin_cases a
      apply Fin.ext
      show off 0 + 1 * (((x 0).val - off 0) % 16) = (x 0).val
      omega
    conv_lhs => rw [← hy]
    exact View.read_slice_write_emb _ _ _ (Finset.mem_univ _)
  · next h =>
    rw [← hf]
    refine View.read_slice_write_of_not_mem _ _ _ _ (fun hmem => h ?_)
    obtain ⟨y, -, rfl⟩ := Finset.mem_map.mp hmem
    have hy : (y 0).val < 16 := (y 0).isLt
    show off 0 ≤ off 0 + 1 * (y 0).val ∧ off 0 + 1 * (y 0).val < off 0 + 16
    omega

/-- One row of the chunk added onto the eight vectors. -/
def gBody (mb : Memref sig .scVector .vmem S51200 .f32) (lb : BitVec 32) (t : ℕ)
    (hinb : ∀ r : Fin 8, ∀ a, gOff lb t (BitVec.ofNat 32 (16 * r.val)) a + S16.size a ≤ S51200.size a) : V8 F → PR F cc j (V8 F) :=
  fun (a0, a1, a2, a3, a4, a5, a6, a7) => do
    let v0 : Vec F S16 .f32 ← Prog.lift (.load mb (Rect.unit (s := S51200) (gOff lb t 0#32) S16.size (hinb 0)).toLoadRect (View.loadsAt_vmem h_S16))
    let v1 : Vec F S16 .f32 ← Prog.lift (.load mb (Rect.unit (s := S51200) (gOff lb t 16#32) S16.size (hinb 1)).toLoadRect (View.loadsAt_vmem h_S16))
    let v2 : Vec F S16 .f32 ← Prog.lift (.load mb (Rect.unit (s := S51200) (gOff lb t 32#32) S16.size (hinb 2)).toLoadRect (View.loadsAt_vmem h_S16))
    let v3 : Vec F S16 .f32 ← Prog.lift (.load mb (Rect.unit (s := S51200) (gOff lb t 48#32) S16.size (hinb 3)).toLoadRect (View.loadsAt_vmem h_S16))
    let v4 : Vec F S16 .f32 ← Prog.lift (.load mb (Rect.unit (s := S51200) (gOff lb t 64#32) S16.size (hinb 4)).toLoadRect (View.loadsAt_vmem h_S16))
    let v5 : Vec F S16 .f32 ← Prog.lift (.load mb (Rect.unit (s := S51200) (gOff lb t 80#32) S16.size (hinb 5)).toLoadRect (View.loadsAt_vmem h_S16))
    let v6 : Vec F S16 .f32 ← Prog.lift (.load mb (Rect.unit (s := S51200) (gOff lb t 96#32) S16.size (hinb 6)).toLoadRect (View.loadsAt_vmem h_S16))
    let v7 : Vec F S16 .f32 ← Prog.lift (.load mb (Rect.unit (s := S51200) (gOff lb t 112#32) S16.size (hinb 7)).toLoadRect (View.loadsAt_vmem h_S16))
    pure (addf a0 v0, addf a1 v1, addf a2 v2, addf a3 v3, addf a4 v4, addf a5 v5, addf a6 v6, addf a7 v7)

/-- Sixteen lanes of row `u` of the chunk, from lane `c` on. -/
def rowAt (B : ℕ → F .f32) (u c : ℕ) : Vec F S16 .f32 := fun x => B (u * 128 + c + (x 0).val)

theorem wp_gBody {mb : Memref sig .scVector .vmem S51200 .f32} {lb : BitVec 32} {t : ℕ} {B : ℕ → F .f32}
    {hinb : ∀ r : Fin 8, ∀ a, gOff lb t (BitVec.ofNat 32 (16 * r.val)) a + S16.size a ≤ S51200.size a} {v : V8 F} {Q : V8 F → sProp (MM F)}
    (u : ℕ) (hu : ∀ c < 128, gOff lb t (BitVec.ofNat 32 c) 0 = u * 128 + c)
    (hk : iprop(R ∗ H1 (V d cc j) mb B) ⊢ Q (addf v.1 (rowAt B u 0), addf v.2.1 (rowAt B u 16), addf v.2.2.1 (rowAt B u 32),
      addf v.2.2.2.1 (rowAt B u 48), addf v.2.2.2.2.1 (rowAt B u 64), addf v.2.2.2.2.2.1 (rowAt B u 80),
      addf v.2.2.2.2.2.2.1 (rowAt B u 96), addf v.2.2.2.2.2.2.2 (rowAt B u 112))) :
    iprop(R ∗ H1 (V d cc j) mb B) ⊢ WP d cc j (gBody mb lb t hinb v) Q := by
  obtain ⟨a0, a1, a2, a3, a4, a5, a6, a7⟩ := v
  have hr (c : ℕ) (hc : c < 128) : (fun x : S16.Idx => B (gOff lb t (BitVec.ofNat 32 c) 0 + (x 0).val)) = rowAt B u c := by
    funext x; rw [hu c hc]; rfl
  unfold gBody
  refine wp_load16 ?_
  refine wp_load16 ?_
  refine wp_load16 ?_
  refine wp_load16 ?_
  refine wp_load16 ?_
  refine wp_load16 ?_
  refine wp_load16 ?_
  refine wp_load16 ?_
  rw [hr 0 (by decide), hr 16 (by decide), hr 32 (by decide), hr 48 (by decide), hr 64 (by decide), hr 80 (by decide),
    hr 96 (by decide), hr 112 (by decide)]
  exact hk.trans fupd_intro

/-- The sums from position `o` on with `n` rows of the chunk, from row `a` on, added. -/
def segUp (A : ℕ → F .f32) (o : ℕ) (B : ℕ → F .f32) (a n : ℕ) : ℕ → F .f32 :=
  fun j => if o ≤ j ∧ j < o + 128 then addRows (fun u => B ((a + u) * 128 + (j - o))) (A j) n else A j

/-- Sixteen of the sums after `n` rows. -/
def lanesAt (A : ℕ → F .f32) (o : ℕ) (B : ℕ → F .f32) (a n c : ℕ) : Vec F S16 .f32 :=
  fun x => addRows (fun u => B ((a + u) * 128 + c + (x 0).val)) (A (o + c + (x 0).val)) n

theorem lanesAt_succ (A : ℕ → F .f32) (o : ℕ) (B : ℕ → F .f32) (a n c : ℕ) :
    lanesAt A o B a (n + 1) c = addf (lanesAt A o B a n c) (rowAt B (a + n) c) := rfl

def lanes8 (A : ℕ → F .f32) (o : ℕ) (B : ℕ → F .f32) (a n : ℕ) : V8 F :=
  (lanesAt A o B a n 0, lanesAt A o B a n 16, lanesAt A o B a n 32, lanesAt A o B a n 48, lanesAt A o B a n 64, lanesAt A o B a n 80, lanesAt A o B a n 96, lanesAt A o B a n 112)

theorem segUp_eq (A : ℕ → F .f32) (o : ℕ) (B : ℕ → F .f32) (a n : ℕ) :
    (upd16 (upd16 (upd16 (upd16 (upd16 (upd16 (upd16 (upd16 A (o + 0) (lanesAt A o B a n 0)) (o + 16) (lanesAt A o B a n 16)) (o + 32) (lanesAt A o B a n 32)) (o + 48) (lanesAt A o B a n 48)) (o + 64) (lanesAt A o B a n 64)) (o + 80) (lanesAt A o B a n 80)) (o + 96) (lanesAt A o B a n 96)) (o + 112) (lanesAt A o B a n 112)) = segUp A o B a n := by
  funext i
  have hl (c : ℕ) (h1 : o + c ≤ i) (h2 : i < o + c + 16) : lanesAt A o B a n c (ix16 (i - (o + c))) = addRows (fun u => B ((a + u) * 128 + (i - o))) (A i) n := by
    have h3 : ((ix16 (i - (o + c))) 0).val = i - (o + c) := Nat.mod_eq_of_lt (by omega)
    have h4 (u : ℕ) : (a + u) * 128 + c + (i - (o + c)) = (a + u) * 128 + (i - o) := by omega
    have h5 : o + c + (i - (o + c)) = i := by omega
    unfold lanesAt
    simp only [h3, h4, h5]
  unfold segUp upd16
  split_ifs
  all_goals first
    | rfl
    | omega
    | exact hl _ (by omega) (by omega)
    | (exfalso; omega)

theorem segUp_zero (A : ℕ → F .f32) (o : ℕ) (B : ℕ → F .f32) (a : ℕ) : segUp A o B a 0 = A := by
  funext i; unfold segUp addRows; simp

/-- A counted loop at the head of a tile's program, by an invariant: what the loop does not touch waits outside. -/
theorem wp_forR {σ : Type} {R' : sProp (MM F)} (l : Scf.Loop 32) (hok : l.OK) (init : σ) (body : Fin l.trips → σ → PR F cc j σ)
    (I : ℕ → σ → sProp (MM F)) (hbody : ∀ (t : Fin l.trips) v, I t v ⊢ WP d cc j (body t v) (I (t.val + 1)))
    {kk : σ → PR F cc j α} (h0 : R' ⊢ I 0 init) (hk : ∀ v, iprop(R ∗ I l.trips v) ⊢ WP d cc j (kk v) Q) :
    iprop(R ∗ R') ⊢ WP d cc j (Scf.Loop.for l hok init body >>= kk) Q := by
  have hl := Scf.wp_for_bind frame (wpE (defs₀ (F := F)) 𝒱₀ (V d cc j) none) Set.univ l.lb l.ub l.st hok init body I hbody (kk := kk) (Q := Q)
  iintro ⟨HR, H⟩
  ihave H0 := h0 $$ H
  ihave Hl := hl $$ H0
  iapply Hl
  iintro %v HI
  iapply (hk v)
  isplitl [HR]; · iexact HR
  iexact HI

/-- A segment's block: the rows of the segment in the chunk added onto its 128 sums. -/
theorem wp_seg {mb : Memref sig .scVector .vmem S51200 .f32} {ma : Memref sig .scVector .vmem S2048 .f32} {A B : ℕ → F .f32}
    (lo hi cb : BitVec 32) (a b c o : ℕ) (hlo : Affine.IsInt lo a) (hhi : Affine.IsInt hi b) (hcb : Affine.IsInt cb c)
    (ha : a ≤ 4000) (hb : b ≤ 4000) (hc : c ≤ 4000)
    {i0 : ∀ x, (![o] : Fin 1 → ℕ) x + S16.size x ≤ S2048.size x}
    {i1 : ∀ x, (![o + 16] : Fin 1 → ℕ) x + S16.size x ≤ S2048.size x}
    {i2 : ∀ x, (![o + 32] : Fin 1 → ℕ) x + S16.size x ≤ S2048.size x}
    {i3 : ∀ x, (![o + 48] : Fin 1 → ℕ) x + S16.size x ≤ S2048.size x}
    {i4 : ∀ x, (![o + 64] : Fin 1 → ℕ) x + S16.size x ≤ S2048.size x}
    {i5 : ∀ x, (![o + 80] : Fin 1 → ℕ) x + S16.size x ≤ S2048.size x}
    {i6 : ∀ x, (![o + 96] : Fin 1 → ℕ) x + S16.size x ≤ S2048.size x}
    {i7 : ∀ x, (![o + 112] : Fin 1 → ℕ) x + S16.size x ≤ S2048.size x}
    {hok : gCond lo hi cb = 1#1 → (gLoop lo hi cb).OK} {hok' : gCond lo hi cb = 1#1 → (gRem lo hi cb).OK}
    {b1 : gCond lo hi cb = 1#1 → Fin (gLoop lo hi cb).trips → V8 F → PR F cc j (V8 F)}
    {b2 : gCond lo hi cb = 1#1 → Fin (gRem lo hi cb).trips → V8 F → PR F cc j (V8 F)}
    (hinb : ∀ (t : Fin (gLoop lo hi cb).trips), ∀ r : Fin 8, ∀ x, gOff (gLo lo cb) t (BitVec.ofNat 32 (16 * r.val)) x + S16.size x ≤ S51200.size x)
    (hb1 : ∀ h t v, b1 h t v = gBody mb (gLo lo cb) t (hinb t) v)
    {kk : PR F cc j α}
    (hk : iprop((R ∗ H1 (V d cc j) mb B) ∗ H1 (V d cc j) ma (segUp A o B (a - c) (min (b - c) 400 - (a - c)))) ⊢ WP d cc j kk Q) :
    iprop((R ∗ H1 (V d cc j) mb B) ∗ H1 (V d cc j) ma A) ⊢ WP d cc j
      (if h : gCond lo hi cb = 1#1 then do
        let w0 : Vec F S16 .f32 ← Prog.lift (.load ma (Rect.unit (s := S2048) ![o] S16.size i0).toLoadRect (View.loadsAt_vmem h_S16))
        let w1 : Vec F S16 .f32 ← Prog.lift (.load ma (Rect.unit (s := S2048) ![o + 16] S16.size i1).toLoadRect (View.loadsAt_vmem h_S16))
        let w2 : Vec F S16 .f32 ← Prog.lift (.load ma (Rect.unit (s := S2048) ![o + 32] S16.size i2).toLoadRect (View.loadsAt_vmem h_S16))
        let w3 : Vec F S16 .f32 ← Prog.lift (.load ma (Rect.unit (s := S2048) ![o + 48] S16.size i3).toLoadRect (View.loadsAt_vmem h_S16))
        let w4 : Vec F S16 .f32 ← Prog.lift (.load ma (Rect.unit (s := S2048) ![o + 64] S16.size i4).toLoadRect (View.loadsAt_vmem h_S16))
        let w5 : Vec F S16 .f32 ← Prog.lift (.load ma (Rect.unit (s := S2048) ![o + 80] S16.size i5).toLoadRect (View.loadsAt_vmem h_S16))
        let w6 : Vec F S16 .f32 ← Prog.lift (.load ma (Rect.unit (s := S2048) ![o + 96] S16.size i6).toLoadRect (View.loadsAt_vmem h_S16))
        let w7 : Vec F S16 .f32 ← Prog.lift (.load ma (Rect.unit (s := S2048) ![o + 112] S16.size i7).toLoadRect (View.loadsAt_vmem h_S16))
        let (x0, x1, x2, x3, x4, x5, x6, x7) ← Scf.Loop.for (gLoop lo hi cb) (hok h) (w0, w1, w2, w3, w4, w5, w6, w7) (b1 h)
        let (y0, y1, y2, y3, y4, y5, y6, y7) ← Scf.Loop.for (gRem lo hi cb) (hok' h) (x0, x1, x2, x3, x4, x5, x6, x7) (b2 h)
        let _z0 : Vec F S16 .f32 ← Prog.lift (.load ma (Rect.unit (s := S2048) ![o] S16.size i0).toLoadRect (View.loadsAt_vmem h_S16))
        Prog.lift (.store ma (Rect.unit (s := S2048) ![o] S16.size i0) y0 Finset.univ (View.stores_vmem_bits_univ h_S16 rfl) (.inl rfl))
        let _z1 : Vec F S16 .f32 ← Prog.lift (.load ma (Rect.unit (s := S2048) ![o + 16] S16.size i1).toLoadRect (View.loadsAt_vmem h_S16))
        Prog.lift (.store ma (Rect.unit (s := S2048) ![o + 16] S16.size i1) y1 Finset.univ (View.stores_vmem_bits_univ h_S16 rfl) (.inl rfl))
        let _z2 : Vec F S16 .f32 ← Prog.lift (.load ma (Rect.unit (s := S2048) ![o + 32] S16.size i2).toLoadRect (View.loadsAt_vmem h_S16))
        Prog.lift (.store ma (Rect.unit (s := S2048) ![o + 32] S16.size i2) y2 Finset.univ (View.stores_vmem_bits_univ h_S16 rfl) (.inl rfl))
        let _z3 : Vec F S16 .f32 ← Prog.lift (.load ma (Rect.unit (s := S2048) ![o + 48] S16.size i3).toLoadRect (View.loadsAt_vmem h_S16))
        Prog.lift (.store ma (Rect.unit (s := S2048) ![o + 48] S16.size i3) y3 Finset.univ (View.stores_vmem_bits_univ h_S16 rfl) (.inl rfl))
        let _z4 : Vec F S16 .f32 ← Prog.lift (.load ma (Rect.unit (s := S2048) ![o + 64] S16.size i4).toLoadRect (View.loadsAt_vmem h_S16))
        Prog.lift (.store ma (Rect.unit (s := S2048) ![o + 64] S16.size i4) y4 Finset.univ (View.stores_vmem_bits_univ h_S16 rfl) (.inl rfl))
        let _z5 : Vec F S16 .f32 ← Prog.lift (.load ma (Rect.unit (s := S2048) ![o + 80] S16.size i5).toLoadRect (View.loadsAt_vmem h_S16))
        Prog.lift (.store ma (Rect.unit (s := S2048) ![o + 80] S16.size i5) y5 Finset.univ (View.stores_vmem_bits_univ h_S16 rfl) (.inl rfl))
        let _z6 : Vec F S16 .f32 ← Prog.lift (.load ma (Rect.unit (s := S2048) ![o + 96] S16.size i6).toLoadRect (View.loadsAt_vmem h_S16))
        Prog.lift (.store ma (Rect.unit (s := S2048) ![o + 96] S16.size i6) y6 Finset.univ (View.stores_vmem_bits_univ h_S16 rfl) (.inl rfl))
        let _z7 : Vec F S16 .f32 ← Prog.lift (.load ma (Rect.unit (s := S2048) ![o + 112] S16.size i7).toLoadRect (View.loadsAt_vmem h_S16))
        Prog.lift (.store ma (Rect.unit (s := S2048) ![o + 112] S16.size i7) y7 Finset.univ (View.stores_vmem_bits_univ h_S16 rfl) (.inl rfl))
        kk
      else kk) Q := by
  have hn := gLoop_trips hlo hhi hcb ha hb hc
  have hg := gCond_iff hlo hhi hcb ha hb hc
  split
  · next h =>
    refine wp_load16 ?_
    refine wp_load16 ?_
    refine wp_load16 ?_
    refine wp_load16 ?_
    refine wp_load16 ?_
    refine wp_load16 ?_
    refine wp_load16 ?_
    refine wp_load16 ?_
    rw [← hn] at hk
    have hsw (X Y Z : sProp (MM F)) : iprop((X ∗ Y) ∗ Z) ⊢ iprop((X ∗ Z) ∗ Y) := by
      iintro ⟨⟨HX, HY⟩, HZ⟩; isplitl [HX HZ]
      · isplitl [HX] <;> iassumption
      iexact HY
    refine (hsw _ _ _).trans ?_
    refine wp_forR (gLoop lo hi cb) (hok h) _ (b1 h) (fun t v => iprop(⌜v = lanes8 A o B (a - c) t⌝ ∗ H1 (V d cc j) mb B)) ?_ ?_ ?_
    · intro t v
      rw [hb1]
      have ht : t.val < 4000 := by have := lt_of_lt_of_eq t.isLt hn; omega
      iintro ⟨%hv, Hb⟩
      subst hv
      iapply (wp_gBody (R := iprop(emp)) (a - c + t) (fun x hx => gOff_eq hlo hcb ha hc t ht x hx) ?_)
      · iintro ⟨-, Hb⟩
        isplitr; · ipureintro; rfl
        iexact Hb
      · isplitr; · itrivial
        iexact Hb
    · iintro Hb; isplitr; · ipureintro; rfl
      iexact Hb
    · intro v
      have key : iprop((R ∗ H1 (V d cc j) mb B) ∗ H1 (V d cc j) ma A) ⊢ WP d cc j
          (Scf.for (gRem lo hi cb).lb (gRem lo hi cb).ub (gRem lo hi cb).st (hok' h) (lanes8 A o B (a - c) (gLoop lo hi cb).trips) (b2 h) >>= fun
            (y0, y1, y2, y3, y4, y5, y6, y7) => do
              let _z0 : Vec F S16 .f32 ← Prog.lift (.load ma (Rect.unit (s := S2048) ![o] S16.size i0).toLoadRect (View.loadsAt_vmem h_S16))
              Prog.lift (.store ma (Rect.unit (s := S2048) ![o] S16.size i0) y0 Finset.univ (View.stores_vmem_bits_univ h_S16 rfl) (.inl rfl))
              let _z1 : Vec F S16 .f32 ← Prog.lift (.load ma (Rect.unit (s := S2048) ![o + 16] S16.size i1).toLoadRect (View.loadsAt_vmem h_S16))
              Prog.lift (.store ma (Rect.unit (s := S2048) ![o + 16] S16.size i1) y1 Finset.univ (View.stores_vmem_bits_univ h_S16 rfl) (.inl rfl))
              let _z2 : Vec F S16 .f32 ← Prog.lift (.load ma (Rect.unit (s := S2048) ![o + 32] S16.size i2).toLoadRect (View.loadsAt_vmem h_S16))
              Prog.lift (.store ma (Rect.unit (s := S2048) ![o + 32] S16.size i2) y2 Finset.univ (View.stores_vmem_bits_univ h_S16 rfl) (.inl rfl))
              let _z3 : Vec F S16 .f32 ← Prog.lift (.load ma (Rect.unit (s := S2048) ![o + 48] S16.size i3).toLoadRect (View.loadsAt_vmem h_S16))
              Prog.lift (.store ma (Rect.unit (s := S2048) ![o + 48] S16.size i3) y3 Finset.univ (View.stores_vmem_bits_univ h_S16 rfl) (.inl rfl))
              let _z4 : Vec F S16 .f32 ← Prog.lift (.load ma (Rect.unit (s := S2048) ![o + 64] S16.size i4).toLoadRect (View.loadsAt_vmem h_S16))
              Prog.lift (.store ma (Rect.unit (s := S2048) ![o + 64] S16.size i4) y4 Finset.univ (View.stores_vmem_bits_univ h_S16 rfl) (.inl rfl))
              let _z5 : Vec F S16 .f32 ← Prog.lift (.load ma (Rect.unit (s := S2048) ![o + 80] S16.size i5).toLoadRect (View.loadsAt_vmem h_S16))
              Prog.lift (.store ma (Rect.unit (s := S2048) ![o + 80] S16.size i5) y5 Finset.univ (View.stores_vmem_bits_univ h_S16 rfl) (.inl rfl))
              let _z6 : Vec F S16 .f32 ← Prog.lift (.load ma (Rect.unit (s := S2048) ![o + 96] S16.size i6).toLoadRect (View.loadsAt_vmem h_S16))
              Prog.lift (.store ma (Rect.unit (s := S2048) ![o + 96] S16.size i6) y6 Finset.univ (View.stores_vmem_bits_univ h_S16 rfl) (.inl rfl))
              let _z7 : Vec F S16 .f32 ← Prog.lift (.load ma (Rect.unit (s := S2048) ![o + 112] S16.size i7).toLoadRect (View.loadsAt_vmem h_S16))
              Prog.lift (.store ma (Rect.unit (s := S2048) ![o + 112] S16.size i7) y7 Finset.univ (View.stores_vmem_bits_univ h_S16 rfl) (.inl rfl))
              kk) Q := by
        rw [Scf.for_rem_eq]
        refine wp_load16 (wp_store16 ?_)
        refine wp_load16 (wp_store16 ?_)
        refine wp_load16 (wp_store16 ?_)
        refine wp_load16 (wp_store16 ?_)
        refine wp_load16 (wp_store16 ?_)
        refine wp_load16 (wp_store16 ?_)
        refine wp_load16 (wp_store16 ?_)
        refine wp_load16 (wp_store16 ?_)
        refine BIBase.Entails.trans (Entails.of_eq ?_) hk
        congr 2
        exact segUp_eq A o B (a - c) _
      iintro ⟨⟨HR, Ha⟩, %hv, Hb⟩
      subst hv
      iapply key
      isplitl [HR Hb]
      · isplitl [HR] <;> iassumption
      iexact Ha
  · next h =>
    have e : min (b - c) 400 - (a - c) = 0 := by rw [hg] at h; omega
    rw [e, segUp_zero] at hk
    exact hk

end Cert.Sums

end
-- ==== Proof.Sums.Copies.lean ====
/- A tile's copies: a fetch of a stretch of a flat array into a buffer of the tile, from its issue to its
wait, with the values it brings. -/
module

public import proofs.«01_k».proof.Proof.Sums.Seg
public import Idealize.ShloMosaic.Lib.SparseCore.Scatter

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A share of a whole array. -/
def Tok (c : Thread nD τ) {sp : Space} {s : Shape} {e : EltTy} (m : Memref sig c.2.kind sp s e) (q : PosShare TreeShare)
    (f : Buf (Elt F) (m.view.loc c)) : sProp (MM F) :=
  iprop(m.view.loc c ↦[m.view.set]{q} f)

/-- A copy into `mb` on its way: waiting for it yields `D`. -/
def Coming (c : Thread nD τ) {sp : Space} {s : Shape} {e : EltTy} (mb : Memref sig c.2.kind sp s e) (sm : DmaSem sig) (D : sProp (MM F)) : sProp (MM F) :=
  Transfers.Flight (countersEmb (U := UU)) c (.dma sm) (none : HIx 1) mb.view.dmaCredit D

/-- The thread owes `O`, and has waited for nothing since `W` but its own copies. -/
def Owe (c : Thread nD τ) (O : CellTallies nD τ sig (HIx 1)) (W : Waits sig (HIx 1)) : sProp (MM F) :=
  iprop(∃ W', ⌜∀ p ∈ W', p ∈ W ∨ p.2 = none⌝ ∗ owes c O W')

variable {d : Dev nD} {cc : Fin τ.nSC} {j : Fin τ.nSub} {α : Type} {Q : α → sProp (MM F)} {R : sProp (MM F)}

/-- A fetch's issue. -/
theorem wp_fetch {e : EltTy} {sp : CoreSpace} {N n : ℕ} {w : Memref sig .scVector .hbm ⟨1, ![N]⟩ e} {mb : Memref sig .scVector sp ⟨1, ![n]⟩ e}
    {q : PosShare TreeShare} {f : Buf (Elt F) (w.view.loc (V d cc j))} {G : ℕ → Elt F e} (hG : ∀ x, w.view.read (Elt F) f x = G (x 0).val)
    (hn : 0 < n) {off : Fin 1 → ℕ} {inb : ∀ a, off a + (⟨1, ![n]⟩ : Shape).size a ≤ (⟨1, ![N]⟩ : Shape).size a} {hsl}
    {sm : DmaSem sig} {h1 h2 h3} {k : PUnit → PR F cc j α} {A : ℕ → Elt F e}
    (hk : iprop(R ∗ Coming (V d cc j) mb sm iprop(Tok (V d cc j) w q f ∗ H1 (V d cc j) mb (fun p => G (off 0 + p)))) ⊢ WP d cc j (k ⟨⟩) Q) :
    iprop(R ∗ (Tok (V d cc j) w q f ∗ semVal (V d cc j, SemLoc.dma sm) 0 ∗ H1 (V d cc j) mb A)) ⊢ WP d cc j
      (Prog.op (TpuEff.enqueueDma (w.slice (Rect.unit (s := ⟨1, ![N]⟩) off (⟨1, ![n]⟩ : Shape).size inb) hsl) (.here mb) (.dma sm) h1 h2 h3) k) Q := by
  unfold Tok H1
  iintro ⟨HR, Hw, Hs, %f0, -, Hb⟩
  ihave Hw' := (pointsTo_split_subset (w.view.set_slice_subset (Rect.unit (s := ⟨1, ![N]⟩) off (⟨1, ![n]⟩ : Shape).size inb))).1 $$ Hw
  icases Hw' with ⟨Hw, Hrest⟩
  ihave Hf := (Transfers.wp_dmaLocal (countersEmb (U := UU)) 𝒱₀ (V d cc j) none (src := w.slice (Rect.unit (s := ⟨1, ![N]⟩) off (⟨1, ![n]⟩ : Shape).size inb) hsl)
    (dst := mb) (sm := .dma sm) (via := .same) (k := k) (Q := Q) (none : HIx 1) mb.view.dmaCredit rfl (mb.view.dmaCredit_pos (Shape.numel_pos fun a => by fin_cases a; exact hn)) (Finset.Subset.refl _)) $$ [Hw Hs Hb]
  · isplitl [Hw]; · iexact Hw
    isplitl [Hb]; · iexact Hb
    iexact Hs
  iapply Hf
  iintro Hfl
  iapply hk
  isplitl [HR]; · iexact HR
  unfold Coming
  ihave Hfl' := (Transfers.Flight_frame (countersEmb (U := UU)) (V d cc j)) $$ [Hrest Hfl]
  · isplitl [Hrest]; · iexact Hrest
    iexact Hfl
  iapply (Transfers.Flight_mono (countersEmb (U := UU)) (V d cc j) ?_) $$ Hfl'
  unfold Tok
  iintro ⟨Hr, Hb, Hw⟩
  isplitl [Hr Hw]
  · iapply (pointsTo_split_subset (w.view.set_slice_subset (Rect.unit (s := ⟨1, ![N]⟩) off (⟨1, ![n]⟩ : Shape).size inb))).2
    isplitl [Hw] <;> iassumption
  unfold H1
  iexists _
  isplitr
  rotate_left
  · iexact Hb
  ipureintro
  intro x
  rw [View.read_write_univ]
  show (w.view.slice (Rect.unit (s := ⟨1, ![N]⟩) off (⟨1, ![n]⟩ : Shape).size inb)).read (Elt F) f x = _
  have := hG ((Rect.unit (s := ⟨1, ![N]⟩) off (⟨1, ![n]⟩ : Shape).size inb).emb x)
  rw [View.read_apply] at this ⊢
  refine Eq.trans ?_ (this.trans (congrArg G ?_))
  · rw [View.emb_slice]; rfl
  · rw [Rect.emb_apply]; simp [Rect.unit]

/-- Its wait. -/
theorem wp_fetched {e e' : EltTy} {sp : Space} {sp' : Space} {s s' : Shape} {src : Memref sig .scVector sp' s' e'} {mb : Memref sig .scVector sp s e}
    {sm : DmaSem sig} {D : sProp (MM F)} {h1 h2} {k : PUnit → PR F cc j α} {O : CellTallies nD τ sig (HIx 1)} {W : Waits sig (HIx 1)}
    (hO : ∀ g, O g none = 0)
    (hk : iprop(R ∗ (D ∗ semVal (V d cc j, SemLoc.dma sm) 0 ∗ Owe (V d cc j) O W)) ⊢ WP d cc j (k ⟨⟩) Q) :
    iprop(R ∗ (levAts (K (F := F)).L (K (F := F)).lev ∗ Coming (V d cc j) mb sm D ∗ Owe (V d cc j) O W)) ⊢ WP d cc j
      (Prog.op (TpuEff.waitDma2 sm src mb h1 h2) k) Q := by
  unfold Owe at *
  iintro ⟨HR, #Hlv, Hc, %W', %hW', HO⟩
  ihave Hmw := ((K (F := F)).mayWait_none (thr := V d cc j) (SemLoc.dma sm) hO) $$ Hlv
  unfold Coming
  ihave Hf := (Transfers.wp_waitLocalO (countersEmb (U := UU)) 𝒱₀ (V d cc j) none (srcw := src) (dstw := mb) (sem := sm) (k := k) (Q := Q) (hsrc := h1) (hdst := h2) (none : HIx 1) rfl) $$ [Hc HO Hmw]
  · isplitl [Hc]; · iexact Hc
    isplitl [HO]; · iexact HO
    iexact Hmw
  iapply Hf
  iintro ⟨HD, Hs, HO⟩
  iapply hk
  isplitl [HR]; · iexact HR
  isplitl [HD]; · iexact HD
  isplitl [Hs]; · iexact Hs
  iexists _; isplitr
  rotate_left
  · iexact HO
  ipureintro
  intro p hp
  rcases Finset.mem_insert.mp hp with hp | hp
  · exact .inr (hp ▸ rfl)
  · exact hW' p hp

end Cert.Sums

end
-- ==== Proof.Sums.Offsets.lean ====
/- Where a tile's copies lie in the arrays of the SparseCore call. -/
module

public import proofs.«01_k».proof.Proof.Sums.Words

@[expose] public section

namespace Cert.Sums

open Cert.KernelIdeal Cert.KernelIdeal.Gen
open Idealize.ShloMosaic
open Idealize.ShloMosaic.Affine (IsInt addi muli iv ofNat toNat_of slt_holds slt_fails ne_holds ne_fails extui_holds extui_fails)

/-- A tile's number. -/
def wid (i : grid0.Coords) : ℕ := 16 * (i 0).val + (i 1).val

theorem wid_lt (i : grid0.Coords) : wid i < 32 := by
  have h0 : (i 0).val < 2 := (i 0).isLt
  have h1 : (i 1).val < 16 := (i 1).isLt
  unfold wid; omega

theorem isInt_wid (i : grid0.Coords) :
    IsInt (Scalar.addi (Scalar.muli (BitVec.ofNat 32 (i 0).val) 16#32) (BitVec.ofNat 32 (i 1).val)) (wid i) := by
  have h0 : (i 0).val < 2 := (i 0).isLt
  have h1 : (i 1).val < 16 := (i 1).isLt
  refine addi (ea := ((16 * (i 0).val : ℕ) : ℤ)) (eb := (i 1).val) (muli (ea := (i 0).val) (eb := 16) (ofNat _ ⟨rfl, by omega⟩) (ofNat 16 ⟨rfl, by decide⟩) ?_)
    (ofNat _ ⟨rfl, by omega⟩) ?_ <;> (try unfold wid) <;> push_cast <;> omega

theorem isInt_base (i : grid0.Coords) :
    IsInt (Scalar.muli (Scalar.addi (Scalar.muli (BitVec.ofNat 32 (i 0).val) 16#32) (BitVec.ofNat 32 (i 1).val)) 4000#32) ((wid i * 4000 : ℕ) : ℤ) := by
  have := wid_lt i
  refine muli (ea := wid i) (eb := 4000) (isInt_wid i) (ofNat 4000 ⟨rfl, by decide⟩) ?_ <;> push_cast <;> omega

/-- The first element of a tile's row `n` in the flat features. -/
def fOff (i : grid0.Coords) (n : ℕ) : ℕ := (wid i * 4000 + n) * 128

theorem off_of_int {i : grid0.Coords} {w : BitVec 32} {n : ℕ} (hn : n ≤ 4000) (h : IsInt w (n : ℤ)) :
    (Scalar.muli (Scalar.addi (Scalar.muli (Scalar.addi (Scalar.muli (BitVec.ofNat 32 (i 0).val) 16#32) (BitVec.ofNat 32 (i 1).val)) 4000#32) w) 128#32).toNat = fOff i n := by
  have := wid_lt i
  have h2 : IsInt (Scalar.muli (Scalar.addi (Scalar.muli (Scalar.addi (Scalar.muli (BitVec.ofNat 32 (i 0).val) 16#32) (BitVec.ofNat 32 (i 1).val)) 4000#32) w) 128#32) ((fOff i n : ℕ) : ℤ) := by
    refine muli (ea := ((wid i * 4000 + n : ℕ) : ℤ)) (eb := 128) (addi (ea := ((wid i * 4000 : ℕ) : ℤ)) (eb := n) (isInt_base i) h ?_) (ofNat 128 ⟨rfl, by decide⟩) ?_ <;>
      (try unfold fOff) <;> push_cast <;> omega
  exact_mod_cast toNat_of h2 (by omega)

theorem off1_eq (i : grid0.Coords) : k0_off1 i 0 = wid i * 4000 := by
  exact_mod_cast toNat_of (isInt_base i) (by omega)

theorem off2_eq (i : grid0.Coords) (n : ℕ) (hn : n ≤ 4000) : k0_off2 i (BitVec.ofNat 32 n) 0 = fOff i n :=
  off_of_int hn (ofNat n ⟨rfl, by omega⟩)

/-- The chunk fetched two ahead of chunk `2 * t + p`. -/
theorem isInt_next (p : ℕ) (hp : p < 2) (t : ℕ) (ht : t < 5) :
    IsInt (Scalar.addi (Scalar.addi (Scalar.muli (Scf.iv 0#32 1#32 t) 2#32) (BitVec.ofNat 32 p)) 2#32) ((2 * (t + 1) + p : ℕ) : ℤ) := by
  refine addi (ea := ((2 * t + p : ℕ) : ℤ)) (eb := 2) (addi (ea := ((2 * t : ℕ) : ℤ)) (eb := p) (muli (ea := t) (eb := 2) (iv (ea := 0) (eb := 1) (ofNat 0 ⟨rfl, by decide⟩) (ofNat 1 ⟨rfl, by decide⟩) t ?_) (ofNat 2 ⟨rfl, by decide⟩) ?_)
    (ofNat p ⟨rfl, by omega⟩) ?_) (ofNat 2 ⟨rfl, by decide⟩) ?_ <;> push_cast <;> omega

theorem next_off {i : grid0.Coords} (p : ℕ) (hp : p < 2) (t : ℕ) (ht : t < 4) :
    (Scalar.muli (Scalar.addi (Scalar.muli (Scalar.addi (Scalar.muli (BitVec.ofNat 32 (i 0).val) 16#32) (BitVec.ofNat 32 (i 1).val)) 4000#32)
      (Scalar.muli (Scalar.addi (Scalar.addi (Scalar.muli (Scf.iv 0#32 1#32 t) 2#32) (BitVec.ofNat 32 p)) 2#32) 400#32)) 128#32).toNat = fOff i (400 * (2 * (t + 1) + p)) :=
  off_of_int (by omega) (muli (ea := ((2 * (t + 1) + p : ℕ) : ℤ)) (eb := 400) (isInt_next p hp t (by omega)) (ofNat 400 ⟨rfl, by decide⟩) (by push_cast; omega))

theorem off36_eq (i : grid0.Coords) (t : Fin k0_t2_loop.trips) (ht : t.val < 4) : k0_off36 i t 0 = fOff i (400 * (2 * (t.val + 1) + 0)) :=
  next_off 0 (by decide) t.val ht

theorem off70_eq (i : grid0.Coords) (t : Fin k0_t2_loop.trips) (ht : t.val < 4) : k0_off70 i t 0 = fOff i (400 * (2 * (t.val + 1) + 1)) :=
  next_off 1 (by decide) t.val ht

theorem next_iff (p : ℕ) (hp : p < 2) (t : ℕ) (ht : t < 5) :
    Scalar.cmpi .ne (Scalar.extui (Scalar.cmpi .slt (Scalar.addi (Scalar.addi (Scalar.muli (Scf.iv 0#32 1#32 t) 2#32) (BitVec.ofNat 32 p)) 2#32) 10#32) : BitVec 32) 0#32 = 1#1 ↔ t < 4 := by
  have h1 := isInt_next p hp t ht
  have h2 : IsInt 10#32 10 := ofNat 10 ⟨rfl, by decide⟩
  by_cases h : t < 4
  · exact iff_of_true (ne_holds (extui_holds (e := 1) (slt_holds h1 h2 (by omega)) rfl) (ofNat 0 ⟨rfl, by decide⟩) (by decide)) h
  · exact iff_of_false (ne_fails (extui_fails (e := 0) (slt_fails h1 h2 (by omega)) rfl) (ofNat 0 ⟨rfl, by decide⟩) rfl) h

theorem cond17_iff (t : Fin k0_t2_loop.trips) : k0_cond17 t = 1#1 ↔ t.val < 4 := next_iff 0 (by decide) t.val (trips_t2 ▸ t.isLt)
theorem cond34_iff (t : Fin k0_t2_loop.trips) : k0_cond34 t = 1#1 ↔ t.val < 4 := next_iff 1 (by decide) t.val (trips_t2 ▸ t.isLt)

theorem off71_eq (i : grid0.Coords) : k0_off71 i = ![wid i, 0] := by
  have h : (Scalar.addi (Scalar.muli (BitVec.ofNat 32 (i 0).val) 16#32) (BitVec.ofNat 32 (i 1).val)).toNat = wid i := by
    exact_mod_cast toNat_of (isInt_wid i) (by omega)
  show ![_, 0] = _
  rw [← h]

theorem off72_eq (i : grid0.Coords) : k0_off72 i 0 = wid i * 16 := by
  have := wid_lt i
  have h : IsInt (Scalar.muli (Scalar.addi (Scalar.muli (BitVec.ofNat 32 (i 0).val) 16#32) (BitVec.ofNat 32 (i 1).val)) 16#32) ((wid i * 16 : ℕ) : ℤ) := by
    refine muli (ea := wid i) (eb := 16) (isInt_wid i) (ofNat 16 ⟨rfl, by decide⟩) ?_ <;> push_cast <;> omega
  exact_mod_cast toNat_of h (by omega)

end Cert.Sums
-- ==== Proof.Sums.Chunk.lean ====
/- A tile's chunk pair: two fetched chunks' rows added onto the sums of the segments they belong to. -/
module

public import proofs.«01_k».proof.Proof.Sums.Copies
public import proofs.«01_k».proof.Proof.Sums.Offsets

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The words `sw` are the segments' first rows `st` in a tile's 4000 rows; the last ends at 4000. -/
structure Starts (sw : ℕ → BitVec 32) (st : ℕ → ℕ) : Prop where
  int : ∀ s, Affine.IsInt (sw s) (st s)
  le : ∀ s, st s ≤ 4000
  last : st 16 = 4000

theorem Starts.int16 {sw : ℕ → BitVec 32} {st : ℕ → ℕ} (h : Starts sw st) : Affine.IsInt 4000#32 (st 16) := by
  rw [h.last]; exact Affine.ofNat 4000 ⟨rfl, by decide⟩

/-- The sums after the first `s` segments' rows of the chunk starting at row `c` are added. -/
def chunkUp (A B : ℕ → F .f32) (st : ℕ → ℕ) (c : ℕ) : ℕ → (ℕ → F .f32)
  | 0 => A
  | s + 1 => segUp (chunkUp A B st c s) (128 * s) B (st s - c) (min (st (s + 1) - c) 400 - (st s - c))

variable {d : Dev nD} {α : Type} {Q : α → sProp (MM F)} {R R' : sProp (MM F)} {i : grid0.Coords}

/-- A tile's program run by the pair of coordinates `i`. -/
abbrev WI (d : Dev nD) (i : grid0.Coords) {α : Type} (p : PR F ((i 0).castLE hcore0) ((i 1).castLE hsub0) α) (Q : α → sProp (MM F)) : sProp (MM F) :=
  WP d ((i 0).castLE hcore0) ((i 1).castLE hsub0) p Q

abbrev VI (d : Dev nD) (i : grid0.Coords) : Thread nD τ := V d ((i 0).castLE hcore0) ((i 1).castLE hsub0)

/-- A chunk pair's offset words. -/
theorem base_int (p : ℕ) (hp : p < 2) (t : Fin k0_t2_loop.trips) : Affine.IsInt (cbw (BitVec.ofNat 32 p) t.val) (400 * (2 * t.val + p)) :=
  isInt_cbw p t.val (trips_t2 ▸ t.isLt) hp

theorem base_le (p : ℕ) (hp : p < 2) (t : Fin k0_t2_loop.trips) : 400 * (2 * t.val + p) ≤ 4000 := by
  have h : t.val < 5 := trips_t2 ▸ t.isLt
  omega

/-- The sums after the first `n` chunks of a tile. -/
def accAt (A : ℕ → F .f32) (G : ℕ → F .f32) (st : ℕ → ℕ) (i : grid0.Coords) : ℕ → (ℕ → F .f32)
  | 0 => A
  | n + 1 => chunkUp (accAt A G st i n) (fun x => G (fOff i (400 * n) + x)) st (400 * n) 16

/-- Before chunk pair `n`, its chunk of parity `p` is coming into `mb`; after the last pair nothing is. -/
def Slot (d : Dev nD) (i : grid0.Coords) (mb : Memref sig .scVector .vmem S51200 .f32) (sm : DmaSem sig) (q : PosShare TreeShare)
    (f : Buf (Elt F) ((featW).view.loc (VI d i))) (G : ℕ → F .f32) (n p : ℕ) : sProp (MM F) :=
  if n < 5 then Coming (VI d i) mb sm iprop(Tok (VI d i) featW q f ∗ H1 (VI d i) mb (fun x => G (fOff i (400 * (2 * n + p)) + x)))
  else iprop(Tok (VI d i) featW q f ∗ semVal (VI d i, SemLoc.dma sm) 0 ∗ ∃ A : ℕ → F .f32, H1 (VI d i) mb A)

section
variable {mb : Memref sig .scVector .vmem S51200 .f32} {q : PosShare TreeShare} {f : Buf (Elt F) ((featW).view.loc (VI d i))} {G : ℕ → F .f32}

/-- The fetch two chunks ahead, made unless the last pair is under way. -/
theorem wp_next {p : ℕ} {t : Fin k0_t2_loop.trips} {C : Prop} [Decidable C] (hC : C ↔ t.val < 4)
    (hG : ∀ x, (featW).view.read (Elt F) f x = G (x 0).val) {off : Fin 1 → ℕ} {inb : C → ∀ a, off a + S51200.size a ≤ S40960000.size a} {hsl : ∀ h : C, ∀ a, (Rect.unit (s := S40960000) off S51200.size (inb h)).stride a = 1}
    (hoff : t.val < 4 → off 0 = fOff i (400 * (2 * (t.val + 1) + p)))
    {sm : DmaSem sig} {h1 : ∀ h : C, ((featW).slice (Rect.unit (s := S40960000) off S51200.size (inb h)) (hsl h)).view.WordExact}
    {h2 : C → mb.view.WordExact} {h3 : C → DmaTarget.Typed Space.hbm (SemLoc.dma sm) (DmaTarget.here (nD := nD) (τ := τ) (p := .scVector ((i 0).castLE hcore0) ((i 1).castLE hsub0)) mb)} {A : ℕ → F .f32} {kk : PR F ((i 0).castLE hcore0) ((i 1).castLE hsub0) α}
    (hk : iprop(R ∗ Slot d i mb sm q f G (t.val + 1) p) ⊢ WI d i kk Q) :
    iprop(R ∗ (Tok (VI d i) featW q f ∗ semVal (VI d i, SemLoc.dma sm) 0 ∗ H1 (VI d i) mb A)) ⊢ WI d i
      (if h : C then
        Prog.op (TpuEff.enqueueDma ((featW).slice (Rect.unit (s := S40960000) off S51200.size (inb h)) (hsl h)) (.here mb) (.dma sm) (h1 h) (h2 h) (h3 h)) fun _ => kk
      else kk) Q := by
  by_cases h : C
  · rw [dif_pos h]
    have ht := hC.mp h
    refine wp_fetch (w := featW) (f := f) (G := G) hG (by decide) ?_
    unfold Slot at hk
    rw [if_pos (by omega), ← hoff ht] at hk
    exact hk
  · rw [dif_neg h]
    refine BIBase.Entails.trans ?_ hk
    have ht := t.isLt
    have ht' : t.val < 5 := trips_t2 ▸ ht
    have : ¬ t.val < 4 := fun h' => h (hC.mpr h')
    unfold Slot
    rw [if_neg (by omega)]
    iintro ⟨HR, Ht, Hs, Hb⟩
    isplitl [HR]; · iexact HR
    isplitl [Ht]; · iexact Ht
    isplitl [Hs]; · iexact Hs
    iexists A; iexact Hb
end

/-- The state between chunk pairs. -/
def Pair (d : Dev nD) (i : grid0.Coords) (q₁ q₂ : PosShare TreeShare) (f : Buf (Elt F) ((featW).view.loc (VI d i))) (A G : ℕ → F .f32) (st : ℕ → ℕ)
    (O : CellTallies nD τ sig (HIx 1)) (W : Waits sig (HIx 1)) (n : ℕ) : sProp (MM F) :=
  iprop(levAts (K (F := F)).L (K (F := F)).lev ∗ Slot d i sA cc0_scratch6.sem q₁ f G n 0 ∗ Slot d i sB cc0_scratch7.sem q₂ f G n 1 ∗ Owe (VI d i) O W ∗
    H1 (VI d i) sAcc (accAt A G st i (2 * n)))

theorem wp_seq {β : Type} {p : PR F ((i 0).castLE hcore0) ((i 1).castLE hsub0) β} {k : β → PR F ((i 0).castLE hcore0) ((i 1).castLE hsub0) α}
    (h : R ⊢ WI d i p fun r => WI d i (k r) Q) : R ⊢ WI d i (p >>= k) Q := by
  refine h.trans (Entails.of_eq ?_)
  simp only [WI, WP, wp_bind]

theorem wp_cut {β : Type} {p : PR F ((i 0).castLE hcore0) ((i 1).castLE hsub0) β} {k : β → PR F ((i 0).castLE hcore0) ((i 1).castLE hsub0) α}
    (M : sProp (MM F)) (h : R ⊢ WI d i p fun _ => M) (hk : ∀ r, M ⊢ WI d i (k r) Q) : R ⊢ WI d i (p >>= k) Q :=
  wp_seq (h.trans (wp_mono frame (wpE (defs₀ (F := F)) 𝒱₀ (VI d i) none) Set.univ hk))

end Cert.Sums

end
-- ==== Proof.Sums.Search.lean ====
/- A tile's binary search: in the sixteen lanes at once, the first of the tile's 4000 indices that is
not below the lane's number, and the sixteen words read off the lanes. -/
module

public import proofs.«01_k».proof.Proof.Sums.Chunk

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

/-- One halving of the interval `p` of positions of the indices `I`, for the number `s`. -/
def bsStep (I : ℕ → BitVec 32) (s : ℕ) (p : ℕ × ℕ) : ℕ × ℕ :=
  if p.1 < p.2 then
    (if (I (min ((p.1 + p.2) / 2) 3999)).slt (BitVec.ofNat 32 s) then ((p.1 + p.2) / 2 + 1, p.2) else (p.1, (p.1 + p.2) / 2))
  else p

/-- The interval after `n` halvings of 0 to 4000. -/
def bs (I : ℕ → BitVec 32) (s : ℕ) : ℕ → ℕ × ℕ
  | 0 => (0, 4000)
  | n + 1 => bsStep I s (bs I s n)

theorem bs_le (I : ℕ → BitVec 32) (s n : ℕ) : (bs I s n).1 ≤ (bs I s n).2 ∧ (bs I s n).2 ≤ 4000 := by
  induction n with
  | zero => exact ⟨Nat.zero_le _, le_refl _⟩
  | succ n ih =>
    show (bsStep I s (bs I s n)).1 ≤ (bsStep I s (bs I s n)).2 ∧ (bsStep I s (bs I s n)).2 ≤ 4000
    obtain ⟨h1, h2⟩ := ih
    unfold bsStep
    split
    · split <;> constructor <;> dsimp only <;> omega
    · exact ⟨h1, h2⟩

/-- The first rows of the segments in a tile's 4000 rows, as the search finds them. -/
def stOf (I : ℕ → BitVec 32) (s : ℕ) : ℕ := if s < 16 then (bs I s 12).1 else 4000

theorem stOf_le (I : ℕ → BitVec 32) (s : ℕ) : stOf I s ≤ 4000 := by
  unfold stOf
  split
  · have := bs_le I s 12; omega
  · exact le_refl _

/-- The lanes' lower ends after `n` halvings. -/
def loV (I : ℕ → BitVec 32) (n : ℕ) : IVec S16 32 := fun x => BitVec.ofNat 32 (bs I (x 0).val n).1
/-- The lanes' upper ends. -/
def hiV (I : ℕ → BitVec 32) (n : ℕ) : IVec S16 32 := fun x => BitVec.ofNat 32 (bs I (x 0).val n).2

/-- The lanes' numbers. -/
abbrev iotaV : IVec S16 32 := iota .scVector S16 32 [0] iota_S16_d0_w32_scVector

theorem iotaV_apply (x : S16.Idx) : iotaV x = BitVec.ofNat 32 (x 0).val := by
  unfold iotaV iota
  simp

/-- Lane `s` of `v`, read as the sum of the vector that is `v` in that lane and 0 elsewhere. -/
def pick (v : IVec S16 32) (s : ℕ) : BitVec 32 :=
  extractAt ![15] (scan .sum (select (cmpi .eq iotaV (broadcast S16 (BitVec.ofNat 32 s))) v (broadcast S16 0#32))) inpos_S16_p15

theorem ofNat_eq_iff {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · rintro rfl; rfl

theorem slt_ofNat {a b : ℕ} (ha : a < 2 ^ 31) (hb : b < 2 ^ 31) : (BitVec.ofNat 32 a).slt (BitVec.ofNat 32 b) = decide (a < b) := by
  have h1 : (BitVec.ofNat 32 a).toInt = a := by simpa [Affine.IsInt] using Affine.ofNat (e := a) a ⟨rfl, ha⟩
  have h2 : (BitVec.ofNat 32 b).toInt = b := by simpa [Affine.IsInt] using Affine.ofNat (e := b) b ⟨rfl, hb⟩
  rw [BitVec.slt, h1, h2]
  simp

theorem lane_ext {p : ℕ} (hp : p < 16) (x : S16.Idx) : ((x 0).val = p) ↔ x = ix16 p := by
  constructor
  · intro h
    funext a
    fin_cases a
    apply Fin.ext
    show (x 0).val = p % 16
    omega
  · rintro rfl
    show p % 16 = p
    omega

theorem pick_eq (v : IVec S16 32) (s : ℕ) (hs : s < 16) : pick v s = v (ix16 s) := by
  have hsel : select (cmpi .eq iotaV (broadcast S16 (BitVec.ofNat 32 s))) v (broadcast S16 0#32)
      = fun x : S16.Idx => if (x 0).val = s then v (ix16 s) else 0#32 := by
    funext x
    show Scalar.select (IntOp.cmpi .eq (iotaV x) (BitVec.ofNat 32 s)) (v x) 0#32 = _
    rw [iotaV_apply]
    have hx : (x 0).val < 16 := (x 0).isLt
    unfold Scalar.select IntOp.cmpi
    by_cases h : (x 0).val = s
    · rw [if_pos h, ← (lane_ext hs x).mp h, h]
      simp
    · rw [if_neg h]
      have : ¬ BitVec.ofNat 32 (x 0).val = BitVec.ofNat 32 s := fun e => h ((ofNat_eq_iff (by omega) (by omega)).mp e)
      rw [if_neg]
      have hb : (BitVec.ofNat 32 (x 0).val == BitVec.ofNat 32 s) = false := by simpa only [beq_eq_false_iff_ne] using this
      show ¬ BitVec.ofBool (BitVec.ofNat 32 (x 0).val == BitVec.ofNat 32 s) = 1
      rw [hb]
      decide
  unfold pick
  rw [hsel]
  generalize v (ix16 s) = w
  show List.foldl (fun (r : BitVec 32) (k : Fin 16) => r + if k.val = s then w else 0#32) (if 0 = s then w else 0#32)
    ((List.finRange 16).filter fun k => decide (0 < k.val ∧ k.val ≤ 15)) = w
  rw [show ((List.finRange 16).filter fun k => decide (0 < k.val ∧ k.val ≤ 15)) = [1, 2, 3, 4, 5, 6, 7, 8, 9, 10, 11, 12, 13, 14, 15] from by decide]
  obtain ⟨k, rfl⟩ : ∃ k : Fin 16, k.val = s := ⟨⟨s, hs⟩, rfl⟩
  fin_cases k <;> simp [List.foldl]

theorem loV_zero (I : ℕ → BitVec 32) : loV I 0 = k0_pay514 := rfl
theorem hiV_zero (I : ℕ → BitVec 32) : hiV I 0 = k0_pay515 := rfl

theorem toInt_nat {a : ℕ} (ha : a < 2 ^ 31) : (BitVec.ofNat 32 a).toInt = a := by
  simpa [Affine.IsInt] using Affine.ofNat (e := a) a ⟨rfl, ha⟩

/-- Half the sum of two positions. -/
theorem half_word {a b : ℕ} (ha : a ≤ 4000) (hb : b ≤ 4000) :
    IntOp.divsi .vector (IntOp.addi (BitVec.ofNat 32 a) (BitVec.ofNat 32 b)) 2#32 = BitVec.ofNat 32 ((a + b) / 2) := by
  have e : IntOp.addi (BitVec.ofNat 32 a) (BitVec.ofNat 32 b) = BitVec.ofNat 32 (a + b) := by
    show BitVec.ofNat 32 a + BitVec.ofNat 32 b = _
    rw [BitVec.ofNat_add]
  rw [e]
  have hc : ¬ IntOp.SDivCorner (BitVec.ofNat 32 (a + b)) 2#32 := by
    rintro (h | ⟨-, h⟩)
    · exact absurd h (by decide)
    · exact absurd h (by decide)
  have hd : IntOp.divsi .vector (BitVec.ofNat 32 (a + b)) 2#32 = Scalar.divsi (BitVec.ofNat 32 (a + b)) 2#32 := by
    show IntOp.divsi .vector _ _ = IntOp.divsi .scalar _ _
    unfold IntOp.divsi
    rw [if_neg hc, if_neg hc]
  rw [hd]
  apply BitVec.eq_of_toInt_eq
  have h := Affine.divsi (e := (((a + b) / 2 : ℕ) : ℤ)) (Affine.ofNat (e := ((a + b : ℕ) : ℤ)) (a + b) ⟨rfl, by omega⟩) (Affine.ofNat (e := 2) 2 ⟨rfl, by decide⟩) ⟨by push_cast; rfl, by omega, by decide⟩
  rw [toInt_nat (by omega)]
  simpa [Affine.IsInt] using h

theorem min_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat ha hb]
  by_cases h : a < b
  · rw [if_pos (by simpa using h), min_eq_left h.le]
  · rw [if_neg (by simpa using h), min_eq_right (by omega)]

/-- The positions looked at in trip `n`. -/
theorem mid_eq (I : ℕ → BitVec 32) (n : ℕ) (x : S16.Idx) :
    k0_pay517 (loV I n) (hiV I n) x = BitVec.ofNat 32 (((bs I (x 0).val n).1 + (bs I (x 0).val n).2) / 2) := by
  have h := bs_le I (x 0).val n
  exact half_word (by omega) (by omega)

theorem pos_eq (I : ℕ → BitVec 32) (n : ℕ) (x : S16.Idx) :
    k0_pay518 (loV I n) (hiV I n) x = BitVec.ofNat 32 (min (((bs I (x 0).val n).1 + (bs I (x 0).val n).2) / 2) 3999) := by
  have h := bs_le I (x 0).val n
  show IntOp.minsi (k0_pay517 (loV I n) (hiV I n) x) (BitVec.ofNat 32 3999) = _
  rw [mid_eq, min_word (by omega) (by decide)]

theorem chk1_holds (I : ℕ → BitVec 32) (n : ℕ) : k0_chk1 (k0_pay518 (loV I n) (hiV I n)) := by
  intro a x
  fin_cases a
  show (k0_pay518 (loV I n) (hiV I n) x).toNat < 4000
  rw [pos_eq, BitVec.toNat_ofNat]
  omega

variable {F : FTy → Type} [FloatOps F]

section
variable (I : ℕ → BitVec 32) (n : ℕ) (v : Vec F S16 .i32)
  (hv : ∀ x, v x = I (min (((bs I (x 0).val n).1 + (bs I (x 0).val n).2) / 2) 3999))
include hv

theorem below_eq (x : S16.Idx) : k0_pay519 (F := F) iotaV v x
    = BitVec.ofBool ((I (min (((bs I (x 0).val n).1 + (bs I (x 0).val n).2) / 2) 3999)).slt (BitVec.ofNat 32 (x 0).val)) := by
  show IntOp.cmpi .slt (v x) (iotaV x) = _
  rw [hv, iotaV_apply]
  rfl

theorem act_eq (x : S16.Idx) : k0_pay516 (loV I n) (hiV I n) x = BitVec.ofBool (decide ((bs I (x 0).val n).1 < (bs I (x 0).val n).2)) := by
  have h := bs_le I (x 0).val n
  show BitVec.ofBool ((BitVec.ofNat 32 _).slt (BitVec.ofNat 32 _)) = _
  rw [slt_ofNat (by omega) (by omega)]

theorem lo_next : k0_pay520 (F := F) iotaV (loV I n) (hiV I n) v = loV I (n + 1) := by
  funext x
  show Scalar.select (IntOp.andi (k0_pay516 (loV I n) (hiV I n) x) (k0_pay519 (F := F) iotaV v x)) (IntOp.addi (k0_pay517 (loV I n) (hiV I n) x) 1#32) (loV I n x) = _
  rw [below_eq I n v hv, act_eq I n v hv, mid_eq]
  show _ = BitVec.ofNat 32 (bsStep I (x 0).val (bs I (x 0).val n)).1
  unfold bsStep
  by_cases h : (bs I (x 0).val n).1 < (bs I (x 0).val n).2
  · rw [if_pos h, decide_eq_true h]
    cases hb : (I (min (((bs I (x 0).val n).1 + (bs I (x 0).val n).2) / 2) 3999)).slt (BitVec.ofNat 32 (x 0).val)
    · rfl
    · show BitVec.ofNat 32 _ + 1#32 = BitVec.ofNat 32 (_ + 1)
      rw [BitVec.ofNat_add]
  · rw [if_neg h, decide_eq_false h]
    cases (I (min (((bs I (x 0).val n).1 + (bs I (x 0).val n).2) / 2) 3999)).slt (BitVec.ofNat 32 (x 0).val) <;> rfl

theorem hi_next : k0_pay521 (F := F) iotaV (loV I n) (hiV I n) v = hiV I (n + 1) := by
  funext x
  show Scalar.select (IntOp.andi (k0_pay516 (loV I n) (hiV I n) x) (IntOp.xori (k0_pay519 (F := F) iotaV v x) 1#1)) (k0_pay517 (loV I n) (hiV I n) x) (hiV I n x) = _
  rw [below_eq I n v hv, act_eq I n v hv, mid_eq]
  show _ = BitVec.ofNat 32 (bsStep I (x 0).val (bs I (x 0).val n)).2
  unfold bsStep
  by_cases h : (bs I (x 0).val n).1 < (bs I (x 0).val n).2
  · rw [if_pos h, decide_eq_true h]
    cases (I (min (((bs I (x 0).val n).1 + (bs I (x 0).val n).2) / 2) 3999)).slt (BitVec.ofNat 32 (x 0).val) <;> rfl
  · rw [if_neg h, decide_eq_false h]
    cases (I (min (((bs I (x 0).val n).1 + (bs I (x 0).val n).2) / 2) 3999)).slt (BitVec.ofNat 32 (x 0).val) <;> rfl
end

/-- The words the sums over a chunk are given. -/
def swOf (I : ℕ → BitVec 32) (s : ℕ) : BitVec 32 := if s < 16 then pick (loV I 12) s else 4000#32

theorem starts (I : ℕ → BitVec 32) : Starts (swOf I) (stOf I) where
  int s := by
    unfold swOf
    split
    · next h =>
      rw [pick_eq _ _ h]
      have e : stOf I s = (bs I ((ix16 s) 0).val 12).1 := by
        unfold stOf
        rw [if_pos h]
        have : ((ix16 s) 0).val = s := (lane_ext h (ix16 s)).mpr rfl
        rw [this]
      have := stOf_le I s
      exact Affine.ofNat _ ⟨by rw [e], by omega⟩
    · next h =>
      unfold stOf
      rw [if_neg h]
      exact Affine.ofNat 4000 ⟨rfl, by decide⟩
  le := stOf_le I
  last := rfl

variable {d : Dev nD} {α : Type} {R : sProp (MM F)} {i : grid0.Coords}

/-- The index buffer read at the lanes' positions. -/
theorem wp_loadIdx {I : ℕ → BitVec 32} {v : IVec S16 32} {h : ∀ a x, ((![v] : Fin 1 → IVec S16 32) a x).toNat < S4000.size a} {hl : (sIdx).view.Loads}
    {k : Vec F S16 .i32 → PR F ((i 0).castLE hcore0) ((i 1).castLE hsub0) α} {Q : α → sProp (MM F)}
    (hk : iprop(R ∗ H1 (VI d i) sIdx I) ⊢ WI d i (k (fun x => I (v x).toNat)) Q) :
    iprop(R ∗ H1 (VI d i) sIdx I) ⊢ WI d i (SparseCore.vectorLoadIdx sIdx ![v] h hl >>= k) Q := by
  unfold H1 at hk ⊢
  iintro ⟨HR, %f, %hf, Hm⟩
  iapply (SparseCore.wp_vectorLoadIdx 𝒱₀ (VI d i) none Set.univ (base := sIdx) (S := (sIdx).view.set) (q := fullShare) (Memref.setOn_access_subset sIdx _ _)) $$ Hm
  iintro Hm
  have e : loadIdx (((sIdx).access (.whole S4000)).read (Elt F) f) ![v] h = fun x => I (v x).toNat := by
    funext x
    refine (hf ((Rect.whole S4000).emb (idxAt ![v] h x))).trans ?_
    congr 1
    show 0 + 1 * (v x).toNat = _
    omega
  rw [e]
  iapply hk
  isplitl [HR]; · iexact HR
  iexists f; isplitr; · ipureintro; exact hf
  iexact Hm

end Cert.Sums

end
-- ==== Proof.Sums.Head.lean ====
/- The first part of a tile's program: the fetches it starts with, the sums cleared, the binary search,
and the counts of the segments' rows. -/
module

public import proofs.«01_k».proof.Proof.Sums.Search

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {d : Dev nD} {α : Type} {R X Y Z : sProp (MM F)} {Q : α → sProp (MM F)} {i : grid0.Coords} {q₁ q₂ q₃ : PosShare TreeShare}
  {f : Buf (Elt F) ((featW).view.loc (VI d i))} {f' : Buf (Elt F) ((idxW).view.loc (VI d i))} {G A : ℕ → F .f32} {I J : ℕ → BitVec 32}
  {O : CellTallies nD τ sig (HIx 1)} {W : Waits sig (HIx 1)}

/-- The sums with the first `16 * n` of them cleared. -/
def zUp (A : ℕ → F .f32) : ℕ → (ℕ → F .f32)
  | 0 => A
  | n + 1 => upd16 (zUp A n) (16 * n) k0_pay513

theorem zUp_eq (A : ℕ → F .f32) (n p : ℕ) (hp : p < 16 * n) : zUp A n p = Scalar.ofBits .f32 0x00000000#32 := by
  induction n with
  | zero => omega
  | succ n ih =>
    show upd16 (zUp A n) (16 * n) k0_pay513 p = _
    unfold upd16
    split
    · rfl
    · exact ih (by omega)

/-- A buffer's values past its length do not matter. -/
theorem H1_congr {c : Thread nD τ} {sp : Space} {n : ℕ} {e : EltTy} {m : Memref sig c.2.kind sp ⟨1, ![n]⟩ e} {A B : ℕ → Elt F e} (h : ∀ p < n, A p = B p) :
    H1 c m A ⊢ H1 c m B := by
  unfold H1
  iintro ⟨%g, %hg, Hm⟩
  iexists g
  isplitr
  · ipureintro
    intro x
    rw [hg]
    exact h _ (x 0).isLt
  iexact Hm

theorem swap3 : iprop((X ∗ Y) ∗ Z) ⊢ iprop((X ∗ Z) ∗ Y) := by
  iintro ⟨⟨HX, HY⟩, HZ⟩
  isplitr [HY]
  · isplitl [HX] <;> iassumption
  · iexact HY

/-- A fetch not yet made. -/
abbrev Idle {e : EltTy} {N n : ℕ} (d : Dev nD) (i : grid0.Coords) (w : Memref sig .scVector .hbm ⟨1, ![N]⟩ e) (q : PosShare TreeShare) (f : Buf (Elt F) (w.view.loc (VI d i))) (mb : Memref sig .scVector .vmem ⟨1, ![n]⟩ e) (sm : DmaSem sig) (A : ℕ → Elt F e) : sProp (MM F) :=
  iprop(Tok (VI d i) w q f ∗ semVal (VI d i, SemLoc.dma sm) 0 ∗ H1 (VI d i) mb A)

/-- A fetch under way. -/
abbrev Under {e : EltTy} {N n : ℕ} (d : Dev nD) (i : grid0.Coords) (w : Memref sig .scVector .hbm ⟨1, ![N]⟩ e) (q : PosShare TreeShare) (f : Buf (Elt F) (w.view.loc (VI d i))) (mb : Memref sig .scVector .vmem ⟨1, ![n]⟩ e) (sm : DmaSem sig) (A : ℕ → Elt F e) : sProp (MM F) :=
  Coming (VI d i) mb sm iprop(Tok (VI d i) w q f ∗ H1 (VI d i) mb A)

set_option maxHeartbeats 4000000 in
/-- The three fetches, and the first 176 sums cleared. -/
theorem wp_part7 (hf : ∀ x, (featW).view.read (Elt F) f x = G (x 0).val) (hf' : ∀ x, (idxW).view.read (Elt F) f' x = J (x 0).val)
    {A₁ A₂ : ℕ → F .f32} {k : (Σ' (_ : BitVec 32) (_ : BitVec 32) (_ : IVec S16 32), FVec F S16 .f32) → PR F ((i 0).castLE hcore0) ((i 1).castLE hsub0) α}
    (hk : ∀ v1 v2, iprop((((R ∗ Under d i idxW q₃ f' sIdx cc0_scratch5.sem (fun p => J (wid i * 4000 + p))) ∗ Under d i featW q₁ f sA cc0_scratch6.sem (fun x => G (fOff i (400 * (2 * 0 + 0)) + x))) ∗ Under d i featW q₂ f sB cc0_scratch7.sem (fun x => G (fOff i (400 * (2 * 0 + 1)) + x))) ∗ H1 (VI d i) sAcc (zUp A 11))
      ⊢ WI d i (k ⟨v1, v2, iotaV, k0_pay513⟩) Q) :
    iprop((((R ∗ Idle d i idxW q₃ f' sIdx cc0_scratch5.sem I) ∗ Idle d i featW q₁ f sA cc0_scratch6.sem A₁) ∗ Idle d i featW q₂ f sB cc0_scratch7.sem A₂) ∗ H1 (VI d i) sAcc A) ⊢
    WI d i (k0_part7 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 >>= k) Q := by
  refine wp_seq ?_
  rw [k0_part7_eq_skeleton]
  unfold k0_part7_skel
  have e1 : (fun p => J (k0_off1 i 0 + p)) = fun p => J (wid i * 4000 + p) := by rw [off1_eq]
  have e2 : (fun p => G (k0_off2 i 0#32 0 + p)) = fun p => G (fOff i (400 * (2 * 0 + 0)) + p) := by rw [show (0#32) = BitVec.ofNat 32 0 from rfl, off2_eq i 0 (by decide)]
  have e3 : (fun p => G (k0_off2 i 400#32 0 + p)) = fun p => G (fOff i (400 * (2 * 0 + 1)) + p) := by rw [show (400#32) = BitVec.ofNat 32 400 from rfl, off2_eq i 400 (by decide)]
  refine (show _ ⊢ iprop((((R ∗ H1 (VI d i) sAcc A) ∗ Idle d i featW q₁ f sA cc0_scratch6.sem A₁) ∗ Idle d i featW q₂ f sB cc0_scratch7.sem A₂) ∗ Idle d i idxW q₃ f' sIdx cc0_scratch5.sem I) from ?_).trans ?_
  · iintro ⟨⟨⟨⟨HR, H1⟩, H2⟩, H3⟩, H4⟩
    isplitr [H1]
    · isplitr [H3]
      · isplitr [H2]
        · isplitl [HR] <;> iassumption
        · iexact H2
      · iexact H3
    · iexact H1
  refine wp_fetch hf' (by decide) ?_
  rw [e1]
  refine BIBase.Entails.trans (sep_mono_left swap3) ?_
  refine BIBase.Entails.trans swap3 ?_
  refine wp_fetch hf (by decide) ?_
  rw [e2]
  refine BIBase.Entails.trans (sep_mono_left swap3) ?_
  refine BIBase.Entails.trans swap3 ?_
  refine wp_fetch hf (by decide) ?_
  rw [e3]
  refine (show _ ⊢ iprop((((R ∗ Under d i idxW q₃ f' sIdx cc0_scratch5.sem (fun p => J (wid i * 4000 + p))) ∗ Under d i featW q₁ f sA cc0_scratch6.sem (fun x => G (fOff i (400 * (2 * 0 + 0)) + x))) ∗ Under d i featW q₂ f sB cc0_scratch7.sem (fun x => G (fOff i (400 * (2 * 0 + 1)) + x))) ∗ H1 (VI d i) sAcc (zUp A 0)) from ?_).trans ?_
  · iintro ⟨⟨⟨⟨HR, H1⟩, H2⟩, H3⟩, H4⟩
    isplitr [H1]
    · isplitr [H4]
      · isplitr [H3]
        · isplitl [HR] <;> iassumption
        · iexact H3
      · iexact H4
    · iexact H1
  iterate 11
    refine wp_load16 ?_
    refine wp_store16 ?_
  exact (hk _ _).trans fupd_intro

set_option maxHeartbeats 4000000 in
theorem wp_part8 : iprop(R ∗ H1 (VI d i) sAcc (zUp A 11)) ⊢ WI d i (k0_part8 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 (k0_pay513 (F := F))) fun _ => iprop(R ∗ H1 (VI d i) sAcc (zUp A 31)) := by
  rw [k0_part8_eq_skeleton]
  unfold k0_part8_skel
  iterate 20
    refine wp_load16 ?_
    refine wp_store16 ?_
  exact fupd_intro

set_option maxHeartbeats 4000000 in
theorem wp_part9 : iprop(R ∗ H1 (VI d i) sAcc (zUp A 31)) ⊢ WI d i (k0_part9 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 (k0_pay513 (F := F))) fun _ => iprop(R ∗ H1 (VI d i) sAcc (zUp A 51)) := by
  rw [k0_part9_eq_skeleton]
  unfold k0_part9_skel
  iterate 20
    refine wp_load16 ?_
    refine wp_store16 ?_
  exact fupd_intro

set_option maxHeartbeats 4000000 in
theorem wp_part10 : iprop(R ∗ H1 (VI d i) sAcc (zUp A 51)) ⊢ WI d i (k0_part10 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 (k0_pay513 (F := F))) fun _ => iprop(R ∗ H1 (VI d i) sAcc (zUp A 71)) := by
  rw [k0_part10_eq_skeleton]
  unfold k0_part10_skel
  iterate 20
    refine wp_load16 ?_
    refine wp_store16 ?_
  exact fupd_intro

set_option maxHeartbeats 4000000 in
theorem wp_part11 : iprop(R ∗ H1 (VI d i) sAcc (zUp A 71)) ⊢ WI d i (k0_part11 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 (k0_pay513 (F := F))) fun _ => iprop(R ∗ H1 (VI d i) sAcc (zUp A 91)) := by
  rw [k0_part11_eq_skeleton]
  unfold k0_part11_skel
  iterate 20
    refine wp_load16 ?_
    refine wp_store16 ?_
  exact fupd_intro

set_option maxHeartbeats 4000000 in
theorem wp_part12 : iprop(R ∗ H1 (VI d i) sAcc (zUp A 91)) ⊢ WI d i (k0_part12 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 (k0_pay513 (F := F))) fun _ => iprop(R ∗ H1 (VI d i) sAcc (zUp A 111)) := by
  rw [k0_part12_eq_skeleton]
  unfold k0_part12_skel
  iterate 20
    refine wp_load16 ?_
    refine wp_store16 ?_
  exact fupd_intro

set_option maxHeartbeats 4000000 in
/-- The last sums cleared, and the indices there. -/
theorem wp_part13 {D : sProp (MM F)} (hO : ∀ g, O g none = 0) {k : (Σ' (_ : IVec S16 32) (_ : IVec S16 32) (_ : BitVec 32), BitVec 32) → PR F ((i 0).castLE hcore0) ((i 1).castLE hsub0) α}
    (hk : iprop((R ∗ H1 (VI d i) sAcc (zUp A 128)) ∗ (D ∗ semVal (VI d i, SemLoc.dma cc0_scratch5.sem) 0 ∗ Owe (VI d i) O W)) ⊢ WI d i (k ⟨k0_pay514, k0_pay515, 0#32, 12#32⟩) Q) :
    iprop((R ∗ (levAts (K (F := F)).L (K (F := F)).lev ∗ Coming (VI d i) sIdx cc0_scratch5.sem D ∗ Owe (VI d i) O W)) ∗ H1 (VI d i) sAcc (zUp A 111)) ⊢
    WI d i (k0_part13 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 (k0_pay513 (F := F)) >>= k) Q := by
  refine wp_seq ?_
  rw [k0_part13_eq_skeleton]
  unfold k0_part13_skel
  iterate 17
    refine wp_load16 ?_
    refine wp_store16 ?_
  refine BIBase.Entails.trans swap3 ?_
  refine wp_fetched hO ?_
  exact hk.trans fupd_intro

end Cert.Sums

end
-- ==== Proof.Sums.Lanes.lean ====
/- The binary search run, the segments' words read off its lanes, and the counts of the segments' rows. -/
module

public import proofs.«01_k».proof.Proof.Sums.Head

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {d : Dev nD} {α : Type} {R X Y Z : sProp (MM F)} {Q : α → sProp (MM F)} {i : grid0.Coords} {q₁ q₂ q₃ : PosShare TreeShare}
  {f : Buf (Elt F) ((featW).view.loc (VI d i))} {f' : Buf (Elt F) ((idxW).view.loc (VI d i))} {G A : ℕ → F .f32} {I J : ℕ → BitVec 32}
  {O : CellTallies nD τ sig (HIx 1)} {W : Waits sig (HIx 1)}

/-- The number of rows of segment `s`. -/
def cntAt (F : FTy → Type) [FloatOps F] (sw : ℕ → BitVec 32) (s : ℕ) : F .f32 := Scalar.sitofp .f32 (Scalar.subi (sw (s + 1)) (sw s))

theorem trips_t1 : k0_t1_loop.trips = 12 := by decide

section

theorem of_pure {P : Prop} (h : P → X ⊢ Y) : iprop(⌜P⌝ ∗ X) ⊢ Y := by
  iintro ⟨%hp, H⟩
  iapply (h hp) $$ H

theorem of_pure' {P : Prop} (h : P → iprop(Z ∗ X) ⊢ Y) : iprop(Z ∗ ⌜P⌝ ∗ X) ⊢ Y := by
  iintro ⟨HZ, %hp, H⟩
  iapply (h hp)
  isplitl [HZ] <;> iassumption

/-- One trip of the search. -/
theorem wp_t1 (t : Fin k0_t1_loop.trips) : H1 (F := F) (VI d i) sIdx I ⊢
    WI d i (k0_t1_body (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 iotaV k0_pay514 k0_pay515 0#32 12#32 t (loV I t.val, hiV I t.val)) fun v =>
      iprop(⌜v = (loV I (t.val + 1), hiV I (t.val + 1))⌝ ∗ H1 (VI d i) sIdx I) := by
  have hv : ∀ x : S16.Idx, (fun x => I (k0_pay518 (loV I t.val) (hiV I t.val) x).toNat) x = I (min (((bs I (x 0).val t.val).1 + (bs I (x 0).val t.val).2) / 2) 3999) := by
    intro x
    dsimp only
    rw [pos_eq, BitVec.toNat_ofNat]
    congr 1
    omega
  have hend : iprop(emp ∗ H1 (F := F) (VI d i) sIdx I) ⊢ WI (F := F) d i (Pure.pure (k0_pay520 (F := F) iotaV (loV I t.val) (hiV I t.val) (fun x => I (k0_pay518 (loV I t.val) (hiV I t.val) x).toNat),
      k0_pay521 (F := F) iotaV (loV I t.val) (hiV I t.val) (fun x => I (k0_pay518 (loV I t.val) (hiV I t.val) x).toNat))) fun v =>
      iprop(⌜v = (loV I (t.val + 1), hiV I (t.val + 1))⌝ ∗ H1 (VI d i) sIdx I) := by
    rw [lo_next (F := F) I t.val _ hv, hi_next (F := F) I t.val _ hv]
    refine BIBase.Entails.trans (show _ ⊢ iprop(⌜(loV I (t.val + 1), hiV I (t.val + 1)) = (loV I (t.val + 1), hiV I (t.val + 1))⌝ ∗ H1 (F := F) (VI d i) sIdx I) from ?_) fupd_intro
    iintro ⟨-, H⟩
    isplitr
    · ipureintro; rfl
    · iexact H
  unfold k0_t1_body
  refine BIBase.Entails.trans Laws.emp_sep.2 ?_
  refine (BIBase.Entails.trans ?_ (wp_assume _ _ _ _ (chk1_holds I t.val)))
  exact wp_loadIdx (h := k0_idx1_inb _ (chk1_holds I t.val)) (hl := View.loads_vmem h_S4000) hend

set_option maxHeartbeats 4000000 in
/-- The search, and the words of segments 0 to 4. -/
theorem wp_part14 {k : (Σ' (_ : IVec S16 32) (v155 : BitVec 32) (v162 : BitVec 32) (_ : k0_chk2 v155 v162) (v169 : BitVec 32) (_ : k0_chk3 v162 v169) (v176 : BitVec 32) (_ : k0_chk4 v169 v176) (v183 : BitVec 32) (_ : k0_chk5 v176 v183), IVec S16 32) → PR F ((i 0).castLE hcore0) ((i 1).castLE hsub0) α}
    (hk : ∀ h2 h3 h4 h5, iprop(R ∗ H1 (VI d i) sIdx I) ⊢ WI d i (k ⟨loV I 12, swOf I 0, swOf I 1, h2, swOf I 2, h3, swOf I 3, h4, swOf I 4, h5, k0_pay527⟩) Q) :
    iprop(R ∗ H1 (VI d i) sIdx I) ⊢
    WI d i (k0_part14 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 iotaV k0_pay514 k0_pay515 0#32 12#32 >>= k) Q := by
  refine wp_seq ?_
  rw [k0_part14_eq_skeleton]
  unfold k0_part14_skel
  refine wp_forR _ _ _ _ (fun n v => iprop(⌜v = (loV I n, hiV I n)⌝ ∗ H1 (VI d i) sIdx I)) (fun t v => of_pure fun hv => hv ▸ wp_t1 t) ?_ ?_
  · iintro H
    isplitr
    · ipureintro; rfl
    · iexact H
  rintro v
  rw [trips_t1]
  refine of_pure' fun hv => ?_
  subst hv
  have hs := starts I
  refine BIBase.Entails.trans ?_ (wp_assume _ _ _ _ (show k0_chk2 (swOf I 0) (swOf I 1) from chk2_holds (hs.int 0) (hs.int 1) (hs.le 0) (hs.le 1)))
  refine BIBase.Entails.trans ?_ (wp_assume _ _ _ _ (show k0_chk3 (swOf I 1) (swOf I 2) from chk2_holds (hs.int 1) (hs.int 2) (hs.le 1) (hs.le 2)))
  refine BIBase.Entails.trans ?_ (wp_assume _ _ _ _ (show k0_chk4 (swOf I 2) (swOf I 3) from chk2_holds (hs.int 2) (hs.int 3) (hs.le 2) (hs.le 3)))
  refine BIBase.Entails.trans ?_ (wp_assume _ _ _ _ (show k0_chk5 (swOf I 3) (swOf I 4) from chk2_holds (hs.int 3) (hs.int 4) (hs.le 3) (hs.le 4)))
  exact (hk _ _ _ _).trans fupd_intro

set_option maxHeartbeats 4000000 in
/-- The words of segments 5 to 9. -/
theorem wp_part15 {k : (Σ' (v190 : BitVec 32) (_ : k0_chk6 (swOf I 4) v190) (v197 : BitVec 32) (_ : k0_chk7 v190 v197) (v204 : BitVec 32) (_ : k0_chk8 v197 v204) (v211 : BitVec 32) (_ : k0_chk9 v204 v211) (v218 : BitVec 32) (_ : k0_chk10 v211 v218) (_ : IVec S16 32), BitVec 1) → PR F ((i 0).castLE hcore0) ((i 1).castLE hsub0) α}
    (hk : ∀ h6 h7 h8 h9 h10, R ⊢ WI d i (k ⟨swOf I 5, h6, swOf I 6, h7, swOf I 7, h8, swOf I 8, h9, swOf I 9, h10, k0_pay533 iotaV (loV I 12), 1#1⟩) Q) :
    R ⊢ WI d i (k0_part15 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 iotaV (loV I 12) (swOf I 4) k0_pay527 >>= k) Q := by
  refine wp_seq ?_
  rw [k0_part15_eq_skeleton]
  unfold k0_part15_skel
  have hs := starts I
  refine BIBase.Entails.trans ?_ (wp_assume _ _ _ _ (show k0_chk6 (swOf I 4) (swOf I 5) from chk2_holds (hs.int 4) (hs.int 5) (hs.le 4) (hs.le 5)))
  refine BIBase.Entails.trans ?_ (wp_assume _ _ _ _ (show k0_chk7 (swOf I 5) (swOf I 6) from chk2_holds (hs.int 5) (hs.int 6) (hs.le 5) (hs.le 6)))
  refine BIBase.Entails.trans ?_ (wp_assume _ _ _ _ (show k0_chk8 (swOf I 6) (swOf I 7) from chk2_holds (hs.int 6) (hs.int 7) (hs.le 6) (hs.le 7)))
  refine BIBase.Entails.trans ?_ (wp_assume _ _ _ _ (show k0_chk9 (swOf I 7) (swOf I 8) from chk2_holds (hs.int 7) (hs.int 8) (hs.le 7) (hs.le 8)))
  refine BIBase.Entails.trans ?_ (wp_assume _ _ _ _ (show k0_chk10 (swOf I 8) (swOf I 9) from chk2_holds (hs.int 8) (hs.int 9) (hs.le 8) (hs.le 9)))
  exact (hk _ _ _ _ _).trans fupd_intro

set_option maxHeartbeats 4000000 in
/-- The words of segments 10 to 15. -/
theorem wp_part16 {k : (Σ' (v225 : BitVec 32) (_ : k0_chk11 (swOf I 9) v225) (v232 : BitVec 32) (_ : k0_chk12 v225 v232) (v239 : BitVec 32) (_ : k0_chk13 v232 v239) (v246 : BitVec 32) (_ : k0_chk14 v239 v246) (v253 : BitVec 32) (_ : k0_chk15 v246 v253) (v260 : BitVec 32) (_ : k0_chk16 v253 v260), BitVec 32) → PR F ((i 0).castLE hcore0) ((i 1).castLE hsub0) α}
    (hk : ∀ h11 h12 h13 h14 h15 h16, R ⊢ WI d i (k ⟨swOf I 10, h11, swOf I 11, h12, swOf I 12, h13, swOf I 13, h14, swOf I 14, h15, swOf I 15, h16, 0#32⟩) Q) :
    R ⊢ WI d i (k0_part16 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 iotaV (loV I 12) (swOf I 9) (k0_pay533 iotaV (loV I 12)) 1#1 >>= k) Q := by
  refine wp_seq ?_
  rw [k0_part16_eq_skeleton]
  unfold k0_part16_skel
  have hs := starts I
  refine BIBase.Entails.trans ?_ (wp_assume _ _ _ _ (show k0_chk11 (swOf I 9) (swOf I 10) from chk2_holds (hs.int 9) (hs.int 10) (hs.le 9) (hs.le 10)))
  refine BIBase.Entails.trans ?_ (wp_assume _ _ _ _ (show k0_chk12 (swOf I 10) (swOf I 11) from chk2_holds (hs.int 10) (hs.int 11) (hs.le 10) (hs.le 11)))
  refine BIBase.Entails.trans ?_ (wp_assume _ _ _ _ (show k0_chk13 (swOf I 11) (swOf I 12) from chk2_holds (hs.int 11) (hs.int 12) (hs.le 11) (hs.le 12)))
  refine BIBase.Entails.trans ?_ (wp_assume _ _ _ _ (show k0_chk14 (swOf I 12) (swOf I 13) from chk2_holds (hs.int 12) (hs.int 13) (hs.le 12) (hs.le 13)))
  refine BIBase.Entails.trans ?_ (wp_assume _ _ _ _ (show k0_chk15 (swOf I 13) (swOf I 14) from chk2_holds (hs.int 13) (hs.int 14) (hs.le 13) (hs.le 14)))
  refine BIBase.Entails.trans ?_ (wp_assume _ _ _ _ (show k0_chk16 (swOf I 14) (swOf I 15) from chk16_holds (hs.int 14) (hs.int 15) (hs.le 14) (hs.le 15)))
  exact (hk _ _ _ _ _ _).trans fupd_intro

/-- The counts: lane `s` holds the number of rows of segment `s`. -/
def cntV (F : FTy → Type) [FloatOps F] (I : ℕ → BitVec 32) : Vec F S16 .f32 :=
  k0_pay543 iotaV (swOf I 9) (swOf I 10) (swOf I 11) (swOf I 12) (swOf I 13) (swOf I 14) (swOf I 15) (k0_pay540 iotaV (k0_pay513 (F := F)) (swOf I 0) (swOf I 1) (swOf I 2) (swOf I 3) (swOf I 4) (swOf I 5) (swOf I 6) (swOf I 7) (swOf I 8) 0#32) (k0_pay541 iotaV) (k0_pay542 (swOf I 8) (swOf I 9))

set_option maxHeartbeats 4000000 in
theorem cntV_eq (I : ℕ → BitVec 32) (x : S16.Idx) : cntV F I x = cntAt F (swOf I) (x 0).val := by
  obtain ⟨k, hk⟩ : ∃ k : Fin 16, (x 0).val = k.val := ⟨x 0, rfl⟩
  obtain rfl := (lane_ext k.isLt x).mp hk
  clear hk
  fin_cases k <;> rfl

set_option maxHeartbeats 4000000 in
theorem wp_part17 {k : (Σ' (_ : FVec F S16 .f32) (_ : IVec S16 1), F .f32) → PR F ((i 0).castLE hcore0) ((i 1).castLE hsub0) α}
    (hk : R ⊢ WI d i (k ⟨(k0_pay540 iotaV (k0_pay513 (F := F)) (swOf I 0) (swOf I 1) (swOf I 2) (swOf I 3) (swOf I 4) (swOf I 5) (swOf I 6) (swOf I 7) (swOf I 8) 0#32), k0_pay541 iotaV, k0_pay542 (swOf I 8) (swOf I 9)⟩) Q) :
    R ⊢ WI d i (k0_part17 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 iotaV (k0_pay513 (F := F)) (swOf I 0) (swOf I 1) (swOf I 2) (swOf I 3) (swOf I 4) (swOf I 5) (swOf I 6) (swOf I 7) (swOf I 8) (swOf I 9) 0#32 >>= k) Q := by
  refine wp_seq ?_
  rw [k0_part17_eq_skeleton]
  unfold k0_part17_skel
  exact hk.trans fupd_intro

set_option maxHeartbeats 4000000 in
/-- The counts stored. -/
theorem wp_part18 {k : (Σ' (_ : BitVec 32), BitVec 32) → PR F ((i 0).castLE hcore0) ((i 1).castLE hsub0) α}
    (hk : iprop(R ∗ H1 (VI d i) sCnt (fun p => cntAt F (swOf I) p)) ⊢ WI d i (k ⟨4000#32, 0#32⟩) Q) :
    iprop(R ∗ H1 (VI d i) sCnt A) ⊢ WI d i (k0_part18 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 iotaV (swOf I 9) (swOf I 10) (swOf I 11) (swOf I 12) (swOf I 13) (swOf I 14) (swOf I 15) (k0_pay540 iotaV (k0_pay513 (F := F)) (swOf I 0) (swOf I 1) (swOf I 2) (swOf I 3) (swOf I 4) (swOf I 5) (swOf I 6) (swOf I 7) (swOf I 8) 0#32) (k0_pay541 iotaV) (k0_pay542 (swOf I 8) (swOf I 9)) >>= k) Q := by
  refine wp_seq ?_
  rw [k0_part18_eq_skeleton]
  unfold k0_part18_skel
  refine wp_load16 ?_
  refine wp_store16 (w := cntV F I) ?_
  have hc : ∀ p < 16, upd16 A 0 (cntV F I) p = cntAt F (swOf I) p := by
    intro p hp
    unfold upd16
    rw [if_pos (by omega), cntV_eq]
    congr 1
    show (p - 0) % 16 = p
    omega
  exact ((sep_mono_right (H1_congr hc)).trans hk).trans fupd_intro

end

end Cert.Sums

end
-- ==== Proof.Sums.Parts.lean ====
/- The pieces of a tile's chunk pair. -/
module

public import proofs.«01_k».proof.Proof.Sums.Chunk

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] Scalar.subi Scalar.minsi Scalar.maxsi

variable {d : Dev nD} {R : sProp (MM F)} {i : grid0.Coords} {sw : ℕ → BitVec 32} {st : ℕ → ℕ} {X B B' : ℕ → F .f32} {q₁ q₂ : PosShare TreeShare}
  {f : Buf (Elt F) ((featW).view.loc (VI d i))} {G : ℕ → F .f32} {O : CellTallies nD τ sig (HIx 1)} {W : Waits sig (HIx 1)} {T : sProp (MM F)}

set_option maxHeartbeats 4000000 in
/-- The first chunk of the pair comes, and its segments 0 to 3. -/
theorem wp_part1 (hs : Starts sw st) (t : Fin k0_t2_loop.trips) (hO : ∀ g, O g none = 0) {h2 h3 h4 h5} {v2 v w : BitVec 32} :
    iprop((R ∗ H1 (VI d i) sAcc X) ∗ (levAts (K (F := F)).L (K (F := F)).lev ∗ Coming (VI d i) sA cc0_scratch6.sem iprop(T ∗ H1 (VI d i) sA B) ∗ Owe (VI d i) O W)) ⊢
    WI d i (k0_part1 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1
      v2 (sw 0) (sw 1) h2 (sw 2) h3 (sw 3) h4 (sw 4) h5 v w t) fun _ =>
      iprop(((R ∗ T ∗ semVal (VI d i, SemLoc.dma cc0_scratch6.sem) 0 ∗ Owe (VI d i) O W) ∗ H1 (VI d i) sA B) ∗ H1 (VI d i) sAcc (chunkUp X B st (400 * (2 * t.val + 0)) 4)) := by
  rw [k0_part1_eq_skeleton]
  unfold k0_part1_skel
  refine wp_fetched hO ?_
  refine (show _ ⊢ iprop(((R ∗ T ∗ semVal (VI d i, SemLoc.dma cc0_scratch6.sem) 0 ∗ Owe (VI d i) O W) ∗ H1 (VI d i) sA B) ∗ H1 (VI d i) sAcc (chunkUp X B st (400 * (2 * t.val + 0)) 0)) from ?_).trans ?_
  · show _ ⊢ iprop(((R ∗ T ∗ semVal (VI d i, SemLoc.dma cc0_scratch6.sem) 0 ∗ Owe (VI d i) O W) ∗ H1 (VI d i) sA B) ∗ H1 (VI d i) sAcc X)
    iintro ⟨⟨HR, Hc⟩, ⟨Ht, Ha⟩, Hs, HO⟩
    isplitr [Hc]
    · isplitr [Ha]
      · isplitl [HR]; · iexact HR
        isplitl [Ht]; · iexact Ht
        isplitl [Hs] <;> iassumption
      · iexact Ha
    · iexact Hc
  iterate 4
    refine wp_seg _ _ (cbw 0#32 t) _ _ _ _ (hs.int _) (hs.int _) (base_int 0 (by decide) t) (hs.le _) (hs.le _) (base_le 0 (by decide) t)
      (fun t' r => gOff_inb (hs.int _) (hs.int _) (base_int 0 (by decide) t) (hs.le _) (hs.le _) (base_le 0 (by decide) t) t' r) (fun _ _ _ => rfl) ?_
  exact fupd_intro

set_option maxHeartbeats 4000000 in
/-- Segments 4 to 8 of the chunk of parity 0. -/
theorem wp_part2 (hs : Starts sw st) (t : Fin k0_t2_loop.trips) {h6 h7 h8 h9 h10} {v w : BitVec 32} :
    iprop((R ∗ H1 (VI d i) sA B) ∗ H1 (VI d i) sAcc (chunkUp X B st (400 * (2 * t.val + 0)) 4)) ⊢
    WI d i (k0_part2 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1
      (sw 4) (sw 5) h6 (sw 6) h7 (sw 7) h8 (sw 8) h9 (sw 9) h10 (sw 10) t v w) fun _ =>
      iprop((R ∗ H1 (VI d i) sA B) ∗ H1 (VI d i) sAcc (chunkUp X B st (400 * (2 * t.val + 0)) 9)) := by
  rw [k0_part2_eq_skeleton]
  unfold k0_part2_skel
  iterate 5
    refine wp_seg _ _ (cbw 0#32 t) _ _ _ _ (hs.int _) (hs.int _) (base_int 0 (by decide) t) (hs.le _) (hs.le _) (base_le 0 (by decide) t)
      (fun t' r => gOff_inb (hs.int _) (hs.int _) (base_int 0 (by decide) t) (hs.le _) (hs.le _) (base_le 0 (by decide) t) t' r) (fun _ _ _ => rfl) ?_
  exact fupd_intro

set_option maxHeartbeats 4000000 in
/-- Segments 9 to 14 of the chunk of parity 0. -/
theorem wp_part3 (hs : Starts sw st) (t : Fin k0_t2_loop.trips) {h11 h12 h13 h14 h15 h16} {v w x y : BitVec 32} :
    iprop((R ∗ H1 (VI d i) sA B) ∗ H1 (VI d i) sAcc (chunkUp X B st (400 * (2 * t.val + 0)) 9)) ⊢
    WI d i (k0_part3 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1
      (sw 9) (sw 10) h11 (sw 11) h12 (sw 12) h13 (sw 13) h14 (sw 14) h15 (sw 15) h16 t v w x y) fun _ =>
      iprop((R ∗ H1 (VI d i) sA B) ∗ H1 (VI d i) sAcc (chunkUp X B st (400 * (2 * t.val + 0)) 15)) := by
  rw [k0_part3_eq_skeleton]
  unfold k0_part3_skel
  iterate 6
    refine wp_seg _ _ (cbw 0#32 t) _ _ _ _ (hs.int _) (hs.int _) (base_int 0 (by decide) t) (hs.le _) (hs.le _) (base_le 0 (by decide) t)
      (fun t' r => gOff_inb (hs.int _) (hs.int _) (base_int 0 (by decide) t) (hs.le _) (hs.le _) (base_le 0 (by decide) t) t' r) (fun _ _ _ => rfl) ?_
  exact fupd_intro

set_option maxHeartbeats 4000000 in
/-- The first chunk's last segment, the fetch after it, and the second chunk's first two segments. -/
theorem wp_part4 (hs : Starts sw st) (t : Fin k0_t2_loop.trips) (hG : ∀ x, (featW).view.read (Elt F) f x = G (x 0).val) (hO : ∀ g, O g none = 0) {h2 h3 h16} {v2 v w x y z : BitVec 32} :
    iprop(((R ∗ Coming (VI d i) sB cc0_scratch7.sem iprop(T ∗ H1 (VI d i) sB B') ∗ Tok (VI d i) featW q₁ f ∗ levAts (K (F := F)).L (K (F := F)).lev ∗ semVal (VI d i, SemLoc.dma cc0_scratch6.sem) 0 ∗ Owe (VI d i) O W) ∗ H1 (VI d i) sA B) ∗ H1 (VI d i) sAcc (chunkUp X B st (400 * (2 * t.val + 0)) 15)) ⊢
    WI d i (k0_part4 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1
      v2 (sw 0) (sw 1) h2 (sw 2) h3 (sw 3) (sw 14) (sw 15) h16 4000#32 t v w x y z) fun _ =>
      iprop(((R ∗ Slot d i sA cc0_scratch6.sem q₁ f G (t.val + 1) 0 ∗ T ∗ semVal (VI d i, SemLoc.dma cc0_scratch7.sem) 0 ∗ Owe (VI d i) O W) ∗ H1 (VI d i) sB B') ∗ H1 (VI d i) sAcc (chunkUp (chunkUp X B st (400 * (2 * t.val + 0)) 16) B' st (400 * (2 * t.val + 1)) 2)) := by
  rw [k0_part4_eq_skeleton]
  unfold k0_part4_skel
  refine wp_seg (sw 15) 4000#32 (cbw 0#32 t) (st 15) (st 16) _ _ (hs.int 15) hs.int16 (base_int 0 (by decide) t) (hs.le _) (hs.le _) (base_le 0 (by decide) t)
    (fun t' r => gOff_inb (hs.int 15) hs.int16 (base_int 0 (by decide) t) (hs.le _) (hs.le _) (base_le 0 (by decide) t) t' r) (fun _ _ _ => rfl) ?_
  refine (show _ ⊢ iprop((R ∗ levAts (K (F := F)).L (K (F := F)).lev ∗ Coming (VI d i) sB cc0_scratch7.sem iprop(T ∗ H1 (VI d i) sB B') ∗ Owe (VI d i) O W ∗ H1 (VI d i) sAcc (chunkUp X B st (400 * (2 * t.val + 0)) 16)) ∗
    (Tok (VI d i) featW q₁ f ∗ semVal (VI d i, SemLoc.dma cc0_scratch6.sem) 0 ∗ H1 (VI d i) sA B)) from ?_).trans ?_
  · iintro ⟨⟨⟨HR, Hb, Ht, Hl, Hs, HO⟩, Ha⟩, Hc⟩
    isplitl [HR Hl Hb HO Hc]
    · isplitl [HR]; · iexact HR
      isplitl [Hl]; · iexact Hl
      isplitl [Hb]; · iexact Hb
      isplitl [HO]; · iexact HO
      iexact Hc
    · isplitl [Ht]; · iexact Ht
      isplitl [Hs] <;> iassumption
  refine wp_next (p := 0) (G := G) (cond17_iff t) hG (off36_eq i t) ?_
  refine (show _ ⊢ iprop((R ∗ Slot d i sA cc0_scratch6.sem q₁ f G (t.val + 1) 0 ∗ H1 (VI d i) sAcc (chunkUp X B st (400 * (2 * t.val + 0)) 16)) ∗
    (levAts (K (F := F)).L (K (F := F)).lev ∗ Coming (VI d i) sB cc0_scratch7.sem iprop(T ∗ H1 (VI d i) sB B') ∗ Owe (VI d i) O W)) from ?_).trans ?_
  · iintro ⟨⟨HR, Hl, Hb, HO, Hc⟩, Ha⟩
    isplitl [HR Ha Hc]
    · isplitl [HR]; · iexact HR
      isplitl [Ha] <;> iassumption
    · isplitl [Hl]; · iexact Hl
      isplitl [Hb] <;> iassumption
  refine wp_fetched hO ?_
  refine (show _ ⊢ iprop(((R ∗ Slot d i sA cc0_scratch6.sem q₁ f G (t.val + 1) 0 ∗ T ∗ semVal (VI d i, SemLoc.dma cc0_scratch7.sem) 0 ∗ Owe (VI d i) O W) ∗ H1 (VI d i) sB B') ∗
    H1 (VI d i) sAcc (chunkUp (chunkUp X B st (400 * (2 * t.val + 0)) 16) B' st (400 * (2 * t.val + 1)) 0)) from ?_).trans ?_
  · show _ ⊢ iprop(((R ∗ Slot d i sA cc0_scratch6.sem q₁ f G (t.val + 1) 0 ∗ T ∗ semVal (VI d i, SemLoc.dma cc0_scratch7.sem) 0 ∗ Owe (VI d i) O W) ∗ H1 (VI d i) sB B') ∗
      H1 (VI d i) sAcc (chunkUp X B st (400 * (2 * t.val + 0)) 16))
    iintro ⟨⟨HR, Hsl, Hc⟩, ⟨Ht, Ha⟩, Hs, HO⟩
    isplitr [Hc]
    · isplitr [Ha]
      · isplitl [HR]; · iexact HR
        isplitl [Hsl]; · iexact Hsl
        isplitl [Ht]; · iexact Ht
        isplitl [Hs] <;> iassumption
      · iexact Ha
    · iexact Hc
  iterate 2
    refine wp_seg _ _ (cbw 1#32 t) _ _ _ _ (hs.int _) (hs.int _) (base_int 1 (by decide) t) (hs.le _) (hs.le _) (base_le 1 (by decide) t)
      (fun t' r => gOff_inb (hs.int _) (hs.int _) (base_int 1 (by decide) t) (hs.le _) (hs.le _) (base_le 1 (by decide) t) t' r) (fun _ _ _ => rfl) ?_
  exact fupd_intro

set_option maxHeartbeats 4000000 in
/-- Segments 2 to 7 of the chunk of parity 1. -/
theorem wp_part5 (hs : Starts sw st) (t : Fin k0_t2_loop.trips) {h4 h5 h6 h7 h8 h9} {v w x y z : BitVec 32} :
    iprop((R ∗ H1 (VI d i) sB B') ∗ H1 (VI d i) sAcc (chunkUp X B' st (400 * (2 * t.val + 1)) 2)) ⊢
    WI d i (k0_part5 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1
      (sw 2) (sw 3) h4 (sw 4) h5 (sw 5) h6 (sw 6) h7 (sw 7) h8 (sw 8) h9 t v w x y z) fun _ =>
      iprop((R ∗ H1 (VI d i) sB B') ∗ H1 (VI d i) sAcc (chunkUp X B' st (400 * (2 * t.val + 1)) 8)) := by
  rw [k0_part5_eq_skeleton]
  unfold k0_part5_skel
  iterate 6
    refine wp_seg _ _ (cbw 1#32 t) _ _ _ _ (hs.int _) (hs.int _) (base_int 1 (by decide) t) (hs.le _) (hs.le _) (base_le 1 (by decide) t)
      (fun t' r => gOff_inb (hs.int _) (hs.int _) (base_int 1 (by decide) t) (hs.le _) (hs.le _) (base_le 1 (by decide) t) t' r) (fun _ _ _ => rfl) ?_
  exact fupd_intro

set_option maxHeartbeats 4000000 in
/-- Segments 8 to 12 of the chunk of parity 1. -/
theorem wp_part6 (hs : Starts sw st) (t : Fin k0_t2_loop.trips) {h10 h11 h12 h13 h14} {v w : BitVec 32} :
    iprop((R ∗ H1 (VI d i) sB B') ∗ H1 (VI d i) sAcc (chunkUp X B' st (400 * (2 * t.val + 1)) 8)) ⊢
    WI d i (k0_part6 (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1
      (sw 8) (sw 9) h10 (sw 10) h11 (sw 11) h12 (sw 12) h13 (sw 13) h14 (sw 14) t v w) fun _ =>
      iprop((R ∗ H1 (VI d i) sB B') ∗ H1 (VI d i) sAcc (chunkUp X B' st (400 * (2 * t.val + 1)) 13)) := by
  rw [k0_part6_eq_skeleton]
  unfold k0_part6_skel
  iterate 5
    refine wp_seg _ _ (cbw 1#32 t) _ _ _ _ (hs.int _) (hs.int _) (base_int 1 (by decide) t) (hs.le _) (hs.le _) (base_le 1 (by decide) t)
      (fun t' r => gOff_inb (hs.int _) (hs.int _) (base_int 1 (by decide) t) (hs.le _) (hs.le _) (base_le 1 (by decide) t) t' r) (fun _ _ _ => rfl) ?_
  exact fupd_intro

end Cert.Sums

end
-- ==== Proof.Sums.PairRun.lean ====
/- One chunk pair. -/
module

public import proofs.«01_k».proof.Proof.Sums.Parts

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {d : Dev nD} {i : grid0.Coords}

attribute [local irreducible] Scalar.subi Scalar.minsi Scalar.maxsi

set_option maxHeartbeats 4000000 in
/-- One chunk pair. -/
theorem wp_pair {sw : ℕ → BitVec 32} {st : ℕ → ℕ} (hs : Starts sw st) {q₁ q₂ : PosShare TreeShare} {f : Buf (Elt F) ((featW).view.loc (VI d i))}
    {A G : ℕ → F .f32} (hG : ∀ x, (featW).view.read (Elt F) f x = G (x 0).val) {O : CellTallies nD τ sig (HIx 1)} {W : Waits sig (HIx 1)}
    (hO : ∀ g, O g none = 0) (t : Fin k0_t2_loop.trips) {v2 : BitVec 32} {h2 h3 h4 h5 h6 h7 h8 h9 h10 h11 h12 h13 h14 h15 h16}  :
    Pair d i q₁ q₂ f A G st O W t.val ⊢
    WI d i (k0_t2_body (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1 v2 (sw 0) (sw 1) h2 (sw 2) h3 (sw 3) h4 (sw 4) h5 (sw 5) h6 (sw 6) h7 (sw 7) h8
      (sw 8) h9 (sw 9) h10 (sw 10) h11 (sw 11) h12 (sw 12) h13 (sw 13) h14 (sw 14) h15 (sw 15) h16 4000#32 0#32 t ⟨⟩) fun _ => Pair d i q₁ q₂ f A G st O W (t.val + 1) := by
  have ht : t.val < 5 := trips_t2 ▸ t.isLt
  have e2 : 2 * (t.val + 1) = 2 * t.val + 1 + 1 := by omega
  obtain ⟨B, hB⟩ : ∃ X : ℕ → F .f32, X = fun x => G (fOff i (400 * (2 * t.val + 0)) + x) := ⟨_, rfl⟩
  obtain ⟨B', hB'⟩ : ∃ X : ℕ → F .f32, X = fun x => G (fOff i (400 * (2 * t.val + 1)) + x) := ⟨_, rfl⟩
  obtain ⟨X, hX⟩ : ∃ X, X = accAt A G st i (2 * t.val) := ⟨_, rfl⟩
  have hY : accAt A G st i (2 * t.val + 1) = chunkUp X B st (400 * (2 * t.val + 0)) 16 := by rw [hX, hB]; rfl
  have hZ : accAt A G st i (2 * (t.val + 1)) = chunkUp (chunkUp X B st (400 * (2 * t.val + 0)) 16) B' st (400 * (2 * t.val + 1)) 16 := by rw [← hY, hB']; rfl
  obtain ⟨L, hL⟩ : ∃ X, X = (levAts (K (F := F)).L (K (F := F)).lev : sProp (MM F)) := ⟨_, rfl⟩
  obtain ⟨SA, hSA⟩ : ∃ X, X = Slot d i sA cc0_scratch6.sem q₁ f G (t.val + 1) 0 := ⟨_, rfl⟩
  obtain ⟨T₁, hT₁⟩ : ∃ X, X = Tok (VI d i) featW q₁ f := ⟨_, rfl⟩
  obtain ⟨T₂, hT₂⟩ : ∃ X, X = Tok (VI d i) featW q₂ f := ⟨_, rfl⟩
  obtain ⟨R₁, hR₁⟩ : ∃ X, X = iprop((L ∗ L ∗ Coming (VI d i) sB cc0_scratch7.sem iprop(T₂ ∗ H1 (VI d i) sB B')) ∗ T₁ ∗ semVal (VI d i, SemLoc.dma cc0_scratch6.sem) 0 ∗ Owe (VI d i) O W) := ⟨_, rfl⟩
  obtain ⟨R₂, hR₂⟩ : ∃ X, X = iprop(L ∗ SA ∗ T₂ ∗ semVal (VI d i, SemLoc.dma cc0_scratch7.sem) 0 ∗ Owe (VI d i) O W) := ⟨_, rfl⟩
  unfold k0_t2_body
  refine wp_cut iprop((R₁ ∗ H1 (VI d i) sA B) ∗ H1 (VI d i) sAcc (chunkUp X B st (400 * (2 * t.val + 0)) 4)) ?_ ?_
  · rw [hR₁]
    refine BIBase.Entails.trans ?_ (wp_part1 (B := B) (T := T₁) hs t hO)
    unfold Pair
    rw [show Slot d i sA cc0_scratch6.sem q₁ f G t.val 0 = _ from if_pos ht, show Slot d i sB cc0_scratch7.sem q₂ f G t.val 1 = _ from if_pos ht,
      ← hX, ← hB, ← hB', ← hL, ← hT₁, ← hT₂]
    rw [hL]
    iintro ⟨#Hl, Ha, Hb, HO, Hc⟩
    isplitl [Hb Hc]
    · isplitl [Hb]
      · isplitl []; · iexact Hl
        isplitl []; · iexact Hl
        iexact Hb
      · iexact Hc
    · isplitl []; · iexact Hl
      isplitl [Ha] <;> iassumption
  rintro ⟨_, _, _, _⟩
  dsimp only
  refine wp_cut _ (wp_part2 hs t) ?_
  rintro ⟨_, _, _⟩
  dsimp only
  refine wp_cut _ (wp_part3 hs t) ?_
  rintro ⟨_, _⟩
  dsimp only
  refine wp_cut iprop((R₂ ∗ H1 (VI d i) sB B') ∗ H1 (VI d i) sAcc (chunkUp (chunkUp X B st (400 * (2 * t.val + 0)) 16) B' st (400 * (2 * t.val + 1)) 2)) ?_ ?_
  · rw [hR₂, hSA]
    refine BIBase.Entails.trans ?_ (wp_part4 (G := G) (q₁ := q₁) (f := f) (T := T₂) hs t hG hO)
    rw [hR₁, hT₁, ← hL]
    iintro ⟨⟨⟨⟨Hl, Hl', Hb⟩, Ht, Hs, HO⟩, Ha⟩, Hc⟩
    isplitr [Hc]
    · isplitr [Ha]
      · isplitl [Hl]; · iexact Hl
        isplitl [Hb]; · iexact Hb
        isplitl [Ht]; · iexact Ht
        isplitl [Hl']; · iexact Hl'
        isplitl [Hs] <;> iassumption
      · iexact Ha
    · iexact Hc
  rintro ⟨_, _, _, _, _, _⟩
  dsimp only
  refine wp_cut _ (wp_part5 hs t) ?_
  rintro _
  refine wp_cut _ (wp_part6 hs t) ?_
  rintro ⟨_, _, _⟩
  iterate 2
    refine wp_seg _ _ (cbw 1#32 t) _ _ _ _ (hs.int _) (hs.int _) (base_int 1 (by decide) t) (hs.le _) (hs.le _) (base_le 1 (by decide) t)
      (fun t' r => gOff_inb (hs.int _) (hs.int _) (base_int 1 (by decide) t) (hs.le _) (hs.le _) (base_le 1 (by decide) t) t' r) (fun _ _ _ => rfl) ?_
  refine wp_seg (sw 15) 4000#32 (cbw 1#32 t) (st 15) (st 16) _ _ (hs.int 15) hs.int16 (base_int 1 (by decide) t) (hs.le _) (hs.le _) (base_le 1 (by decide) t)
      (fun t' r => gOff_inb (hs.int 15) hs.int16 (base_int 1 (by decide) t) (hs.le _) (hs.le _) (base_le 1 (by decide) t) t' r) (fun _ _ _ => rfl) ?_
  refine (show _ ⊢ iprop((L ∗ SA ∗ Owe (VI d i) O W ∗ H1 (VI d i) sAcc (chunkUp (chunkUp X B st (400 * (2 * t.val + 0)) 16) B' st (400 * (2 * t.val + 1)) 16)) ∗ (Tok (VI d i) featW q₂ f ∗ semVal (VI d i, SemLoc.dma cc0_scratch7.sem) 0 ∗ H1 (VI d i) sB B')) from ?_).trans ?_
  · rw [hR₂, hT₂]
    iintro ⟨⟨⟨Hl, Hb, Ht, Hs, HO⟩, Ha⟩, Hc⟩
    isplitl [Hl Hb HO Hc]
    · isplitl [Hl]; · iexact Hl
      isplitl [Hb]; · iexact Hb
      isplitl [HO]; · iexact HO
      iexact Hc
    · isplitl [Ht]; · iexact Ht
      isplitl [Hs] <;> iassumption
  refine wp_next (p := 1) (G := G) (cond34_iff t) hG (off70_eq i t) ?_
  have hend : ∀ Y : sProp (MM F), Y ⊢ WI d i (Pure.pure PUnit.unit) fun _ : Unit => Y := fun Y => fupd_intro
  refine BIBase.Entails.trans ?_ (hend (Pair d i q₁ q₂ f A G st O W (t.val + 1)))
  unfold Pair
  rw [← hSA, hL, hZ]
  iintro ⟨⟨Hl, Ha, HO, Hc⟩, Hb⟩
  isplitl [Hl]; · iexact Hl
  isplitl [Ha]; · iexact Ha
  isplitl [Hb]; · iexact Hb
  isplitl [HO] <;> iassumption

end Cert.Sums

end
-- ==== Proof.Sums.Tile.lean ====
/- A tile's whole program. -/
module

public import proofs.«01_k».proof.Proof.Sums.Lanes
public import proofs.«01_k».proof.Proof.Sums.PairRun

@[expose] public section

noncomputable section

namespace Cert.Sums

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {d : Dev nD} {α : Type} {R X Y Z : sProp (MM F)} {Q : α → sProp (MM F)} {i : grid0.Coords} {q₁ q₂ q₃ : PosShare TreeShare}
  {f : Buf (Elt F) ((featW).view.loc (VI d i))} {f' : Buf (Elt F) ((idxW).view.loc (VI d i))} {G A : ℕ → F .f32} {I J : ℕ → BitVec 32}
  {O : CellTallies nD τ sig (HIx 1)} {W : Waits sig (HIx 1)}

/-- A copy out of a buffer: its issue. -/
theorem wp_push {e : EltTy} {n : ℕ} {mb : Memref sig .scVector .vmem ⟨1, ![n]⟩ e} {w : Memref sig .scVector .hbm ⟨1, ![n]⟩ e} (hn : 0 < n)
    {sm : DmaSem sig} {h1 h2 h3} {k : PUnit → PR F ((i 0).castLE hcore0) ((i 1).castLE hsub0) α} {A B : ℕ → Elt F e}
    (hk : iprop(R ∗ Coming (VI d i) w sm iprop(H1 (VI d i) mb A ∗ H1 (VI d i) w A)) ⊢ WI d i (k ⟨⟩) Q) :
    iprop(R ∗ (H1 (VI d i) mb A ∗ semVal (VI d i, SemLoc.dma sm) 0 ∗ H1 (VI d i) w B)) ⊢ WI d i
      (Prog.op (TpuEff.enqueueDma mb (.here w) (.dma sm) h1 h2 h3) k) Q := by
  unfold H1
  iintro ⟨HR, ⟨%f, %hf, Hm⟩, Hs, %g, -, Hw⟩
  ihave Hf := (Transfers.wp_dmaLocal (countersEmb (U := UU)) 𝒱₀ (VI d i) none (src := mb)
    (dst := w) (sm := .dma sm) (via := .same) (k := k) (Q := Q) (none : HIx 1) w.view.dmaCredit rfl (w.view.dmaCredit_pos (Shape.numel_pos fun a => by fin_cases a; exact hn)) (Finset.Subset.refl _)) $$ [Hm Hs Hw]
  · isplitl [Hm]; · iexact Hm
    isplitl [Hw]; · iexact Hw
    iexact Hs
  iapply Hf
  iintro Hfl
  iapply hk
  isplitl [HR]; · iexact HR
  unfold Coming
  iapply (Transfers.Flight_mono (countersEmb (U := UU)) (VI d i) ?_) $$ Hfl
  unfold H1
  iintro ⟨Hw, Hm⟩
  isplitl [Hm]
  · iexists f
    isplitr
    · ipureintro; exact hf
    · iexact Hm
  iexists _
  isplitr
  rotate_left
  · iexact Hw
  ipureintro
  intro x
  rw [View.read_write_univ]
  exact hf x

/-- A tile's row of the sums, and its piece of the counts. -/
abbrev rowW (i : grid0.Coords) : Memref sig .scVector .hbm S2048 .f32 :=
  ((psumW).slice (Rect.unit (s := S32x2048) (k0_off71 i) S1x2048.size (k0_off71_inb i)) (fun _ => rfl)).squeeze S2048 squeezes_S1x2048_S2048
abbrev pieceW (i : grid0.Coords) : Memref sig .scVector .hbm S16 .f32 :=
  (pcntW).slice (Rect.unit (s := S512) (k0_off72 i) S16.size (k0_off72_inb i)) (fun _ => rfl)

/-- The tile's indices. -/
abbrev tileIdx (J : ℕ → BitVec 32) (i : grid0.Coords) : ℕ → BitVec 32 := fun p => J (wid i * 4000 + p)

/-- What a tile's row holds at the end. -/
def rowAcc (G : ℕ → F .f32) (J : ℕ → BitVec 32) (i : grid0.Coords) : ℕ → F .f32 :=
  accAt (fun _ => Scalar.ofBits .f32 0x00000000#32) G (stOf (tileIdx J i)) i 10

/-- What a tile's piece of the counts holds at the end. -/
def pieceCnt (F : FTy → Type) [FloatOps F] (J : ℕ → BitVec 32) (i : grid0.Coords) : ℕ → F .f32 := fun p => cntAt F (swOf (tileIdx J i)) p

set_option maxHeartbeats 8000000 in
/-- A tile's program from its buffers, its row of the sums and its piece of the counts. -/
theorem wp_tile (hf : ∀ x, (featW).view.read (Elt F) f x = G (x 0).val) (hf' : ∀ x, (idxW).view.read (Elt F) f' x = J (x 0).val)
    (hO : ∀ g, O g none = 0) {A₁ A₂ A₃ A₄ A₅ A₆ : ℕ → F .f32} :
    iprop(levAts (K (F := F)).L (K (F := F)).lev ∗ (Idle d i idxW q₃ f' sIdx cc0_scratch5.sem I ∗ Idle d i featW q₁ f sA cc0_scratch6.sem A₁ ∗ Idle d i featW q₂ f sB cc0_scratch7.sem A₂) ∗
      H1 (VI d i) sAcc A₃ ∗ H1 (VI d i) sCnt A₄ ∗ (semVal (VI d i, SemLoc.dma cc0_scoped0.sem) 0 ∗ H1 (VI d i) (rowW i) A₅) ∗
      (semVal (VI d i, SemLoc.dma cc0_scoped1.sem) 0 ∗ H1 (VI d i) (pieceW i) A₆) ∗ Owe (VI d i) O W) ⊢
    WI d i (cc0_sums_kernel (F := F) i featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1) fun _ =>
    iprop(((Tok (VI d i) idxW q₃ f' ∗ semVal (VI d i, SemLoc.dma cc0_scratch5.sem) 0 ∗ ∃ A, H1 (VI d i) sIdx A) ∗
        (Tok (VI d i) featW q₁ f ∗ semVal (VI d i, SemLoc.dma cc0_scratch6.sem) 0 ∗ ∃ A : ℕ → F .f32, H1 (VI d i) sA A) ∗
        (Tok (VI d i) featW q₂ f ∗ semVal (VI d i, SemLoc.dma cc0_scratch7.sem) 0 ∗ ∃ A : ℕ → F .f32, H1 (VI d i) sB A)) ∗
      (∃ A : ℕ → F .f32, H1 (VI d i) sAcc A) ∗ (∃ A : ℕ → F .f32, H1 (VI d i) sCnt A) ∗ (semVal (VI d i, SemLoc.dma cc0_scoped0.sem) 0 ∗ H1 (VI d i) (rowW i) (rowAcc G J i)) ∗
      (semVal (VI d i, SemLoc.dma cc0_scoped1.sem) 0 ∗ H1 (VI d i) (pieceW i) (pieceCnt F J i)) ∗ Owe (VI d i) O W) := by
  rw [cc0_sums_kernel_eq_skeleton]
  unfold cc0_sums_kernel_skel
  -- the fetches, the sums cleared
  refine (show _ ⊢ iprop((((iprop(levAts (K (F := F)).L (K (F := F)).lev ∗ H1 (VI d i) sCnt A₄ ∗ (semVal (VI d i, SemLoc.dma cc0_scoped0.sem) 0 ∗ H1 (VI d i) (rowW i) A₅) ∗
      (semVal (VI d i, SemLoc.dma cc0_scoped1.sem) 0 ∗ H1 (VI d i) (pieceW i) A₆) ∗ Owe (VI d i) O W) ∗ Idle d i idxW q₃ f' sIdx cc0_scratch5.sem I) ∗ Idle d i featW q₁ f sA cc0_scratch6.sem A₁) ∗ Idle d i featW q₂ f sB cc0_scratch7.sem A₂) ∗ H1 (VI d i) sAcc A₃) from ?_).trans ?_
  · iintro ⟨Hl, ⟨HI, HA, HB⟩, Hacc, Hcnt, Hrow, Hpiece, HO⟩
    isplitr [Hacc]
    · isplitr [HB]
      · isplitr [HA]
        · isplitr [HI]
          · isplitl [Hl]; · iexact Hl
            isplitl [Hcnt]; · iexact Hcnt
            isplitl [Hrow]; · iexact Hrow
            isplitl [Hpiece]; · iexact Hpiece
            iexact HO
          · iexact HI
        · iexact HA
      · iexact HB
    · iexact Hacc
  refine wp_part7 hf hf' (fun v1 v2 => ?_)
  dsimp only
  refine wp_cut _ wp_part8 fun _ => ?_
  refine wp_cut _ wp_part9 fun _ => ?_
  refine wp_cut _ wp_part10 fun _ => ?_
  refine wp_cut _ wp_part11 fun _ => ?_
  refine wp_cut _ wp_part12 fun _ => ?_
  refine (show _ ⊢ iprop(((levAts (K (F := F)).L (K (F := F)).lev ∗ H1 (VI d i) sCnt A₄ ∗ (semVal (VI d i, SemLoc.dma cc0_scoped0.sem) 0 ∗ H1 (VI d i) (rowW i) A₅) ∗
      (semVal (VI d i, SemLoc.dma cc0_scoped1.sem) 0 ∗ H1 (VI d i) (pieceW i) A₆) ∗ Under d i featW q₁ f sA cc0_scratch6.sem (fun x => G (fOff i (400 * (2 * 0 + 0)) + x)) ∗ Under d i featW q₂ f sB cc0_scratch7.sem (fun x => G (fOff i (400 * (2 * 0 + 1)) + x))) ∗
      (levAts (K (F := F)).L (K (F := F)).lev ∗ Under d i idxW q₃ f' sIdx cc0_scratch5.sem (tileIdx J i) ∗ Owe (VI d i) O W)) ∗ H1 (VI d i) sAcc (zUp A₃ 111)) from ?_).trans ?_
  · iintro ⟨⟨⟨⟨⟨#Hl, Hcnt, Hrow, Hpiece, HO⟩, HI⟩, HA⟩, HB⟩, Hacc⟩
    isplitr [Hacc]
    · isplitr [HI HO]
      · isplitr; · iexact Hl
        isplitl [Hcnt]; · iexact Hcnt
        isplitl [Hrow]; · iexact Hrow
        isplitl [Hpiece]; · iexact Hpiece
        isplitl [HA] <;> iassumption
      · isplitr; · iexact Hl
        isplitl [HI] <;> iassumption
    · iexact Hacc
  refine wp_part13 hO ?_
  dsimp only
  -- the search
  refine (show _ ⊢ iprop(((levAts (K (F := F)).L (K (F := F)).lev ∗ H1 (VI d i) sCnt A₄ ∗ (semVal (VI d i, SemLoc.dma cc0_scoped0.sem) 0 ∗ H1 (VI d i) (rowW i) A₅) ∗
      (semVal (VI d i, SemLoc.dma cc0_scoped1.sem) 0 ∗ H1 (VI d i) (pieceW i) A₆) ∗ Under d i featW q₁ f sA cc0_scratch6.sem (fun x => G (fOff i (400 * (2 * 0 + 0)) + x)) ∗ Under d i featW q₂ f sB cc0_scratch7.sem (fun x => G (fOff i (400 * (2 * 0 + 1)) + x))) ∗
      (Tok (VI d i) idxW q₃ f' ∗ semVal (VI d i, SemLoc.dma cc0_scratch5.sem) 0) ∗ Owe (VI d i) O W ∗ H1 (VI d i) sAcc (fun _ => Scalar.ofBits .f32 0x00000000#32)) ∗ H1 (VI d i) sIdx (tileIdx J i)) from ?_).trans ?_
  · iintro ⟨⟨HR, Hacc⟩, ⟨Ht, Hix⟩, Hs, HO⟩
    isplitr [Hix]
    · isplitl [HR]; · iexact HR
      isplitl [Ht Hs]
      · isplitl [Ht] <;> iassumption
      isplitl [HO]; · iexact HO
      iapply (H1_congr (fun p hp => zUp_eq A₃ 128 p hp)) $$ Hacc
    · iexact Hix
  refine wp_part14 (fun h2 h3 h4 h5 => ?_)
  dsimp only
  refine wp_part15 (fun h6 h7 h8 h9 h10 => ?_)
  dsimp only
  refine wp_part16 (fun h11 h12 h13 h14 h15 h16 => ?_)
  dsimp only
  refine wp_part17 ?_
  dsimp only
  refine (show _ ⊢ iprop(((levAts (K (F := F)).L (K (F := F)).lev ∗ (semVal (VI d i, SemLoc.dma cc0_scoped0.sem) 0 ∗ H1 (VI d i) (rowW i) A₅) ∗
      (semVal (VI d i, SemLoc.dma cc0_scoped1.sem) 0 ∗ H1 (VI d i) (pieceW i) A₆) ∗
      (Tok (VI d i) idxW q₃ f' ∗ semVal (VI d i, SemLoc.dma cc0_scratch5.sem) 0 ∗ ∃ A, H1 (VI d i) sIdx A)) ∗
      (levAts (K (F := F)).L (K (F := F)).lev ∗ Under d i featW q₁ f sA cc0_scratch6.sem (fun x => G (fOff i (400 * (2 * 0 + 0)) + x)) ∗ Under d i featW q₂ f sB cc0_scratch7.sem (fun x => G (fOff i (400 * (2 * 0 + 1)) + x)) ∗
       Owe (VI d i) O W ∗ H1 (VI d i) sAcc (fun _ => Scalar.ofBits .f32 0x00000000#32))) ∗ H1 (VI d i) sCnt A₄) from ?_).trans ?_
  · iintro ⟨⟨⟨#Hl, Hcnt, Hrow, Hpiece, HA, HB⟩, ⟨Ht, Hs⟩, HO, Hacc⟩, Hix⟩
    isplitr [Hcnt]
    · isplitr [HA HB HO Hacc]
      · isplitr; · iexact Hl
        isplitl [Hrow]; · iexact Hrow
        isplitl [Hpiece]; · iexact Hpiece
        isplitl [Ht]; · iexact Ht
        isplitl [Hs]; · iexact Hs
        iexists _
        iexact Hix
      · isplitr; · iexact Hl
        isplitl [HA]; · iexact HA
        isplitl [HB]; · iexact HB
        isplitl [HO] <;> iassumption
    · iexact Hcnt
  refine wp_part18 ?_
  dsimp only
  -- the chunks
  refine (show _ ⊢ iprop((levAts (K (F := F)).L (K (F := F)).lev ∗ (semVal (VI d i, SemLoc.dma cc0_scoped0.sem) 0 ∗ H1 (VI d i) (rowW i) A₅) ∗
      (semVal (VI d i, SemLoc.dma cc0_scoped1.sem) 0 ∗ H1 (VI d i) (pieceW i) A₆) ∗
      (Tok (VI d i) idxW q₃ f' ∗ semVal (VI d i, SemLoc.dma cc0_scratch5.sem) 0 ∗ ∃ A, H1 (VI d i) sIdx A) ∗ H1 (VI d i) sCnt (pieceCnt F J i)) ∗
      Pair d i q₁ q₂ f (fun _ => Scalar.ofBits .f32 0x00000000#32) G (stOf (tileIdx J i)) O W 0) from ?_).trans ?_
  · unfold Pair Slot
    rw [if_pos (by decide), if_pos (by decide)]
    iintro ⟨⟨⟨#Hl, Hrow, Hpiece, Hi⟩, -, HA, HB, HO, Hacc⟩, Hcnt⟩
    isplitr [HA HB HO Hacc]
    · isplitr; · iexact Hl
      isplitl [Hrow]; · iexact Hrow
      isplitl [Hpiece]; · iexact Hpiece
      isplitl [Hi]; · iexact Hi
      iexact Hcnt
    · isplitr; · iexact Hl
      isplitl [HA]; · iexact HA
      isplitl [HB]; · iexact HB
      isplitl [HO]; · iexact HO
      iexact Hacc
  refine wp_forR _ _ _ _ (fun n _ => Pair d i q₁ q₂ f (fun _ => Scalar.ofBits .f32 0x00000000#32) G (stOf (tileIdx J i)) O W n) (fun t _ => wp_pair (starts (tileIdx J i)) hf hO t) .rfl fun _ => ?_
  -- the copies out
  rw [trips_t2]
  refine (show _ ⊢ iprop((levAts (K (F := F)).L (K (F := F)).lev ∗ Owe (VI d i) O W ∗
      (semVal (VI d i, SemLoc.dma cc0_scoped1.sem) 0 ∗ H1 (VI d i) (pieceW i) A₆) ∗
      (Tok (VI d i) idxW q₃ f' ∗ semVal (VI d i, SemLoc.dma cc0_scratch5.sem) 0 ∗ ∃ A, H1 (VI d i) sIdx A) ∗ H1 (VI d i) sCnt (pieceCnt F J i) ∗
        (Tok (VI d i) featW q₁ f ∗ semVal (VI d i, SemLoc.dma cc0_scratch6.sem) 0 ∗ ∃ A : ℕ → F .f32, H1 (VI d i) sA A) ∗
        (Tok (VI d i) featW q₂ f ∗ semVal (VI d i, SemLoc.dma cc0_scratch7.sem) 0 ∗ ∃ A : ℕ → F .f32, H1 (VI d i) sB A)) ∗
      (H1 (VI d i) sAcc (rowAcc G J i) ∗ semVal (VI d i, SemLoc.dma cc0_scoped0.sem) 0 ∗ H1 (VI d i) (rowW i) A₅)) from ?_).trans ?_
  · unfold Pair Slot
    rw [if_neg (by decide), if_neg (by decide)]
    iintro ⟨⟨#Hl, ⟨Hs, Hrow⟩, Hpiece, Hi, Hcnt⟩, -, HA, HB, HO, Hacc⟩
    isplitr [Hs Hrow Hacc]
    · isplitr; · iexact Hl
      isplitl [HO]; · iexact HO
      isplitl [Hpiece]; · iexact Hpiece
      isplitl [Hi]; · iexact Hi
      isplitl [Hcnt]; · iexact Hcnt
      isplitl [HA] <;> iassumption
    · isplitl [Hacc]; · iexact Hacc
      isplitl [Hs] <;> iassumption
  refine wp_push (by decide) ?_
  refine (show _ ⊢ iprop((levAts (K (F := F)).L (K (F := F)).lev ∗
      (semVal (VI d i, SemLoc.dma cc0_scoped1.sem) 0 ∗ H1 (VI d i) (pieceW i) A₆) ∗
      (Tok (VI d i) idxW q₃ f' ∗ semVal (VI d i, SemLoc.dma cc0_scratch5.sem) 0 ∗ ∃ A, H1 (VI d i) sIdx A) ∗ H1 (VI d i) sCnt (pieceCnt F J i) ∗
        (Tok (VI d i) featW q₁ f ∗ semVal (VI d i, SemLoc.dma cc0_scratch6.sem) 0 ∗ ∃ A : ℕ → F .f32, H1 (VI d i) sA A) ∗
        (Tok (VI d i) featW q₂ f ∗ semVal (VI d i, SemLoc.dma cc0_scratch7.sem) 0 ∗ ∃ A : ℕ → F .f32, H1 (VI d i) sB A)) ∗
      (levAts (K (F := F)).L (K (F := F)).lev ∗ Coming (VI d i) (rowW i) cc0_scoped0.sem iprop(H1 (VI d i) sAcc (rowAcc G J i) ∗ H1 (VI d i) (rowW i) (rowAcc G J i)) ∗ Owe (VI d i) O W)) from ?_).trans ?_
  · iintro ⟨⟨#Hl, HO, HR⟩, Hc⟩
    isplitl [HR]
    · isplitr; · iexact Hl
      iexact HR
    · isplitr; · iexact Hl
      isplitl [Hc] <;> iassumption
  refine wp_fetched hO ?_
  refine (show _ ⊢ iprop((levAts (K (F := F)).L (K (F := F)).lev ∗ Owe (VI d i) O W ∗
      (Tok (VI d i) idxW q₃ f' ∗ semVal (VI d i, SemLoc.dma cc0_scratch5.sem) 0 ∗ ∃ A, H1 (VI d i) sIdx A) ∗
        (Tok (VI d i) featW q₁ f ∗ semVal (VI d i, SemLoc.dma cc0_scratch6.sem) 0 ∗ ∃ A : ℕ → F .f32, H1 (VI d i) sA A) ∗
        (Tok (VI d i) featW q₂ f ∗ semVal (VI d i, SemLoc.dma cc0_scratch7.sem) 0 ∗ ∃ A : ℕ → F .f32, H1 (VI d i) sB A) ∗
        (∃ A : ℕ → F .f32, H1 (VI d i) sAcc A) ∗ semVal (VI d i, SemLoc.dma cc0_scoped0.sem) 0 ∗ H1 (VI d i) (rowW i) (rowAcc G J i)) ∗
      (H1 (VI d i) sCnt (pieceCnt F J i) ∗ semVal (VI d i, SemLoc.dma cc0_scoped1.sem) 0 ∗ H1 (VI d i) (pieceW i) A₆)) from ?_).trans ?_
  · iintro ⟨⟨#Hl, ⟨Hs, Hp⟩, Hi, Hcnt, HA, HB⟩, ⟨Hacc, Hrow⟩, Hs0, HO⟩
    isplitr [Hs Hp Hcnt]
    · isplitr; · iexact Hl
      isplitl [HO]; · iexact HO
      isplitl [Hi]; · iexact Hi
      isplitl [HA]; · iexact HA
      isplitl [HB]; · iexact HB
      isplitl [Hacc]; · iexists _; iexact Hacc
      isplitl [Hs0] <;> iassumption
    · isplitl [Hcnt]; · iexact Hcnt
      isplitl [Hs] <;> iassumption
  refine wp_push (by decide) ?_
  refine (show _ ⊢ iprop((
      (Tok (VI d i) idxW q₃ f' ∗ semVal (VI d i, SemLoc.dma cc0_scratch5.sem) 0 ∗ ∃ A, H1 (VI d i) sIdx A) ∗
        (Tok (VI d i) featW q₁ f ∗ semVal (VI d i, SemLoc.dma cc0_scratch6.sem) 0 ∗ ∃ A : ℕ → F .f32, H1 (VI d i) sA A) ∗
        (Tok (VI d i) featW q₂ f ∗ semVal (VI d i, SemLoc.dma cc0_scratch7.sem) 0 ∗ ∃ A : ℕ → F .f32, H1 (VI d i) sB A) ∗
        (∃ A : ℕ → F .f32, H1 (VI d i) sAcc A) ∗ semVal (VI d i, SemLoc.dma cc0_scoped0.sem) 0 ∗ H1 (VI d i) (rowW i) (rowAcc G J i)) ∗
      (levAts (K (F := F)).L (K (F := F)).lev ∗ Coming (VI d i) (pieceW i) cc0_scoped1.sem iprop(H1 (VI d i) sCnt (pieceCnt F J i) ∗ H1 (VI d i) (pieceW i) (pieceCnt F J i)) ∗ Owe (VI d i) O W)) from ?_).trans ?_
  · iintro ⟨⟨#Hl, HO, HR⟩, Hc⟩
    isplitl [HR]
    · iexact HR
    · isplitr; · iexact Hl
      isplitl [Hc] <;> iassumption
  refine wp_fetched hO ?_
  have hend : ∀ Y : sProp (MM F), Y ⊢ WI d i (Pure.pure PUnit.unit) fun _ : Unit => Y := fun Y => fupd_intro
  refine BIBase.Entails.trans ?_ (hend _)
  iintro ⟨⟨Hi, HA, HB, Hacc, Hs0, Hrow⟩, ⟨Hcnt, Hp⟩, Hs1, HO⟩
  isplitl [Hi HA HB]
  · isplitl [Hi]; · iexact Hi
    isplitl [HA] <;> iassumption
  isplitl [Hacc]; · iexact Hacc
  isplitl [Hcnt]; · iexists _; iexact Hcnt
  isplitl [Hs0 Hrow]
  · isplitl [Hs0] <;> iassumption
  isplitl [Hs1 Hp]
  · isplitl [Hs1] <;> iassumption
  iexact HO

end Cert.Sums

end
-- ==== Proof.Sums.Deal.lean ====
/- What the launch deals to each tile and what the tile hands back: two read shares of the features,
one of the indices, its row of the partial sums and its piece of the partial counts. -/
module

public import proofs.«01_k».proof.Proof.Sums.Tile

@[expose] public section

noncomputable section

namespace Cert.Sums

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The arrays of the SparseCore call as the TensorCore names them. -/
abbrev fLoc (d : Dev nD) : Loc nD τ sig := (SparseCore.T d).loc main_v0
abbrev iLoc (d : Dev nD) : Loc nD τ sig := (SparseCore.T d).loc main_arg1
abbrev pLoc (d : Dev nD) : Loc nD τ sig := (SparseCore.T d).loc main_v1_0
abbrev cLoc (d : Dev nD) : Loc nD τ sig := (SparseCore.T d).loc main_v1_1

/-- The index of a vector at a position, taken round its length. -/
def at1 (n : ℕ) [NeZero n] (p : ℕ) : (⟨1, ![n]⟩ : Shape).Idx := fun a => match a with
  | ⟨0, _⟩ => ⟨p % n, Nat.mod_lt _ (NeZero.pos n)⟩

theorem at1_self (n : ℕ) [NeZero n] (x : (⟨1, ![n]⟩ : Shape).Idx) : at1 n (x 0).val = x := by
  funext a
  match a with
  | ⟨0, _⟩ => exact Fin.ext (Nat.mod_eq_of_lt (x 0).isLt)

/-- The flat features and the indices at a position. -/
def featAt {d : Dev nD} (f : Buf (Elt F) (fLoc d)) (p : ℕ) : F .f32 :=
  featW.view.read (Elt F) f (at1 _ p)
def idxAt {d : Dev nD} (f : Buf (Elt F) (iLoc d)) (p : ℕ) : BitVec 32 :=
  idxW.view.read (Elt F) f (at1 _ p)

omit [FloatOps F] in
theorem featAt_read {d : Dev nD} (f : Buf (Elt F) (fLoc d)) (x) : featW.view.read (Elt F) f x = featAt f (x 0).val :=
  congrArg (featW.view.read (Elt F) f) (at1_self _ x).symm
omit [FloatOps F] in
theorem idxAt_read {d : Dev nD} (f : Buf (Elt F) (iLoc d)) (x) : idxW.view.read (Elt F) f x = idxAt f (x 0).val :=
  congrArg (idxW.view.read (Elt F) f) (at1_self _ x).symm

omit [FloatOps F] in
/-- A buffer owned at some contents is one owned at the values it holds. -/
theorem own_H1 {c : Thread nD τ} {sp : Space} {e : EltTy} {n : ℕ} [NeZero n] (m : Memref sig c.2.kind sp ⟨1, ![n]⟩ e) :
    iprop(∃ f, m.view.loc c ↦[m.view.set]{fullShare} f) ⊢ (iprop(∃ A : ℕ → Elt F e, H1 c m A) : sProp (MM F)) := by
  unfold H1
  iintro ⟨%f, H⟩
  iexists fun p => m.view.read (Elt F) f (at1 n p)
  iexists f
  isplitr
  · ipureintro; intro x; exact congrArg _ (at1_self n x).symm
  · iexact H

omit [FloatOps F] in
theorem H1_own {c : Thread nD τ} {sp : Space} {e : EltTy} {n : ℕ} (m : Memref sig c.2.kind sp ⟨1, ![n]⟩ e) :
    iprop(∃ A : ℕ → Elt F e, H1 c m A) ⊢ (iprop(∃ f, m.view.loc c ↦[m.view.set]{fullShare} f) : sProp (MM F)) := by
  unfold H1
  iintro ⟨%A, %f, -, H⟩
  iexists f; iexact H

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sums_kernel (F := F) (coordsV c s) featW (Memref.isWhole_whole _) idxW (Memref.isWhole_whole _)
          psumW (Memref.isWhole_whole _) pcntW (Memref.isWhole_whole _) sIdx (Memref.isWhole_whole _) sA (Memref.isWhole_whole _) sB (Memref.isWhole_whole _)
          sAcc (Memref.isWhole_whole _) sCnt (Memref.isWhole_whole _) cc0_scratch5 cc0_scratch6 cc0_scratch7 cc0_scoped0 cc0_scoped1) ⟨⟩ c s := rfl

section
variable (d : Dev nD) (f : Buf (Elt F) (fLoc d)) (f' : Buf (Elt F) (iLoc d)) (L : grid0.Coords)

/-- What a tile is dealt: a read share of the indices and one of the features, its row and its piece at whatever they hold. -/
def dealt : sProp (MM F) :=
  iprop(Tok (VI d L) idxW (Transfers.shareTokN fullShare (wid L)) f' ∗ Tok (VI d L) featW (Transfers.shareTokN fullShare (wid L)) f ∗
    (∃ A : ℕ → F .f32, H1 (VI d L) (rowW L) A) ∗ ∃ A : ℕ → F .f32, H1 (VI d L) (pieceW L) A)

/-- What it hands back: the shares, its row at the tile's sums and its piece at the tile's counts. -/
def handed : sProp (MM F) :=
  iprop(Tok (VI d L) idxW (Transfers.shareTokN fullShare (wid L)) f' ∗ Tok (VI d L) featW (Transfers.shareTokN fullShare (wid L)) f ∗
    H1 (VI d L) (rowW L) (rowAcc (featAt f) (idxAt f') L) ∗ H1 (VI d L) (pieceW L) (pieceCnt F (idxAt f') L))

omit [FloatOps F] in
instance Tok_storable {c : Thread nD τ} {sp : Space} {s : Shape} {e : EltTy} (m : Memref sig c.2.kind sp s e) (q : PosShare TreeShare) (g : Buf (Elt F) (m.view.loc c)) :
    BI.Storable (upEmb : UEmb _ (MM F)) (Tok c m q g) := by
  unfold Tok; infer_instance
omit [FloatOps F] in
instance H1_storable {c : Thread nD τ} {sp : Space} {e : EltTy} {n : ℕ} (m : Memref sig c.2.kind sp ⟨1, ![n]⟩ e) (A : ℕ → Elt F e) :
    BI.Storable (upEmb : UEmb _ (MM F)) (H1 c m A) := by
  unfold H1; infer_instance

instance dealt_storable : BI.Storable (upEmb : UEmb _ (MM F)) (dealt d f f' L) := by
  unfold dealt; infer_instance
instance handed_storable : BI.Storable (upEmb : UEmb _ (MM F)) (handed d f f' L) := by
  unfold handed; infer_instance

end

variable (f : (d : Dev nD) → Buf (Elt F) (fLoc d)) (f' : (d : Dev nD) → Buf (Elt F) (iLoc d))

/-- The one call: each core takes its sixteen tiles' shares and brings them back. -/
def P : (K (F := F)).Pay (nD := nD) (Val := Elt F) (Name := ℕ) (U := UU) where
  st := fun q d c => match q with | 0 => bigSep Finset.univ fun i : Fin 16 => dealt d (f d) (f' d) (coordsV c i)
  dn := fun q d c => match q with | 0 => bigSep Finset.univ fun i : Fin 16 => handed d (f d) (f' d) (coordsV c i)
  go := fun q d c i => match q with | 0 => dealt d (f d) (f' d) (coordsV c i)
  td := fun q d c i => match q with | 0 => handed d (f d) (f' d) (coordsV c i)
  x := fun _ _ => iprop(emp)

instance P_storable : (P f f').IsStorable where
  st q d c := match q with
    | 0 => (letI h : ∀ i : Fin 16, BI.Storable (upEmb : UEmb _ (MM F)) (dealt d (f d) (f' d) (coordsV c i)) := fun i => dealt_storable d (f d) (f' d) (coordsV c i)
        BI.Storable.bigSep upEmb Finset.univ fun i : Fin 16 => dealt d (f d) (f' d) (coordsV c i))
  dn q d c := match q with
    | 0 => (letI h : ∀ i : Fin 16, BI.Storable (upEmb : UEmb _ (MM F)) (handed d (f d) (f' d) (coordsV c i)) := fun i => handed_storable d (f d) (f' d) (coordsV c i)
        BI.Storable.bigSep upEmb Finset.univ fun i : Fin 16 => handed d (f d) (f' d) (coordsV c i))
  go q d c i := match q with | 0 => dealt_storable d (f d) (f' d) (coordsV c i)
  td q d c i := match q with | 0 => handed_storable d (f d) (f' d) (coordsV c i)

theorem vecSplit : (K (F := F)).VecSplit' (P f f') 0 := by
  intro d c
  show (bigSep Finset.univ fun i : Fin 16 => dealt d (f d) (f' d) (coordsV c i)) ⊢ |={Set.univ}=> iprop(
    (bigSep Finset.univ fun i : Fin 16 => dealt d (f d) (f' d) (coordsV c i)) ∗
    ((bigSep Finset.univ fun i : Fin 16 => handed d (f d) (f' d) (coordsV c i)) -∗ (bigSep Finset.univ fun i : Fin 16 => handed d (f d) (f' d) (coordsV c i))))
  iintro H; imodintro
  isplitl [H]; · iexact H
  iintro H; iexact H

/-! ## The task's own cells and buffers -/

/-- The five cells a tile's copies complete on, and the rest. -/
theorem ownSems0_V (d : Dev nD) (c : Fin τ.nSC) (j : Fin τ.nSub) :
    (ownSems0 (V d c j) : sProp (MM F))
      = iprop(semVal (V d c j, SemLoc.dma cc0_scratch5.sem) 0 ∗ semVal (V d c j, SemLoc.dma cc0_scratch6.sem) 0 ∗ semVal (V d c j, SemLoc.dma cc0_scratch7.sem) 0 ∗
          semVal (V d c j, SemLoc.dma cc0_scoped0.sem) 0 ∗ semVal (V d c j, SemLoc.dma cc0_scoped1.sem) 0 ∗
          bigSep (((((ownCells (V d c j)).erase (V d c j, SemLoc.dma cc0_scratch5.sem)).erase (V d c j, SemLoc.dma cc0_scratch6.sem)).erase
            (V d c j, SemLoc.dma cc0_scratch7.sem)).erase (V d c j, SemLoc.dma cc0_scoped0.sem)|>.erase (V d c j, SemLoc.dma cc0_scoped1.sem)) fun g => semVal g 0) := by
  unfold SparseCore.Cfg.ownSems0
  have hm : ∀ sm : SemLoc sig, sm.isScoped .scVector = true → (V d c j, sm) ∈ ownCells (V d c j) := fun sm h => mem_ownCells.mpr ⟨rfl, h⟩
  have hne : ∀ s t : SemLoc sig, s ≠ t → ((V d c j, s) : GSem nD τ sig) ≠ (V d c j, t) := fun s t h e => h (congrArg Prod.snd e)
  rw [SparseCore.bigSep_erase' (hm (.dma cc0_scratch5.sem) (by decide)),
    SparseCore.bigSep_erase' (i := (V d c j, SemLoc.dma cc0_scratch6.sem)) (by
      simp only [Finset.mem_erase]; exact ⟨hne _ _ (by decide), hm _ (by decide)⟩),
    SparseCore.bigSep_erase' (i := (V d c j, SemLoc.dma cc0_scratch7.sem)) (by
      simp only [Finset.mem_erase]; exact ⟨hne _ _ (by decide), hne _ _ (by decide), hm _ (by decide)⟩),
    SparseCore.bigSep_erase' (i := (V d c j, SemLoc.dma cc0_scoped0.sem)) (by
      simp only [Finset.mem_erase]; exact ⟨hne _ _ (by decide), hne _ _ (by decide), hne _ _ (by decide), hm _ (by decide)⟩),
    SparseCore.bigSep_erase' (i := (V d c j, SemLoc.dma cc0_scoped1.sem)) (by
      simp only [Finset.mem_erase]; exact ⟨hne _ _ (by decide), hne _ _ (by decide), hne _ _ (by decide), hne _ _ (by decide), hm _ (by decide)⟩)]

/-- The five buffers of a tile, and the rest. -/
theorem ownBufs_V (d : Dev nD) (c : Fin τ.nSC) (j : Fin τ.nSub) :
    (ownBufs (V d c j) : sProp (MM F))
      = iprop((∃ f, (V d c j).loc cc0_scratch0 ↦{fullShare} f) ∗ (∃ f, (V d c j).loc cc0_scratch1 ↦{fullShare} f) ∗
          (∃ f, (V d c j).loc cc0_scratch2 ↦{fullShare} f) ∗ (∃ f, (V d c j).loc cc0_scratch3 ↦{fullShare} f) ∗
          (∃ f, (V d c j).loc cc0_scratch4 ↦{fullShare} f) ∗
          bigSep ((((((ownRefs (τ := τ) (.scVector c j)).erase ((Proc.scVector c j).devRef cc0_scratch0)).erase ((Proc.scVector c j).devRef cc0_scratch1)).erase
            ((Proc.scVector c j).devRef cc0_scratch2)).erase ((Proc.scVector c j).devRef cc0_scratch3)).erase ((Proc.scVector c j).devRef cc0_scratch4))
            fun b => iprop(∃ f, ((d, b) : Loc nD τ sig) ↦{fullShare} f)) := by
  unfold SparseCore.Cfg.ownBufs
  have hm : ∀ b : Ref sig .scVector, ((Proc.scVector c j).devRef b).owner = _ → (Proc.scVector c j).devRef b ∈ ownRefs (τ := τ) (.scVector c j) :=
    fun b h => SparseCore.Cfg.mem_ownRefs_of_owner (p := Proc.scVector c j) (b := (Proc.scVector c j).devRef b) h
  have hne : ∀ s t : Ref sig .scVector, s ≠ t → (Proc.scVector (τ := τ) c j).devRef s ≠ (Proc.scVector c j).devRef t :=
    fun s t h e => h (Proc.devRef_injective _ e)
  refine (SparseCore.bigSep_erase' (hm cc0_scratch0 rfl)).trans ?_
  rw [SparseCore.bigSep_erase' (i := (Proc.scVector c j).devRef cc0_scratch1) (by
      simp only [Finset.mem_erase]; exact ⟨hne _ _ (by decide), hm _ rfl⟩),
    SparseCore.bigSep_erase' (i := (Proc.scVector c j).devRef cc0_scratch2) (by
      simp only [Finset.mem_erase]; exact ⟨hne _ _ (by decide), hne _ _ (by decide), hm _ rfl⟩),
    SparseCore.bigSep_erase' (i := (Proc.scVector c j).devRef cc0_scratch3) (by
      simp only [Finset.mem_erase]; exact ⟨hne _ _ (by decide), hne _ _ (by decide), hne _ _ (by decide), hm _ rfl⟩),
    SparseCore.bigSep_erase' (i := (Proc.scVector c j).devRef cc0_scratch4) (by
      simp only [Finset.mem_erase]; exact ⟨hne _ _ (by decide), hne _ _ (by decide), hne _ _ (by decide), hne _ _ (by decide), hm _ rfl⟩)]

omit [FloatOps F] in
/-- A buffer owned whole, as the launch owns it and as the body does. -/
theorem whole_H1 {c : Thread nD τ} {sp : Space} {e : EltTy} {n : ℕ} [NeZero n] {m : Memref sig c.2.kind sp ⟨1, ![n]⟩ e} (h : m.view.set = Finset.univ) :
    iprop(∃ f, m.view.loc c ↦{fullShare} f) ⊢ (iprop(∃ A : ℕ → Elt F e, H1 c m A) : sProp (MM F)) := by
  have := own_H1 (F := F) m
  rwa [h] at this
omit [FloatOps F] in
theorem H1_whole {c : Thread nD τ} {sp : Space} {e : EltTy} {n : ℕ} {m : Memref sig c.2.kind sp ⟨1, ![n]⟩ e} (h : m.view.set = Finset.univ) :
    iprop(∃ A : ℕ → Elt F e, H1 c m A) ⊢ (iprop(∃ f, m.view.loc c ↦{fullShare} f) : sProp (MM F)) := by
  have := H1_own (F := F) m
  rwa [h] at this

set_option maxRecDepth 8192 in
/-- The task from what it is dealt to what it hands back. -/
theorem tile_body (d : Dev nD) (g : Buf (Elt F) (fLoc d)) (g' : Buf (Elt F) (iLoc d)) (L : grid0.Coords)
    (O : CellTallies nD τ sig (HIx 1)) (W : Waits sig (HIx 1)) (hO : ∀ g, O g none = 0) :
    iprop(levAts (K (F := F)).L (K (F := F)).lev ∗ emp ∗ dealt d g g' L ∗ scopedBufs (VI d L) ∗ scopedSems0 (VI d L) ∗ owes (VI d L) O W) ⊢
    WI d L (cc0_sums_kernel (F := F) L featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1) fun _ =>
    iprop(handed d g g' L ∗ scopedBufs (VI d L) ∗ scopedSems0 (VI d L) ∗
      ∃ W', ⌜∀ p ∈ W', p ∈ W ∨ p.2 = none ∨ p.2 = some (0 : Fin 1)⌝ ∗ owes (VI d L) O W') := by
  obtain ⟨R, hR⟩ : ∃ R : sProp (MM F), (ownBufs (VI d L) : sProp (MM F)) = iprop((∃ f, (VI d L).loc cc0_scratch0 ↦{fullShare} f) ∗ (∃ f, (VI d L).loc cc0_scratch1 ↦{fullShare} f) ∗
          (∃ f, (VI d L).loc cc0_scratch2 ↦{fullShare} f) ∗ (∃ f, (VI d L).loc cc0_scratch3 ↦{fullShare} f) ∗
          (∃ f, (VI d L).loc cc0_scratch4 ↦{fullShare} f) ∗ R) := ⟨_, ownBufs_V (F := F) d ((L 0).castLE hcore0) ((L 1).castLE hsub0)⟩
  have hT : ∀ q : PosShare TreeShare, (Tok (VI d L) featW q g : sProp (MM F)) ⊣⊢ iprop(Tok (VI d L) featW q.left g ∗ Tok (VI d L) featW q.right g) :=
    fun q => pointsTo_share (PosShare.mem_left_op_right _)
  have hb : (scopedBufs (VI d L) : sProp (MM F)) = _ := (K (F := F)).scopedBufs_V facts d ((L 0).castLE hcore0) ((L 1).castLE hsub0)
  have hs : (scopedSems0 (VI d L) : sProp (MM F)) = _ := SparseCore.Cfg.scopedSems0_V (Val := Elt F) d ((L 0).castLE hcore0) ((L 1).castLE hsub0)
  rw [hR] at hb
  rw [ownSems0_V] at hs
  refine BIBase.Entails.trans (Q := iprop((bigSep (((((ownCells (VI d L)).erase (VI d L, SemLoc.dma cc0_scratch5.sem)).erase (VI d L, SemLoc.dma cc0_scratch6.sem)).erase
            (VI d L, SemLoc.dma cc0_scratch7.sem)).erase (VI d L, SemLoc.dma cc0_scoped0.sem)|>.erase (VI d L, SemLoc.dma cc0_scoped1.sem)) (fun g => semVal g 0) ∗ R) ∗
      WI d L (cc0_sums_kernel (F := F) L featW (Memref.isWhole_whole _) idxW (Memref.isWhole_whole _) psumW (Memref.isWhole_whole _) pcntW (Memref.isWhole_whole _)
      sIdx (Memref.isWhole_whole _) sA (Memref.isWhole_whole _) sB (Memref.isWhole_whole _) sAcc (Memref.isWhole_whole _) sCnt (Memref.isWhole_whole _)
      cc0_scratch5 cc0_scratch6 cc0_scratch7 cc0_scoped0 cc0_scoped1) fun _ =>
    iprop(((Tok (VI d L) idxW (Transfers.shareTokN fullShare (wid L)) g' ∗ semVal (VI d L, SemLoc.dma cc0_scratch5.sem) 0 ∗ ∃ A : ℕ → BitVec 32, H1 (VI d L) sIdx A) ∗
        (Tok (VI d L) featW (Transfers.shareTokN fullShare (wid L)).left g ∗ semVal (VI d L, SemLoc.dma cc0_scratch6.sem) 0 ∗ ∃ A : ℕ → F .f32, H1 (VI d L) sA A) ∗
        (Tok (VI d L) featW (Transfers.shareTokN fullShare (wid L)).right g ∗ semVal (VI d L, SemLoc.dma cc0_scratch7.sem) 0 ∗ ∃ A : ℕ → F .f32, H1 (VI d L) sB A)) ∗
      (∃ A : ℕ → F .f32, H1 (VI d L) sAcc A) ∗ (∃ A : ℕ → F .f32, H1 (VI d L) sCnt A) ∗
      (semVal (VI d L, SemLoc.dma cc0_scoped0.sem) 0 ∗ H1 (VI d L) (rowW L) (rowAcc (featAt g) (idxAt g') L)) ∗
      (semVal (VI d L, SemLoc.dma cc0_scoped1.sem) 0 ∗ H1 (VI d L) (pieceW L) (pieceCnt F (idxAt g') L)) ∗ Owe (VI d L) O W))) ?_ ?_
  · unfold dealt
    rw [show (scopedBufs (VI d L) : sProp (MM F)) = _ from hb, show (scopedSems0 (VI d L) : sProp (MM F)) = _ from hs]
    iintro ⟨Hl, -, ⟨Hi, Hf, ⟨%A₅, Hrow⟩, %A₆, Hpiece⟩, ⟨H0, H1, H2, H3, H4, HR⟩, ⟨S5, S6, S7, S8, S9, Hrest⟩, HO⟩
    ihave Hf' := (hT _).1 $$ Hf
    icases Hf' with ⟨Hf1, Hf2⟩
    ihave H0' := (whole_H1 (F := F) (c := VI d L) (m := sIdx) (View.set_whole _)) $$ H0
    ihave H1' := (whole_H1 (F := F) (c := VI d L) (m := sA) (View.set_whole _)) $$ H1
    ihave H2' := (whole_H1 (F := F) (c := VI d L) (m := sB) (View.set_whole _)) $$ H2
    ihave H3' := (whole_H1 (F := F) (c := VI d L) (m := sAcc) (View.set_whole _)) $$ H3
    ihave H4' := (whole_H1 (F := F) (c := VI d L) (m := sCnt) (View.set_whole _)) $$ H4
    icases H0' with ⟨%A₀, H0⟩
    icases H1' with ⟨%A₁, H1⟩
    icases H2' with ⟨%A₂, H2⟩
    icases H3' with ⟨%A₃, H3⟩
    icases H4' with ⟨%A₄, H4⟩
    isplitl [Hrest HR]
    · isplitl [Hrest]; · iexact Hrest
      iexact HR
    iapply (wp_tile (F := F) (d := d) (i := L) (featAt_read g) (idxAt_read g') hO)
    isplitl [Hl]; · iexact Hl
    isplitl [Hi S5 H0 Hf1 S6 H1 Hf2 S7 H2]
    · unfold Idle
      isplitl [Hi S5 H0]
      · isplitl [Hi]; · iexact Hi
        isplitl [S5]; · iexact S5
        iexact H0
      isplitl [Hf1 S6 H1]
      · isplitl [Hf1]; · iexact Hf1
        isplitl [S6]; · iexact S6
        iexact H1
      isplitl [Hf2]; · iexact Hf2
      isplitl [S7]; · iexact S7
      iexact H2
    isplitl [H3]; · iexact H3
    isplitl [H4]; · iexact H4
    isplitl [S8 Hrow]
    · isplitl [S8]; · iexact S8
      iexact Hrow
    isplitl [S9 Hpiece]
    · isplitl [S9]; · iexact S9
      iexact Hpiece
    unfold Owe
    iexists W
    isplitr
    · ipureintro; exact fun p hp => .inl hp
    · iexact HO
  · refine BIBase.Entails.trans (wp_frame_l frame (wpE (defs₀ (F := F)) 𝒱₀ (VI d L) none) Set.univ) (wp_mono frame _ _ fun _ => ?_)
    unfold handed
    rw [show (scopedBufs (VI d L) : sProp (MM F)) = _ from hb, show (scopedSems0 (VI d L) : sProp (MM F)) = _ from hs]
    unfold Owe
    iintro ⟨⟨Hrest, HR⟩, ⟨⟨Hi, S5, H0⟩, ⟨Hf1, S6, H1⟩, Hf2, S7, H2⟩, H3, H4, ⟨S8, Hrow⟩, ⟨S9, Hpiece⟩, %W', %hW', HO⟩
    ihave H0' := (H1_whole (F := F) (c := VI d L) (m := sIdx) (View.set_whole _)) $$ H0
    ihave H1' := (H1_whole (F := F) (c := VI d L) (m := sA) (View.set_whole _)) $$ H1
    ihave H2' := (H1_whole (F := F) (c := VI d L) (m := sB) (View.set_whole _)) $$ H2
    ihave H3' := (H1_whole (F := F) (c := VI d L) (m := sAcc) (View.set_whole _)) $$ H3
    ihave H4' := (H1_whole (F := F) (c := VI d L) (m := sCnt) (View.set_whole _)) $$ H4
    isplitl [Hi Hf1 Hf2 Hrow Hpiece]
    · isplitl [Hi]; · iexact Hi
      isplitl [Hf1 Hf2]
      · iapply (hT _).2
        isplitl [Hf1]; · iexact Hf1
        iexact Hf2
      isplitl [Hrow]; · iexact Hrow
      iexact Hpiece
    isplitl [H0' H1' H2' H3' H4' HR]
    · isplitl [H0']; · iexact H0'
      isplitl [H1']; · iexact H1'
      isplitl [H2']; · iexact H2'
      isplitl [H3']; · iexact H3'
      isplitl [H4']; · iexact H4'
      iexact HR
    isplitl [S5 S6 S7 S8 S9 Hrest]
    · isplitl [S5]; · iexact S5
      isplitl [S6]; · iexact S6
      isplitl [S7]; · iexact S7
      isplitl [S8]; · iexact S8
      isplitl [S9]; · iexact S9
      iexact Hrest
    iexists W'
    isplitr
    · ipureintro; exact fun p hp => (hW' p hp).imp_right .inl
    · iexact HO

set_option maxRecDepth 8192 in
/-- What the launch asks of the tiles. -/
theorem tileObl : (K (F := F)).TileObl (D (F := F)) 𝒱 (P f f') v₀ 0 := by
  intro d c i O W hO _ _
  simp only [show (P f f').ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (f d) (f' d) (coordsV ⟨((K (F := F)).core 0 c).val, hci.1⟩ ⟨((K (F := F)).sub 0 i).val, hci.2⟩) O W hO
  unfold WI VI at h
  have e1 : (P f f').go 0 d c i = dealt d (f d) (f' d) (coordsV ⟨((K (F := F)).core 0 c).val, hci.1⟩ ⟨((K (F := F)).sub 0 i).val, hci.2⟩) := rfl
  have e2 : (P f f').td 0 d c i = handed d (f d) (f' d) (coordsV ⟨((K (F := F)).core 0 c).val, hci.1⟩ ⟨((K (F := F)).sub 0 i).val, hci.2⟩) := rfl
  rw [e1, e2]
  refine BIBase.Entails.trans h (wp_mono frame _ _ fun _ => ?_)
  exact .rfl

end Cert.Sums

end
-- ==== Proof.Sums.Split.lean ====
/- The arrays of the SparseCore call cut for the tiles, and joined again at what the tiles leave. -/
module

public import proofs.«01_k».proof.Proof.Sums.Deal

@[expose] public section

noncomputable section

namespace Cert.Sums

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The tile of a number. -/
def tileOf (n : ℕ) : grid0.Coords := coordsV ⟨n / 16 % 2, Nat.mod_lt _ (by decide)⟩ ⟨n % 16, Nat.mod_lt _ (by decide)⟩

theorem wid_tileOf {n : ℕ} (h : n < 32) : wid (tileOf n) = n := by
  have : wid (tileOf n) = 16 * (n / 16 % 2) + n % 16 := rfl
  omega

/-- The cores' tiles are the thirty-two tiles. -/
theorem bigSep_tiles (Φ : grid0.Coords → sProp (MM F)) :
    (bigSep Finset.univ fun c : Fin 2 => bigSep Finset.univ fun i : Fin 16 => Φ (coordsV c i)) = bigSep Finset.univ fun n : Fin 32 => Φ (tileOf n.val) := by
  rw [← bigSep_univ_prod (fun p : Fin 2 × Fin 16 => Φ (coordsV p.1 p.2)), bigSep_univ_equiv (finProdFinEquiv : Fin 2 × Fin 16 ≃ Fin 32).symm]
  refine bigSep_congr fun n _ => congrArg Φ ?_
  unfold tileOf
  congr 1
  exact Fin.ext (Nat.mod_eq_of_lt (show n.val / 16 < 2 by omega)).symm

/-- The sums the tiles leave, row by row, and the counts, sixteen for each tile. -/
def psumF {d : Dev nD} (g : Buf (Elt F) (fLoc d)) (g' : Buf (Elt F) (iLoc d)) : Buf (Elt F) (pLoc d) :=
  fun x : S32x2048.Idx => rowAcc (featAt g) (idxAt g') (tileOf (x 0).val) (x 1).val
def pcntF {d : Dev nD} (g' : Buf (Elt F) (iLoc d)) : Buf (Elt F) (cLoc d) :=
  fun x : S512.Idx => pieceCnt F (idxAt g') (tileOf ((x 0).val / 16)) ((x 0).val % 16)

omit [FloatOps F] in
theorem mem_rowW (L : grid0.Coords) (x : S32x2048.Idx) : x ∈ (rowW L).view.set ↔ (x 0).val = wid L := by
  rw [show (rowW L).view.set = (Rect.unit (s := S32x2048) (k0_off71 L) S1x2048.size (k0_off71_inb L)).set from
    (View.set_reshape _ _).trans (View.set_slice_whole _ _), Rect.mem_set_unit, off71_eq]
  constructor
  · intro h
    have := h 0
    simp at this
    omega
  · intro h a
    match a with
    | 0 => simp; omega
    | 1 => simp; exact (x 1).isLt

omit [FloatOps F] in
theorem mem_pieceW (L : grid0.Coords) (x : S512.Idx) : x ∈ (pieceW L).view.set ↔ (x 0).val / 16 = wid L := by
  rw [show (pieceW L).view.set = (Rect.unit (s := S512) (k0_off72 L) S16.size (k0_off72_inb L)).set from
    (View.set_slice_whole _ _), Rect.mem_set_unit]
  have := off72_eq L
  constructor
  · intro h
    have := h 0
    simp at this
    omega
  · intro h a
    match a with
    | 0 => simp; omega

omit [FloatOps F] in
/-- The column of a row's element, and the place of a piece's. -/
theorem row_emb (L : grid0.Coords) (y : S2048.Idx) : (((rowW L).view.emb y : S32x2048.Idx) 1).val = (y 0).val := by
  have h : Shape.reshapeEquiv squeezes_S1x2048_S2048.numel_eq y = (Fin.cons ⟨0, Nat.one_pos⟩ y : S1x2048.Idx) :=
    Shape.reshapeEquiv_cons_one _ _
  have h2 : ((rowW L).view.emb y : S32x2048.Idx) 1 = (Rect.unit (s := S32x2048) (k0_off71 L) S1x2048.size (k0_off71_inb L)).emb (Shape.reshapeEquiv squeezes_S1x2048_S2048.numel_eq y) 1 := rfl
  rw [h2, h]
  show k0_off71 L 1 + 1 * (y 0).val = _
  rw [off71_eq]
  simp

omit [FloatOps F] in
theorem piece_emb (L : grid0.Coords) (y : S16.Idx) : (((pieceW L).view.emb y : S512.Idx) 0).val = wid L * 16 + (y 0).val := by
  have h2 : ((pieceW L).view.emb y : S512.Idx) 0 = (Rect.unit (s := S512) (k0_off72 L) S16.size (k0_off72_inb L)).emb y 0 := rfl
  rw [h2]
  show k0_off72 L 0 + 1 * (y 0).val = _
  rw [off72_eq, one_mul]

section
variable (d : Dev nD) (g : Buf (Elt F) (fLoc d)) (g' : Buf (Elt F) (iLoc d))

/-- What stays on the TensorCore while the tiles run. -/
def kept : sProp (MM F) :=
  iprop((fLoc d ↦{Transfers.shareDrop fullShare 32} g) ∗ iLoc d ↦{Transfers.shareDrop fullShare 32} g')

omit [FloatOps F] in
theorem own_row {L : grid0.Coords} (p : Buf (Elt F) (pLoc d)) :
    (pLoc d ↦[(rowW L).view.set]{fullShare} p) ⊢ (iprop(∃ A : ℕ → F .f32, H1 (VI d L) (rowW L) A) : sProp (MM F)) := by
  refine BIBase.Entails.trans ?_ (own_H1 (F := F) (c := VI d L) (rowW L))
  iintro H; iexists p; iexact H
omit [FloatOps F] in
theorem own_piece {L : grid0.Coords} (p : Buf (Elt F) (cLoc d)) :
    (cLoc d ↦[(pieceW L).view.set]{fullShare} p) ⊢ (iprop(∃ A : ℕ → F .f32, H1 (VI d L) (pieceW L) A) : sProp (MM F)) := by
  refine BIBase.Entails.trans ?_ (own_H1 (F := F) (c := VI d L) (pieceW L))
  iintro H; iexists p; iexact H

/-- A tile's row at the tile's sums is its part of the whole. -/
theorem row_whole {n : ℕ} (hn : n < 32) :
    H1 (VI d (tileOf n)) (rowW (tileOf n)) (rowAcc (featAt g) (idxAt g') (tileOf n)) ⊢
      (pLoc d ↦[(rowW (tileOf n)).view.set]{fullShare} psumF g g' : sProp (MM F)) := by
  unfold H1
  iintro ⟨%f, %hf, H⟩
  rw [pointsTo_congr (g := psumF g g') (ℓ := pLoc d) (f := f) (I := (rowW (tileOf n)).view.set) (q := fullShare) (by
    intro x hx
    obtain ⟨y, -, rfl⟩ := Finset.mem_map.mp hx
    have h1 := hf y
    rw [View.read_apply] at h1
    have h2 := (mem_rowW (tileOf n) _).mp hx
    have h3 := row_emb (tileOf n) y
    rw [wid_tileOf hn] at h2
    show _ = rowAcc (featAt g) (idxAt g') (tileOf _) _
    rw [h2, h3]
    exact h1)]
  exact BIBase.Entails.rfl

theorem piece_whole {n : ℕ} (hn : n < 32) :
    H1 (VI d (tileOf n)) (pieceW (tileOf n)) (pieceCnt F (idxAt g') (tileOf n)) ⊢
      (cLoc d ↦[(pieceW (tileOf n)).view.set]{fullShare} pcntF g' : sProp (MM F)) := by
  unfold H1
  iintro ⟨%f, %hf, H⟩
  rw [pointsTo_congr (g := pcntF g') (ℓ := cLoc d) (f := f) (I := (pieceW (tileOf n)).view.set) (q := fullShare) (by
    intro x hx
    obtain ⟨y, -, rfl⟩ := Finset.mem_map.mp hx
    have h1 := hf y
    rw [View.read_apply] at h1
    have h2 := (mem_pieceW (tileOf n) _).mp hx
    have h3 := piece_emb (tileOf n) y
    rw [wid_tileOf hn] at h2 h3
    have hy : (y 0).val < 16 := (y 0).isLt
    show _ = pieceCnt F (idxAt g') (tileOf _) _
    rw [h2, show ((((pieceW (tileOf n)).view.emb y : S512.Idx) 0).val) % 16 = (y 0).val by omega]
    exact h1)]
  exact BIBase.Entails.rfl

omit [FloatOps F] in
theorem rows_disjoint : ∀ a ∈ (Finset.univ : Finset (Fin 32)), ∀ b ∈ (Finset.univ : Finset (Fin 32)), a ≠ b →
    Disjoint (rowW (tileOf a.val)).view.set (rowW (tileOf b.val)).view.set :=
  fun a _ b _ h => Finset.disjoint_left.mpr fun x ha hb => h (Fin.ext (by
    rw [← wid_tileOf a.isLt, ← wid_tileOf b.isLt, ← (mem_rowW _ x).mp ha, ← (mem_rowW _ x).mp hb]))

omit [FloatOps F] in
theorem rows_cover : (Finset.univ : Finset (Fin 32)).biUnion (fun n => (rowW (tileOf n.val)).view.set) = (Finset.univ : Finset S32x2048.Idx) := by
  refine Finset.eq_univ_of_forall fun x : S32x2048.Idx => Finset.mem_biUnion.mpr ⟨⟨(x 0).val, (x 0).isLt⟩, Finset.mem_univ _, ?_⟩
  exact (mem_rowW _ x).mpr (wid_tileOf (x 0).isLt).symm

omit [FloatOps F] in
theorem pieces_disjoint : ∀ a ∈ (Finset.univ : Finset (Fin 32)), ∀ b ∈ (Finset.univ : Finset (Fin 32)), a ≠ b →
    Disjoint (pieceW (tileOf a.val)).view.set (pieceW (tileOf b.val)).view.set :=
  fun a _ b _ h => Finset.disjoint_left.mpr fun x ha hb => h (Fin.ext (by
    rw [← wid_tileOf a.isLt, ← wid_tileOf b.isLt, ← (mem_pieceW _ x).mp ha, ← (mem_pieceW _ x).mp hb]))

omit [FloatOps F] in
theorem pieces_cover : (Finset.univ : Finset (Fin 32)).biUnion (fun n => (pieceW (tileOf n.val)).view.set) = (Finset.univ : Finset S512.Idx) := by
  have hq : ∀ x : S512.Idx, (x 0).val / 16 < 32 := fun x => by
    have hx : (x 0).val < 512 := (x 0).isLt
    omega
  refine Finset.eq_univ_of_forall fun x : S512.Idx => Finset.mem_biUnion.mpr ⟨⟨(x 0).val / 16, hq x⟩, Finset.mem_univ _, ?_⟩
  exact (mem_pieceW _ x).mpr (wid_tileOf (hq x)).symm

omit [FloatOps F] in
theorem rows_eq (p : Buf (Elt F) (pLoc d)) :
    (pLoc d ↦{fullShare} p : sProp (MM F)) = bigSep Finset.univ fun n : Fin 32 => pLoc d ↦[(rowW (tileOf n.val)).view.set]{fullShare} p := by
  have h := pointsTo_biUnion (Ix := HIx 1) (Name := ℕ) (U := UU) (Lvl := ℕ) (f := p) (q := fullShare) Finset.univ (ℓ := pLoc d) (fun n : Fin 32 => (rowW (tileOf n.val)).view.set) rows_disjoint
  rw [rows_cover] at h
  exact h

omit [FloatOps F] in
theorem pieces_eq (p : Buf (Elt F) (cLoc d)) :
    (cLoc d ↦{fullShare} p : sProp (MM F)) = bigSep Finset.univ fun n : Fin 32 => cLoc d ↦[(pieceW (tileOf n.val)).view.set]{fullShare} p := by
  have h := pointsTo_biUnion (Ix := HIx 1) (Name := ℕ) (U := UU) (Lvl := ℕ) (f := p) (q := fullShare) Finset.univ (ℓ := cLoc d) (fun n : Fin 32 => (pieceW (tileOf n.val)).view.set) pieces_disjoint
  rw [pieces_cover] at h
  exact h

omit [FloatOps F] in
theorem featToks (q : PosShare TreeShare) (L : grid0.Coords) : (Tok (VI d L) featW q g : sProp (MM F)) = fLoc d ↦{q} g := by
  unfold Tok; rw [show (featW).view.set = Finset.univ from View.set_whole _]
omit [FloatOps F] in
theorem idxToks (q : PosShare TreeShare) (L : grid0.Coords) : (Tok (VI d L) idxW q g' : sProp (MM F)) = iLoc d ↦{q} g' := by
  unfold Tok; rw [show (idxW).view.set = Finset.univ from View.set_whole _]

/-- The four arrays cut for the tiles. -/
theorem cut (p : Buf (Elt F) (pLoc d)) (c : Buf (Elt F) (cLoc d)) :
    iprop((fLoc d ↦{fullShare} g) ∗ (iLoc d ↦{fullShare} g') ∗ (pLoc d ↦{fullShare} p) ∗ cLoc d ↦{fullShare} c) ⊢
      iprop(kept d g g' ∗ bigSep Finset.univ fun c : Fin 2 => bigSep Finset.univ fun i : Fin 16 => dealt d g g' (coordsV c i)) := by
  rw [bigSep_tiles (fun L => dealt d g g' L)]
  unfold kept
  rw [rows_eq, pieces_eq]
  iintro ⟨Hf, Hi, Hp, Hc⟩
  ihave Hf' := (Transfers.pointsTo_toks_split fullShare 32) $$ Hf
  ihave Hi' := (Transfers.pointsTo_toks_split fullShare 32) $$ Hi
  icases Hf' with ⟨Hf0, Hf⟩
  icases Hi' with ⟨Hi0, Hi⟩
  isplitl [Hf0 Hi0]
  · isplitl [Hf0] <;> iassumption
  iapply (show iprop((bigSep Finset.univ fun n : Fin 32 => iLoc d ↦{Transfers.shareTok fullShare 32 n} g') ∗ (bigSep Finset.univ fun n : Fin 32 => fLoc d ↦{Transfers.shareTok fullShare 32 n} g) ∗
      (bigSep Finset.univ fun n : Fin 32 => pLoc d ↦[(rowW (tileOf n.val)).view.set]{fullShare} p) ∗ bigSep Finset.univ fun n : Fin 32 => cLoc d ↦[(pieceW (tileOf n.val)).view.set]{fullShare} c) ⊢
      (bigSep Finset.univ fun n : Fin 32 => dealt d g g' (tileOf n.val) : sProp (MM F)) from by
    rw [← bigSep_sep', ← bigSep_sep', ← bigSep_sep']
    refine bigSep_mono fun n _ => ?_
    unfold dealt
    rw [featToks, idxToks, wid_tileOf n.isLt]
    exact sep_mono_right (sep_mono_right (sep_mono (own_row d p) (own_piece d c))))
  isplitl [Hi]; · iexact Hi
  isplitl [Hf]; · iexact Hf
  isplitl [Hp] <;> iassumption

/-- The four arrays joined at what the tiles leave. -/
theorem join :
    iprop(kept d g g' ∗ bigSep Finset.univ fun c : Fin 2 => bigSep Finset.univ fun i : Fin 16 => handed d g g' (coordsV c i)) ⊢
    iprop((fLoc d ↦{fullShare} g) ∗ (iLoc d ↦{fullShare} g') ∗ (pLoc d ↦{fullShare} psumF g g') ∗ cLoc d ↦{fullShare} pcntF g') := by
  rw [bigSep_tiles (fun L => handed d g g' L)]
  unfold kept
  rw [rows_eq, pieces_eq]
  iintro ⟨⟨Hf0, Hi0⟩, H⟩
  ihave H' := (show (bigSep Finset.univ fun n : Fin 32 => handed d g g' (tileOf n.val) : sProp (MM F)) ⊢
      iprop((bigSep Finset.univ fun n : Fin 32 => iLoc d ↦{Transfers.shareTok fullShare 32 n} g') ∗ (bigSep Finset.univ fun n : Fin 32 => fLoc d ↦{Transfers.shareTok fullShare 32 n} g) ∗
      (bigSep Finset.univ fun n : Fin 32 => pLoc d ↦[(rowW (tileOf n.val)).view.set]{fullShare} psumF g g') ∗ bigSep Finset.univ fun n : Fin 32 => cLoc d ↦[(pieceW (tileOf n.val)).view.set]{fullShare} pcntF g') from by
    rw [← bigSep_sep', ← bigSep_sep', ← bigSep_sep']
    refine bigSep_mono fun n _ => ?_
    unfold handed
    rw [featToks, idxToks, wid_tileOf n.isLt]
    exact sep_mono_right (sep_mono_right (sep_mono (row_whole d g g' n.isLt) (piece_whole d g' n.isLt)))) $$ H
  icases H' with ⟨Hi, Hf, Hp, Hc⟩
  isplitl [Hf0 Hf]
  · iapply (Transfers.pointsTo_toks_join fullShare 32)
    isplitl [Hf0] <;> iassumption
  isplitl [Hi0 Hi]
  · iapply (Transfers.pointsTo_toks_join fullShare 32)
    isplitl [Hi0] <;> iassumption
  isplitl [Hp] <;> iassumption

end

end Cert.Sums

end
-- ==== Proof.Sums.First.lean ====
/- The first TensorCore call: per grid point a block of rows, summed by segment into two running totals. -/
module

public import proofs.«01_k».proof.Proof.Sums.Split
public import proofs.«01_k».proof.Proof.Gen.KernelIdeal.Skeleton
public import Idealize.ShloMosaic.Lib.Pipeline.FrameBody
public import Idealize.ShloMosaic.Lib.Pipeline.RegionArraysS
public import Idealize.ShloMosaic.Lib.VecWindow
public import Idealize.ShloMosaic.Lib.WordCmp

@[expose] public section

set_option maxRecDepth 16384

noncomputable section

namespace Cert.Sums

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The first point's test, as the body computes it. -/
abbrev first1 (i : grid1.Coords) : Prop := Scalar.cmpi .ne (Scalar.extui (Scalar.cmpi .eq (BitVec.ofNat 32 (i 0).val) 0#32)) 0#32 = 1#1

theorem first1_iff (t : Fin cfg1.N) : first1 (grid1.coords t) ↔ t.val = 0 :=
  (fun t => by
    have ht : t.val < 12 := Nat.lt_of_lt_of_eq t.isLt N_1
    have e0 : (grid1.coords t 0).val = t.val / 1 % 12 := Pipeline.Grid.coords_val t 0 (by decide) rfl
    have e1 : t.val = 0 ↔ t.val % 12 = 0 := by omega
    rw [e1]
    simp only [first1, e0]
    word_cmp
   : ∀ t : Fin grid1.N, first1 (grid1.coords t) ↔ t.val = 0) t

section Body

variable (c : Dev nD) (i : grid1.Coords)
  (m1 : Memref sig .tc .vmem S1x1x16000 .i32) (h1 : m1.IsWhole) (m2 : Memref sig .tc .vmem S16000x128 .f32) (h2 : m2.IsWhole)
  (m3 : Memref sig .tc .vmem S16x128 .f32) (h3 : m3.IsWhole) (m4 : Memref sig .tc .vmem S16x128 .f32) (h4 : m4.IsWhole)
  (x1 : Vec F S1x1x16000 .i32) (x2 : Vec F S16000x128 .f32)

set_option maxHeartbeats 4000000 in
/-- At the first point the totals start from zero, whatever the buffers held. -/
theorem body1_first (hc : first1 i) (E : Set ℕ) (Q : PUnit → sProp (MM F)) :
    iprop(owns (c : Thread nD τ) m1 fullShare x1 ∗ owns (c : Thread nD τ) m2 fullShare x2 ∗ (∃ y, owns (c : Thread nD τ) m3 fullShare y) ∗ (∃ y, owns (c : Thread nD τ) m4 fullShare y)
        ∗ (iprop(owns (c : Thread nD τ) m1 fullShare x1 ∗ owns (c : Thread nD τ) m2 fullShare x2 ∗ owns (c : Thread nD τ) m3 fullShare (k1_pay4 x1 x2 k1_pay2)
            ∗ owns (c : Thread nD τ) m4 fullShare (k1_pay5 x1 k1_pay3)) -∗ Q ⟨⟩))
      ⊢ wp frame (wpE (defs₀ (F := F)) Variants.none c none) E (cc1__p1 i m1 h1 m2 h2 m3 h3 m4 h4) Q := by
  simp only [cc1__p1_eq_skeleton]; unfold cc1__p1_skel
  unfold owns
  iintro ⟨⟨%f0, %hf0, H0⟩, ⟨%f1, %hf1, H1⟩, ⟨%d2, %f2, -, H2⟩, ⟨%d3, %f3, -, H3⟩, Hk⟩
  obtain rfl := h1.eq_unread hf0; obtain rfl := h2.eq_unread hf1
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    rw [View.read_writes_full, View.readAt_full, View.readAt_full, hf0, hf1]
    unfold body1_first.sl.v15 body1_first.sl.H2_1
    rw [View.readCov_full]
  iexists _; isplitr; swap; · iexact H3
  ipureintro
  rw [View.read_writes_full, View.readAt_full, hf0]
  unfold body1_first.sl.v19 body1_first.sl.H3_1
  rw [View.readCov_full]

set_option maxHeartbeats 4000000 in
/-- At a later point the totals go on from what the buffers hold. -/
theorem body1_next (hc : ¬ first1 i) (y3 y4 : Vec F S16x128 .f32) (E : Set ℕ) (Q : PUnit → sProp (MM F)) :
    iprop(owns (c : Thread nD τ) m1 fullShare x1 ∗ owns (c : Thread nD τ) m2 fullShare x2 ∗ owns (c : Thread nD τ) m3 fullShare y3 ∗ owns (c : Thread nD τ) m4 fullShare y4
        ∗ (iprop(owns (c : Thread nD τ) m1 fullShare x1 ∗ owns (c : Thread nD τ) m2 fullShare x2 ∗ owns (c : Thread nD τ) m3 fullShare (k1_pay4 x1 x2 y3)
            ∗ owns (c : Thread nD τ) m4 fullShare (k1_pay5 x1 y4)) -∗ Q ⟨⟩))
      ⊢ wp frame (wpE (defs₀ (F := F)) Variants.none c none) E (cc1__p1 i m1 h1 m2 h2 m3 h3 m4 h4) Q := by
  simp only [cc1__p1_eq_skeleton]; unfold cc1__p1_skel
  unfold owns
  iintro ⟨⟨%f0, %hf0, H0⟩, ⟨%f1, %hf1, H1⟩, ⟨%f2, %hf2, H2⟩, ⟨%f3, %hf3, H3⟩, Hk⟩
  obtain rfl := h1.eq_unread hf0; obtain rfl := h2.eq_unread hf1; obtain rfl := h3.eq_unread hf2; obtain rfl := h4.eq_unread hf3
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; swap; · iexact H2
    ipureintro
    rw [View.read_writes_full, View.readAt_full, View.readAt_full, View.readAt_full, hf0, hf1, hf2]
  iexists _; isplitr; swap; · iexact H3
  ipureintro
  rw [View.read_writes_full, View.readAt_full, View.readAt_full, hf0, hf3]

end Body

/-! ## The proof data -/

variable (V : (c : Dev nD) → Valuation τ sig (Elt F))

/-- The block of window `w` at point `t`, in its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The two totals after point `n`. -/
def tot (c : Dev nD) : (n : ℕ) → n < cfg1.N → Vec F S16x128 .f32 × Vec F S16x128 .f32
  | 0, h => (k1_pay4 (blk1 V c 0 ⟨0, h⟩) (blk1 V c 1 ⟨0, h⟩) k1_pay2, k1_pay5 (blk1 V c 0 ⟨0, h⟩) k1_pay3)
  | n + 1, h => (k1_pay4 (blk1 V c 0 ⟨n + 1, h⟩) (blk1 V c 1 ⟨n + 1, h⟩) (tot c n (Nat.lt_of_succ_lt h)).1,
      k1_pay5 (blk1 V c 0 ⟨n + 1, h⟩) (tot c n (Nat.lt_of_succ_lt h)).2)

theorem tot_zero (c : Dev nD) (t : Fin cfg1.N) (h : t.val = 0) :
    tot V c t.val t.isLt = (k1_pay4 (blk1 V c 0 t) (blk1 V c 1 t) k1_pay2, k1_pay5 (blk1 V c 0 t) k1_pay3) := by
  obtain ⟨n, hn⟩ := t
  obtain rfl : n = 0 := h
  rfl

theorem tot_succ (c : Dev nD) (t : Fin cfg1.N) (h : ¬ t.val = 0) (h' : t.val - 1 < cfg1.N) :
    tot V c t.val t.isLt = (k1_pay4 (blk1 V c 0 t) (blk1 V c 1 t) (tot V c (t.val - 1) h').1, k1_pay5 (blk1 V c 0 t) (tot V c (t.val - 1) h').2) := by
  obtain ⟨n, hn⟩ := t
  cases n with
  | zero => exact absurd rfl h
  | succ n => rfl

/-- The first call's proof data: entered with the arrays at `V`, the results' buffers at the totals. -/
def dat1 (c : Dev nD) : Dat τ (Elt F) (HIx 1) ℕ UU ℕ cfg1 c where
  A w := V c (Proc.devRef .tc (Pipeline.arrRef spec1 w))
  after w t := match w with
    | ⟨0, _⟩ => blk1 V c 0 t
    | ⟨1, _⟩ => blk1 V c 1 t
    | ⟨2, _⟩ => (tot V c t.val t.isLt).1
    | ⟨3, _⟩ => (tot V c t.val t.isLt).2
  Φ _ := Pipeline.scopedRest spec1 c
  q _ := fullShare
  owed _ := 0

theorem dat1_A (c : Dev nD) (w : Fin cfg1.W) : (dat1 V c).A w = V c (Proc.devRef .tc (Pipeline.arrRef spec1 w)) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = (tot V c t.val t.isLt).1 := by dsimp only [dat1]
theorem after1_3 (c : Dev nD) (t : Fin cfg1.N) : (dat1 V c).after 3 t = (tot V c t.val t.isLt).2 := by dsimp only [dat1]

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)

/-- Past the first point a result's buffer holds the total of the point before. -/
theorem before1_2 (c : Dev nD) (t : Fin cfg1.N) (h : ¬ t.val = 0) (h' : t.val - 1 < cfg1.N) (d) : (dat1 V c).before 2 t d = (tot V c (t.val - 1) h').1 := by
  have hN : t.val < 12 := lt_of_lt_of_eq t.isLt (show cfg1.N = 12 from N_1)
  rw [Dat.before_out_kept _ 2 rfl t h (Bool.eq_false_iff.mpr fun h => by have := (flush1_2 _).mp h; dsimp only at this; omega) (fun _ => rfl) (fun _ _ => rfl)]
  dsimp only [dat1]
theorem before1_3 (c : Dev nD) (t : Fin cfg1.N) (h : ¬ t.val = 0) (h' : t.val - 1 < cfg1.N) (d) : (dat1 V c).before 3 t d = (tot V c (t.val - 1) h').2 := by
  have hN : t.val < 12 := lt_of_lt_of_eq t.isLt (show cfg1.N = 12 from N_1)
  rw [Dat.before_out_kept _ 3 rfl t h (Bool.eq_false_iff.mpr fun h => by have := (flush1_3 _).mp h; dsimp only at this; omega) (fun _ => rfl) (fun _ _ => rfl)]
  dsimp only [dat1]

theorem row1 (t : Fin cfg1.N) : defs₀ (F := F) .tc cfg1.body (cfg1.bodyArgs t (cfg1.slots t)) = bodyAt1 t := by
  unfold defs₀; rfl

set_option maxHeartbeats 4000000 in
/-- The body at any point. -/
theorem body1_ok (c : Dev nD) : BodyObligation (dat1 V c) (defs₀ (F := F)) Variants.none none Set.univ := fun t => by
  rw [bigSep_W1, bigSep_W1, row1]
  rw [show (dat1 V c).Φ t.succ = (dat1 V c).Φ t.castSucc from rfl, show (dat1 V c).owesAt none t.succ = (dat1 V c).owesAt none t.castSucc from rfl,
    after1_0, after1_1, after1_2, after1_3]
  simp only [before1_0, before1_1]
  unfold bodyAt1
  have h' : t.val - 1 < cfg1.N := Nat.lt_of_le_of_lt (Nat.sub_le _ _) t.isLt
  by_cases h : t.val = 0
  · rw [tot_zero V c t h]
    iintro ⟨HΦ, Ho, ⟨%d0, H0⟩, ⟨%d1, H1⟩, ⟨%d2, H2⟩, ⟨%d3, H3⟩⟩
    iapply (body1_first c (grid1.coords t) _ _ _ _ _ _ _ _ (blk1 V c 0 t) (blk1 V c 1 t) ((first1_iff t).mpr h) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2] <;> iassumption
  · rw [tot_succ V c t h h']
    simp only [before1_2 V c t h h', before1_3 V c t h h']
    iintro ⟨HΦ, Ho, ⟨%d0, H0⟩, ⟨%d1, H1⟩, ⟨%d2, H2⟩, ⟨%d3, H3⟩⟩
    iapply (body1_next c (grid1.coords t) _ _ _ _ _ _ _ _ (blk1 V c 0 t) (blk1 V c 1 t) (fun e => h ((first1_iff t).mp e)) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2] <;> iassumption

end Cert.Sums

end
-- ==== Proof.Sums.Second.lean ====
/- The second TensorCore call: the gates of every segment at the first point, kept in scratch, and at every
point a block of rows scaled by its segments' gates. -/
module

public import proofs.«01_k».proof.Proof.Sums.First
public import proofs.«01_k».proof.Proof.Gen.KernelIdeal.Skeleton
public import Idealize.ShloMosaic.Lib.Pipeline.FrameBody
public import Idealize.ShloMosaic.Lib.Pipeline.RegionArraysS
public import Idealize.ShloMosaic.Lib.VecWindow
public import Idealize.ShloMosaic.Lib.WordCmp

@[expose] public section

set_option maxRecDepth 16384

noncomputable section

namespace Cert.Sums

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The first point's test, as the body computes it. -/
abbrev first2 (i : grid2.Coords) : Prop := Scalar.cmpi .ne (Scalar.extui (Scalar.cmpi .eq (BitVec.ofNat 32 (i 0).val) 0#32)) 0#32 = 1#1

theorem first2_iff (t : Fin cfg2.N) : first2 (grid2.coords t) ↔ t.val = 0 :=
  (fun t => by
    have ht : t.val < 20 := Nat.lt_of_lt_of_eq t.isLt N_2
    have e0 : (grid2.coords t 0).val = t.val / 1 % 20 := Pipeline.Grid.coords_val t 0 (by decide) rfl
    have e1 : t.val = 0 ↔ t.val % 20 = 0 := by omega
    rw [e1]
    simp only [first2, e0]
    word_cmp
   : ∀ t : Fin grid2.N, first2 (grid2.coords t) ↔ t.val = 0) t

/-- The gates, from the blockwise totals, the tiles' partial sums and counts, and the filter. -/
def gate (x3 x4 : Vec F S16x128 .f32) (x5 : Vec F S32x16x128 .f32) (x6 : Vec F S32x16 .f32) (x7 : Vec F S1x3 .f32) : Vec F S16x128 .f32 :=
  k2_pay1 (k2_pay3 x3 x5 x4 x6 (VecWindow.window x7 ![0, 0] S1x1.size inb_S1x3_S1x1_0_0) (VecWindow.window x7 ![0, 1] S1x1.size inb_S1x3_S1x1_0_1)
    (VecWindow.window x7 ![0, 2] S1x1.size inb_S1x3_S1x1_0_2))

section Body

variable (c : Dev nD) (i : grid2.Coords)
  (m1 : Memref sig .tc .vmem S1x1x16000 .i32) (h1 : m1.IsWhole)
  (m2 : Memref sig .tc .vmem S16000x128 .f32) (h2 : m2.IsWhole)
  (m3 : Memref sig .tc .vmem S16x128 .f32) (h3 : m3.IsWhole)
  (m4 : Memref sig .tc .vmem S16x128 .f32) (h4 : m4.IsWhole)
  (m5 : Memref sig .tc .vmem S32x16x128 .f32) (h5 : m5.IsWhole)
  (m6 : Memref sig .tc .vmem S32x16 .f32) (h6 : m6.IsWhole)
  (m7 : Memref sig .tc .vmem S1x3 .f32) (h7 : m7.IsWhole)
  (m8 : Memref sig .tc .vmem S16000x128 .f32) (h8 : m8.IsWhole)
  (m9 : Memref sig .tc .vmem S16x128 .f32) (h9 : m9.IsWhole)
  (x1 : Vec F S1x1x16000 .i32) (x2 : Vec F S16000x128 .f32) (x3 : Vec F S16x128 .f32) (x4 : Vec F S16x128 .f32) (x5 : Vec F S32x16x128 .f32) (x6 : Vec F S32x16 .f32) (x7 : Vec F S1x3 .f32)

set_option maxHeartbeats 8000000 in
/-- At the first point the gates are computed and stored, then the block scaled by them. -/
theorem body2_first (hc : first2 i) (E : Set ℕ) (Q : PUnit → sProp (MM F)) :
    iprop((owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7) ∗ (∃ y, owns (c : Thread nD τ) m8 fullShare y) ∗ (∃ y, owns (c : Thread nD τ) m9 fullShare y)
        ∗ (iprop((owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7) ∗ owns (c : Thread nD τ) m8 fullShare (k2_pay2 x1 (gate x3 x4 x5 x6 x7) x2) ∗ owns (c : Thread nD τ) m9 fullShare (gate x3 x4 x5 x6 x7)) -∗ Q ⟨⟩))
      ⊢ wp frame (wpE (defs₀ (F := F)) Variants.none c none) E (cc2__p3g i m1 h1 m2 h2 m3 h3 m4 h4 m5 h5 m6 h6 m7 h7 m8 h8 m9 h9) Q := by
  simp only [cc2__p3g_eq_skeleton]; unfold cc2__p3g_skel
  simp only [k2_part1_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨%d8, %f8, -, H8⟩, ⟨%d9, %f9, -, H9⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
  sl_exec (disch := first | sl_exact hc)
  sl_step
  iapply Hk
  have hr : body2_first.sl.r c m3 h3 m4 h4 m5 h5 m6 h6 m7 h7 x3 x4 x5 x6 x7
      = k2_pay3 x3 x5 x4 x6 (VecWindow.window x7 ![0, 0] S1x1.size inb_S1x3_S1x1_0_0) (VecWindow.window x7 ![0, 1] S1x1.size inb_S1x3_S1x1_0_1)
        (VecWindow.window x7 ![0, 2] S1x1.size inb_S1x3_S1x1_0_2) := by
    unfold body2_first.sl.r
    have g3 := (View.readAt_full m3.view (h3.unread x3) inb_S16x128_S16x128_0_0).trans e3
    have g4 := (View.readAt_full m4.view (h4.unread x4) inb_S16x128_S16x128_0_0).trans e4
    have g5 := (View.readAt_full m5.view (h5.unread x5) inb_S32x16x128_S32x16x128_0_0_0).trans e5
    have g6 := (View.readAt_full m6.view (h6.unread x6) inb_S32x16_S32x16_0_0).trans e6
    have w0 := View.readAt_unit m7.view (h7.unread x7) inb_S1x3_S1x1_0_0 rfl inb_S1x3_S1x1_0_0
    have w1 := View.readAt_unit m7.view (h7.unread x7) inb_S1x3_S1x1_0_1 rfl inb_S1x3_S1x1_0_1
    have w2 := View.readAt_unit m7.view (h7.unread x7) inb_S1x3_S1x1_0_2 rfl inb_S1x3_S1x1_0_2
    rw [e7] at w0 w1 w2
    refine Eq.trans ?_ (congr (congr (congr (congr (congr (congr (congrArg k2_pay3 g3) g5) g4) g6) w0) w1) w2)
    rfl
  isplitl [H1 H2 H3 H4 H5 H6 H7]
  · isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro
    refine (View.read_writes_full _ _ _ _ _).trans ?_
    have hg : body2_first.sl.v11 c m3 h3 m4 h4 m5 h5 m6 h6 m7 h7 m9 x3 x4 x5 x6 x7 = gate x3 x4 x5 x6 x7 := by
      unfold body2_first.sl.v11 body2_first.sl.H9_1
      refine (View.readCov_full _ _ _ _ _).trans ?_
      rw [hr]
      rfl
    exact congrArg₂ (fun a b => k2_pay2 a _ b) ((View.readAt_full _ _ _).trans e1) ((View.readAt_full _ _ _).trans e2) |>.trans (by rw [hg])
  iexists _; isplitr; swap; · iexact H9
  ipureintro
  unfold body2_first.sl.H9_1
  refine (View.read_writes_full _ _ _ _ _).trans ?_
  rw [hr]
  rfl

set_option maxHeartbeats 8000000 in
/-- At a later point the block is scaled by the gates in scratch. -/
theorem body2_next (hc : ¬ first2 i) (y9 : Vec F S16x128 .f32) (E : Set ℕ) (Q : PUnit → sProp (MM F)) :
    iprop((owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7) ∗ (∃ y, owns (c : Thread nD τ) m8 fullShare y) ∗ owns (c : Thread nD τ) m9 fullShare y9
        ∗ (iprop((owns (c : Thread nD τ) m1 fullShare x1 ∗ owns (c : Thread nD τ) m2 fullShare x2 ∗ owns (c : Thread nD τ) m3 fullShare x3 ∗ owns (c : Thread nD τ) m4 fullShare x4 ∗ owns (c : Thread nD τ) m5 fullShare x5 ∗ owns (c : Thread nD τ) m6 fullShare x6 ∗ owns (c : Thread nD τ) m7 fullShare x7) ∗ owns (c : Thread nD τ) m8 fullShare (k2_pay2 x1 y9 x2) ∗ owns (c : Thread nD τ) m9 fullShare y9) -∗ Q ⟨⟩))
      ⊢ wp frame (wpE (defs₀ (F := F)) Variants.none c none) E (cc2__p3g i m1 h1 m2 h2 m3 h3 m4 h4 m5 h5 m6 h6 m7 h7 m8 h8 m9 h9) Q := by
  simp only [cc2__p3g_eq_skeleton]; unfold cc2__p3g_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, ⟨%d8, %f8, -, H8⟩, ⟨%f9, %e9, H9⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h9.eq_unread e9
  sl_exec (disch := first | sl_exact hc)
  sl_step
  iapply Hk
  isplitl [H1 H2 H3 H4 H5 H6 H7]
  · isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; isplitr; · ipureintro; exact h7.read_unread _
    iexact H7
  isplitl [H8]
  · iexists _; isplitr; swap; · iexact H8
    ipureintro
    rw [View.read_writes_full, View.readAt_full, View.readAt_full, View.readAt_full, e1, e2, e9]
  iexists _; isplitr; swap; · iexact H9
  ipureintro; exact e9

end Body

/-! ## The proof data -/

variable (V : (c : Dev nD) → Valuation τ sig (Elt F))

/-- The block of window `w` at point `t`, in its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The first point. -/
def p0 : Fin cfg2.N := ⟨0, by rw [show cfg2.N = 20 from N_2]; decide⟩

/-- The gates the call computes. -/
def gates (c : Dev nD) : Vec F S16x128 .f32 := gate (blk2 V c 2 p0) (blk2 V c 3 p0) (blk2 V c 4 p0) (blk2 V c 5 p0) (blk2 V c 6 p0)

/-- The gates' scratch. -/
abbrev gScr : Memref sig .tc .vmem S16x128 .f32 := Memref.whole cc2_scratch0

/-- Between points: at the start the scoped buffers, after it the scratch at the gates and what gives them back. -/
def inv2 (c : Dev nD) : ℕ → sProp (MM F)
  | 0 => Pipeline.scopedRest spec2 c
  | _ + 1 => iprop(owns (c : Thread nD τ) gScr fullShare (gates V c)
      ∗ ((∃ y, owns (c : Thread nD τ) gScr fullShare y) -∗ Pipeline.scopedRest spec2 c))

theorem inv2_open (c : Dev nD) : (Pipeline.scopedRest spec2 c : sProp (MM F)) ⊢ iprop((∃ y, owns (c : Thread nD τ) gScr fullShare y)
    ∗ ((∃ y, owns (c : Thread nD τ) gScr fullShare y) -∗ Pipeline.scopedRest spec2 c)) := by
  rw [scopedRest2_eq]
  simp only [owns_whole_eq]
  iintro ⟨H1, H2, H3, H4, H5, H6, ⟨%f, H7⟩⟩
  isplitl [H7]
  · iexists f, f
    isplitr; · ipureintro; rfl
    iexact H7
  iintro ⟨%y, %g, -, H7⟩
  isplitl [H1]; · iexact H1
  isplitl [H2]; · iexact H2
  isplitl [H3]; · iexact H3
  isplitl [H4]; · iexact H4
  isplitl [H5]; · iexact H5
  isplitl [H6]; · iexact H6
  iexists g; iexact H7

/-- The second call's proof data: entered with the arrays at `V`, each block of the result the features' block scaled. -/
def dat2 (c : Dev nD) : Dat τ (Elt F) (HIx 1) ℕ UU ℕ cfg2 c where
  A w := V c (Proc.devRef .tc (Pipeline.arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => k2_pay2 (blk2 V c 0 t) (gates V c) (blk2 V c 1 t)
  Φ t := inv2 V c t.val
  q _ := fullShare
  owed _ := 0

theorem dat2_A (c : Dev nD) (w : Fin cfg2.W) : (dat2 V c).A w = V c (Proc.devRef .tc (Pipeline.arrRef spec2 w)) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = k2_pay2 (blk2 V c 0 t) (gates V c) (blk2 V c 1 t) := by dsimp only [dat2]

theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [dat2_A]; try rfl) t d).trans
    (by unfold Dat.fetched Dat.blockOf blk2; rw [dat2_A]; try rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [dat2_A]; try rfl) t d).trans
    (by unfold Dat.fetched Dat.blockOf blk2; rw [dat2_A]; try rfl)
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [dat2_A]; try rfl) t d).trans
    (by unfold Dat.fetched Dat.blockOf blk2; rw [dat2_A]; try rfl)
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [dat2_A]; try rfl) t d).trans
    (by unfold Dat.fetched Dat.blockOf blk2; rw [dat2_A]; try rfl)
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf blk2; rw [dat2_A]; try rfl) t d).trans
    (by unfold Dat.fetched Dat.blockOf blk2; rw [dat2_A]; try rfl)
theorem before2_6 (c : Dev nD) (t : Fin cfg2.N) (d) : (dat2 V c).before 6 t d = blk2 V c 6 t :=
  ((dat2 V c).before_in_eq_fetched 6 rfl (fun _ => rfl) (fun _ _ _ => rfl) (fun t => by rw [after2_6]; unfold Dat.blockOf blk2; rw [dat2_A]; try rfl) t d).trans
    (by unfold Dat.fetched Dat.blockOf blk2; rw [dat2_A]; try rfl)

theorem row2 (t : Fin cfg2.N) : defs₀ (F := F) .tc cfg2.body (cfg2.bodyArgs t (cfg2.slots t)) = bodyAt2 t := by
  unfold defs₀; rfl

set_option maxHeartbeats 8000000 in
/-- The body at any point. -/
theorem body2_ok (c : Dev nD) : BodyObligation (dat2 V c) (defs₀ (F := F)) Variants.none none Set.univ := fun t => by
  rw [bigSep_W2, bigSep_W2, row2]
  rw [show (dat2 V c).Φ t.succ = inv2 V c (t.val + 1) from rfl, show (dat2 V c).Φ t.castSucc = inv2 V c t.val from rfl,
    show (dat2 V c).owesAt none t.succ = (dat2 V c).owesAt none t.castSucc from rfl,
    after2_0, after2_1, after2_2, after2_3, after2_4, after2_5, after2_6, after2_7]
  simp only [before2_0, before2_1, before2_2, before2_3, before2_4, before2_5, before2_6]
  unfold bodyAt2
  by_cases h : t.val = 0
  · obtain rfl : t = p0 := Fin.ext h
    rw [show inv2 V c (p0.val + 1) = inv2 V c 1 from rfl, show inv2 V c p0.val = inv2 V c 0 from rfl]
    unfold inv2
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ := (inv2_open c) $$ HΦ
    icases HΦ with ⟨HS, Hback⟩
    iapply (body2_first c (grid2.coords p0) _ _ _ _ _ _ _ _ _ _ _ _ _ _ _ _ _ _ (blk2 V c 0 p0) (blk2 V c 1 p0) (blk2 V c 2 p0) (blk2 V c 3 p0) (blk2 V c 4 p0)
      (blk2 V c 5 p0) (blk2 V c 6 p0) ((first2_iff p0).mpr h) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    iintro ⟨⟨H0, H1, H2, H3, H4, H5, H6⟩, H7, HS⟩
    isplitl [HS Hback]
    · isplitl [HS]; · iexact HS
      iexact Hback
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · obtain ⟨n, hn⟩ : ∃ n, t.val = n + 1 := ⟨t.val - 1, by omega⟩
    rw [hn]
    unfold inv2
    iintro ⟨⟨HS, Hback⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body2_next c (grid2.coords t) _ _ _ _ _ _ _ _ _ _ _ _ _ _ _ _ _ _ (blk2 V c 0 t) (blk2 V c 1 t) (blk2 V c 2 t) (blk2 V c 3 t) (blk2 V c 4 t)
      (blk2 V c 5 t) (blk2 V c 6 t) (fun e => h ((first2_iff t).mp e)) (gates V c) Set.univ _)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexists _; iexact H7
    isplitl [HS]; · iexact HS
    iintro ⟨⟨H0, H1, H2, H3, H4, H5, H6⟩, H7, HS⟩
    isplitl [HS Hback]
    · isplitl [HS]; · iexact HS
      iexact Hback
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Sums

end
-- ==== Proof.Sums.Calls.lean ====
/- The two TensorCore calls as steps of the host's program: each, from every buffer of the core held at a
valuation, runs to the same buffers held at that valuation updated by what the call leaves in its arrays. -/
module

public import proofs.«01_k».proof.Proof.Sums.First
public import proofs.«01_k».proof.Proof.Sums.Second
public import proofs.«01_k».proof.Proof.Sums.Base
public import Idealize.ShloMosaic.Lib.Pipeline.FrameBody
public import Idealize.ShloMosaic.Lib.Pipeline.RegionArraysS
public import Idealize.ShloMosaic.Lib.Pipeline.Regions
public import Idealize.ShloMosaic.Lib.SparseCore.Quiescent

@[expose] public section

set_option maxRecDepth 16384

noncomputable section

namespace Cert.Sums

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- No pipeline reads a table before it starts. -/
abbrev adm : (p : Fin 2) → (pcfgs (F := F) p).Adm := fun p => (cfgs p).toPCfg_adm

/-- Both calls' proof data, each from the valuation `V`. -/
def pdats (V : (c : Dev nD) → Valuation τ sig (Elt F)) :
    (p : Fin 2) → (c : Dev nD) → Dat τ (Elt F) (HIx 1) ℕ UU ℕ (Pipeline.pin (pcfgs (F := F)) adm p) c
  | ⟨0, _⟩ => fun c => dat1 V c
  | ⟨1, _⟩ => fun c => dat2 V c

/-- The waits of a pipeline's staging cells sit at the lowest level, and the core owes nothing. -/
theorem cutAt (p : Fin 2) : Pipeline.LevelCut (nD := nD) (τ := τ) (pcfgs (F := F)) adm (none : HIx 1) (K (F := F)).L (K (F := F)).lev p
    (fun _ => 0) (fun _ => 0) where
  hι _ _ _ := Finset.mem_univ _
  hιb _ _ _ := le_refl _
  hD _ _ _ h := absurd h (lt_irrefl _)

/-- The first call enters with the buffers it does not stage, and leaves with them. -/
theorem in1 (V : (c : Dev nD) → Valuation τ sig (Elt F)) (c : Dev nD) :
    iprop(Pipeline.scopedRest (Ix := HIx 1) (Name := ℕ) (U := UU) (Lvl := ℕ) (Val := Elt F) spec1 c ∗ BI.emp) ⊢ (dat1 V c).Φ 0 := by
  rw [show (dat1 V c).Φ 0 = Pipeline.scopedRest (Ix := HIx 1) (Name := ℕ) (U := UU) (Lvl := ℕ) (Val := Elt F) spec1 c from rfl]
  exact Laws.sep_emp.1

theorem out1 (V : (c : Dev nD) → Valuation τ sig (Elt F)) (c : Dev nD) :
    (dat1 V c).Φ (Fin.last cfg1.N) ⊢ iprop(Pipeline.scopedRest (Ix := HIx 1) (Name := ℕ) (U := UU) (Lvl := ℕ) (Val := Elt F) spec1 c ∗ BI.emp) := by
  rw [show (dat1 V c).Φ (Fin.last cfg1.N) = Pipeline.scopedRest (Ix := HIx 1) (Name := ℕ) (U := UU) (Lvl := ℕ) (Val := Elt F) spec1 c from rfl]
  exact Laws.sep_emp.2

/-- The first call's record. -/
def region1 (V : (c : Dev nD) → Valuation τ sig (Elt F)) :
    Pipeline.RegionSeg (pcfgs (F := F)) adm (pdats V) (none : HIx 1) defs₀ 𝒱₀ (K (F := F)).L (K (F := F)).lev 0 :=
  Pipeline.RegionSeg.ofHeldIn _ _ _ _ _ _ _ _ 0 (fun _ => 0) (Pipeline.ucRefs τ sig) (fun _ => BI.emp) (fun _ => BI.emp)
    launch1.toP rfl (fun c => (body1_ok V c).loose) (fun _ _ => rfl) (fun _ => rfl) (fun c => (dat1 V c).share_full fun _ => rfl)
    (in1 V) (out1 V) (fun _ => 0) (cutAt 0) (fun _ => BI.emp) V (fun _ _ => rfl)

theorem arrs1 : Pipeline.arrRefs (pcfgs (F := F) 0).spec ⊆ Pipeline.ucRefs τ sig :=
  Pipeline.arrRefs_sub_ucRefs spec1 winFacts1.arr_unscoped

theorem region1_pre (V : (c : Dev nD) → Valuation τ sig (Elt F)) (d : Dev nD) :
    iprop(StableHlo.held (SparseCore.T d) (Pipeline.ucRefs τ sig) (V d) ∗ (∃ Wd, owes (SparseCore.T d) (0 : CellTallies nD τ sig (HIx 1)) Wd))
      ⊢ (region1 V).pre d := by
  have h := Pipeline.RegionSeg.ofHeldIn_pre (pcs := pcfgs (F := F)) (a := adm) (pdats := pdats V) (ι := (none : HIx 1)) (defs₀ := defs₀) (𝒱₀ := 𝒱₀)
    (L := (K (F := F)).L) (lv := (K (F := F)).lev) (p := 0) (D := fun _ => 0) (S := Pipeline.ucRefs τ sig) arrs1 (X := fun _ => BI.emp) (Y := fun _ => BI.emp)
    (kit := launch1.toP) (hK := rfl) (hbody := fun c => (body1_ok V c).loose) (howed := fun _ _ => rfl) (hrec := fun _ => rfl)
    (hshare := fun c => (dat1 V c).share_full fun _ => rfl) (hin := in1 V) (hout := out1 V) (b := fun _ => 0) (hcut := cutAt 0)
    (R := fun _ => BI.emp) (W := V) (hW := fun _ _ => rfl) d
  refine BIBase.Entails.trans ?_ h
  iintro ⟨Hh, HO⟩
  isplitl [Hh]; · iexact Hh
  isplitl [HO]; · iexact HO
  isplitl []; · iempintro
  iempintro

theorem region1_post (V : (c : Dev nD) → Valuation τ sig (Elt F)) (d : Dev nD) :
    (region1 V).post d ⊢ iprop(StableHlo.held (SparseCore.T d) (Pipeline.ucRefs τ sig) (Pipeline.afterRegion (dat1 V d) (V d))
      ∗ (∃ Wd, owes (SparseCore.T d) (0 : CellTallies nD τ sig (HIx 1)) Wd)) := by
  have h := Pipeline.RegionSeg.ofHeldIn_post (pcs := pcfgs (F := F)) (a := adm) (pdats := pdats V) (ι := (none : HIx 1)) (defs₀ := defs₀) (𝒱₀ := 𝒱₀)
    (L := (K (F := F)).L) (lv := (K (F := F)).lev) (p := 0) (D := fun _ => 0) (S := Pipeline.ucRefs τ sig) arrs1 (X := fun _ => BI.emp) (Y := fun _ => BI.emp)
    (kit := launch1.toP) (hK := rfl) (hbody := fun c => (body1_ok V c).loose) (howed := fun _ _ => rfl) (hrec := fun _ => rfl)
    (hshare := fun c => (dat1 V c).share_full fun _ => rfl) (hin := in1 V) (hout := out1 V) (b := fun _ => 0) (hcut := cutAt 0)
    (R := fun _ => BI.emp) (W := V) (hW := fun _ _ => rfl) d
  refine BIBase.Entails.trans h ?_
  iintro ⟨Hh, HO, -, -⟩
  isplitl [Hh]; · iexact Hh
  iexact HO

/-- The second call's invariant, at its end, gives back the buffers it was entered from. -/
theorem inv2_close (V : (c : Dev nD) → Valuation τ sig (Elt F)) (c : Dev nD) (n : ℕ) :
    inv2 V c (n + 1) ⊢ (Pipeline.scopedRest (Ix := HIx 1) (Name := ℕ) (U := UU) (Lvl := ℕ) (Val := Elt F) spec2 c : sProp (MM F)) := by
  unfold inv2
  iintro ⟨HS, Hback⟩
  iapply Hback
  iexists _
  iexact HS

theorem in2 (V : (c : Dev nD) → Valuation τ sig (Elt F)) (c : Dev nD) :
    iprop(Pipeline.scopedRest (Ix := HIx 1) (Name := ℕ) (U := UU) (Lvl := ℕ) (Val := Elt F) spec2 c ∗ BI.emp) ⊢ (dat2 V c).Φ 0 := by
  rw [show (dat2 V c).Φ 0 = Pipeline.scopedRest (Ix := HIx 1) (Name := ℕ) (U := UU) (Lvl := ℕ) (Val := Elt F) spec2 c from rfl]
  exact Laws.sep_emp.1

theorem out2 (V : (c : Dev nD) → Valuation τ sig (Elt F)) (c : Dev nD) :
    (dat2 V c).Φ (Fin.last cfg2.N) ⊢ iprop(Pipeline.scopedRest (Ix := HIx 1) (Name := ℕ) (U := UU) (Lvl := ℕ) (Val := Elt F) spec2 c ∗ BI.emp) := by
  rw [show (dat2 V c).Φ (Fin.last cfg2.N) = inv2 V c (19 + 1) from congrArg (inv2 V c) (show cfg2.N = 19 + 1 from N_2)]
  exact (inv2_close V c 19).trans Laws.sep_emp.2

/-- The second call's record. -/
def region2 (V : (c : Dev nD) → Valuation τ sig (Elt F)) :
    Pipeline.RegionSeg (pcfgs (F := F)) adm (pdats V) (none : HIx 1) defs₀ 𝒱₀ (K (F := F)).L (K (F := F)).lev 1 :=
  Pipeline.RegionSeg.ofHeldIn _ _ _ _ _ _ _ _ 1 (fun _ => 0) (Pipeline.ucRefs τ sig) (fun _ => BI.emp) (fun _ => BI.emp)
    launch2.toP rfl (fun c => (body2_ok V c).loose) (fun _ _ => rfl) (fun _ => rfl) (fun c => (dat2 V c).share_full fun _ => rfl)
    (in2 V) (out2 V) (fun _ => 0) (cutAt 1) (fun _ => BI.emp) V (fun _ _ => rfl)

theorem arrs2 : Pipeline.arrRefs (pcfgs (F := F) 1).spec ⊆ Pipeline.ucRefs τ sig :=
  Pipeline.arrRefs_sub_ucRefs spec2 winFacts2.arr_unscoped

theorem region2_pre (V : (c : Dev nD) → Valuation τ sig (Elt F)) (d : Dev nD) :
    iprop(StableHlo.held (SparseCore.T d) (Pipeline.ucRefs τ sig) (V d) ∗ (∃ Wd, owes (SparseCore.T d) (0 : CellTallies nD τ sig (HIx 1)) Wd))
      ⊢ (region2 V).pre d := by
  have h := Pipeline.RegionSeg.ofHeldIn_pre (pcs := pcfgs (F := F)) (a := adm) (pdats := pdats V) (ι := (none : HIx 1)) (defs₀ := defs₀) (𝒱₀ := 𝒱₀)
    (L := (K (F := F)).L) (lv := (K (F := F)).lev) (p := 1) (D := fun _ => 0) (S := Pipeline.ucRefs τ sig) arrs2 (X := fun _ => BI.emp) (Y := fun _ => BI.emp)
    (kit := launch2.toP) (hK := rfl) (hbody := fun c => (body2_ok V c).loose) (howed := fun _ _ => rfl) (hrec := fun _ => rfl)
    (hshare := fun c => (dat2 V c).share_full fun _ => rfl) (hin := in2 V) (hout := out2 V) (b := fun _ => 0) (hcut := cutAt 1)
    (R := fun _ => BI.emp) (W := V) (hW := fun _ _ => rfl) d
  refine BIBase.Entails.trans ?_ h
  iintro ⟨Hh, HO⟩
  isplitl [Hh]; · iexact Hh
  isplitl [HO]; · iexact HO
  isplitl []; · iempintro
  iempintro

theorem region2_post (V : (c : Dev nD) → Valuation τ sig (Elt F)) (d : Dev nD) :
    (region2 V).post d ⊢ iprop(StableHlo.held (SparseCore.T d) (Pipeline.ucRefs τ sig) (Pipeline.afterRegion (dat2 V d) (V d))
      ∗ (∃ Wd, owes (SparseCore.T d) (0 : CellTallies nD τ sig (HIx 1)) Wd)) := by
  have h := Pipeline.RegionSeg.ofHeldIn_post (pcs := pcfgs (F := F)) (a := adm) (pdats := pdats V) (ι := (none : HIx 1)) (defs₀ := defs₀) (𝒱₀ := 𝒱₀)
    (L := (K (F := F)).L) (lv := (K (F := F)).lev) (p := 1) (D := fun _ => 0) (S := Pipeline.ucRefs τ sig) arrs2 (X := fun _ => BI.emp) (Y := fun _ => BI.emp)
    (kit := launch2.toP) (hK := rfl) (hbody := fun c => (body2_ok V c).loose) (howed := fun _ _ => rfl) (hrec := fun _ => rfl)
    (hshare := fun c => (dat2 V c).share_full fun _ => rfl) (hin := in2 V) (hout := out2 V) (b := fun _ => 0) (hcut := cutAt 1)
    (R := fun _ => BI.emp) (W := V) (hW := fun _ _ => rfl) d
  refine BIBase.Entails.trans h ?_
  iintro ⟨Hh, HO, -, -⟩
  isplitl [Hh]; · iexact Hh
  iexact HO

/-- What a pipeline's launch deals the core. -/
abbrev dealtOf (p : Fin 2) (d : Dev nD) : sProp (MM F) :=
  iprop(Pipeline.cellsGhost (cfgs) (EP (F := F)) p d ∗ Pipeline.toksInit (cfgs) (EP (F := F)) p d)

/-- Pipeline `p`'s call, in the signature of the program that has no SparseCore call. -/
abbrev callP (p : Fin 2) : Prog (TpuEff nD τ sig (Elt F) (ΛP (F := F)) .tc) PUnit :=
  .op (.customCall (Pipeline.entry p) ()) fun _ => .ret PUnit.unit

/-- The same call as the host's program makes it. -/
abbrev callH (p : Fin 2) : Prog (TpuEff nD τ sig (Elt F) (SparseCore.Sig (ΛP (F := F)) 1) .tc) PUnit :=
  Prog.lift (.customCall (SparseCore.inner (Pipeline.entry p)) ())

theorem callH_eq (p : Fin 2) : callH (F := F) p = SparseCore.liftProg (callP (F := F) p) := by
  unfold callH callP SparseCore.liftProg
  rw [inlProg_op]
  rfl

/-- The first call. -/
theorem call1 (V : (c : Dev nD) → Valuation τ sig (Elt F)) (d : Dev nD) (Q : PUnit → sProp (MM F)) :
    iprop(boundary (SparseCore.T d) ∗ StableHlo.held (SparseCore.T d) (Pipeline.ucRefs τ sig) (V d)
        ∗ (∃ Wd, owes (SparseCore.T d) (0 : CellTallies nD τ sig (HIx 1)) Wd) ∗ levAts (K (F := F)).L (K (F := F)).lev ∗ dealtOf 0 d
        ∗ ((boundary (SparseCore.T d) ∗ StableHlo.held (SparseCore.T d) (Pipeline.ucRefs τ sig) (Pipeline.afterRegion (dat1 V d) (V d))
            ∗ (∃ Wd, owes (SparseCore.T d) (0 : CellTallies nD τ sig (HIx 1)) Wd)) -∗ Q ⟨⟩))
      ⊢ wp frame (wpE ((K (F := F)).defs D) 𝒱 (SparseCore.T d) none) Set.univ
        (callH (F := F) 0) Q := by
  rw [callH_eq]
  refine BIBase.Entails.trans ?_ ((K (F := F)).wp_liftProg D 𝒱 (SparseCore.T d) Set.univ none _ Q)
  refine BIBase.Entails.trans ?_ (Pipeline.RegionSeg.wp (pcfgs (F := F)) adm (pdats V) (none : HIx 1) cellOf_inj EP defs₀ 𝒱₀ (K (F := F)).L (K (F := F)).lev
    (region1 V) d none (fun _ h => nomatch h) (fun _ => .ret PUnit.unit) Q)
  iintro ⟨Hb, Hh, HO, HL, ⟨Hc, Ht⟩, Hk⟩
  isplitl [Hk]
  · iintro ⟨Hb, Hp⟩
    ihave Hp := (region1_post V d) $$ Hp
    icases Hp with ⟨Hh, HO⟩
    rw [wp_ret]
    imodintro
    iapply Hk
    isplitl [Hb]; · iexact Hb
    isplitl [Hh]; · iexact Hh
    iexact HO
  isplitl [Hb]; · iexact Hb
  isplitl [Hh HO]
  · iapply (region1_pre V d)
    isplitl [Hh]; · iexact Hh
    iexact HO
  isplitl [HL]; · iexact HL
  isplitl [Hc]; · iexact Hc
  iexact Ht

/-- The second call. -/
theorem call2 (V : (c : Dev nD) → Valuation τ sig (Elt F)) (d : Dev nD) (Q : PUnit → sProp (MM F)) :
    iprop(boundary (SparseCore.T d) ∗ StableHlo.held (SparseCore.T d) (Pipeline.ucRefs τ sig) (V d)
        ∗ (∃ Wd, owes (SparseCore.T d) (0 : CellTallies nD τ sig (HIx 1)) Wd) ∗ levAts (K (F := F)).L (K (F := F)).lev ∗ dealtOf 1 d
        ∗ ((boundary (SparseCore.T d) ∗ StableHlo.held (SparseCore.T d) (Pipeline.ucRefs τ sig) (Pipeline.afterRegion (dat2 V d) (V d))
            ∗ (∃ Wd, owes (SparseCore.T d) (0 : CellTallies nD τ sig (HIx 1)) Wd)) -∗ Q ⟨⟩))
      ⊢ wp frame (wpE ((K (F := F)).defs D) 𝒱 (SparseCore.T d) none) Set.univ
        (callH (F := F) 1) Q := by
  rw [callH_eq]
  refine BIBase.Entails.trans ?_ ((K (F := F)).wp_liftProg D 𝒱 (SparseCore.T d) Set.univ none _ Q)
  refine BIBase.Entails.trans ?_ (Pipeline.RegionSeg.wp (pcfgs (F := F)) adm (pdats V) (none : HIx 1) cellOf_inj EP defs₀ 𝒱₀ (K (F := F)).L (K (F := F)).lev
    (region2 V) d none (fun _ h => nomatch h) (fun _ => .ret PUnit.unit) Q)
  iintro ⟨Hb, Hh, HO, HL, ⟨Hc, Ht⟩, Hk⟩
  isplitl [Hk]
  · iintro ⟨Hb, Hp⟩
    ihave Hp := (region2_post V d) $$ Hp
    icases Hp with ⟨Hh, HO⟩
    rw [wp_ret]
    imodintro
    iapply Hk
    isplitl [Hb]; · iexact Hb
    isplitl [Hh]; · iexact Hh
    iexact HO
  isplitl [Hb]; · iexact Hb
  isplitl [Hh HO]
  · iapply (region2_pre V d)
    isplitl [Hh]; · iexact Hh
    iexact HO
  isplitl [HL]; · iexact HL
  isplitl [Hc]; · iexact Hc
  iexact Ht

end Cert.Sums

end
-- ==== Proof.Sums.Main.lean ====
/- The whole program: the host's reshapes, the SparseCore call and the two TensorCore calls in turn, each from the
valuation the last one left; the run from any memory, with what every buffer of the TensorCore holds at its end. -/
module

public import proofs.«01_k».proof.Proof.Sums.Calls
public import proofs.«01_k».proof.Proof.Sums.Split

@[expose] public section

set_option maxRecDepth 16384

noncomputable section

namespace Cert.Sums

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

/-! ## The valuations -/

abbrev opFlat : HloOp τ sig (Elt F) := StableHlo.reshape main_arg0 main_v0 (rfl : (.f32 : EltTy) = .f32) shapeCasts_S320000x128_S40960000
abbrev opIdx : HloOp τ sig (Elt F) := StableHlo.reshape main_arg1 main_v2 (rfl : (.i32 : EltTy) = .i32) shapeCasts_S320000_S20x1x16000
abbrev opIdx' : HloOp τ sig (Elt F) := StableHlo.reshape main_arg1 main_v4 (rfl : (.i32 : EltTy) = .i32) shapeCasts_S320000_S20x1x16000
abbrev opPsum : HloOp τ sig (Elt F) := StableHlo.reshape main_v1_0 main_v5 (rfl : (.f32 : EltTy) = .f32) shapeCasts_S32x2048_S32x16x128
abbrev opPcnt : HloOp τ sig (Elt F) := StableHlo.reshape main_v1_1 main_v6 (rfl : (.f32 : EltTy) = .f32) shapeCasts_S512_S32x16
abbrev opFilt : HloOp τ sig (Elt F) := StableHlo.reshape main_arg2 main_v7 (rfl : (.f32 : EltTy) = .f32) shapeCasts_S1x1x3_S1x3

variable (m : (ℓ : Loc nD τ sig) → Buf (Elt F) ℓ)

/-- At the launch. -/
def val0 (d : Dev nD) : Valuation τ sig (Elt F) := fun b => m (d, b)
/-- After the features are laid out flat. -/
def val1 (d : Dev nD) : Valuation τ sig (Elt F) := (opFlat (F := F)).result (val0 m d)
/-- The flat features and the indices as the SparseCore call finds them. -/
abbrev flat (d : Dev nD) : Buf (Elt F) (fLoc d) := val1 m d (Proc.devRef .tc main_v0)
abbrev inds (d : Dev nD) : Buf (Elt F) (iLoc d) := val1 m d (Proc.devRef .tc main_arg1)
/-- After the SparseCore call. -/
def val2 (d : Dev nD) : Valuation τ sig (Elt F) :=
  Function.update (Function.update (val1 m d) (Proc.devRef .tc main_v1_0) (psumF (flat m d) (inds m d))) (Proc.devRef .tc main_v1_1) (pcntF (inds m d))
def val3 (d : Dev nD) : Valuation τ sig (Elt F) := (opIdx (F := F)).result (val2 m d)
/-- After the first TensorCore call. -/
def val4 (d : Dev nD) : Valuation τ sig (Elt F) := Pipeline.afterRegion (dat1 (val3 m) d) (val3 m d)
def val5 (d : Dev nD) : Valuation τ sig (Elt F) := (opIdx' (F := F)).result (val4 m d)
def val6 (d : Dev nD) : Valuation τ sig (Elt F) := (opPsum (F := F)).result (val5 m d)
def val7 (d : Dev nD) : Valuation τ sig (Elt F) := (opPcnt (F := F)).result (val6 m d)
def val8 (d : Dev nD) : Valuation τ sig (Elt F) := (opFilt (F := F)).result (val7 m d)
/-- After the second TensorCore call. -/
def val9 (d : Dev nD) : Valuation τ sig (Elt F) := Pipeline.afterRegion (dat2 (val8 m) d) (val8 m d)

/-! ## The four arrays of the SparseCore call -/

abbrev four : Finset (DevRef τ sig) :=
  {Proc.devRef .tc main_v0, Proc.devRef .tc main_arg1, Proc.devRef .tc main_v1_0, Proc.devRef .tc main_v1_1}

theorem four_sub : four ⊆ Pipeline.ucRefs τ sig := by decide

omit [FloatOps F] in
theorem held_four (d : Dev nD) (W : Valuation τ sig (Elt F)) :
    (held (SparseCore.T d) four W : sProp (MM F)) = iprop((fLoc d ↦{fullShare} W (Proc.devRef .tc main_v0)) ∗ (iLoc d ↦{fullShare} W (Proc.devRef .tc main_arg1))
      ∗ (pLoc d ↦{fullShare} W (Proc.devRef .tc main_v1_0)) ∗ cLoc d ↦{fullShare} W (Proc.devRef .tc main_v1_1)) := by
  unfold held four
  rw [SparseCore.bigSep_insert' (by decide), SparseCore.bigSep_insert' (by decide), SparseCore.bigSep_insert' (by decide), bigSep_singleton]

theorem val2_v0 (d : Dev nD) : val2 m d (Proc.devRef .tc main_v0) = flat m d := by
  unfold val2
  rw [Function.update_of_ne (StableHlo.devRef_ne_of_ne (by decide)), Function.update_of_ne (StableHlo.devRef_ne_of_ne (by decide))]
theorem val2_arg1 (d : Dev nD) : val2 m d (Proc.devRef .tc main_arg1) = inds m d := by
  unfold val2
  rw [Function.update_of_ne (StableHlo.devRef_ne_of_ne (by decide)), Function.update_of_ne (StableHlo.devRef_ne_of_ne (by decide))]
theorem val2_psum (d : Dev nD) : val2 m d (Proc.devRef .tc main_v1_0) = psumF (flat m d) (inds m d) := by
  unfold val2
  rw [Function.update_of_ne (StableHlo.devRef_ne_of_ne (by decide)), Function.update_self]
theorem val2_pcnt (d : Dev nD) : val2 m d (Proc.devRef .tc main_v1_1) = pcntF (inds m d) := by
  unfold val2
  rw [Function.update_self]

theorem val2_rest (d : Dev nD) : ∀ b ∈ Pipeline.ucRefs τ sig \ four, val1 m d b = val2 m d b := by
  intro b hb
  have h := (Finset.mem_sdiff.mp hb).2
  unfold val2
  rw [Function.update_of_ne (fun e => h (by rw [e]; decide)), Function.update_of_ne (fun e => h (by rw [e]; decide))]

/-- Every buffer at the first valuation gives what the tiles take, and keeps the rest. -/
theorem deal_out (d : Dev nD) :
    (held (SparseCore.T d) (Pipeline.ucRefs τ sig) (val1 m d) : sProp (MM F))
      ⊢ iprop((kept d (flat m d) (inds m d) ∗ held (SparseCore.T d) (Pipeline.ucRefs τ sig \ four) (val1 m d))
        ∗ bigSep Finset.univ fun c : Fin 2 => bigSep Finset.univ fun i : Fin 16 => dealt d (flat m d) (inds m d) (coordsV c i)) := by
  rw [StableHlo.held_sub_split (SparseCore.T d) four_sub (val1 m d), held_four]
  iintro ⟨H4, Hr⟩
  ihave H := (cut d (flat m d) (inds m d) _ _) $$ H4
  icases H with ⟨Hk, Hd⟩
  isplitl [Hk Hr]
  · isplitl [Hk]; · iexact Hk
    iexact Hr
  iexact Hd

/-- What the tiles hand back, with the rest, is every buffer at the second valuation. -/
theorem deal_in (d : Dev nD) :
    iprop((kept d (flat m d) (inds m d) ∗ held (SparseCore.T d) (Pipeline.ucRefs τ sig \ four) (val1 m d))
        ∗ bigSep Finset.univ fun c : Fin 2 => bigSep Finset.univ fun i : Fin 16 => handed d (flat m d) (inds m d) (coordsV c i))
      ⊢ (held (SparseCore.T d) (Pipeline.ucRefs τ sig) (val2 m d) : sProp (MM F)) := by
  rw [StableHlo.held_sub_split (SparseCore.T d) four_sub (val2 m d), held_four, val2_v0, val2_arg1, val2_psum, val2_pcnt,
    StableHlo.held_congr (SparseCore.T d) (val2_rest m d)]
  iintro ⟨⟨Hk, Hr⟩, Hh⟩
  isplitl [Hk Hh]
  · iapply (join d (flat m d) (inds m d))
    isplitl [Hk]; · iexact Hk
    iexact Hh
  iexact Hr

/-! ## What the launch state holds of the debts -/

/-- After the one SparseCore call the TensorCore owes nothing. -/
theorem Otc_one (d : Dev nD) : (K (F := F)).Otc d 1 = 0 := by
  unfold SparseCore.Cfg.Otc
  exact Finset.sum_eq_zero fun q _ => if_neg (by have := q.isLt; omega)

/-- Its state after the call is that debt of nothing, with any waits recorded, and the rest. -/
theorem after_open (d : Dev nD) :
    ((K (F := F)).tcSt EH d 1 : sProp (MM F)) ⊢ iprop((∃ Wd, owes (SparseCore.T d) (0 : CellTallies nD τ sig (HIx 1)) Wd)
      ∗ ((∃ Wd, owes (SparseCore.T d) (0 : CellTallies nD τ sig (HIx 1)) Wd) -∗ (K (F := F)).tcSt EH d 1)) := by
  unfold SparseCore.Cfg.tcSt
  rw [Otc_one]
  iintro ⟨⟨%W, %hW, HO⟩, Hr⟩
  isplitl [HO]; · iexists _; iexact HO
  iintro ⟨%W', HO⟩
  isplitl [HO]
  · iexists _
    isplitr; swap; · iexact HO
    ipureintro
    intro p _
    have hp : ∀ x : HIx 1, (K (F := F)).lev (SparseCore.T d, p.1) x ≤ 8 := fun x =>
      match x with
      | none => Nat.zero_le _
      | some q => ((K (F := F)).lev_some_le _ q).trans (by have := q.isLt; omega)
    exact hp p.2
  iexact Hr

/-! ## The host's program -/

/-- What the launch keeps for the two TensorCore calls. -/
abbrev GG (d : Dev nD) : sProp (MM F) := iprop(dealtOf 0 d ∗ dealtOf 1 d)

/-- What the host's program leaves: every buffer at the last valuation. -/
abbrev FIN (d : Dev nD) : sProp (MM F) := held (SparseCore.T d) (Pipeline.ucRefs τ sig) (val9 m d)

theorem sub_flat : (opFlat (F := F)).bufs ⊆ Pipeline.ucRefs τ sig := Pipeline.sub_ucRefs _ (StableHlo.reshape_bufs_sub ..)
theorem sub_idx : (opIdx (F := F)).bufs ⊆ Pipeline.ucRefs τ sig := Pipeline.sub_ucRefs _ (StableHlo.reshape_bufs_sub ..)
theorem sub_idx' : (opIdx' (F := F)).bufs ⊆ Pipeline.ucRefs τ sig := Pipeline.sub_ucRefs _ (StableHlo.reshape_bufs_sub ..)
theorem sub_psum : (opPsum (F := F)).bufs ⊆ Pipeline.ucRefs τ sig := Pipeline.sub_ucRefs _ (StableHlo.reshape_bufs_sub ..)
theorem sub_pcnt : (opPcnt (F := F)).bufs ⊆ Pipeline.ucRefs τ sig := Pipeline.sub_ucRefs _ (StableHlo.reshape_bufs_sub ..)
theorem sub_filt : (opFilt (F := F)).bufs ⊆ Pipeline.ucRefs τ sig := Pipeline.sub_ucRefs _ (StableHlo.reshape_bufs_sub ..)

variable (ρ : Dev nD → PrngReg)

theorem hmain (κ : GSem nD τ sig → ℕ) (d : Dev nD) :
    iprop((K (F := F)).ctx EH (P (flat m) (inds m)) κ ∗ (K (F := F)).tcSt EH d 0 ∗ (K (F := F)).tcRes m ρ d ∗ GG d)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp (MM F)) = held (SparseCore.T d) (Pipeline.ucRefs τ sig) (val0 m d)
    from Pipeline.unscopedBufs_held d (val0 m d)]
  simp only [main, wp_bind, wp_pure]
  iintro ⟨#Hctx, Hst, ⟨Hb, Hh, Hts, -⟩, ⟨Hg0, Hg1⟩⟩
  iapply (wp_hlo_within 𝒱 (SparseCore.T d) none Set.univ (op := opFlat) (S := Pipeline.ucRefs τ sig) sub_flat (V := val0 m d)) $$ [Hb Hh]
  · isplitl [Hb]; · iexact Hb
    iexact Hh
  iintro ⟨Hb, Hh⟩
  rw [wp_ret, show (opFlat (F := F)).result (val0 m d) = val1 m d from rfl]; imodintro
  ihave H := (deal_out m d) $$ Hh
  icases H with ⟨Hkeep, Hd⟩
  iapply ((K (F := F)).wp_run D 𝒱 (EH := EH) (P := P (flat m) (inds m)) κ d 0)
  isplitr; · iexact Hctx
  isplitl [Hst]; · iexact Hst
  isplitl [Hd]; · iexact Hd
  rw [show (K (F := F)).tcSt EH d ((0 : Fin 1).val + 1) = ((K (F := F)).tcSt EH d 1 : sProp (MM F)) from rfl]
  iintro ⟨Hst, Hdn⟩
  ihave Hh := (deal_in m d) $$ [Hkeep Hdn]
  · isplitl [Hkeep]; · iexact Hkeep
    iexact Hdn
  iapply (wp_hlo_within 𝒱 (SparseCore.T d) none Set.univ (op := opIdx) (S := Pipeline.ucRefs τ sig) sub_idx (V := val2 m d)) $$ [Hb Hh]
  · isplitl [Hb]; · iexact Hb
    iexact Hh
  iintro ⟨Hb, Hh⟩
  rw [wp_ret, show (opIdx (F := F)).result (val2 m d) = val3 m d from rfl]; imodintro
  ihave H := (after_open d) $$ Hst
  icases H with ⟨HO, Hback⟩
  iapply (call1 (val3 m) d _)
  isplitl [Hb]; · iexact Hb
  isplitl [Hh]; · iexact Hh
  isplitl [HO]; · iexact HO
  isplitr; · iapply ((K (F := F)).ctx_levAts κ); iexact Hctx
  isplitl [Hg0]; · iexact Hg0
  rw [show Pipeline.afterRegion (dat1 (val3 m) d) (val3 m d) = val4 m d from rfl]
  iintro ⟨Hb, Hh, HO⟩
  iapply (wp_hlo_within 𝒱 (SparseCore.T d) none Set.univ (op := opIdx') (S := Pipeline.ucRefs τ sig) sub_idx' (V := val4 m d)) $$ [Hb Hh]
  · isplitl [Hb]; · iexact Hb
    iexact Hh
  iintro ⟨Hb, Hh⟩
  rw [wp_ret, show (opIdx' (F := F)).result (val4 m d) = val5 m d from rfl]; imodintro
  iapply (wp_hlo_within 𝒱 (SparseCore.T d) none Set.univ (op := opPsum) (S := Pipeline.ucRefs τ sig) sub_psum (V := val5 m d)) $$ [Hb Hh]
  · isplitl [Hb]; · iexact Hb
    iexact Hh
  iintro ⟨Hb, Hh⟩
  rw [wp_ret, show (opPsum (F := F)).result (val5 m d) = val6 m d from rfl]; imodintro
  iapply (wp_hlo_within 𝒱 (SparseCore.T d) none Set.univ (op := opPcnt) (S := Pipeline.ucRefs τ sig) sub_pcnt (V := val6 m d)) $$ [Hb Hh]
  · isplitl [Hb]; · iexact Hb
    iexact Hh
  iintro ⟨Hb, Hh⟩
  rw [wp_ret, show (opPcnt (F := F)).result (val6 m d) = val7 m d from rfl]; imodintro
  iapply (wp_hlo_within 𝒱 (SparseCore.T d) none Set.univ (op := opFilt) (S := Pipeline.ucRefs τ sig) sub_filt (V := val7 m d)) $$ [Hb Hh]
  · isplitl [Hb]; · iexact Hb
    iexact Hh
  iintro ⟨Hb, Hh⟩
  rw [wp_ret, show (opFilt (F := F)).result (val7 m d) = val8 m d from rfl]; imodintro
  iapply (call2 (val8 m) d _)
  isplitl [Hb]; · iexact Hb
  isplitl [Hh]; · iexact Hh
  isplitl [HO]; · iexact HO
  isplitr; · iapply ((K (F := F)).ctx_levAts κ); iexact Hctx
  isplitl [Hg1]; · iexact Hg1
  rw [show Pipeline.afterRegion (dat2 (val8 m) d) (val8 m d) = val9 m d from rfl]
  iintro ⟨Hb, Hh, HO⟩
  imodintro
  isplitl [Hback HO]; · iapply Hback; iexact HO
  isplitl [Hh]; · iexact Hh
  isplitl [Hb]; · iexact Hb
  iexact Hts

/-! ## The launch -/

/-- The resources the launch starts from: the handshakes' rounds and the pipelines'. -/
def u₀ : UU := (initOf (K (F := F)).hsCells (K (F := F)).hsToks, (initOf (Pipeline.cells cfgs cellOf_inj) (Pipeline.launchToks cfgs cellOf_inj), 1))

/-- The pipelines' part of the launch's resources, dealt to the cores. -/
theorem ghosts :
    (BI.own ((EP (F := F)) (initOf (Pipeline.cells cfgs cellOf_inj) (Pipeline.launchToks cfgs cellOf_inj))) : sProp (MM F))
      ⊢ |={Set.univ}=> bigSep Finset.univ fun d : Dev nD => GG d := by
  have two : ∀ Φ : Fin 2 → sProp (MM F), bigSep Finset.univ Φ = iprop(Φ 0 ∗ Φ 1) := fun Φ => by
    rw [show (Finset.univ : Finset (Fin 2)) = {0, 1} by decide, SparseCore.bigSep_insert' (by decide), bigSep_singleton]
  have key : iprop((bigSep Finset.univ fun c : Dev nD => bigSep Finset.univ fun p => Pipeline.cellsGhost cfgs (EP (F := F)) p c)
      ∗ (bigSep Finset.univ fun c : Dev nD => bigSep Finset.univ fun p => (Pipeline.toksInit cfgs (EP (F := F)) p c : sProp (MM F))))
      ⊢ bigSep Finset.univ fun d : Dev nD => GG d := by
    rw [bigSep_univ_of_subsingleton (0 : Dev nD), bigSep_univ_of_subsingleton (0 : Dev nD), bigSep_univ_of_subsingleton (0 : Dev nD), two, two]
    show _ ⊢ iprop(dealtOf 0 0 ∗ dealtOf 1 0)
    iintro ⟨⟨Hc0, Hc1⟩, ⟨Ht0, Ht1⟩⟩
    isplitl [Hc0 Ht0]
    · isplitl [Hc0]; · iexact Hc0
      iexact Ht0
    isplitl [Hc1]; · iexact Hc1
    iexact Ht1
  iintro H
  imod (Pipeline.fund_ghost cfgs (EP (F := F)) cellOf_inj) $$ H with H
  imodintro
  iapply key
  iexact H

omit [FloatOps F] in
theorem sep_none {I : Type} (s : Finset I) : (bigSep s fun _ => iprop(emp)) = (iprop(emp) : sProp (MM F)) := bigSep_emp_const s

theorem hu₀ : (ownU (u₀ (F := F)) : sProp (MM F)) ⊢ |={Set.univ}=> iprop(BI.own (EH (initOf (K (F := F)).hsCells (K (F := F)).hsToks))
    ∗ (bigSep Finset.univ fun d : Dev nD => GG d)
    ∗ bigSep Finset.univ fun thr : Thread nD τ => bigSep Finset.univ fun q : Fin 1 => (P (flat m) (inds m)).x q thr) := by
  unfold u₀
  iintro Hu
  ihave H := (ownU_pair _ _) $$ Hu
  icases H with ⟨HH, HR⟩
  ihave H := (own_pair_emb _ _ _) $$ HR
  rw [show ((Emb.inl : Emb UP (UP × Counters)).trans (embR : Emb (UP × Counters) (MM F))) = EP (F := F) from rfl]
  icases H with ⟨HP, -⟩
  imod ghosts $$ HP with HG
  imodintro
  isplitl [HH]; · iexact HH
  isplitl [HG]; · iexact HG
  unfold P; dsimp only
  rw [show (bigSep Finset.univ fun _ : Thread nD τ => bigSep Finset.univ fun _ : Fin 1 => (iprop(emp) : sProp (MM F))) = iprop(emp) from by
    rw [bigSep_congr fun _ _ => sep_none _, sep_none]]
  iempintro

def fq (d : Dev nD) (s' : Phys nD τ sig (Elt F)) : Prop := ∀ b ∈ Pipeline.ucRefs τ sig, s'.mem.mem (d, b) = val9 m d b

theorem hfin (d : Dev nD) (s' : Phys nD τ sig (Elt F)) : iprop(FIN m d ∗ SI s') ⊢ (⌜fq m d s'⌝ : sProp (MM F)) := by
  unfold FIN StableHlo.held
  iintro ⟨Hh, HSI⟩
  ihave Hr := (pointsTo_read_all (Pipeline.ucRefs τ sig) (fun b => ((SparseCore.T d).1, b)) (val9 m d) s') $$ [Hh HSI]
  · isplitl [Hh] <;> iassumption
  icases Hr with ⟨%h, -⟩
  ipureintro
  exact h

/-- The run of the whole program: it terminates, every counter is back at zero, and every buffer of every
TensorCore holds the last valuation. -/
theorem run_main [∀ e, Nonempty (Elt F e)] : θ_run (Cert.KernelIdeal.defs (F := F)) (Cert.KernelIdeal.threads (F := F)) ⟨m, fun _ => 0, ρ⟩
    (fun r => (∀ d : Dev nD, ∀ b ∈ Pipeline.ucRefs τ sig, r.2.mem (d, b) = val9 m d b) ∧ r.2.sem = fun _ => 0) :=
  SparseCore.Cfg.θ_run_sc_quiescent (K := K (F := F)) (D := D) (𝒱 := 𝒱) (EH := EH) (P := P (flat m) (inds m)) (A := ∅) facts v₀
    (fun q hq => match q with | 0 => nomatch hq)
    (fun q _ => match q with | 0 => tileObl (flat m) (inds m))
    (fun q _ => match q with | 0 => SparseCore.Cfg.VecSplit.of_plain (vecSplit (flat m) (inds m)))
    m ρ main GG (FIN m) (u₀ (F := F)) (sep_elim_left.trans (hu₀ m)) (hmain m ρ) (fq m) (hfin m) _ (fun _ h hz => ⟨h, hz⟩)

end Cert.Sums

end
-- ==== Proof.Sums.Finals.lean ====
/- What the valuations of the whole program hold where the claims and the two calls read them: the arguments as
launched throughout, and every other array where the step that writes it left it. -/
module

public import proofs.«01_k».proof.Proof.Sums.Main

@[expose] public section

set_option maxRecDepth 16384

noncomputable section

namespace Cert.Sums

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

variable (m : (ℓ : Loc nD τ sig) → Buf (Elt F) ℓ)

/-! ## What each step leaves as it was -/

theorem val1_of (d : Dev nD) (r : Ref sig .tc) (h : r ≠ main_v0) : val1 m d (Proc.devRef .tc r) = val0 m d (Proc.devRef .tc r) :=
  StableHlo.reshape_result_ne _ _ _ _ _ _ _ h
theorem val2_of (d : Dev nD) (r : Ref sig .tc) (h : r ≠ main_v1_0) (h' : r ≠ main_v1_1) : val2 m d (Proc.devRef .tc r) = val1 m d (Proc.devRef .tc r) := by
  unfold val2
  rw [Function.update_of_ne (StableHlo.devRef_ne_of_ne h'), Function.update_of_ne (StableHlo.devRef_ne_of_ne h)]
theorem val3_of (d : Dev nD) (r : Ref sig .tc) (h : r ≠ main_v2) : val3 m d (Proc.devRef .tc r) = val2 m d (Proc.devRef .tc r) :=
  StableHlo.reshape_result_ne _ _ _ _ _ _ _ h
theorem val4_of (d : Dev nD) (r : Ref sig .tc) (h : r ≠ main_v3_0) (h' : r ≠ main_v3_1) : val4 m d (Proc.devRef .tc r) = val3 m d (Proc.devRef .tc r) :=
  Pipeline.afterRegion_keeps (dat1 (val3 m) d) (val3 m d) winFacts1.arr_inj (fun _ => rfl) r fun w e =>
    match w, e with
    | ⟨0, _⟩, _ => rfl
    | ⟨1, _⟩, _ => rfl
    | ⟨2, _⟩, e => absurd e.symm h
    | ⟨3, _⟩, e => absurd e.symm h'
theorem val5_of (d : Dev nD) (r : Ref sig .tc) (h : r ≠ main_v4) : val5 m d (Proc.devRef .tc r) = val4 m d (Proc.devRef .tc r) :=
  StableHlo.reshape_result_ne _ _ _ _ _ _ _ h
theorem val6_of (d : Dev nD) (r : Ref sig .tc) (h : r ≠ main_v5) : val6 m d (Proc.devRef .tc r) = val5 m d (Proc.devRef .tc r) :=
  StableHlo.reshape_result_ne _ _ _ _ _ _ _ h
theorem val7_of (d : Dev nD) (r : Ref sig .tc) (h : r ≠ main_v6) : val7 m d (Proc.devRef .tc r) = val6 m d (Proc.devRef .tc r) :=
  StableHlo.reshape_result_ne _ _ _ _ _ _ _ h
theorem val8_of (d : Dev nD) (r : Ref sig .tc) (h : r ≠ main_v7) : val8 m d (Proc.devRef .tc r) = val7 m d (Proc.devRef .tc r) :=
  StableHlo.reshape_result_ne _ _ _ _ _ _ _ h
theorem val9_of (d : Dev nD) (r : Ref sig .tc) (h : r ≠ main_v8) : val9 m d (Proc.devRef .tc r) = val8 m d (Proc.devRef .tc r) :=
  Pipeline.afterRegion_keeps (dat2 (val8 m) d) (val8 m d) winFacts2.arr_inj (fun _ => rfl) r fun w e =>
    match w, e with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, e => absurd e.symm h

/-- A buffer that no step writes ends as it was at the launch. -/
theorem val8_arg (d : Dev nD) (r : Ref sig .tc) (h : r ∉ ([main_v0, main_v1_0, main_v1_1, main_v2, main_v3_0, main_v3_1, main_v4, main_v5, main_v6, main_v7] : List (Ref sig .tc))) :
    val8 m d (Proc.devRef .tc r) = m (d, Proc.devRef .tc r) := by
  simp only [List.mem_cons, List.not_mem_nil, or_false, not_or] at h
  obtain ⟨h0, h1, h2, h3, h4, h5, h6, h7, h8, h9⟩ := h
  rw [val8_of m d r h9, val7_of m d r h8, val6_of m d r h7, val5_of m d r h6, val4_of m d r h4 h5, val3_of m d r h3, val2_of m d r h1 h2, val1_of m d r h0]
  rfl

theorem val9_arg (d : Dev nD) (r : Ref sig .tc) (h : r ∉ ([main_v0, main_v1_0, main_v1_1, main_v2, main_v3_0, main_v3_1, main_v4, main_v5, main_v6, main_v7] : List (Ref sig .tc)))
    (h' : r ≠ main_v8) : val9 m d (Proc.devRef .tc r) = m (d, Proc.devRef .tc r) :=
  (val9_of m d r h').trans (val8_arg m d r h)

variable (ρ : Dev nD → PrngReg)

/-- The run with the arguments kept and the result named. -/
theorem run_kept [∀ e, Nonempty (Elt F e)] : θ_run (Cert.KernelIdeal.defs (F := F)) (Cert.KernelIdeal.threads (F := F)) ⟨m, fun _ => 0, ρ⟩
    (fun r => (∀ d : Dev nD, r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)
      ∧ r.2.mem ((SparseCore.T d).loc main_v8) = val9 m d (Proc.devRef .tc main_v8)) ∧ r.2.sem = fun _ => 0) :=
  (θ_run Cert.KernelIdeal.defs _ _).mono (fun r h => ⟨fun d =>
    ⟨(h.1 d (Proc.devRef .tc main_arg0) (by decide)).trans (val9_arg m d main_arg0 (by decide) (by decide)),
      (h.1 d (Proc.devRef .tc main_arg1) (by decide)).trans (val9_arg m d main_arg1 (by decide) (by decide)),
      (h.1 d (Proc.devRef .tc main_arg2) (by decide)).trans (val9_arg m d main_arg2 (by decide) (by decide)),
      h.1 d (Proc.devRef .tc main_v8) (by decide)⟩, h.2⟩) (run_main m ρ)

end Cert.Sums

end
-- ==== Proof.Sums.Frames.lean ====
/- The programs' frames: each runs to its end, leaves its arguments as they were and every semaphore counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Sums.Finals
public import Idealize.ShloMosaic.Adequacy
public import Idealize.ShloMosaic.Init

@[expose] public section

noncomputable section

namespace Cert.Sums

open Idealize.ShloMosaic Idealize.SL.Sem

set_option maxHeartbeats 4000000 in
/-- The two programs have the same table of bodies: their texts are equal. -/
theorem bodies_same : Cert.Kernel.defs₀ (F := Bits) = Cert.KernelIdeal.defs₀ (F := Bits) := by
  funext p l
  match l with
  | 0 => cases p <;> rfl
  | 1 => cases p <;> rfl
  | 2 => cases p <;> rfl

/-- The two programs run the same bodies under the same labels. -/
theorem defs_same : Cert.Kernel.defs (F := Bits) = Cert.KernelIdeal.defs (F := Bits) := by
  unfold Cert.Kernel.defs Cert.KernelIdeal.defs
  exact congrArg (fun b => Cert.KernelIdeal.sc.defs (Pipeline.defs Cert.KernelIdeal.pcfgs b)) bodies_same

/-- The kernel on the machine's floats keeps its arguments and ends with every counter at zero. -/
theorem frame_kernel : Cert.quiescent_Kernel := by
  intro m ρ _
  rw [defs_same]
  exact (θ_run Cert.KernelIdeal.defs Cert.KernelIdeal.threads _).mono
    (fun _ h => ⟨fun c => ⟨(h.1 c).1, (h.1 c).2.1, (h.1 c).2.2.1⟩, h.2⟩) (run_kept (F := Bits) m ρ)

/-- The kernel on extended reals keeps its arguments and ends with every counter at zero. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (run_kept (F := Ideal) m ρ)

/-- The reference keeps its arguments; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Sums

end
-- ==== Proof.Sums.Arrays.lean ====
/- The arrays the two TensorCore calls leave: the first call's totals, and the second call's rows block by block. -/
module

public import proofs.«01_k».proof.Proof.Sums.Finals
public import Idealize.ShloMosaic.Lib.Pointwise

@[expose] public section

set_option maxRecDepth 16384

noncomputable section

namespace Cert.Sums

open Cert.KernelIdeal Cert.KernelIdeal.Gen
open Idealize.ShloMosaic
open Idealize.ShloMosaic.Pipeline (Dat Cfg Window)

variable {F : FTy → Type} [FloatOps F]

variable (m : (ℓ : Loc nD τ sig) → Buf (Elt F) ℓ)

/-- A point of the first call. -/
def pt1 (t : ℕ) (h : t < 12) : Fin cfg1.N := ⟨t, lt_of_lt_of_eq h N_1.symm⟩
/-- A point of the second call. -/
def pt2 (t : ℕ) (h : t < 20) : Fin cfg2.N := ⟨t, lt_of_lt_of_eq h N_2.symm⟩

/-- The first call's last point. -/
def last1 : Fin cfg1.N := pt1 11 (by decide)

theorem idx1_2 (t : Fin cfg1.N) : win1_2.index t = ![0, 0] := rfl
theorem idx1_3 (t : Fin cfg1.N) : win1_3.index t = ![0, 0] := rfl

theorem emb1_2 (t : Fin cfg1.N) (y : S16x128.Idx) : ((cfg1.win 2).blk t).view.emb y = (y : S16x128.Idx) := by
  funext a
  apply Fin.ext
  match a with
  | ⟨0, _⟩ => show 0 * 16 + 1 * (y 0).val = (y 0).val; omega
  | ⟨1, _⟩ => show 0 * 128 + 1 * (y 1).val = (y 1).val; omega
theorem emb1_3 (t : Fin cfg1.N) (y : S16x128.Idx) : ((cfg1.win 3).blk t).view.emb y = (y : S16x128.Idx) := by
  funext a
  apply Fin.ext
  match a with
  | ⟨0, _⟩ => show 0 * 16 + 1 * (y 0).val = (y 0).val; omega
  | ⟨1, _⟩ => show 0 * 128 + 1 * (y 1).val = (y 1).val; omega

theorem mem1_2 (t : Fin cfg1.N) (i : S16x128.Idx) : i ∈ ((cfg1.win 2).blk t).view.set := by
  show i ∈ ((View.whole main_v3_0).slice (win1_2.rect t)).set
  rw [View.set_slice_whole, Rect.mem_set_unit]
  have h0 : (i 0).val < 16 := (i 0).isLt
  have h1 : (i 1).val < 128 := (i 1).isLt
  intro a
  match a with
  | ⟨0, _⟩ => show 0 * 16 ≤ (i 0).val ∧ (i 0).val < 0 * 16 + 16; omega
  | ⟨1, _⟩ => show 0 * 128 ≤ (i 1).val ∧ (i 1).val < 0 * 128 + 128; omega

theorem arr1_2 (V : (c : Dev nD) → Valuation τ sig (Elt F)) (d : Dev nD) (G : Vec F S16x128 .f32)
    (h : (tot V d 11 last1.isLt).1 = G) : (dat1 V d).arrAt 2 cfg1.N = G := by
  refine (dat1 V d).arrAt_eq_of_cover 2 _ (fun t hf => ?_) (fun i => ?_)
  · have ht : t.val = 11 := by
      have h1 := (flush1_2 t).mp hf
      have h2 : t.val < 12 := lt_of_lt_of_eq t.isLt N_1
      omega
    have e : t = last1 := Fin.ext ht
    have ha : (dat1 V d).after 2 t = G := by rw [after1_2, e]; exact h
    funext y
    exact (congrFun ha y).trans (congrArg G (emb1_2 t y).symm)
  · exact ⟨last1, (flush1_2 last1).mpr rfl, mem1_2 last1 i⟩

/-- The first call's sums are the totals after its last point. -/
theorem val4_sums (d : Dev nD) : val4 m d (Proc.devRef .tc main_v3_0) = (tot (val3 m) d 11 last1.isLt).1 :=
  (Pipeline.afterRegion_arr (dat1 (val3 m) d) (val3 m d) winFacts1.arr_inj 2).trans (arr1_2 (val3 m) d _ rfl)

theorem mem1_3 (t : Fin cfg1.N) (i : S16x128.Idx) : i ∈ ((cfg1.win 3).blk t).view.set := by
  show i ∈ ((View.whole main_v3_1).slice (win1_3.rect t)).set
  rw [View.set_slice_whole, Rect.mem_set_unit]
  have h0 : (i 0).val < 16 := (i 0).isLt
  have h1 : (i 1).val < 128 := (i 1).isLt
  intro a
  match a with
  | ⟨0, _⟩ => show 0 * 16 ≤ (i 0).val ∧ (i 0).val < 0 * 16 + 16; omega
  | ⟨1, _⟩ => show 0 * 128 ≤ (i 1).val ∧ (i 1).val < 0 * 128 + 128; omega

theorem arr1_3 (V : (c : Dev nD) → Valuation τ sig (Elt F)) (d : Dev nD) (G : Vec F S16x128 .f32)
    (h : (tot V d 11 last1.isLt).2 = G) : (dat1 V d).arrAt 3 cfg1.N = G := by
  refine (dat1 V d).arrAt_eq_of_cover 3 _ (fun t hf => ?_) (fun i => ?_)
  · have ht : t.val = 11 := by
      have h1 := (flush1_3 t).mp hf
      have h2 : t.val < 12 := lt_of_lt_of_eq t.isLt N_1
      omega
    have e : t = last1 := Fin.ext ht
    have ha : (dat1 V d).after 3 t = G := by rw [after1_3, e]; exact h
    funext y
    exact (congrFun ha y).trans (congrArg G (emb1_3 t y).symm)
  · exact ⟨last1, (flush1_3 last1).mpr rfl, mem1_3 last1 i⟩

/-- The first call's counts are the totals after its last point. -/
theorem val4_counts (d : Dev nD) : val4 m d (Proc.devRef .tc main_v3_1) = (tot (val3 m) d 11 last1.isLt).2 :=
  (Pipeline.afterRegion_arr (dat1 (val3 m) d) (val3 m d) winFacts1.arr_inj 3).trans (arr1_3 (val3 m) d _ rfl)

theorem idx1_0 : ∀ t : Fin cfg1.N, win1_0.index t = ![t.val + 8, 0, 0] := (by decide +kernel : ∀ t : Fin grid1.N, win1_0.index t = ![t.val + 8, 0, 0])
theorem idx1_1 : ∀ t : Fin cfg1.N, win1_1.index t = ![t.val + 8, 0] := (by decide +kernel : ∀ t : Fin grid1.N, win1_1.index t = ![t.val + 8, 0])
theorem idx2_0 : ∀ t : Fin cfg2.N, win2_0.index t = ![t.val, 0, 0] := (by decide +kernel : ∀ t : Fin grid2.N, win2_0.index t = ![t.val, 0, 0])
theorem idx2_1 : ∀ t : Fin cfg2.N, win2_1.index t = ![t.val, 0] := (by decide +kernel : ∀ t : Fin grid2.N, win2_1.index t = ![t.val, 0])
theorem idx2_7 : ∀ t : Fin cfg2.N, win2_7.index t = ![t.val, 0] := (by decide +kernel : ∀ t : Fin grid2.N, win2_7.index t = ![t.val, 0])

/-- The first call's blocks of indices and of rows: from row 128000 on. -/
theorem blk1_0_at (V : (c : Dev nD) → Valuation τ sig (Elt F)) (d : Dev nD) (t : Fin 12) (p : Fin 16000) :
    blk1 V d 0 (pt1 t.val t.isLt) (ix3 0 0 p) = (V d (Proc.devRef .tc main_v2) : S20x1x16000.Idx → BitVec 32) (ix3 ⟨t.val + 8, by omega⟩ 0 p) := by
  have e := idx1_0 (pt1 t.val t.isLt)
  show (V d (Proc.devRef .tc main_v2) : S20x1x16000.Idx → BitVec 32) (((cfg1.win 0).blk (pt1 t.val t.isLt)).view.emb (ix3 0 0 p)) = _
  refine congrArg _ (funext fun a => Fin.ext ?_)
  match a with
  | ⟨0, _⟩ => show win1_0.index (pt1 t.val t.isLt) 0 * 1 + 1 * 0 = t.val + 8; rw [e]; show (t.val + 8) * 1 + 1 * 0 = t.val + 8; omega
  | ⟨1, _⟩ => show win1_0.index (pt1 t.val t.isLt) 1 * 1 + 1 * 0 = 0; rw [e]; rfl
  | ⟨2, _⟩ => show win1_0.index (pt1 t.val t.isLt) 2 * 16000 + 1 * p.val = p.val; rw [e]; show 0 * 16000 + 1 * p.val = p.val; omega

theorem blk1_1_at (V : (c : Dev nD) → Valuation τ sig (Elt F)) (d : Dev nD) (t : Fin 12) (p : Fin 16000) (c : Fin 128) :
    blk1 V d 1 (pt1 t.val t.isLt) (ix2 p c) = (V d (Proc.devRef .tc main_arg0) : S320000x128.Idx → F .f32) (ix2 ⟨128000 + 16000 * t.val + p.val, by omega⟩ c) := by
  have e := idx1_1 (pt1 t.val t.isLt)
  show (V d (Proc.devRef .tc main_arg0) : S320000x128.Idx → F .f32) (((cfg1.win 1).blk (pt1 t.val t.isLt)).view.emb (ix2 p c)) = _
  refine congrArg _ (funext fun a => Fin.ext ?_)
  match a with
  | ⟨0, _⟩ => show win1_1.index (pt1 t.val t.isLt) 0 * 16000 + 1 * p.val = 128000 + 16000 * t.val + p.val; rw [e]; show (t.val + 8) * 16000 + 1 * p.val = 128000 + 16000 * t.val + p.val; omega
  | ⟨1, _⟩ => show win1_1.index (pt1 t.val t.isLt) 1 * 128 + 1 * c.val = c.val; rw [e]; show 0 * 128 + 1 * c.val = c.val; omega

/-- The second call's blocks of indices and of rows. -/
theorem blk2_0_at (V : (c : Dev nD) → Valuation τ sig (Elt F)) (d : Dev nD) (t : Fin 20) (p : Fin 16000) :
    blk2 V d 0 (pt2 t.val t.isLt) (ix3 0 0 p) = (V d (Proc.devRef .tc main_v4) : S20x1x16000.Idx → BitVec 32) (ix3 t 0 p) := by
  have e := idx2_0 (pt2 t.val t.isLt)
  show (V d (Proc.devRef .tc main_v4) : S20x1x16000.Idx → BitVec 32) (((cfg2.win 0).blk (pt2 t.val t.isLt)).view.emb (ix3 0 0 p)) = _
  refine congrArg _ (funext fun a => Fin.ext ?_)
  match a with
  | ⟨0, _⟩ => show win2_0.index (pt2 t.val t.isLt) 0 * 1 + 1 * 0 = t.val; rw [e]; show t.val * 1 + 1 * 0 = t.val; omega
  | ⟨1, _⟩ => show win2_0.index (pt2 t.val t.isLt) 1 * 1 + 1 * 0 = 0; rw [e]; rfl
  | ⟨2, _⟩ => show win2_0.index (pt2 t.val t.isLt) 2 * 16000 + 1 * p.val = p.val; rw [e]; show 0 * 16000 + 1 * p.val = p.val; omega

theorem blk2_1_at (V : (c : Dev nD) → Valuation τ sig (Elt F)) (d : Dev nD) (t : Fin 20) (p : Fin 16000) (c : Fin 128) :
    blk2 V d 1 (pt2 t.val t.isLt) (ix2 p c) = (V d (Proc.devRef .tc main_arg0) : S320000x128.Idx → F .f32) (ix2 ⟨16000 * t.val + p.val, by omega⟩ c) := by
  have e := idx2_1 (pt2 t.val t.isLt)
  show (V d (Proc.devRef .tc main_arg0) : S320000x128.Idx → F .f32) (((cfg2.win 1).blk (pt2 t.val t.isLt)).view.emb (ix2 p c)) = _
  refine congrArg _ (funext fun a => Fin.ext ?_)
  match a with
  | ⟨0, _⟩ => show win2_1.index (pt2 t.val t.isLt) 0 * 16000 + 1 * p.val = 16000 * t.val + p.val; rw [e]; show t.val * 16000 + 1 * p.val = 16000 * t.val + p.val; omega
  | ⟨1, _⟩ => show win2_1.index (pt2 t.val t.isLt) 1 * 128 + 1 * c.val = c.val; rw [e]; show 0 * 128 + 1 * c.val = c.val; omega

theorem emb2_7 (t : Fin 20) (p : Fin 16000) (c : Fin 128) :
    ((cfg2.win 7).blk (pt2 t.val t.isLt)).view.emb (ix2 p c) = (ix2 ⟨16000 * t.val + p.val, by omega⟩ c : S320000x128.Idx) := by
  have e := idx2_7 (pt2 t.val t.isLt)
  refine funext fun a => Fin.ext ?_
  match a with
  | ⟨0, _⟩ => show win2_7.index (pt2 t.val t.isLt) 0 * 16000 + 1 * p.val = 16000 * t.val + p.val; rw [e]; show t.val * 16000 + 1 * p.val = 16000 * t.val + p.val; omega
  | ⟨1, _⟩ => show win2_7.index (pt2 t.val t.isLt) 1 * 128 + 1 * c.val = c.val; rw [e]; show 0 * 128 + 1 * c.val = c.val; omega

/-- The second call's other operands come whole. -/
theorem blk2_2_whole (V : (c : Dev nD) → Valuation τ sig (Elt F)) (d : Dev nD) (t : Fin cfg2.N) : blk2 V d 2 t = (V d (Proc.devRef .tc main_v3_0) : S16x128.Idx → F .f32) := by
  funext y
  show (V d (Proc.devRef .tc main_v3_0) : S16x128.Idx → F .f32) (((cfg2.win 2).blk t).view.emb y) = _
  refine congrArg _ (funext fun a => Fin.ext ?_)
  match a with
  | ⟨0, _⟩ => show 0 * 16 + 1 * (y 0).val = (y 0).val; omega
  | ⟨1, _⟩ => show 0 * 128 + 1 * (y 1).val = (y 1).val; omega
theorem blk2_3_whole (V : (c : Dev nD) → Valuation τ sig (Elt F)) (d : Dev nD) (t : Fin cfg2.N) : blk2 V d 3 t = (V d (Proc.devRef .tc main_v3_1) : S16x128.Idx → F .f32) := by
  funext y
  show (V d (Proc.devRef .tc main_v3_1) : S16x128.Idx → F .f32) (((cfg2.win 3).blk t).view.emb y) = _
  refine congrArg _ (funext fun a => Fin.ext ?_)
  match a with
  | ⟨0, _⟩ => show 0 * 16 + 1 * (y 0).val = (y 0).val; omega
  | ⟨1, _⟩ => show 0 * 128 + 1 * (y 1).val = (y 1).val; omega
theorem blk2_4_whole (V : (c : Dev nD) → Valuation τ sig (Elt F)) (d : Dev nD) (t : Fin cfg2.N) : blk2 V d 4 t = (V d (Proc.devRef .tc main_v5) : S32x16x128.Idx → F .f32) := by
  funext y
  show (V d (Proc.devRef .tc main_v5) : S32x16x128.Idx → F .f32) (((cfg2.win 4).blk t).view.emb y) = _
  refine congrArg _ (funext fun a => Fin.ext ?_)
  match a with
  | ⟨0, _⟩ => show 0 * 32 + 1 * (y 0).val = (y 0).val; omega
  | ⟨1, _⟩ => show 0 * 16 + 1 * (y 1).val = (y 1).val; omega
  | ⟨2, _⟩ => show 0 * 128 + 1 * (y 2).val = (y 2).val; omega
theorem blk2_5_whole (V : (c : Dev nD) → Valuation τ sig (Elt F)) (d : Dev nD) (t : Fin cfg2.N) : blk2 V d 5 t = (V d (Proc.devRef .tc main_v6) : S32x16.Idx → F .f32) := by
  funext y
  show (V d (Proc.devRef .tc main_v6) : S32x16.Idx → F .f32) (((cfg2.win 5).blk t).view.emb y) = _
  refine congrArg _ (funext fun a => Fin.ext ?_)
  match a with
  | ⟨0, _⟩ => show 0 * 32 + 1 * (y 0).val = (y 0).val; omega
  | ⟨1, _⟩ => show 0 * 16 + 1 * (y 1).val = (y 1).val; omega
theorem blk2_6_whole (V : (c : Dev nD) → Valuation τ sig (Elt F)) (d : Dev nD) (t : Fin cfg2.N) : blk2 V d 6 t = (V d (Proc.devRef .tc main_v7) : S1x3.Idx → F .f32) := by
  funext y
  show (V d (Proc.devRef .tc main_v7) : S1x3.Idx → F .f32) (((cfg2.win 6).blk t).view.emb y) = _
  refine congrArg _ (funext fun a => Fin.ext ?_)
  match a with
  | ⟨0, _⟩ => show 0 * 1 + 1 * (y 0).val = (y 0).val; omega
  | ⟨1, _⟩ => show 0 * 3 + 1 * (y 1).val = (y 1).val; omega

/-- No two points of the second call write the same rows. -/
theorem disjoint2_7 : ∀ t t' : Fin cfg2.N, (cfg2.win 7).flush t = true → (cfg2.win 7).flush t' = true → t ≠ t' →
    Disjoint ((cfg2.win 7).blk t).view.set ((cfg2.win 7).blk t').view.set :=
  fun t t' _ _ hne => (cfg2.win 7).disjoint_blk fun h => hne (by
    have e : win2_7.index t = win2_7.index t' := h
    rw [idx2_7, idx2_7] at e
    exact Fin.ext (congrFun e 0))

/-- The result's row `16000 t + p` is what point `t` of the second call computes in its block's row `p`. -/
theorem val9_at (d : Dev nD) (t : Fin 20) (p : Fin 16000) (c : Fin 128) :
    (val9 m d (Proc.devRef .tc main_v8) : S320000x128.Idx → F .f32) (ix2 ⟨16000 * t.val + p.val, by omega⟩ c)
      = k2_pay2 (blk2 (val8 m) d 0 (pt2 t.val t.isLt)) (gates (val8 m) d) (blk2 (val8 m) d 1 (pt2 t.val t.isLt)) (ix2 p c) := by
  have e := congrFun (Pipeline.afterRegion_arr (dat2 (val8 m) d) (val8 m d) winFacts2.arr_inj 7) (ix2 ⟨16000 * t.val + p.val, by omega⟩ c)
  refine Eq.trans e ?_
  have e2 := (dat2 (val8 m) d).arrAt_emb_eq_flushed 7 disjoint2_7 (pt2 t.val t.isLt) (flush2_7 _) (ix2 p c)
  rw [emb2_7] at e2
  refine e2.trans ?_
  show (dat2 (val8 m) d).after 7 (pt2 t.val t.isLt) (ix2 p c) = _
  rw [after2_7]

end Cert.Sums

end
-- ==== Proof.Sums.Reads.lean ====
/- The reshaped arrays read at an index, in terms of the arguments and of the tiles' results. -/
module

public import proofs.«01_k».proof.Proof.Sums.Arrays
public import Idealize.ShloMosaic.Lib.Pointwise

@[expose] public section

set_option maxRecDepth 16384

noncomputable section

namespace Cert.Sums

open Cert.KernelIdeal Cert.KernelIdeal.Gen
open Idealize.ShloMosaic

variable {F : FTy → Type} [FloatOps F]

variable (m : (ℓ : Loc nD τ sig) → Buf (Elt F) ℓ)

/-- The three arguments. -/
abbrev aF (d : Dev nD) : S320000x128.Idx → F .f32 := m (d, Proc.devRef .tc main_arg0)
abbrev aI (d : Dev nD) : S320000.Idx → BitVec 32 := m (d, Proc.devRef .tc main_arg1)
abbrev aW (d : Dev nD) : S1x1x3.Idx → F .f32 := m (d, Proc.devRef .tc main_arg2)

theorem flat_eq (d : Dev nD) : (flat m d : S40960000.Idx → F .f32) = shapeCast S40960000 (aF m d) shapeCasts_S320000x128_S40960000 :=
  StableHlo.reshape_result main_arg0 main_v0 rfl shapeCasts_S320000x128_S40960000 _ _ (val0 m d)

theorem flat_at (d : Dev nD) (p : ℕ) (hp : p < 320000) (c : Fin 128) : featAt (flat m d) (p * 128 + c.val) = aF m d (ix2 ⟨p, hp⟩ c) := by
  show (flat m d : S40960000.Idx → F .f32) (at1 40960000 (p * 128 + c.val)) = _
  have e : at1 40960000 (p * 128 + c.val) = ix1 ⟨p * 128 + c.val, by omega⟩ := by
    funext a
    match a with
    | ⟨0, _⟩ => exact Fin.ext (Nat.mod_eq_of_lt (by omega))
  rw [flat_eq, e]
  pointwise
  exact congrArg (aF m d) (congrArg (ix2 · c) (Fin.ext (by dsimp only; omega)))

theorem inds_at (d : Dev nD) (p : ℕ) (hp : p < 320000) : idxAt (inds m d) p = aI m d (ix1 ⟨p, hp⟩) := by
  show (inds m d : S320000.Idx → BitVec 32) (at1 320000 p) = _
  rw [show inds m d = val0 m d (Proc.devRef .tc main_arg1) from val1_of m d main_arg1 (by decide)]
  refine congrArg (aI m d) (funext fun a => ?_)
  match a with
  | ⟨0, _⟩ => exact Fin.ext (Nat.mod_eq_of_lt hp)

theorem v2_eq (d : Dev nD) : (val3 m d (Proc.devRef .tc main_v2) : S20x1x16000.Idx → BitVec 32) = shapeCast S20x1x16000 (aI m d) shapeCasts_S320000_S20x1x16000 := by
  refine (StableHlo.reshape_result main_arg1 main_v2 rfl shapeCasts_S320000_S20x1x16000 _ _ (val2 m d)).trans ?_
  rw [val2_of m d main_arg1 (by decide) (by decide), val1_of m d main_arg1 (by decide)]
  rfl

theorem v2_at (d : Dev nD) (t : Fin 20) (p : Fin 16000) : (val3 m d (Proc.devRef .tc main_v2) : S20x1x16000.Idx → BitVec 32) (ix3 t 0 p) = aI m d (ix1 ⟨16000 * t.val + p.val, by omega⟩) := by
  rw [v2_eq]
  pointwise
  exact congrArg (aI m d) (congrArg ix1 (Fin.ext (by dsimp only; omega)))

theorem v4_eq (d : Dev nD) : (val8 m d (Proc.devRef .tc main_v4) : S20x1x16000.Idx → BitVec 32) = shapeCast S20x1x16000 (aI m d) shapeCasts_S320000_S20x1x16000 := by
  rw [val8_of m d main_v4 (by decide), val7_of m d main_v4 (by decide), val6_of m d main_v4 (by decide)]
  refine (StableHlo.reshape_result main_arg1 main_v4 rfl shapeCasts_S320000_S20x1x16000 _ _ (val4 m d)).trans ?_
  rw [val4_of m d main_arg1 (by decide) (by decide), val3_of m d main_arg1 (by decide), val2_of m d main_arg1 (by decide) (by decide), val1_of m d main_arg1 (by decide)]
  rfl

theorem v4_at (d : Dev nD) (t : Fin 20) (p : Fin 16000) : (val8 m d (Proc.devRef .tc main_v4) : S20x1x16000.Idx → BitVec 32) (ix3 t 0 p) = aI m d (ix1 ⟨16000 * t.val + p.val, by omega⟩) := by
  rw [v4_eq, ← v2_eq, v2_at]

theorem v5_eq (d : Dev nD) : (val8 m d (Proc.devRef .tc main_v5) : S32x16x128.Idx → F .f32) = shapeCast S32x16x128 (psumF (flat m d) (inds m d) : S32x2048.Idx → F .f32) shapeCasts_S32x2048_S32x16x128 := by
  rw [val8_of m d main_v5 (by decide), val7_of m d main_v5 (by decide)]
  refine (StableHlo.reshape_result main_v1_0 main_v5 rfl shapeCasts_S32x2048_S32x16x128 _ _ (val5 m d)).trans ?_
  rw [val5_of m d main_v1_0 (by decide), val4_of m d main_v1_0 (by decide) (by decide), val3_of m d main_v1_0 (by decide)]
  unfold val2
  rw [Function.update_of_ne (StableHlo.devRef_ne_of_ne (by decide)), Function.update_self]
  rfl

theorem v5_at (d : Dev nD) (w : Fin 32) (s : Fin 16) (c : Fin 128) : (val8 m d (Proc.devRef .tc main_v5) : S32x16x128.Idx → F .f32) (ix3 w s c) = rowAcc (featAt (flat m d)) (idxAt (inds m d)) (tileOf w.val) (128 * s.val + c.val) := by
  rw [v5_eq]
  pointwise
  show rowAcc (featAt (flat m d)) (idxAt (inds m d)) (tileOf w.val) (s.val * 128 + c.val) = _
  rw [mul_comm]

theorem v6_eq (d : Dev nD) : (val8 m d (Proc.devRef .tc main_v6) : S32x16.Idx → F .f32) = shapeCast S32x16 (pcntF (inds m d) : S512.Idx → F .f32) shapeCasts_S512_S32x16 := by
  rw [val8_of m d main_v6 (by decide)]
  refine (StableHlo.reshape_result main_v1_1 main_v6 rfl shapeCasts_S512_S32x16 _ _ (val6 m d)).trans ?_
  rw [val6_of m d main_v1_1 (by decide), val5_of m d main_v1_1 (by decide), val4_of m d main_v1_1 (by decide) (by decide), val3_of m d main_v1_1 (by decide)]
  unfold val2
  rw [Function.update_self]
  rfl

theorem v6_at (d : Dev nD) (w : Fin 32) (s : Fin 16) : (val8 m d (Proc.devRef .tc main_v6) : S32x16.Idx → F .f32) (ix2 w s) = pieceCnt F (idxAt (inds m d)) (tileOf w.val) s.val := by
  rw [v6_eq]
  pointwise
  show pieceCnt F (idxAt (inds m d)) (tileOf ((w.val * 16 + s.val) / 16)) ((w.val * 16 + s.val) % 16) = _
  rw [show (w.val * 16 + s.val) / 16 = w.val by omega, show (w.val * 16 + s.val) % 16 = s.val by omega]

theorem v7_eq (d : Dev nD) : (val8 m d (Proc.devRef .tc main_v7) : S1x3.Idx → F .f32) = shapeCast S1x3 (aW m d) shapeCasts_S1x1x3_S1x3 := by
  refine (StableHlo.reshape_result main_arg2 main_v7 rfl shapeCasts_S1x1x3_S1x3 _ _ (val7 m d)).trans ?_
  rw [val7_of m d main_arg2 (by decide), val6_of m d main_arg2 (by decide), val5_of m d main_arg2 (by decide), val4_of m d main_arg2 (by decide) (by decide), val3_of m d main_arg2 (by decide), val2_of m d main_arg2 (by decide) (by decide), val1_of m d main_arg2 (by decide)]
  rfl

theorem v7_at (d : Dev nD) (k : Fin 3) : (val8 m d (Proc.devRef .tc main_v7) : S1x3.Idx → F .f32) (ix2 0 k) = aW m d (ix3 0 0 k) := by
  rw [v7_eq]
  pointwise

end Cert.Sums

end
-- ==== Proof.Sums.Spec.lean ====
/- The mathematics that both programs compute: per-segment totals, and a segment's gates from its channel means. -/
module

public import Idealize.ShloMosaic.PureOps.Ideal
public import Idealize.ShloMosaic.Lib.Pointwise

@[expose] public section

noncomputable section

namespace Cert.Sums

open Idealize.ShloMosaic

/-- One where a row's segment number is `s`, zero elsewhere. -/
def hit (b : BitVec 32) (s : Fin 16) : EReal := if b = BitVec.ofNat 32 s.val then 1 else 0

/-- The sum over all rows of segment `s` of `f`. -/
def total (x : Fin 320000 → BitVec 32) (f : Fin 320000 → EReal) (s : Fin 16) : EReal := ∑ p, hit (x p) s * f p

/-- The number of rows of segment `s`. -/
def count (x : Fin 320000 → BitVec 32) (s : Fin 16) : EReal := ∑ p, hit (x p) s

/-- The gates of a segment whose channel means are `M`: the three-tap convolution along the channels with zero padding,
    through the logistic function. -/
def gateOf (M : Fin 128 → EReal) (w0 w1 w2 : EReal) (c : Fin 128) : EReal :=
  Ideal.logistic (((if h : c.val < 1 then 0 else M ⟨c.val - 1, by omega⟩) * w0 + M c * w1)
    + (if h : c.val < 127 then M ⟨1 + c.val, by omega⟩ else 0) * w2)

theorem hit_mul (b : BitVec 32) (s : Fin 16) (y : EReal) : hit b s * y = if b = BitVec.ofNat 32 s.val then y else 0 := by
  unfold hit
  split
  · exact one_mul y
  · exact zero_mul y

/-- Words of two segment numbers are equal only if the numbers are. -/
theorem ofNat_inj16 (s s' : Fin 16) : BitVec.ofNat 32 s.val = BitVec.ofNat 32 s'.val ↔ s = s' := by
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- A row's own segment is the only one that it hits. -/
theorem sum_hit (s : Fin 16) (g : Fin 16 → EReal) : ∑ s', hit (BitVec.ofNat 32 s.val) s' * g s' = g s := by
  simp only [hit_mul, ofNat_inj16]
  rw [Finset.sum_ite_eq Finset.univ s g, if_pos (Finset.mem_univ s)]

/-- A word read as a number `s < 16` is the word of `s`. -/
theorem toInt_eq16 (b : BitVec 32) (s : Fin 16) : b.toInt = (s.val : ℤ) ↔ b = BitVec.ofNat 32 s.val := by
  have e : (BitVec.ofNat 32 s.val).toInt = (s.val : ℤ) := by
    have hs := s.isLt
    rw [BitVec.toInt_eq_toNat_cond, BitVec.toNat_ofNat, Nat.mod_eq_of_lt (by omega), if_pos (by omega)]
  constructor
  · intro h; exact BitVec.eq_of_toInt_eq (h.trans e.symm)
  · rintro rfl; exact e

end Cert.Sums

end
-- ==== Proof.Sums.Gates.lean ====
/- The TensorCore calls' blocks over extended reals, read at an index. -/
module

public import proofs.«01_k».proof.Proof.Sums.Second
public import proofs.«01_k».proof.Proof.Sums.Spec
public import Idealize.ShloMosaic.Lib.Pointwise

@[expose] public section

set_option maxRecDepth 16384

noncomputable section

namespace Cert.Sums

open Cert.KernelIdeal Cert.KernelIdeal.Gen
open Idealize.ShloMosaic

/-- The comparison of a row's segment number with `s`, made a float. -/
theorem sitofp_hit (b : BitVec 32) (s : Fin 16) :
    (FloatOps.sitofp FTy.f32 (BitVec.setWidth 32 (IntOp.cmpi CmpIPredicate.eq b (BitVec.ofNat 32 s.val))) : Ideal .f32) = hit b s := by
  show (((BitVec.setWidth 32 (BitVec.ofBool (decide (b = BitVec.ofNat 32 s.val)))).toInt : ℝ) : EReal) = hit b s
  unfold hit
  split
  · next h => rw [decide_eq_true h, show (BitVec.setWidth 32 (BitVec.ofBool true)).toInt = 1 by decide, Int.cast_one, EReal.coe_one]
  · next h => rw [decide_eq_false h, show (BitVec.setWidth 32 (BitVec.ofBool false)).toInt = 0 by decide, Int.cast_zero, EReal.coe_zero]

/-- The one-hot matrix of a block of rows. -/
theorem k1_pay1_at (x : Vec Ideal S1x1x16000 .i32) (p : Fin 16000) (s : Fin 16) :
    k1_pay1 (F := Ideal) x (ix2 p s) = hit (x (ix3 0 0 p)) s := by
  pointwise [k1_pay1]
  exact sitofp_hit _ _

/-- A block's contribution to the segments' sums. -/
theorem k1_pay4_at (x : Vec Ideal S1x1x16000 .i32) (f : Vec Ideal S16000x128 .f32) (y : Vec Ideal S16x128 .f32) (s : Fin 16) (c : Fin 128) :
    k1_pay4 (F := Ideal) x f y (ix2 s c) = y (ix2 s c) + ∑ p : Fin 16000, hit (x (ix3 0 0 p)) s * f (ix2 p c) := by
  pointwise [k1_pay4]
  simp only [k1_pay1_at]

/-- A block's contribution to the segments' counts. -/
theorem k1_pay5_at (x : Vec Ideal S1x1x16000 .i32) (y : Vec Ideal S16x128 .f32) (s : Fin 16) (c : Fin 128) :
    k1_pay5 (F := Ideal) x y (ix2 s c) = y (ix2 s c) + ∑ p : Fin 16000, hit (x (ix3 0 0 p)) s := by
  pointwise [k1_pay5]
  simp only [k1_pay1_at]

/-- A block of the result: each row times the gates of its segment. -/
theorem k2_pay2_at (x : Vec Ideal S1x1x16000 .i32) (g : Vec Ideal S16x128 .f32) (f : Vec Ideal S16000x128 .f32) (p : Fin 16000) (c : Fin 128) :
    k2_pay2 (F := Ideal) x g f (ix2 p c) = f (ix2 p c) * ∑ s : Fin 16, hit (x (ix3 0 0 p)) s * g (ix2 s c) := by
  pointwise [k2_pay2]
  simp only [sitofp_hit]

/-- The gates the second call computes, from the two calls' totals. -/
theorem gate_at (x3 x4 : Vec Ideal S16x128 .f32) (x5 : Vec Ideal S32x16x128 .f32) (x6 : Vec Ideal S32x16 .f32) (x7 : Vec Ideal S1x3 .f32)
    (s : Fin 16) (c : Fin 128) :
    gate x3 x4 x5 x6 x7 (ix2 s c)
      = gateOf (fun c => Ideal.div (x3 (ix2 s c) + ∑ w, x5 (ix3 w s c)) (max (x4 (ix2 s c) + ∑ w, x6 (ix2 w s)) 1))
          (x7 (ix2 0 0)) (x7 (ix2 0 1)) (x7 (ix2 0 2)) c := by
  have e0 : (Rect.unit (s := S1x3) ![0, 0] ![1, 1] inb_S1x3_S1x1_0_0).emb (ix2 0 0) = ix2 0 0 := by
    funext a; match a with | ⟨0, _⟩ => rfl | ⟨1, _⟩ => rfl
  have e1 : (Rect.unit (s := S1x3) ![0, 1] ![1, 1] inb_S1x3_S1x1_0_1).emb (ix2 0 0) = ix2 0 1 := by
    funext a; match a with | ⟨0, _⟩ => rfl | ⟨1, _⟩ => rfl
  have e2 : (Rect.unit (s := S1x3) ![0, 2] ![1, 1] inb_S1x3_S1x1_0_2).emb (ix2 0 0) = ix2 0 2 := by
    funext a; match a with | ⟨0, _⟩ => rfl | ⟨1, _⟩ => rfl
  pointwise [gate, k2_pay1, k2_pay3, VecWindow.window]
  rw [e0, e1, e2]
  unfold gateOf
  rw [mul_comm (x7 (ix2 0 0)), mul_comm (x7 (ix2 0 1)), mul_comm (x7 (ix2 0 2))]

end Cert.Sums

end
-- ==== Proof.Sums.Tally.lean ====
/- What a tile's binary search finds among its 4000 sorted indices, and with it the tile's row of sums and
its counts over extended reals: each segment's total over the tile's rows. -/
module

public import proofs.«01_k».proof.Proof.Sums.Tile
public import proofs.«01_k».proof.Proof.Sums.Spec
public import Idealize.ShloMosaic.Lib.Pointwise

@[expose] public section

set_option maxRecDepth 16384

noncomputable section

namespace Cert.Sums

open Cert.KernelIdeal Cert.KernelIdeal.Gen
open Idealize.ShloMosaic

/-- The indices `I` are segment numbers and do not decrease from row to row. -/
structure Ord (I : ℕ → BitVec 32) (n : ℕ) : Prop where
  small : ∀ r < n, (I r).toNat < 16
  mono : ∀ r r', r ≤ r' → r' < n → (I r).toNat ≤ (I r').toNat

section
variable {I : ℕ → BitVec 32} (h : Ord I 4000)
include h

theorem slt_seg {r s : ℕ} (hr : r < 4000) (hs : s ≤ 16) : (I r).slt (BitVec.ofNat 32 s) = decide ((I r).toNat < s) := by
  have h1 := h.small r hr
  have e : BitVec.ofNat 32 (I r).toNat = I r := by simp
  conv_lhs => rw [← e]
  exact slt_ofNat (by omega) (by omega)

/-- After `n` halvings, the rows below the interval have smaller numbers than `s`, the rows above it have not, and the
    interval is shorter than `2 ^ (12 - n)`. -/
theorem bs_spec {s : ℕ} (hs : s ≤ 16) (n k : ℕ) (hn : n + k = 12) :
    (∀ r < (bs I s n).1, (I r).toNat < s) ∧ (∀ r, (bs I s n).2 ≤ r → r < 4000 → s ≤ (I r).toNat) ∧ (bs I s n).2 - (bs I s n).1 < 2 ^ k := by
  induction n generalizing k with
  | zero =>
    obtain rfl : k = 12 := by omega
    exact ⟨fun r hr => absurd hr (Nat.not_lt_zero r), fun r h1 h2 => absurd (lt_of_lt_of_le h2 h1) (lt_irrefl _), by show 4000 - 0 < 2 ^ 12; decide⟩
  | succ n ih =>
    obtain ⟨h1, h2, h3⟩ := ih (k + 1) (by omega)
    have hb := bs_le I s n
    rw [show bs I s (n + 1) = bsStep I s (bs I s n) from rfl]
    generalize bs I s n = p at h1 h2 h3 hb
    obtain ⟨lo, hi⟩ := p
    dsimp only at h1 h2 h3 hb
    rw [pow_succ] at h3
    unfold bsStep
    dsimp only
    by_cases hl : lo < hi
    · rw [if_pos hl, min_eq_left (by omega : (lo + hi) / 2 ≤ 3999), slt_seg h (by omega) hs]
      by_cases hm : (I ((lo + hi) / 2)).toNat < s
      · rw [if_pos (by simpa using hm)]
        refine ⟨fun r hr => ?_, h2, by dsimp only; omega⟩
        dsimp only at hr
        exact lt_of_le_of_lt (h.mono r ((lo + hi) / 2) (by omega) (by omega)) hm
      · rw [if_neg (by simpa using hm)]
        refine ⟨h1, fun r hr hr' => ?_, by dsimp only; omega⟩
        dsimp only at hr
        exact le_trans (by omega) (h.mono ((lo + hi) / 2) r hr hr')
    · rw [if_neg hl]
      exact ⟨h1, h2, by dsimp only; have : 0 < 2 ^ k := Nat.pow_pos (by decide); omega⟩

/-- The rows before segment `s`'s first row are those with a smaller number. -/
theorem stOf_spec {s : ℕ} (hs : s ≤ 16) {r : ℕ} (hr : r < 4000) : r < stOf I s ↔ (I r).toNat < s := by
  unfold stOf
  by_cases h16 : s < 16
  · rw [if_pos h16]
    obtain ⟨h1, h2, h3⟩ := bs_spec h hs 12 0 rfl
    constructor
    · exact h1 r
    · intro hlt
      by_contra hc
      have := h2 r (by omega) hr
      omega
  · rw [if_neg h16]
    have := h.small r hr
    exact ⟨fun _ => by omega, fun _ => hr⟩

theorem stOf_mono {s : ℕ} (hs : s < 16) : stOf I s ≤ stOf I (s + 1) := by
  by_contra hc
  have hle := stOf_le I s
  have h1 := (stOf_spec h (s := s) (by omega) (r := stOf I (s + 1)) (by omega)).mp (by omega)
  have h2 := (stOf_spec h (s := s + 1) (by omega) (r := stOf I (s + 1)) (by omega)).mpr (by omega)
  omega

/-- A row is between a segment's first row and the next segment's exactly when it is the segment's. -/
theorem between (s : Fin 16) {r : ℕ} (hr : r < 4000) : (stOf I s.val ≤ r ∧ r < stOf I (s.val + 1)) ↔ I r = BitVec.ofNat 32 s.val := by
  have h1 := stOf_spec h (s := s.val) (by omega) hr
  have h2 := stOf_spec h (s := s.val + 1) (by omega) hr
  have e : I r = BitVec.ofNat 32 s.val ↔ (I r).toNat = s.val := by
    constructor
    · intro e; rw [e, BitVec.toNat_ofNat]; omega
    · intro e; rw [← e]; simp
  rw [e]
  omega

end

theorem addRows_eq (g : ℕ → EReal) (x : EReal) (n : ℕ) : addRows (F := Ideal) g x n = x + ∑ u ∈ Finset.range n, g u := by
  induction n with
  | zero => show x = x + 0; rw [add_zero]
  | succ n ih =>
    show addRows (F := Ideal) g x n + g n = _
    rw [ih, Finset.sum_range_succ, add_assoc]

/-- A chunk's update at sum `c` of segment `s`: unchanged before the segment's turn, then more by the segment's rows of
    the chunk. -/
theorem chunkUp_at (A B : ℕ → EReal) (st : ℕ → ℕ) (c₀ : ℕ) (s : ℕ) (c : ℕ) (hc : c < 128) (n : ℕ) :
    chunkUp (F := Ideal) A B st c₀ n (128 * s + c) = if s < n then A (128 * s + c)
      + ∑ u ∈ Finset.range 400, (if st s ≤ c₀ + u ∧ c₀ + u < st (s + 1) then B (u * 128 + c) else 0) else A (128 * s + c) := by
  induction n with
  | zero => rw [if_neg (Nat.not_lt_zero s)]; rfl
  | succ n ih =>
    rw [show chunkUp (F := Ideal) A B st c₀ (n + 1) = segUp (chunkUp (F := Ideal) A B st c₀ n) (128 * n) B (st n - c₀) (min (st (n + 1) - c₀) 400 - (st n - c₀)) from rfl]
    unfold segUp
    by_cases he : s = n
    · subst he
      rw [if_pos (by omega), ih, if_neg (lt_irrefl s), if_pos (Nat.lt_succ_self s), addRows_eq]
      refine congrArg (A (128 * s + c) + ·) ?_
      rw [show 128 * s + c - 128 * s = c by omega, ← Finset.sum_Ico_eq_sum_range (fun u => B (u * 128 + c)), ← Finset.sum_filter]
      refine Finset.sum_congr (Finset.ext fun u => ?_) fun _ _ => rfl
      rw [Finset.mem_Ico, Finset.mem_filter, Finset.mem_range]
      omega
    · rw [if_neg (by omega), ih]
      by_cases hl : s < n
      · rw [if_pos hl, if_pos (by omega)]
      · rw [if_neg hl, if_neg (by omega)]

/-- The sums after `n` chunks: at sum `c` of segment `s`, the segment's rows among the first `400 n`. -/
theorem accAt_at (A G : ℕ → EReal) (st : ℕ → ℕ) (i : grid0.Coords) (s : Fin 16) (c : ℕ) (hc : c < 128) (n : ℕ) :
    accAt (F := Ideal) A G st i n (128 * s.val + c) = A (128 * s.val + c)
      + ∑ r ∈ Finset.range (400 * n), (if st s.val ≤ r ∧ r < st (s.val + 1) then G ((wid i * 4000 + r) * 128 + c) else 0) := by
  induction n with
  | zero => show A _ = A _ + 0; rw [add_zero]
  | succ n ih =>
    rw [show accAt (F := Ideal) A G st i (n + 1) = chunkUp (accAt (F := Ideal) A G st i n) (fun x => G (fOff i (400 * n) + x)) st (400 * n) 16 from rfl,
      chunkUp_at _ _ _ _ _ _ hc, if_pos s.isLt, ih, show 400 * (n + 1) = 400 * n + 400 by omega, Finset.sum_range_add, add_assoc]
    refine congrArg (A (128 * s.val + c) + ·) (congrArg (_ + ·) (Finset.sum_congr rfl fun u _ => ?_))
    rw [show fOff i (400 * n) + (u * 128 + c) = (wid i * 4000 + (400 * n + u)) * 128 + c by unfold fOff; ring]

/-- A tile's sum `c` of segment `s`. -/
theorem rowAcc_at (G : ℕ → EReal) (J : ℕ → BitVec 32) (i : grid0.Coords) (h : Ord (tileIdx J i) 4000) (s : Fin 16) (c : ℕ) (hc : c < 128) :
    rowAcc (F := Ideal) G J i (128 * s.val + c)
      = ∑ r ∈ Finset.range 4000, hit (J (wid i * 4000 + r)) s * G ((wid i * 4000 + r) * 128 + c) := by
  unfold rowAcc
  rw [accAt_at _ _ _ _ _ _ hc, show (Scalar.ofBits .f32 0x00000000#32 : Ideal .f32) = (0 : EReal) from Ideal.ofBits_zero .f32, zero_add]
  refine Finset.sum_congr rfl fun r hr => ?_
  rw [hit_mul]
  have hr' := Finset.mem_range.mp hr
  by_cases hh : J (wid i * 4000 + r) = BitVec.ofNat 32 s.val
  · rw [if_pos hh, if_pos ((between h s hr').mpr hh)]
  · rw [if_neg hh, if_neg fun hc => hh ((between h s hr').mp hc)]

/-- A tile's count of segment `s`. -/
theorem pieceCnt_at (J : ℕ → BitVec 32) (i : grid0.Coords) (h : Ord (tileIdx J i) 4000) (s : Fin 16) :
    pieceCnt Ideal J i s.val = ∑ r ∈ Finset.range 4000, hit (J (wid i * 4000 + r)) s := by
  have hm := stOf_mono h s.isLt
  have hl := stOf_le (tileIdx J i) (s.val + 1)
  have e : (Scalar.subi (swOf (tileIdx J i) (s.val + 1)) (swOf (tileIdx J i) s.val)).toInt = ((stOf (tileIdx J i) (s.val + 1) - stOf (tileIdx J i) s.val : ℕ) : ℤ) := by
    have h1 := (starts (tileIdx J i)).int (s.val + 1)
    have h2 := (starts (tileIdx J i)).int s.val
    have h3 := Affine.subi (e := ((stOf (tileIdx J i) (s.val + 1) - stOf (tileIdx J i) s.val : ℕ) : ℤ)) h1 h2 ⟨by omega, by omega, by omega⟩
    simpa [Affine.IsInt] using h3
  show (((Scalar.subi (swOf (tileIdx J i) (s.val + 1)) (swOf (tileIdx J i) s.val)).toInt : ℝ) : EReal) = _
  rw [e]
  have hs : ∀ r ∈ Finset.range 4000, hit (J (wid i * 4000 + r)) s = if stOf (tileIdx J i) s.val ≤ r ∧ r < stOf (tileIdx J i) (s.val + 1) then 1 else 0 := by
    intro r hr
    have hr' := Finset.mem_range.mp hr
    unfold hit
    by_cases hh : J (wid i * 4000 + r) = BitVec.ofNat 32 s.val
    · rw [if_pos hh, if_pos ((between h s hr').mpr hh)]
    · rw [if_neg hh, if_neg fun hc => hh ((between h s hr').mp hc)]
  rw [Finset.sum_congr rfl hs, ← Finset.sum_filter,
    show (Finset.range 4000).filter (fun r => stOf (tileIdx J i) s.val ≤ r ∧ r < stOf (tileIdx J i) (s.val + 1)) = Finset.Ico (stOf (tileIdx J i) s.val) (stOf (tileIdx J i) (s.val + 1)) from
      Finset.ext fun r => by rw [Finset.mem_filter, Finset.mem_range, Finset.mem_Ico]; omega,
    Finset.sum_const, Nat.card_Ico, nsmul_one, Int.cast_natCast, EReal.coe_natCast]

end Cert.Sums

end
-- ==== Proof.Sums.Result.lean ====
/- The kernel's result over extended reals, for indices that are sorted segment numbers: each row times the gates
of its segment, the gates from the segment's totals over all rows. -/
module

public import proofs.«01_k».proof.Proof.Sums.Reads
public import proofs.«01_k».proof.Proof.Sums.Gates
public import proofs.«01_k».proof.Proof.Sums.Tally
public import Idealize.ShloMosaic.Lib.Pointwise

@[expose] public section

set_option maxRecDepth 16384

noncomputable section

namespace Cert.Sums

open Cert.KernelIdeal Cert.KernelIdeal.Gen
open Idealize.ShloMosaic

/-- A sum over `n` runs of `k`. -/
theorem sum_runs (g : ℕ → EReal) (n k : ℕ) : ∑ p ∈ Finset.range (n * k), g p = ∑ w ∈ Finset.range n, ∑ r ∈ Finset.range k, g (w * k + r) := by
  induction n with
  | zero => rw [Nat.zero_mul]; rfl
  | succ n ih => rw [Nat.succ_mul, Finset.sum_range_add, ih, Finset.sum_range_succ]

variable (m : (ℓ : Loc nD τ sig) → Buf (Elt Ideal) ℓ) (d : Dev nD)

/-- Row `p`'s segment number, and its feature `c`, at a position given as a number. -/
def rI (p : ℕ) : BitVec 32 := aI m d (ix1 ⟨p % 320000, Nat.mod_lt _ (by decide)⟩)
def rF (p : ℕ) (c : Fin 128) : EReal := aF m d (ix2 ⟨p % 320000, Nat.mod_lt _ (by decide)⟩ c)

theorem rI_eq (p : ℕ) (hp : p < 320000) : aI m d (ix1 ⟨p, hp⟩) = rI m d p :=
  congrArg (aI m d) (congrArg ix1 (Fin.ext (Nat.mod_eq_of_lt hp).symm))
theorem rF_eq (p : ℕ) (hp : p < 320000) (c : Fin 128) : aF m d (ix2 ⟨p, hp⟩ c) = rF m d p c :=
  congrArg (aF m d) (congrArg (ix2 · c) (Fin.ext (Nat.mod_eq_of_lt hp).symm))

theorem total_eq (s : Fin 16) (c : Fin 128) :
    total (fun p => aI m d (ix1 p)) (fun p => aF m d (ix2 p c)) s = ∑ p ∈ Finset.range 320000, hit (rI m d p) s * rF m d p c := by
  unfold total
  rw [Finset.sum_range]
  exact Finset.sum_congr rfl fun p _ => by rw [← rI_eq m d p.val p.isLt, ← rF_eq m d p.val p.isLt]
theorem count_eq (s : Fin 16) : count (fun p => aI m d (ix1 p)) s = ∑ p ∈ Finset.range 320000, hit (rI m d p) s := by
  unfold count
  rw [Finset.sum_range]
  exact Finset.sum_congr rfl fun p _ => by rw [← rI_eq m d p.val p.isLt]

/-- The first call's block `t`, summed for segment `s`. -/
theorem block_sum (t : ℕ) (ht : t < 12) (s : Fin 16) (c : Fin 128) :
    ∑ p : Fin 16000, hit (blk1 (val3 m) d 0 (pt1 t ht) (ix3 0 0 p)) s * blk1 (val3 m) d 1 (pt1 t ht) (ix2 p c)
      = ∑ r ∈ Finset.range 16000, hit (rI m d (128000 + (t * 16000 + r))) s * rF m d (128000 + (t * 16000 + r)) c := by
  rw [Finset.sum_range]
  refine Finset.sum_congr rfl fun p _ => ?_
  rw [blk1_0_at (val3 m) d ⟨t, ht⟩ p, blk1_1_at (val3 m) d ⟨t, ht⟩ p c, v2_at, rI_eq,
    show val3 m d (Proc.devRef .tc main_arg0) = aF m d from (val3_of m d main_arg0 (by decide)).trans ((val2_of m d main_arg0 (by decide) (by decide)).trans (val1_of m d main_arg0 (by decide))), rF_eq]
  rw [show 16000 * (t + 8) + p.val = 128000 + (t * 16000 + p.val) by omega, show 128000 + 16000 * t + p.val = 128000 + (t * 16000 + p.val) by omega]
theorem block_count (t : ℕ) (ht : t < 12) (s : Fin 16) :
    ∑ p : Fin 16000, hit (blk1 (val3 m) d 0 (pt1 t ht) (ix3 0 0 p)) s = ∑ r ∈ Finset.range 16000, hit (rI m d (128000 + (t * 16000 + r))) s := by
  rw [Finset.sum_range]
  refine Finset.sum_congr rfl fun p _ => ?_
  rw [blk1_0_at (val3 m) d ⟨t, ht⟩ p, v2_at, rI_eq]
  rw [show 16000 * (t + 8) + p.val = 128000 + (t * 16000 + p.val) by omega]

/-- The first call's totals after point `n`. -/
theorem tot_at (s : Fin 16) (c : Fin 128) (n : ℕ) (hn : n < 12) :
    (tot (val3 m) d n (pt1 n hn).isLt).1 (ix2 s c)
        = ∑ t ∈ Finset.range (n + 1), ∑ r ∈ Finset.range 16000, hit (rI m d (128000 + (t * 16000 + r))) s * rF m d (128000 + (t * 16000 + r)) c
      ∧ (tot (val3 m) d n (pt1 n hn).isLt).2 (ix2 s c) = ∑ t ∈ Finset.range (n + 1), ∑ r ∈ Finset.range 16000, hit (rI m d (128000 + (t * 16000 + r))) s := by
  have z2 : k1_pay2 (F := Ideal) (ix2 s c) = 0 := by pointwise [k1_pay2]
  have z3 : k1_pay3 (F := Ideal) (ix2 s c) = 0 := by pointwise [k1_pay3]
  induction n with
  | zero =>
    rw [Finset.sum_range_one, Finset.sum_range_one, ← block_sum m d 0 hn, ← block_count m d 0 hn]
    constructor
    · refine (k1_pay4_at (blk1 (val3 m) d 0 (pt1 0 hn)) (blk1 (val3 m) d 1 (pt1 0 hn)) (k1_pay2 (F := Ideal)) s c).trans ?_
      rw [z2, zero_add]
    · refine (k1_pay5_at (blk1 (val3 m) d 0 (pt1 0 hn)) (k1_pay3 (F := Ideal)) s c).trans ?_
      rw [z3, zero_add]
  | succ n ih =>
    obtain ⟨i1, i2⟩ := ih (by omega)
    rw [Finset.sum_range_succ _ (n + 1), Finset.sum_range_succ _ (n + 1), ← i1, ← i2, ← block_sum m d (n + 1) hn, ← block_count m d (n + 1) hn]
    exact ⟨k1_pay4_at (blk1 (val3 m) d 0 (pt1 (n + 1) hn)) (blk1 (val3 m) d 1 (pt1 (n + 1) hn)) _ s c,
      k1_pay5_at (blk1 (val3 m) d 0 (pt1 (n + 1) hn)) _ s c⟩

/-- The second call's operands: the first call's sums and counts, and the tiles'. -/
abbrev x3 : S16x128.Idx → EReal := val8 m d (Proc.devRef .tc main_v3_0)
abbrev x4 : S16x128.Idx → EReal := val8 m d (Proc.devRef .tc main_v3_1)
abbrev x5 : S32x16x128.Idx → EReal := val8 m d (Proc.devRef .tc main_v5)
abbrev x6 : S32x16.Idx → EReal := val8 m d (Proc.devRef .tc main_v6)

section
variable (h : Ord (rI m d) 320000)
include h

theorem ord_tile (w : Fin 32) : Ord (tileIdx (idxAt (inds m d)) (tileOf w.val)) 4000 where
  small r hr := by
    have hw := wid_tileOf w.isLt
    show (idxAt (inds m d) (wid (tileOf w.val) * 4000 + r)).toNat < 16
    rw [inds_at m d _ (by omega), rI_eq]
    exact h.small _ (by omega)
  mono r r' hr hr' := by
    have hw := wid_tileOf w.isLt
    show (idxAt (inds m d) (wid (tileOf w.val) * 4000 + r)).toNat ≤ (idxAt (inds m d) (wid (tileOf w.val) * 4000 + r')).toNat
    rw [inds_at m d _ (by omega), inds_at m d _ (by omega), rI_eq, rI_eq]
    exact h.mono _ _ (by omega) (by omega)

/-- A tile's sums and counts. -/
theorem tile_sum (w : Fin 32) (s : Fin 16) (c : Fin 128) : rowAcc (F := Ideal) (featAt (flat m d)) (idxAt (inds m d)) (tileOf w.val) (128 * s.val + c.val)
    = ∑ r ∈ Finset.range 4000, hit (rI m d (w.val * 4000 + r)) s * rF m d (w.val * 4000 + r) c := by
  rw [rowAcc_at _ _ _ (ord_tile m d h w) s c.val c.isLt, wid_tileOf w.isLt]
  refine Finset.sum_congr rfl fun r hr => ?_
  have hr' := Finset.mem_range.mp hr
  rw [inds_at m d _ (by omega), rI_eq, flat_at m d _ (by omega), rF_eq]
theorem tile_count (w : Fin 32) (s : Fin 16) : pieceCnt Ideal (idxAt (inds m d)) (tileOf w.val) s.val
    = ∑ r ∈ Finset.range 4000, hit (rI m d (w.val * 4000 + r)) s := by
  rw [pieceCnt_at _ _ (ord_tile m d h w) s, wid_tileOf w.isLt]
  refine Finset.sum_congr rfl fun r hr => ?_
  have hr' := Finset.mem_range.mp hr
  rw [inds_at m d _ (by omega), rI_eq]

/-- The second call's totals: the first call's and the tiles' together are the totals over all rows. -/
theorem all_sum (s : Fin 16) (c : Fin 128) :
    x3 m d (ix2 s c) + ∑ w : Fin 32, x5 m d (ix3 w s c)
      = total (fun p => aI m d (ix1 p)) (fun p => aF m d (ix2 p c)) s := by
  have e : x3 m d = (tot (val3 m) d 11 last1.isLt).1 := by
    unfold x3
    rw [val8_of m d _ (by decide), val7_of m d _ (by decide), val6_of m d _ (by decide), val5_of m d _ (by decide), val4_sums]
  rw [e, total_eq, show (320000 : ℕ) = 32 * 4000 + 12 * 16000 by decide, Finset.sum_range_add, sum_runs _ 32 4000, sum_runs (fun x => hit (rI m d (32 * 4000 + x)) s * rF m d (32 * 4000 + x) c) 12 16000, add_comm]
  refine congrArg₂ (· + ·) ?_ (tot_at m d s c 11 (by decide)).1
  rw [Finset.sum_range]
  exact Finset.sum_congr rfl fun w _ => (v5_at m d w s c).trans (tile_sum m d h w s c)
theorem all_count (s : Fin 16) (c : Fin 128) :
    x4 m d (ix2 s c) + ∑ w : Fin 32, x6 m d (ix2 w s)
      = count (fun p => aI m d (ix1 p)) s := by
  have e : x4 m d = (tot (val3 m) d 11 last1.isLt).2 := by
    unfold x4
    rw [val8_of m d _ (by decide), val7_of m d _ (by decide), val6_of m d _ (by decide), val5_of m d _ (by decide), val4_counts]
  rw [e, count_eq, show (320000 : ℕ) = 32 * 4000 + 12 * 16000 by decide, Finset.sum_range_add, sum_runs _ 32 4000, sum_runs (fun x => hit (rI m d (32 * 4000 + x)) s) 12 16000, add_comm]
  refine congrArg₂ (· + ·) ?_ (tot_at m d s c 11 (by decide)).2
  rw [Finset.sum_range]
  exact Finset.sum_congr rfl fun w _ => (v6_at m d w s).trans (tile_count m d h w s)

/-- The gates. -/
theorem gates_at (s : Fin 16) (c : Fin 128) : gates (val8 m) d (ix2 s c)
    = gateOf (fun c => Ideal.div (total (fun p => aI m d (ix1 p)) (fun p => aF m d (ix2 p c)) s) (max (count (fun p => aI m d (ix1 p)) s) 1))
        (aW m d (ix3 0 0 0)) (aW m d (ix3 0 0 1)) (aW m d (ix3 0 0 2)) c := by
  unfold gates
  rw [blk2_2_whole, blk2_3_whole, blk2_4_whole, blk2_5_whole, blk2_6_whole, gate_at, v7_at, v7_at, v7_at]
  exact congrArg (fun M => gateOf M _ _ _ c) (funext fun c => congrArg₂ (fun a b => Ideal.div a (max b 1)) (all_sum m d h s c) (all_count m d h s c))

/-- The result at row `p` of segment `s`, channel `c`. -/
theorem result_at (p : Fin 320000) (s : Fin 16) (hs : aI m d (ix1 p) = BitVec.ofNat 32 s.val) (c : Fin 128) :
    (val9 m d (Proc.devRef .tc main_v8) : S320000x128.Idx → EReal) (ix2 p c) = aF m d (ix2 p c)
      * gateOf (fun c => Ideal.div (total (fun p => aI m d (ix1 p)) (fun p => aF m d (ix2 p c)) s) (max (count (fun p => aI m d (ix1 p)) s) 1))
        (aW m d (ix3 0 0 0)) (aW m d (ix3 0 0 1)) (aW m d (ix3 0 0 2)) c := by
  obtain ⟨t, r, rfl⟩ : ∃ (t : Fin 20) (r : Fin 16000), p = ⟨16000 * t.val + r.val, by omega⟩ :=
    ⟨⟨p.val / 16000, by omega⟩, ⟨p.val % 16000, by omega⟩, Fin.ext (by dsimp only; omega)⟩
  rw [val9_at, k2_pay2_at, blk2_0_at, blk2_1_at, v4_at, hs]
  rw [sum_hit s (fun s => gates (val8 m) d (ix2 s c)), gates_at m d h,
    show val8 m d (Proc.devRef .tc main_arg0) = aF m d from val8_arg m d main_arg0 (by decide)]

end

end Cert.Sums

end
-- ==== Proof.Sums.Refer.lean ====
/- The reference's result over extended reals, read at an index. -/
module

public import proofs.«01_k».proof.Proof.Gen.ReferenceIdeal.Run
public import proofs.«01_k».proof.Proof.Sums.Spec
public import Idealize.ShloMosaic.Lib.Pointwise
public import Idealize.ShloMosaic.Lib.Pointwise.IndexBridge
public import Idealize.ShloMosaic.Lib.Routing.OpsPair
public import Idealize.ShloMosaic.Lib.Routing.Ops
public import Idealize.ShloMosaic.Lib.ReduceAll
public import Idealize.ShloMosaic.Lib.StableHlo.Predicate

@[expose] public section

set_option maxRecDepth 16384

noncomputable section

namespace Cert.Sums.Refer

open Cert.ReferenceIdeal Cert.ReferenceIdeal.Gen Cert.ReferenceIdeal.Value
open Idealize.ShloMosaic Idealize.ShloMosaic.StableHlo.Predicate

/-- Where a row's update lands among the segments' sums. -/
theorem lands_sums (i : IVec S320000x1 32) (p : Fin 320000) (c' : Fin 128) (s : Fin 16) (c : Fin 128) :
    (scatter_S16x128_S320000x1_S320000x128_1_0_0_1.resultIdx? (ix2 p c') i = some (ix2 s c))
      ↔ i (ix2 p 0) = BitVec.ofNat 32 s.val ∧ c' = c := by
  rw [Routing.resultIdx?_eq_some]
  have e0 : scatter_S16x128_S320000x1_S320000x128_1_0_0_1.start (ix2 p c') i 0 = (i (ix2 p 0)).toInt := by
    unfold ScatterDims.start
    rw [dif_pos (show (0 : Fin 2) ∈ scatter_S16x128_S320000x1_S320000x128_1_0_0_1.scatterDimsToOperandDims from List.mem_singleton.mpr rfl)]
    refine congrArg (fun k => (i k).toInt) (funext fun b => Fin.ext ?_)
    match b with
    | ⟨0, _⟩ => rfl
    | ⟨1, _⟩ => rfl
  have e1 : scatter_S16x128_S320000x1_S320000x128_1_0_0_1.start (ix2 p c') i 1 = 0 := rfl
  have w0 : scatter_S16x128_S320000x1_S320000x128_1_0_0_1.window (ix2 p c') 0 = 0 := rfl
  have w1 : scatter_S16x128_S320000x1_S320000x128_1_0_0_1.window (ix2 p c') 1 = c'.val := rfl
  rw [show (∀ a : Fin S16x128.rank, scatter_S16x128_S320000x1_S320000x128_1_0_0_1.start (ix2 p c') i a
      + (scatter_S16x128_S320000x1_S320000x128_1_0_0_1.window (ix2 p c') a : ℤ) = ((ix2 s c a).val : ℤ))
    ↔ ((i (ix2 p 0)).toInt = (s.val : ℤ) ∧ (c'.val : ℤ) = (c.val : ℤ)) from ?_, toInt_eq16]
  · exact and_congr_right fun _ => ⟨fun h => Fin.ext (by omega), fun h => by rw [h]⟩
  constructor
  · intro h
    have h0 := h 0; have h1 := h 1
    rw [e0, w0] at h0; rw [e1, w1] at h1
    exact ⟨by simpa using h0, by simpa using h1⟩
  · rintro ⟨h0, h1⟩ a
    match a with
    | ⟨0, _⟩ => show scatter_S16x128_S320000x1_S320000x128_1_0_0_1.start (ix2 p c') i 0 + _ = _
                rw [e0, h0]; exact (congrArg (fun n : ℕ => (s.val : ℤ) + (n : ℤ)) w0).trans (by simp)
    | ⟨1, _⟩ => show scatter_S16x128_S320000x1_S320000x128_1_0_0_1.start (ix2 p c') i 1 + _ = _
                rw [e1]; exact (congrArg (fun n : ℕ => (0 : ℤ) + (n : ℤ)) w1).trans (by simpa using h1)

/-- Where a row's update lands among the segments' counts. -/
theorem lands_counts (i : IVec S320000x1 32) (p : Fin 320000) (s : Fin 16) :
    (scatter_S16_S320000x1_S320000_n_0_0_1.resultIdx? (ix1 p) i = some (ix1 s)) ↔ i (ix2 p 0) = BitVec.ofNat 32 s.val := by
  rw [Routing.resultIdx?_eq_some]
  have e0 : scatter_S16_S320000x1_S320000_n_0_0_1.start (ix1 p) i 0 = (i (ix2 p 0)).toInt := by
    unfold ScatterDims.start
    rw [dif_pos (show (0 : Fin 1) ∈ scatter_S16_S320000x1_S320000_n_0_0_1.scatterDimsToOperandDims from List.mem_singleton.mpr rfl)]
    refine congrArg (fun k => (i k).toInt) (funext fun b => Fin.ext ?_)
    match b with
    | ⟨0, _⟩ => rfl
    | ⟨1, _⟩ => rfl
  have w0 : scatter_S16_S320000x1_S320000_n_0_0_1.window (ix1 p) 0 = 0 := rfl
  rw [← toInt_eq16]
  constructor
  · intro h
    have h0 := h 0
    rw [e0, w0] at h0
    simpa using h0
  · intro h0 a
    match a with
    | ⟨0, _⟩ => show scatter_S16_S320000x1_S320000_n_0_0_1.start (ix1 p) i 0 + _ = _
                rw [e0, h0]; exact (congrArg (fun n : ℕ => (s.val : ℤ) + (n : ℤ)) w0).trans (by simp)

/-- The reference's segment sums. -/
theorem sums_at (x : FVec Ideal S16x128 .f32) (i : IVec S320000x1 32) (f : FVec Ideal S320000x128 .f32) (s : Fin 16) (c : Fin 128) :
    Host.scatterAdd scatter_S16x128_S320000x1_S320000x128_1_0_0_1 x i f (ix2 s c)
      = x (ix2 s c) + total (fun p => i (ix2 p 0)) (fun p => f (ix2 p c)) s := by
  show x (ix2 s c) + ∑ j ∈ Finset.univ.filter (fun j => scatter_S16x128_S320000x1_S320000x128_1_0_0_1.resultIdx? j i = some (ix2 s c)), f j = _
  rw [Finset.sum_filter, sum_idx2]
  unfold total
  refine congrArg (x (ix2 s c) + ·) (Finset.sum_congr rfl fun p _ => ?_)
  simp only [lands_sums, hit_mul]
  split
  · next h => simp only [h, true_and]; rw [Finset.sum_ite_eq' Finset.univ c, if_pos (Finset.mem_univ c)]
  · next h => simp only [h, false_and, if_false, Finset.sum_const_zero]

/-- The reference's segment counts. -/
theorem counts_at (x : FVec Ideal S16 .f32) (i : IVec S320000x1 32) (f : FVec Ideal S320000 .f32) (s : Fin 16) :
    Host.scatterAdd scatter_S16_S320000x1_S320000_n_0_0_1 x i f (ix1 s)
      = x (ix1 s) + total (fun p => i (ix2 p 0)) (fun p => f (ix1 p)) s := by
  show x (ix1 s) + ∑ j ∈ Finset.univ.filter (fun j => scatter_S16_S320000x1_S320000_n_0_0_1.resultIdx? j i = some (ix1 s)), f j = _
  rw [Finset.sum_filter, sum_idx1]
  unfold total
  refine congrArg (x (ix1 s) + ·) (Finset.sum_congr rfl fun p _ => ?_)
  simp only [lands_counts, hit_mul]

/-- The segments' means as the reference computes them. -/
def meansE (i : IVec S320000 32) (f : FVec Ideal S320000x128 .f32) : FVec Ideal S16x128 .f32 :=
  Host.divf (Host.scatterAdd scatter_S16x128_S320000x1_S320000x128_1_0_0_1 (broadcastInDim S16x128 ![] bcast_S_S16x128 (constant S_ .f32 0x00000000#32)) (broadcastInDim S320000x1 ![0] bcast_S320000_S320000x1_0 i) f)
    (broadcastInDim S16x128 ![0, 1] bcast_S16x1_S16x128_0_1 (broadcastInDim S16x1 ![0] bcast_S16_S16x1_0
      (maximumf (Host.scatterAdd scatter_S16_S320000x1_S320000_n_0_0_1 (broadcastInDim S16 ![] bcast_S_S16 (constant S_ .f32 0x00000000#32)) (broadcastInDim S320000x1 ![0] bcast_S320000_S320000x1_0 i)
        (broadcastInDim S320000 ![] bcast_S_S320000 (constant S_ .f32 0x3F800000#32))) (broadcastInDim S16 ![] bcast_S_S16 (constant S_ .f32 0x3F800000#32)))))

/-- The means with a zero column at either side. -/
def padE (M : FVec Ideal S16x128 .f32) : FVec Ideal S16x130 .f32 :=
  pad S16x130 ![0, 1] ![0, 1] ![0, 0] M (sitofp .f32 (constantI S_ 32 0#32)) pads_S16x128_S16x130_000_110 h_S_

/-- The gates as the reference computes them from the means. -/
def gatesE (M : FVec Ideal S16x128 .f32) (w : FVec Ideal S1x1x3 .f32) : FVec Ideal S16x128 .f32 :=
  Host.divf (broadcastInDim S16x128 ![] bcast_S_S16x128 (constant S_ .f32 0x3F800000#32)) (addf (broadcastInDim S16x128 ![] bcast_S_S16x128 (constant S_ .f32 0x3F800000#32)) (Host.exp (Host.negf
    (addf (addf (mulf (extractStridedSlice S16x128 ![0, 0] (padE M) slices_S16x130_S16x128_0_0) (broadcastInDim S16x128 ![] bcast_S_S16x128 (shapeCast _ (extractStridedSlice S1 ![0] (shapeCast _ w shapeCasts_S1x1x3_S3) slices_S3_S1_0) shapeCasts_S1_S_)))
      (mulf (extractStridedSlice S16x128 ![0, 1] (padE M) slices_S16x130_S16x128_0_1) (broadcastInDim S16x128 ![] bcast_S_S16x128 (shapeCast _ (extractStridedSlice S1 ![1] (shapeCast _ w shapeCasts_S1x1x3_S3) slices_S3_S1_1) shapeCasts_S1_S_))))
      (mulf (extractStridedSlice S16x128 ![0, 2] (padE M) slices_S16x130_S16x128_0_2) (broadcastInDim S16x128 ![] bcast_S_S16x128 (shapeCast _ (extractStridedSlice S1 ![2] (shapeCast _ w shapeCasts_S1x1x3_S3) slices_S3_S1_2) shapeCasts_S1_S_)))))))

/-- The row numbers the reference looks its gates up at. -/
def rowsE (i : IVec S320000 32) : IVec S320000x1 32 :=
  broadcastInDim S320000x1 ![0] bcast_S320000_S320000x1_0 (select (cmpi .slt i (broadcastInDim S320000 ![] bcast_S_S320000 (constantI S_ 32 0#32))) (addi i (broadcastInDim S320000 ![] bcast_S_S320000 (constantI S_ 32 16#32))) i)

/-- Where the row numbers are in range. -/
def maskE (i : IVec S320000 32) : IVec S320000 1 :=
  Host.reduce IntOp.andi (andi (cmpi .sge (rowsE i) (broadcastInDim S320000x1 ![] bcast_S_S320000x1 (constantI S_ 32 0#32)))
    (cmpi .sle (rowsE i) (broadcastInDim S320000x1 ![0, 1] bcast_S1x1_S320000x1_0_1 (broadcastInDim S1x1 ![1] bcast_S1_S1x1_1 (constantI S1 32 15#32)))))
    (constantI S_ 1 1#1) reducesTo_S320000x1_S320000_d1 h_S_

/-- The reference's result as a function of its arguments. -/
def resE (f : FVec Ideal S320000x128 .f32) (i : IVec S320000 32) (w : FVec Ideal S1x1x3 .f32) : FVec Ideal S320000x128 .f32 :=
  mulf f (select (broadcastInDim S320000x128 ![0] bcast_S320000_S320000x128_0 (maskE i))
    (Host.gather gather_S16x128_S320000x1_S320000x128_1_0_n_n_0_1_1128 (gatesE (meansE i f) w) (rowsE i))
    (broadcastInDim S320000x128 ![] bcast_S_S320000x128 (constant S_ .f32 0x7FC00000#32)))

theorem res_eq (m : (ℓ : Loc nD τ sig) → Buf (Elt Ideal) ℓ) (d : Dev nD) :
    res_main_v38 m d = resE (m ((d.tc : Thread nD τ).loc main_arg0)) (m ((d.tc : Thread nD τ).loc main_arg1)) (m ((d.tc : Thread nD τ).loc main_arg2)) := rfl

theorem meansE_at (i : IVec S320000 32) (f : FVec Ideal S320000x128 .f32) (s : Fin 16) (c : Fin 128) :
    meansE i f (ix2 s c) = Ideal.div (total (fun p => i (ix1 p)) (fun p => f (ix2 p c)) s) (max (count (fun p => i (ix1 p)) s) 1) := by
  pointwise [meansE, sums_at, counts_at]
  unfold total count
  simp only [mul_one]

theorem padE_at (M : FVec Ideal S16x128 .f32) (s : Fin 16) (k : Fin 130) :
    padE M (ix2 s k) = if h : 1 ≤ k.val ∧ k.val < 129 then M (ix2 s ⟨k.val - 1, by omega⟩) else 0 := by
  pointwise [padE]
  by_cases h : 1 ≤ k.val ∧ k.val < 129
  · rw [dif_pos h, dif_pos (by omega)]
  · rw [dif_neg h, dif_neg (by omega)]
    show (((0#32 : BitVec 32).toInt : ℝ) : EReal) = 0
    rw [show (0#32 : BitVec 32).toInt = 0 by decide, Int.cast_zero, EReal.coe_zero]

theorem gatesE_at (M : FVec Ideal S16x128 .f32) (w : FVec Ideal S1x1x3 .f32) (s : Fin 16) (c : Fin 128) :
    gatesE M w (ix2 s c) = gateOf (fun c => M (ix2 s c)) (w (ix3 0 0 0)) (w (ix3 0 0 1)) (w (ix3 0 0 2)) c := by
  have hc := c.isLt
  have e0 : padE M (ix2 s ⟨c.val, by omega⟩) = if h : c.val < 1 then 0 else M (ix2 s ⟨c.val - 1, by omega⟩) := by
    rw [padE_at]
    by_cases h : c.val < 1
    · rw [dif_pos h, dif_neg (by dsimp only; omega)]
    · rw [dif_neg h, dif_pos (by dsimp only; omega)]
  have e1 : padE M (ix2 s ⟨1 + c.val, by omega⟩) = M (ix2 s c) := by
    rw [padE_at, dif_pos (by dsimp only; omega)]
    exact congrArg (fun k => M (ix2 s k)) (Fin.ext (by dsimp only; omega))
  have e2 : padE M (ix2 s ⟨2 + c.val, by omega⟩) = if h : c.val < 127 then M (ix2 s ⟨1 + c.val, by omega⟩) else 0 := by
    rw [padE_at]
    by_cases h : c.val < 127
    · rw [dif_pos h, dif_pos (by dsimp only; omega)]
      exact congrArg (fun k => M (ix2 s k)) (Fin.ext (by dsimp only; omega))
    · rw [dif_neg h, dif_neg (by dsimp only; omega)]
  pointwise [gatesE]
  rw [e0, e1, e2]
  rfl

theorem rowsE_at (i : IVec S320000 32) (p : Fin 320000) (s : Fin 16) (h : i (ix1 p) = BitVec.ofNat 32 s.val) : rowsE i (ix2 p 0) = BitVec.ofNat 32 s.val := by
  pointwise [rowsE]
  rw [h]
  have hs := s.isLt
  have hn : IntOp.cmpi CmpIPredicate.slt (BitVec.ofNat 32 s.val) 0#32 ≠ 1#1 := by
    rw [Ne, slt_iff_toNat (by rw [BitVec.toNat_ofNat]; omega) (by decide)]
    exact Nat.not_lt_zero _
  exact if_neg hn

theorem maskE_at (i : IVec S320000 32) (h : ∀ p, ∃ s : Fin 16, i (ix1 p) = BitVec.ofNat 32 s.val) (p : Fin 320000) : maskE i (ix1 p) = 1#1 := by
  refine Host.reduce_andi_one _ _ _ _ _ rfl fun j => ?_
  idx_vars j
  obtain rfl : j1 = 0 := Subsingleton.elim _ _
  pointwise
  obtain ⟨s, hs⟩ := h j0
  have hl := s.isLt
  rw [rowsE_at i j0 s hs]
  have e : (BitVec.ofNat 32 s.val).toNat = s.val := by rw [BitVec.toNat_ofNat]; omega
  exact IntOp.andi_eq_one.mpr ⟨(sge_iff_toNat (by omega) (by decide)).mpr (Nat.zero_le _), (sle_iff_toNat (by omega) (by decide)).mpr (by rw [e]; show s.val ≤ 15; omega)⟩

/-- The reference's result at row `p` of segment `s`, channel `c`. -/
theorem resE_at (f : FVec Ideal S320000x128 .f32) (i : IVec S320000 32) (w : FVec Ideal S1x1x3 .f32)
    (h : ∀ p, ∃ s : Fin 16, i (ix1 p) = BitVec.ofNat 32 s.val) (p : Fin 320000) (s : Fin 16) (hs : i (ix1 p) = BitVec.ofNat 32 s.val) (c : Fin 128) :
    resE f i w (ix2 p c) = f (ix2 p c)
      * gateOf (fun c => Ideal.div (total (fun p => i (ix1 p)) (fun p => f (ix2 p c)) s) (max (count (fun p => i (ix1 p)) s) 1))
        (w (ix3 0 0 0)) (w (ix3 0 0 1)) (w (ix3 0 0 2)) c := by
  have hg : Host.gather gather_S16x128_S320000x1_S320000x128_1_0_n_n_0_1_1128 (gatesE (meansE i f) w) (rowsE i) (ix2 p c)
      = gatesE (meansE i f) w (ix2 s c) := by
    simp only [ix2_eq_valueIdx]
    refine Routing.gather_row gather_S16x128_S320000x1_S320000x128_1_0_n_n_0_1_1128 rfl rfl rfl rfl rfl _ _ p c s ?_ (by decide)
    rw [← ix2_eq_valueIdx]
    exact rowsE_at i p s hs
  pointwise [resE]
  rw [maskE_at i h p, hg, gatesE_at]
  simp only [meansE_at]
  rfl

end Cert.Sums.Refer

end
-- ==== Proof.Sums.Equal.lean ====
/- The value claim: on sorted segment numbers the kernel and the reference end with equal results over extended reals. -/
module

public import proofs.«01_k».proof.Defs
public import proofs.«01_k».proof.Proof.Gen.Pre_sorted_in_range
public import proofs.«01_k».proof.Proof.Sums.Result
public import proofs.«01_k».proof.Proof.Sums.Refer
public import Idealize.ShloMosaic.Lib.ReduceAll
public import Idealize.ShloMosaic.Lib.StableHlo.Predicate
public import Idealize.ShloMosaic.Adequacy
public import Idealize.ShloMosaic.Init

@[expose] public section

set_option maxRecDepth 16384

noncomputable section

namespace Cert.Sums

open Idealize.ShloMosaic Idealize.SL.Sem

/-- A word that is not negative and below 16 as a signed number is below 16. -/
theorem toNat_of_range {b : BitVec 32} (h0 : IntOp.cmpi .sge b 0#32 = 1#1) (h1 : IntOp.cmpi .slt b 16#32 = 1#1) : b.toNat < 16 := by
  unfold IntOp.cmpi at h0 h1
  rw [StableHlo.Predicate.ofBool_eq_one_iff] at h0 h1
  simp only [BitVec.sle, BitVec.slt, decide_eq_true_eq, show (0#32 : BitVec 32).toInt = 0 by decide, show (16#32 : BitVec 32).toInt = 16 by decide] at h0 h1
  rw [BitVec.toInt_eq_toNat_cond] at h0 h1
  have := b.isLt
  split at h0 <;> omega

/-- What the precondition says of the indices: all are segment numbers, and none is above the next. -/
theorem pre_facts (f : FVec Ideal Cert.Pre_sorted_in_range.S320000x128 .f32) (i : IVec Cert.Pre_sorted_in_range.S320000 32) (w : FVec Ideal Cert.Pre_sorted_in_range.S1x1x3 .f32)
    (h : Cert.Pre_sorted_in_range.fn f i w = fun _ => 1#1) :
    (∀ p : Fin 320000, (i (ix1 p)).toNat < 16) ∧ ∀ p : Fin 319999, (i (ix1 ⟨p.val, by omega⟩)).toNat ≤ (i (ix1 ⟨1 + p.val, by omega⟩)).toNat := by
  have h' := congrFun h (fun a => a.elim0)
  unfold Cert.Pre_sorted_in_range.fn at h'
  obtain ⟨ha, hb⟩ := IntOp.andi_eq_one.mp h'
  obtain ⟨hc, hd⟩ := IntOp.andi_eq_one.mp hb
  haveI : Subsingleton Cert.Pre_sorted_in_range.S_.Idx := ⟨fun a b => funext fun k => k.elim0⟩
  have hr : ∀ p : Fin 320000, (i (ix1 p)).toNat < 16 := fun p => by
    have e1 := Host.reduce_andi_all _ _ _ _ _ hc (ix1 p)
    have e2 := Host.reduce_andi_all _ _ _ _ _ hd (ix1 p)
    exact toNat_of_range e1 e2
  refine ⟨hr, fun p => ?_⟩
  have e := Host.reduce_andi_all _ _ _ _ _ ha (ix1 p)
  have h1 := hr ⟨p.val, by omega⟩
  have h2 := hr ⟨1 + p.val, by omega⟩
  refine (StableHlo.Predicate.sle_iff_toNat (by omega) (by omega)).mp (Eq.trans ?_ e)
  pointwise

/-- So the indices do not decrease from row to row. -/
theorem ord_of_pre (m : (ℓ : Loc Cert.KernelIdeal.nD Cert.KernelIdeal.τ Cert.KernelIdeal.sig) → Buf (Elt Ideal) ℓ) (h : Cert.Pre_KernelIdeal_sorted_in_range m)
    (d : Dev Cert.KernelIdeal.nD) : Ord (rI m d) 320000 := by
  obtain ⟨h1, h2⟩ := pre_facts _ _ _ (h d)
  refine ⟨fun r _ => h1 _, fun r r' hle hr' => ?_⟩
  induction r', hle using Nat.le_induction with
  | base => exact le_refl _
  | succ k hk ih =>
    refine le_trans (ih (by omega)) ?_
    rw [← rI_eq m d k (by omega), ← rI_eq m d (k + 1) hr']
    have := h2 ⟨k, by omega⟩
    rw [show ix1 (⟨1 + k, by omega⟩ : Fin 320000) = ix1 ⟨k + 1, hr'⟩ from congrArg ix1 (Fin.ext (Nat.add_comm 1 k))] at this
    exact this

/-- The two results are equal. -/
theorem results_eq (m : (ℓ : Loc Cert.KernelIdeal.nD Cert.KernelIdeal.τ Cert.KernelIdeal.sig) → Buf (Elt Ideal) ℓ) (d : Dev Cert.KernelIdeal.nD) (h : Ord (rI m d) 320000) :
    Refer.resE (aF m d) (aI m d) (aW m d) = (val9 m d (Proc.devRef .tc Cert.KernelIdeal.main_v8) : Cert.KernelIdeal.S320000x128.Idx → EReal) := by
  have hs : ∀ p, ∃ s : Fin 16, aI m d (ix1 p) = BitVec.ofNat 32 s.val := fun p =>
    ⟨⟨(aI m d (ix1 p)).toNat, by rw [rI_eq m d p.val p.isLt]; exact h.small _ p.isLt⟩, by simp⟩
  funext x
  idx_vars x
  obtain ⟨s, e⟩ := hs x0
  rw [Refer.resE_at _ _ _ hs x0 s e x1]
  exact (result_at m d h x0 s e x1).symm

/-- The value claim. -/
theorem equal : Cert.algebraic_KernelIdeal_ReferenceIdeal_pre_sorted_in_range := by
  intro m g m' g' hpre hargs
  refine ⟨fun d => val9 m d (Proc.devRef .tc Cert.KernelIdeal.main_v8), ?_, ?_⟩
  · refine (θ_run Cert.KernelIdeal.defs _ _).mono (fun r h c => ?_) (run_kept m g)
    obtain ⟨h0, h1, h2, h3⟩ := h.1 c
    exact ⟨h3, h0, h1, h2⟩
  · refine (θ_run Cert.ReferenceIdeal.defs _ _).mono (fun r h c => ?_) (Cert.ReferenceIdeal.Value.run m' g')
    obtain ⟨h0, h1, h2, h3⟩ := h c
    refine ⟨h0.trans ?_, h1, h2, h3⟩
    obtain ⟨a0, a1, a2⟩ := hargs c
    rw [Refer.res_eq, a0, a1, a2]
    exact results_eq m c (ord_of_pre m hpre c)

end Cert.Sums

end
-- ==== Proof.lean ====
module

public import proofs.«01_k».proof.Defs
public import proofs.«01_k».proof.Proof.Gen.Pre_sorted_in_range
public import proofs.«01_k».proof.Proof.Sums.Frames
public import proofs.«01_k».proof.Proof.Sums.Equal

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_sorted_in_range.Gen.facts,
    Cert.Sums.frame_kernel, Cert.Sums.frame_ideal, fun m ρ _ => Cert.Sums.frame_ideal m ρ trivial,
    Cert.Sums.frame_reference, fun m ρ _ => Cert.Sums.frame_reference m ρ trivial, trivial, Cert.Sums.equal⟩

end Cert.Proof

end
